-- ==== Defs.lean ====
def Pre_WinGrad (m : (ℓ : Loc Cert.WinGrad.nD Cert.WinGrad.τ Cert.WinGrad.sig) → Buf (Elt Bits) ℓ) : Prop :=
  True

def Pre_WinGradIdeal (m : (ℓ : Loc Cert.WinGradIdeal.nD Cert.WinGradIdeal.τ Cert.WinGradIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_WdownGrad (m : (ℓ : Loc Cert.WdownGrad.nD Cert.WdownGrad.τ Cert.WdownGrad.sig) → Buf (Elt Bits) ℓ) : Prop :=
  True

def Pre_WdownGradIdeal (m : (ℓ : Loc Cert.WdownGradIdeal.nD Cert.WdownGradIdeal.τ Cert.WdownGradIdeal.sig) → Buf (Elt Ideal) ℓ) : Prop :=
  True

def Pre_WdownRefIdeal (m : (ℓ : Loc Cert.WdownRefIdeal.nD Cert.WdownRefIdeal.τ Cert.WdownRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixGrad (m : (ℓ : Loc Cert.MixGrad.nD Cert.MixGrad.τ Cert.MixGrad.sig) → Buf (Elt Bits) ℓ) : Prop :=
  True

def Pre_MixGradIdeal (m : (ℓ : Loc Cert.MixGradIdeal.nD Cert.MixGradIdeal.τ Cert.MixGradIdeal.sig) → Buf (Elt Ideal) ℓ) : Prop :=
  True

def Pre_MixGradRefIdeal (m : (ℓ : Loc Cert.MixGradRefIdeal.nD Cert.MixGradRefIdeal.τ Cert.MixGradRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def quiescent_WinGrad [hWinGrad : Cert.WinGrad.Facts] : Prop :=
  ∀ (m : (ℓ : Loc Cert.WinGrad.nD Cert.WinGrad.τ Cert.WinGrad.sig) → Buf (Elt Bits) ℓ) (g : Dev Cert.WinGrad.nD → PrngReg), Pre_WinGrad m →
    θ_run (Cert.WinGrad.defs (F := Bits)) (onTc (τ := Cert.WinGrad.τ) (Cert.WinGrad.main (F := Bits))) ⟨m, fun _ => 0, g⟩ (fun r => (∀ c : Dev Cert.WinGrad.nD,
      r.2.mem ((c.tc : Thread Cert.WinGrad.nD Cert.WinGrad.τ).loc Cert.WinGrad.main_arg0) = m ((c.tc : Thread Cert.WinGrad.nD Cert.WinGrad.τ).loc Cert.WinGrad.main_arg0)
      ∧ r.2.mem ((c.tc : Thread Cert.WinGrad.nD Cert.WinGrad.τ).loc Cert.WinGrad.main_arg1) = m ((c.tc : Thread Cert.WinGrad.nD Cert.WinGrad.τ).loc Cert.WinGrad.main_arg1)
      ∧ r.2.mem ((c.tc : Thread Cert.WinGrad.nD Cert.WinGrad.τ).loc Cert.WinGrad.main_arg2) = m ((c.tc : Thread Cert.WinGrad.nD Cert.WinGrad.τ).loc Cert.WinGrad.main_arg2))
      ∧ r.2.sem = fun _ => 0)

def quiescent_WinGradIdeal [hWinGradIdeal : Cert.WinGradIdeal.Facts] : Prop :=
  ∀ (m : (ℓ : Loc Cert.WinGradIdeal.nD Cert.WinGradIdeal.τ Cert.WinGradIdeal.sig) → Buf (Elt Ideal) ℓ) (g : Dev Cert.WinGradIdeal.nD → PrngReg), Pre_WinGradIdeal m →
    θ_run (Cert.WinGradIdeal.defs (F := Ideal)) (onTc (τ := Cert.WinGradIdeal.τ) (Cert.WinGradIdeal.main (F := Ideal))) ⟨m, fun _ => 0, g⟩ (fun r => (∀ c : Dev Cert.WinGradIdeal.nD,
      r.2.mem ((c.tc : Thread Cert.WinGradIdeal.nD Cert.WinGradIdeal.τ).loc Cert.WinGradIdeal.main_arg0) = m ((c.tc : Thread Cert.WinGradIdeal.nD Cert.WinGradIdeal.τ).loc Cert.WinGradIdeal.main_arg0)
      ∧ r.2.mem ((c.tc : Thread Cert.WinGradIdeal.nD Cert.WinGradIdeal.τ).loc Cert.WinGradIdeal.main_arg1) = m ((c.tc : Thread Cert.WinGradIdeal.nD Cert.WinGradIdeal.τ).loc Cert.WinGradIdeal.main_arg1)
      ∧ r.2.mem ((c.tc : Thread Cert.WinGradIdeal.nD Cert.WinGradIdeal.τ).loc Cert.WinGradIdeal.main_arg2) = m ((c.tc : Thread Cert.WinGradIdeal.nD Cert.WinGradIdeal.τ).loc Cert.WinGradIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_WdownGrad [hWdownGrad : Cert.WdownGrad.Facts] : Prop :=
  ∀ (m : (ℓ : Loc Cert.WdownGrad.nD Cert.WdownGrad.τ Cert.WdownGrad.sig) → Buf (Elt Bits) ℓ) (g : Dev Cert.WdownGrad.nD → PrngReg), Pre_WdownGrad m →
    θ_run (Cert.WdownGrad.defs (F := Bits)) (onTc (τ := Cert.WdownGrad.τ) (Cert.WdownGrad.main (F := Bits))) ⟨m, fun _ => 0, g⟩ (fun r => (∀ c : Dev Cert.WdownGrad.nD,
      r.2.mem ((c.tc : Thread Cert.WdownGrad.nD Cert.WdownGrad.τ).loc Cert.WdownGrad.main_arg0) = m ((c.tc : Thread Cert.WdownGrad.nD Cert.WdownGrad.τ).loc Cert.WdownGrad.main_arg0)
      ∧ r.2.mem ((c.tc : Thread Cert.WdownGrad.nD Cert.WdownGrad.τ).loc Cert.WdownGrad.main_arg1) = m ((c.tc : Thread Cert.WdownGrad.nD Cert.WdownGrad.τ).loc Cert.WdownGrad.main_arg1)
      ∧ r.2.mem ((c.tc : Thread Cert.WdownGrad.nD Cert.WdownGrad.τ).loc Cert.WdownGrad.main_arg2) = m ((c.tc : Thread Cert.WdownGrad.nD Cert.WdownGrad.τ).loc Cert.WdownGrad.main_arg2))
      ∧ r.2.sem = fun _ => 0)

def quiescent_WdownGradIdeal [hWdownGradIdeal : Cert.WdownGradIdeal.Facts] : Prop :=
  ∀ (m : (ℓ : Loc Cert.WdownGradIdeal.nD Cert.WdownGradIdeal.τ Cert.WdownGradIdeal.sig) → Buf (Elt Ideal) ℓ) (g : Dev Cert.WdownGradIdeal.nD → PrngReg), Pre_WdownGradIdeal m →
    θ_run (Cert.WdownGradIdeal.defs (F := Ideal)) (onTc (τ := Cert.WdownGradIdeal.τ) (Cert.WdownGradIdeal.main (F := Ideal))) ⟨m, fun _ => 0, g⟩ (fun r => (∀ c : Dev Cert.WdownGradIdeal.nD,
      r.2.mem ((c.tc : Thread Cert.WdownGradIdeal.nD Cert.WdownGradIdeal.τ).loc Cert.WdownGradIdeal.main_arg0) = m ((c.tc : Thread Cert.WdownGradIdeal.nD Cert.WdownGradIdeal.τ).loc Cert.WdownGradIdeal.main_arg0)
      ∧ r.2.mem ((c.tc : Thread Cert.WdownGradIdeal.nD Cert.WdownGradIdeal.τ).loc Cert.WdownGradIdeal.main_arg1) = m ((c.tc : Thread Cert.WdownGradIdeal.nD Cert.WdownGradIdeal.τ).loc Cert.WdownGradIdeal.main_arg1)
      ∧ r.2.mem ((c.tc : Thread Cert.WdownGradIdeal.nD Cert.WdownGradIdeal.τ).loc Cert.WdownGradIdeal.main_arg2) = m ((c.tc : Thread Cert.WdownGradIdeal.nD Cert.WdownGradIdeal.τ).loc Cert.WdownGradIdeal.main_arg2))
      ∧ r.2.sem = fun _ => 0)

def quiescent_WdownRefIdeal [hWdownRefIdeal : Cert.WdownRefIdeal.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1)
      ∧ r.2.mem ((c.tc : Thread Cert.WdownRefIdeal.nD Cert.WdownRefIdeal.τ).loc Cert.WdownRefIdeal.main_arg2) = m ((c.tc : Thread Cert.WdownRefIdeal.nD Cert.WdownRefIdeal.τ).loc Cert.WdownRefIdeal.main_arg2))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_MixGrad [hMixGrad : Cert.MixGrad.Facts] : Prop :=
  ∀ (m : (ℓ : Loc Cert.MixGrad.nD Cert.MixGrad.τ Cert.MixGrad.sig) → Buf (Elt Bits) ℓ) (g : Dev Cert.MixGrad.nD → PrngReg), Pre_MixGrad m →
    θ_run (Cert.MixGrad.defs (F := Bits)) (onTc (τ := Cert.MixGrad.τ) (Cert.MixGrad.main (F := Bits))) ⟨m, fun _ => 0, g⟩ (fun r => (∀ c : Dev Cert.MixGrad.nD,
      r.2.mem ((c.tc : Thread Cert.MixGrad.nD Cert.MixGrad.τ).loc Cert.MixGrad.main_arg0) = m ((c.tc : Thread Cert.MixGrad.nD Cert.MixGrad.τ).loc Cert.MixGrad.main_arg0)
      ∧ r.2.mem ((c.tc : Thread Cert.MixGrad.nD Cert.MixGrad.τ).loc Cert.MixGrad.main_arg1) = m ((c.tc : Thread Cert.MixGrad.nD Cert.MixGrad.τ).loc Cert.MixGrad.main_arg1)
      ∧ r.2.mem ((c.tc : Thread Cert.MixGrad.nD Cert.MixGrad.τ).loc Cert.MixGrad.main_arg2) = m ((c.tc : Thread Cert.MixGrad.nD Cert.MixGrad.τ).loc Cert.MixGrad.main_arg2)
      ∧ r.2.mem ((c.tc : Thread Cert.MixGrad.nD Cert.MixGrad.τ).loc Cert.MixGrad.main_arg3) = m ((c.tc : Thread Cert.MixGrad.nD Cert.MixGrad.τ).loc Cert.MixGrad.main_arg3)
      ∧ r.2.mem ((c.tc : Thread Cert.MixGrad.nD Cert.MixGrad.τ).loc Cert.MixGrad.main_arg4) = m ((c.tc : Thread Cert.MixGrad.nD Cert.MixGrad.τ).loc Cert.MixGrad.main_arg4)
      ∧ r.2.mem ((c.tc : Thread Cert.MixGrad.nD Cert.MixGrad.τ).loc Cert.MixGrad.main_arg5) = m ((c.tc : Thread Cert.MixGrad.nD Cert.MixGrad.τ).loc Cert.MixGrad.main_arg5)
      ∧ r.2.mem ((c.tc : Thread Cert.MixGrad.nD Cert.MixGrad.τ).loc Cert.MixGrad.main_arg6) = m ((c.tc : Thread Cert.MixGrad.nD Cert.MixGrad.τ).loc Cert.MixGrad.main_arg6)
      ∧ r.2.mem ((c.tc : Thread Cert.MixGrad.nD Cert.MixGrad.τ).loc Cert.MixGrad.main_arg7) = m ((c.tc : Thread Cert.MixGrad.nD Cert.MixGrad.τ).loc Cert.MixGrad.main_arg7))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
      ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
      ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
      ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
      ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6)
      ∧ r.2.mem ((c.tc : Thread Cert.MixGradIdeal.nD Cert.MixGradIdeal.τ).loc Cert.MixGradIdeal.main_arg7) = m ((c.tc : Thread Cert.MixGradIdeal.nD Cert.MixGradIdeal.τ).loc Cert.MixGradIdeal.main_arg7))
      ∧ r.2.sem = fun _ => 0)

def quiescent_MixGradRefIdeal [hMixGradRefIdeal : Cert.MixGradRefIdeal.Facts] : Prop :=
  ∀ (m : (ℓ : Loc Cert.MixGradRefIdeal.nD Cert.MixGradRefIdeal.τ Cert.MixGradRefIdeal.sig) → Buf (Elt Ideal) ℓ) (g : Dev Cert.MixGradRefIdeal.nD → PrngReg), Pre_MixGradRefIdeal m →
    θ_run (Cert.MixGradRefIdeal.defs (F := Ideal)) (onTc (τ := Cert.MixGradRefIdeal.τ) (Cert.MixGradRefIdeal.main (F := Ideal))) ⟨m, fun _ => 0, g⟩ (fun r => (∀ c : Dev Cert.MixGradRefIdeal.nD,
      r.2.mem ((c.tc : Thread Cert.MixGradRefIdeal.nD Cert.MixGradRefIdeal.τ).loc Cert.MixGradRefIdeal.main_arg0) = m ((c.tc : Thread Cert.MixGradRefIdeal.nD Cert.MixGradRefIdeal.τ).loc Cert.MixGradRefIdeal.main_arg0)
      ∧ r.2.mem ((c.tc : Thread Cert.MixGradRefIdeal.nD Cert.MixGradRefIdeal.τ).loc Cert.MixGradRefIdeal.main_arg1) = m ((c.tc : Thread Cert.MixGradRefIdeal.nD Cert.MixGradRefIdeal.τ).loc Cert.MixGradRefIdeal.main_arg1)
      ∧ r.2.mem ((c.tc : Thread Cert.MixGradRefIdeal.nD Cert.MixGradRefIdeal.τ).loc Cert.MixGradRefIdeal.main_arg2) = m ((c.tc : Thread Cert.MixGradRefIdeal.nD Cert.MixGradRefIdeal.τ).loc Cert.MixGradRefIdeal.main_arg2)
      ∧ r.2.mem ((c.tc : Thread Cert.MixGradRefIdeal.nD Cert.MixGradRefIdeal.τ).loc Cert.MixGradRefIdeal.main_arg3) = m ((c.tc : Thread Cert.MixGradRefIdeal.nD Cert.MixGradRefIdeal.τ).loc Cert.MixGradRefIdeal.main_arg3)
      ∧ r.2.mem ((c.tc : Thread Cert.MixGradRefIdeal.nD Cert.MixGradRefIdeal.τ).loc Cert.MixGradRefIdeal.main_arg4) = m ((c.tc : Thread Cert.MixGradRefIdeal.nD Cert.MixGradRefIdeal.τ).loc Cert.MixGradRefIdeal.main_arg4)
      ∧ r.2.mem ((c.tc : Thread Cert.MixGradRefIdeal.nD Cert.MixGradRefIdeal.τ).loc Cert.MixGradRefIdeal.main_arg5) = m ((c.tc : Thread Cert.MixGradRefIdeal.nD Cert.MixGradRefIdeal.τ).loc Cert.MixGradRefIdeal.main_arg5)
      ∧ r.2.mem ((c.tc : Thread Cert.MixGradRefIdeal.nD Cert.MixGradRefIdeal.τ).loc Cert.MixGradRefIdeal.main_arg6) = m ((c.tc : Thread Cert.MixGradRefIdeal.nD Cert.MixGradRefIdeal.τ).loc Cert.MixGradRefIdeal.main_arg6)
      ∧ r.2.mem ((c.tc : Thread Cert.MixGradRefIdeal.nD Cert.MixGradRefIdeal.τ).loc Cert.MixGradRefIdeal.main_arg7) = m ((c.tc : Thread Cert.MixGradRefIdeal.nD Cert.MixGradRefIdeal.τ).loc Cert.MixGradRefIdeal.main_arg7))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def preserves_WinGrad_WinGradIdeal : Prop :=
  True

def algebraic_WinGradIdeal_WinRefIdeal [hWinGradIdeal : Cert.WinGradIdeal.Facts] [hWinRefIdeal : Cert.WinRefIdeal.Facts] : Prop :=
  ∀ (m : (ℓ : Loc Cert.WinGradIdeal.nD Cert.WinGradIdeal.τ Cert.WinGradIdeal.sig) → Buf (Elt Ideal) ℓ) (g : Dev Cert.WinGradIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinGradIdeal m →
    (∀ c : Dev Cert.WinGradIdeal.nD,
      m' ((c.tc : Thread Cert.WinRefIdeal.nD Cert.WinRefIdeal.τ).loc Cert.WinRefIdeal.main_arg0) = m ((c.tc : Thread Cert.WinGradIdeal.nD Cert.WinGradIdeal.τ).loc Cert.WinGradIdeal.main_arg0)
      ∧ m' ((c.tc : Thread Cert.WinRefIdeal.nD Cert.WinRefIdeal.τ).loc Cert.WinRefIdeal.main_arg1) = m ((c.tc : Thread Cert.WinGradIdeal.nD Cert.WinGradIdeal.τ).loc Cert.WinGradIdeal.main_arg1)
      ∧ m' ((c.tc : Thread Cert.WinRefIdeal.nD Cert.WinRefIdeal.τ).loc Cert.WinRefIdeal.main_arg2) = m ((c.tc : Thread Cert.WinGradIdeal.nD Cert.WinGradIdeal.τ).loc Cert.WinGradIdeal.main_arg2)) →
    ∃ (v0 : (c : Dev Cert.WinGradIdeal.nD) → Buf (Elt Ideal) ((c.tc : Thread Cert.WinGradIdeal.nD Cert.WinGradIdeal.τ).loc Cert.WinGradIdeal.main_v1)),
      θ_run (Cert.WinGradIdeal.defs (F := Ideal)) (onTc (τ := Cert.WinGradIdeal.τ) (Cert.WinGradIdeal.main (F := Ideal))) ⟨m, fun _ => 0, g⟩ (fun r => ∀ c : Dev Cert.WinGradIdeal.nD,
          r.2.mem ((c.tc : Thread Cert.WinGradIdeal.nD Cert.WinGradIdeal.τ).loc Cert.WinGradIdeal.main_v1) = v0 c
          ∧ r.2.mem ((c.tc : Thread Cert.WinGradIdeal.nD Cert.WinGradIdeal.τ).loc Cert.WinGradIdeal.main_arg0) = m ((c.tc : Thread Cert.WinGradIdeal.nD Cert.WinGradIdeal.τ).loc Cert.WinGradIdeal.main_arg0)
          ∧ r.2.mem ((c.tc : Thread Cert.WinGradIdeal.nD Cert.WinGradIdeal.τ).loc Cert.WinGradIdeal.main_arg1) = m ((c.tc : Thread Cert.WinGradIdeal.nD Cert.WinGradIdeal.τ).loc Cert.WinGradIdeal.main_arg1)
          ∧ r.2.mem ((c.tc : Thread Cert.WinGradIdeal.nD Cert.WinGradIdeal.τ).loc Cert.WinGradIdeal.main_arg2) = m ((c.tc : Thread Cert.WinGradIdeal.nD Cert.WinGradIdeal.τ).loc Cert.WinGradIdeal.main_arg2))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v6) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2))

def preserves_WdownGrad_WdownGradIdeal : Prop :=
  True

def algebraic_WdownGradIdeal_WdownRefIdeal [hWdownGradIdeal : Cert.WdownGradIdeal.Facts] [hWdownRefIdeal : Cert.WdownRefIdeal.Facts] : Prop :=
  ∀ (m : (ℓ : Loc Cert.WdownGradIdeal.nD Cert.WdownGradIdeal.τ Cert.WdownGradIdeal.sig) → Buf (Elt Ideal) ℓ) (g : Dev Cert.WdownGradIdeal.nD → PrngReg)
    (m' : (ℓ : Loc Cert.WdownRefIdeal.nD Cert.WdownRefIdeal.τ Cert.WdownRefIdeal.sig) → Buf (Elt Ideal) ℓ) (g' : Dev Cert.WdownRefIdeal.nD → PrngReg), Pre_WdownGradIdeal m →
    (∀ c : Dev Cert.WdownGradIdeal.nD,
      m' ((c.tc : Thread Cert.WdownRefIdeal.nD Cert.WdownRefIdeal.τ).loc Cert.WdownRefIdeal.main_arg0) = m ((c.tc : Thread Cert.WdownGradIdeal.nD Cert.WdownGradIdeal.τ).loc Cert.WdownGradIdeal.main_arg0)
      ∧ m' ((c.tc : Thread Cert.WdownRefIdeal.nD Cert.WdownRefIdeal.τ).loc Cert.WdownRefIdeal.main_arg1) = m ((c.tc : Thread Cert.WdownGradIdeal.nD Cert.WdownGradIdeal.τ).loc Cert.WdownGradIdeal.main_arg1)
      ∧ m' ((c.tc : Thread Cert.WdownRefIdeal.nD Cert.WdownRefIdeal.τ).loc Cert.WdownRefIdeal.main_arg2) = m ((c.tc : Thread Cert.WdownGradIdeal.nD Cert.WdownGradIdeal.τ).loc Cert.WdownGradIdeal.main_arg2)) →
    ∃ (v0 : (c : Dev Cert.WdownGradIdeal.nD) → Buf (Elt Ideal) ((c.tc : Thread Cert.WdownGradIdeal.nD Cert.WdownGradIdeal.τ).loc Cert.WdownGradIdeal.main_v1)),
      θ_run (Cert.WdownGradIdeal.defs (F := Ideal)) (onTc (τ := Cert.WdownGradIdeal.τ) (Cert.WdownGradIdeal.main (F := Ideal))) ⟨m, fun _ => 0, g⟩ (fun r => ∀ c : Dev Cert.WdownGradIdeal.nD,
          r.2.mem ((c.tc : Thread Cert.WdownGradIdeal.nD Cert.WdownGradIdeal.τ).loc Cert.WdownGradIdeal.main_v1) = v0 c
          ∧ r.2.mem ((c.tc : Thread Cert.WdownGradIdeal.nD Cert.WdownGradIdeal.τ).loc Cert.WdownGradIdeal.main_arg0) = m ((c.tc : Thread Cert.WdownGradIdeal.nD Cert.WdownGradIdeal.τ).loc Cert.WdownGradIdeal.main_arg0)
          ∧ r.2.mem ((c.tc : Thread Cert.WdownGradIdeal.nD Cert.WdownGradIdeal.τ).loc Cert.WdownGradIdeal.main_arg1) = m ((c.tc : Thread Cert.WdownGradIdeal.nD Cert.WdownGradIdeal.τ).loc Cert.WdownGradIdeal.main_arg1)
          ∧ r.2.mem ((c.tc : Thread Cert.WdownGradIdeal.nD Cert.WdownGradIdeal.τ).loc Cert.WdownGradIdeal.main_arg2) = m ((c.tc : Thread Cert.WdownGradIdeal.nD Cert.WdownGradIdeal.τ).loc Cert.WdownGradIdeal.main_arg2))
      ∧ θ_run (Cert.WdownRefIdeal.defs (F := Ideal)) (onTc (τ := Cert.WdownRefIdeal.τ) (Cert.WdownRefIdeal.main (F := Ideal))) ⟨m', fun _ => 0, g'⟩ (fun r => ∀ c : Dev Cert.WdownRefIdeal.nD,
          r.2.mem ((c.tc : Thread Cert.WdownRefIdeal.nD Cert.WdownRefIdeal.τ).loc Cert.WdownRefIdeal.main_v5) = v0 c
          ∧ r.2.mem ((c.tc : Thread Cert.WdownRefIdeal.nD Cert.WdownRefIdeal.τ).loc Cert.WdownRefIdeal.main_arg0) = m' ((c.tc : Thread Cert.WdownRefIdeal.nD Cert.WdownRefIdeal.τ).loc Cert.WdownRefIdeal.main_arg0)
          ∧ r.2.mem ((c.tc : Thread Cert.WdownRefIdeal.nD Cert.WdownRefIdeal.τ).loc Cert.WdownRefIdeal.main_arg1) = m' ((c.tc : Thread Cert.WdownRefIdeal.nD Cert.WdownRefIdeal.τ).loc Cert.WdownRefIdeal.main_arg1)
          ∧ r.2.mem ((c.tc : Thread Cert.WdownRefIdeal.nD Cert.WdownRefIdeal.τ).loc Cert.WdownRefIdeal.main_arg2) = m' ((c.tc : Thread Cert.WdownRefIdeal.nD Cert.WdownRefIdeal.τ).loc Cert.WdownRefIdeal.main_arg2))

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)
      ∧ m' ((c.tc : Thread Cert.ConvRefIdeal.nD Cert.ConvRefIdeal.τ).loc Cert.ConvRefIdeal.main_arg4) = m ((c.tc : Thread Cert.ConvBwdIdeal.nD Cert.ConvBwdIdeal.τ).loc Cert.ConvBwdIdeal.main_arg4)
      ∧ m' ((c.tc : Thread Cert.ConvRefIdeal.nD Cert.ConvRefIdeal.τ).loc Cert.ConvRefIdeal.main_arg5) = m ((c.tc : Thread Cert.ConvBwdIdeal.nD Cert.ConvBwdIdeal.τ).loc Cert.ConvBwdIdeal.main_arg5)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)) (v3 : (c : Dev Cert.ConvBwdIdeal.nD) → Buf (Elt Ideal) ((c.tc : Thread Cert.ConvBwdIdeal.nD Cert.ConvBwdIdeal.τ).loc Cert.ConvBwdIdeal.main_v0_3)) (v4 : (c : Dev Cert.ConvBwdIdeal.nD) → Buf (Elt Ideal) ((c.tc : Thread Cert.ConvBwdIdeal.nD Cert.ConvBwdIdeal.τ).loc Cert.ConvBwdIdeal.main_v0_4)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_v0_3) = v3 c
          ∧ r.2.mem ((c.tc : Thread Cert.ConvBwdIdeal.nD Cert.ConvBwdIdeal.τ).loc Cert.ConvBwdIdeal.main_v0_4) = v4 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
          ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v106) = v0 c
          ∧ r.2.mem ((c.tc : Thread Cert.ConvRefIdeal.nD Cert.ConvRefIdeal.τ).loc Cert.ConvRefIdeal.main_v107) = v1 c
          ∧ r.2.mem ((c.tc : Thread Cert.ConvRefIdeal.nD Cert.ConvRefIdeal.τ).loc Cert.ConvRefIdeal.main_v108) = v2 c
          ∧ r.2.mem ((c.tc : Thread Cert.ConvRefIdeal.nD Cert.ConvRefIdeal.τ).loc Cert.ConvRefIdeal.main_v109) = v3 c
          ∧ r.2.mem ((c.tc : Thread Cert.ConvRefIdeal.nD Cert.ConvRefIdeal.τ).loc Cert.ConvRefIdeal.main_v51) = v4 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_FfnBwd_FfnBwdIdeal : Prop :=
  True

def algebraic_FfnBwdIdeal_FfnRefIdeal_pre_finite_ffn [hFfnBwdIdeal : Cert.FfnBwdIdeal.Facts] [hFfnRefIdeal : Cert.FfnRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_finite_ffn m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v27_0)) (v1 : (c : Dev Cert.FfnBwdIdeal.nD) → Buf (Elt Ideal) ((c.tc : Thread Cert.FfnBwdIdeal.nD Cert.FfnBwdIdeal.τ).loc Cert.FfnBwdIdeal.main_v27_1)) (v2 : (c : Dev Cert.FfnBwdIdeal.nD) → Buf (Elt Ideal) ((c.tc : Thread Cert.FfnBwdIdeal.nD Cert.FfnBwdIdeal.τ).loc Cert.FfnBwdIdeal.main_v27_2)) (v3 : (c : Dev Cert.FfnBwdIdeal.nD) → Buf (Elt Ideal) ((c.tc : Thread Cert.FfnBwdIdeal.nD Cert.FfnBwdIdeal.τ).loc Cert.FfnBwdIdeal.main_v27_3)) (v4 : (c : Dev Cert.FfnBwdIdeal.nD) → Buf (Elt Ideal) ((c.tc : Thread Cert.FfnBwdIdeal.nD Cert.FfnBwdIdeal.τ).loc Cert.FfnBwdIdeal.main_v27_4)) (v5 : (c : Dev Cert.FfnBwdIdeal.nD) → Buf (Elt Ideal) ((c.tc : Thread Cert.FfnBwdIdeal.nD Cert.FfnBwdIdeal.τ).loc Cert.FfnBwdIdeal.main_v27_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v27_0) = v0 c
          ∧ r.2.mem ((c.tc : Thread Cert.FfnBwdIdeal.nD Cert.FfnBwdIdeal.τ).loc Cert.FfnBwdIdeal.main_v27_1) = v1 c
          ∧ r.2.mem ((c.tc : Thread Cert.FfnBwdIdeal.nD Cert.FfnBwdIdeal.τ).loc Cert.FfnBwdIdeal.main_v27_2) = v2 c
          ∧ r.2.mem ((c.tc : Thread Cert.FfnBwdIdeal.nD Cert.FfnBwdIdeal.τ).loc Cert.FfnBwdIdeal.main_v27_3) = v3 c
          ∧ r.2.mem ((c.tc : Thread Cert.FfnBwdIdeal.nD Cert.FfnBwdIdeal.τ).loc Cert.FfnBwdIdeal.main_v27_4) = v4 c
          ∧ r.2.mem ((c.tc : Thread Cert.FfnBwdIdeal.nD Cert.FfnBwdIdeal.τ).loc Cert.FfnBwdIdeal.main_v27_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_v52) = v1 c
          ∧ r.2.mem ((c.tc : Thread Cert.FfnRefIdeal.nD Cert.FfnRefIdeal.τ).loc Cert.FfnRefIdeal.main_v53) = v2 c
          ∧ r.2.mem ((c.tc : Thread Cert.FfnRefIdeal.nD Cert.FfnRefIdeal.τ).loc Cert.FfnRefIdeal.main_v54) = v3 c
          ∧ r.2.mem ((c.tc : Thread Cert.FfnRefIdeal.nD Cert.FfnRefIdeal.τ).loc Cert.FfnRefIdeal.main_v55) = v4 c
          ∧ r.2.mem ((c.tc : Thread Cert.FfnRefIdeal.nD Cert.FfnRefIdeal.τ).loc Cert.FfnRefIdeal.main_v58) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v3_0)) (v1 : (c : Dev Cert.AdamGateIdeal.nD) → Buf (Elt Ideal) ((c.tc : Thread Cert.AdamGateIdeal.nD Cert.AdamGateIdeal.τ).loc Cert.AdamGateIdeal.main_v3_1)) (v2 : (c : Dev Cert.AdamGateIdeal.nD) → Buf (Elt Ideal) ((c.tc : Thread Cert.AdamGateIdeal.nD Cert.AdamGateIdeal.τ).loc Cert.AdamGateIdeal.main_v3_2)) (v3 : (c : Dev Cert.AdamGateIdeal.nD) → Buf (Elt Ideal) ((c.tc : Thread Cert.AdamGateIdeal.nD Cert.AdamGateIdeal.τ).loc Cert.AdamGateIdeal.main_v3_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v3_0) = v0 c
          ∧ r.2.mem ((c.tc : Thread Cert.AdamGateIdeal.nD Cert.AdamGateIdeal.τ).loc Cert.AdamGateIdeal.main_v3_1) = v1 c
          ∧ r.2.mem ((c.tc : Thread Cert.AdamGateIdeal.nD Cert.AdamGateIdeal.τ).loc Cert.AdamGateIdeal.main_v3_2) = v2 c
          ∧ r.2.mem ((c.tc : Thread Cert.AdamGateIdeal.nD Cert.AdamGateIdeal.τ).loc Cert.AdamGateIdeal.main_v3_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v27) = v0 c
          ∧ r.2.mem ((c.tc : Thread Cert.AdamGateRefIdeal.nD Cert.AdamGateRefIdeal.τ).loc Cert.AdamGateRefIdeal.main_v28) = v1 c
          ∧ r.2.mem ((c.tc : Thread Cert.AdamGateRefIdeal.nD Cert.AdamGateRefIdeal.τ).loc Cert.AdamGateRefIdeal.main_v29) = v2 c
          ∧ r.2.mem ((c.tc : Thread Cert.AdamGateRefIdeal.nD Cert.AdamGateRefIdeal.τ).loc Cert.AdamGateRefIdeal.main_v30) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v3_0)) (v1 : (c : Dev Cert.AdamInIdeal.nD) → Buf (Elt Ideal) ((c.tc : Thread Cert.AdamInIdeal.nD Cert.AdamInIdeal.τ).loc Cert.AdamInIdeal.main_v3_1)) (v2 : (c : Dev Cert.AdamInIdeal.nD) → Buf (Elt Ideal) ((c.tc : Thread Cert.AdamInIdeal.nD Cert.AdamInIdeal.τ).loc Cert.AdamInIdeal.main_v3_2)) (v3 : (c : Dev Cert.AdamInIdeal.nD) → Buf (Elt Ideal) ((c.tc : Thread Cert.AdamInIdeal.nD Cert.AdamInIdeal.τ).loc Cert.AdamInIdeal.main_v3_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v3_0) = v0 c
          ∧ r.2.mem ((c.tc : Thread Cert.AdamInIdeal.nD Cert.AdamInIdeal.τ).loc Cert.AdamInIdeal.main_v3_1) = v1 c
          ∧ r.2.mem ((c.tc : Thread Cert.AdamInIdeal.nD Cert.AdamInIdeal.τ).loc Cert.AdamInIdeal.main_v3_2) = v2 c
          ∧ r.2.mem ((c.tc : Thread Cert.AdamInIdeal.nD Cert.AdamInIdeal.τ).loc Cert.AdamInIdeal.main_v3_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v27) = v0 c
          ∧ r.2.mem ((c.tc : Thread Cert.AdamInRefIdeal.nD Cert.AdamInRefIdeal.τ).loc Cert.AdamInRefIdeal.main_v28) = v1 c
          ∧ r.2.mem ((c.tc : Thread Cert.AdamInRefIdeal.nD Cert.AdamInRefIdeal.τ).loc Cert.AdamInRefIdeal.main_v29) = v2 c
          ∧ r.2.mem ((c.tc : Thread Cert.AdamInRefIdeal.nD Cert.AdamInRefIdeal.τ).loc Cert.AdamInRefIdeal.main_v30) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_FfnFwd_FfnFwdIdeal : Prop :=
  True

def algebraic_FfnFwdIdeal_FwdRefIdeal [hFfnFwdIdeal : Cert.FfnFwdIdeal.Facts] [hFwdRefIdeal : Cert.FwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FfnFwdIdeal m →
    (∀ c : Dev Cert.FfnFwdIdeal.nD,
      m' ((c.tc : Thread Cert.FwdRefIdeal.nD Cert.FwdRefIdeal.τ).loc Cert.FwdRefIdeal.main_arg0) = m ((c.tc : Thread Cert.FfnFwdIdeal.nD Cert.FfnFwdIdeal.τ).loc Cert.FfnFwdIdeal.main_arg0)
      ∧ m' ((c.tc : Thread Cert.FwdRefIdeal.nD Cert.FwdRefIdeal.τ).loc Cert.FwdRefIdeal.main_arg1) = m ((c.tc : Thread Cert.FfnFwdIdeal.nD Cert.FfnFwdIdeal.τ).loc Cert.FfnFwdIdeal.main_arg1)
      ∧ m' ((c.tc : Thread Cert.FwdRefIdeal.nD Cert.FwdRefIdeal.τ).loc Cert.FwdRefIdeal.main_arg2) = m ((c.tc : Thread Cert.FfnFwdIdeal.nD Cert.FfnFwdIdeal.τ).loc Cert.FfnFwdIdeal.main_arg2)
      ∧ m' ((c.tc : Thread Cert.FwdRefIdeal.nD Cert.FwdRefIdeal.τ).loc Cert.FwdRefIdeal.main_arg3) = m ((c.tc : Thread Cert.FfnFwdIdeal.nD Cert.FfnFwdIdeal.τ).loc Cert.FfnFwdIdeal.main_arg3)
      ∧ m' ((c.tc : Thread Cert.FwdRefIdeal.nD Cert.FwdRefIdeal.τ).loc Cert.FwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v12_0)) (v1 : (c : Dev Cert.FfnFwdIdeal.nD) → Buf (Elt Ideal) ((c.tc : Thread Cert.FfnFwdIdeal.nD Cert.FfnFwdIdeal.τ).loc Cert.FfnFwdIdeal.main_v12_1)) (v2 : (c : Dev Cert.FfnFwdIdeal.nD) → Buf (Elt Ideal) ((c.tc : Thread Cert.FfnFwdIdeal.nD Cert.FfnFwdIdeal.τ).loc Cert.FfnFwdIdeal.main_v12_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v12_0) = v0 c
          ∧ r.2.mem ((c.tc : Thread Cert.FfnFwdIdeal.nD Cert.FfnFwdIdeal.τ).loc Cert.FfnFwdIdeal.main_v12_1) = v1 c
          ∧ r.2.mem ((c.tc : Thread Cert.FfnFwdIdeal.nD Cert.FfnFwdIdeal.τ).loc Cert.FfnFwdIdeal.main_v12_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v19) = v0 c
          ∧ r.2.mem ((c.tc : Thread Cert.FwdRefIdeal.nD Cert.FwdRefIdeal.τ).loc Cert.FwdRefIdeal.main_v20) = v1 c
          ∧ r.2.mem ((c.tc : Thread Cert.FwdRefIdeal.nD Cert.FwdRefIdeal.τ).loc Cert.FwdRefIdeal.main_v27) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v2_0)) (v1 : (c : Dev Cert.MixInIdeal.nD) → Buf (Elt Ideal) ((c.tc : Thread Cert.MixInIdeal.nD Cert.MixInIdeal.τ).loc Cert.MixInIdeal.main_v2_1)) (v2 : (c : Dev Cert.MixInIdeal.nD) → Buf (Elt Ideal) ((c.tc : Thread Cert.MixInIdeal.nD Cert.MixInIdeal.τ).loc Cert.MixInIdeal.main_v2_2)) (v3 : (c : Dev Cert.MixInIdeal.nD) → Buf (Elt Ideal) ((c.tc : Thread Cert.MixInIdeal.nD Cert.MixInIdeal.τ).loc Cert.MixInIdeal.main_v2_3)) (v4 : (c : Dev Cert.MixInIdeal.nD) → Buf (Elt Ideal) ((c.tc : Thread Cert.MixInIdeal.nD Cert.MixInIdeal.τ).loc Cert.MixInIdeal.main_v2_4)) (v5 : (c : Dev Cert.MixInIdeal.nD) → Buf (Elt Ideal) ((c.tc : Thread Cert.MixInIdeal.nD Cert.MixInIdeal.τ).loc Cert.MixInIdeal.main_v2_5)) (v6 : (c : Dev Cert.MixInIdeal.nD) → Buf (Elt Ideal) ((c.tc : Thread Cert.MixInIdeal.nD Cert.MixInIdeal.τ).loc Cert.MixInIdeal.main_v2_6)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v2_0) = v0 c
          ∧ r.2.mem ((c.tc : Thread Cert.MixInIdeal.nD Cert.MixInIdeal.τ).loc Cert.MixInIdeal.main_v2_1) = v1 c
          ∧ r.2.mem ((c.tc : Thread Cert.MixInIdeal.nD Cert.MixInIdeal.τ).loc Cert.MixInIdeal.main_v2_2) = v2 c
          ∧ r.2.mem ((c.tc : Thread Cert.MixInIdeal.nD Cert.MixInIdeal.τ).loc Cert.MixInIdeal.main_v2_3) = v3 c
          ∧ r.2.mem ((c.tc : Thread Cert.MixInIdeal.nD Cert.MixInIdeal.τ).loc Cert.MixInIdeal.main_v2_4) = v4 c
          ∧ r.2.mem ((c.tc : Thread Cert.MixInIdeal.nD Cert.MixInIdeal.τ).loc Cert.MixInIdeal.main_v2_5) = v5 c
          ∧ r.2.mem ((c.tc : Thread Cert.MixInIdeal.nD Cert.MixInIdeal.τ).loc Cert.MixInIdeal.main_v2_6) = v6 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v19) = v0 c
          ∧ r.2.mem ((c.tc : Thread Cert.MixInRefIdeal.nD Cert.MixInRefIdeal.τ).loc Cert.MixInRefIdeal.main_v20) = v1 c
          ∧ r.2.mem ((c.tc : Thread Cert.MixInRefIdeal.nD Cert.MixInRefIdeal.τ).loc Cert.MixInRefIdeal.main_v21) = v2 c
          ∧ r.2.mem ((c.tc : Thread Cert.MixInRefIdeal.nD Cert.MixInRefIdeal.τ).loc Cert.MixInRefIdeal.main_v22) = v3 c
          ∧ r.2.mem ((c.tc : Thread Cert.MixInRefIdeal.nD Cert.MixInRefIdeal.τ).loc Cert.MixInRefIdeal.main_v23) = v4 c
          ∧ r.2.mem ((c.tc : Thread Cert.MixInRefIdeal.nD Cert.MixInRefIdeal.τ).loc Cert.MixInRefIdeal.main_v24) = v5 c
          ∧ r.2.mem ((c.tc : Thread Cert.MixInRefIdeal.nD Cert.MixInRefIdeal.τ).loc Cert.MixInRefIdeal.main_v25) = v6 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_MixGrad_MixGradIdeal : Prop :=
  True

def algebraic_MixGradIdeal_MixGradRefIdeal [hMixGradIdeal : Cert.MixGradIdeal.Facts] [hMixGradRefIdeal : Cert.MixGradRefIdeal.Facts] : Prop :=
  ∀ (m : (ℓ : Loc Cert.MixGradIdeal.nD Cert.MixGradIdeal.τ Cert.MixGradIdeal.sig) → Buf (Elt Ideal) ℓ) (g : Dev Cert.MixGradIdeal.nD → PrngReg)
    (m' : (ℓ : Loc Cert.MixGradRefIdeal.nD Cert.MixGradRefIdeal.τ Cert.MixGradRefIdeal.sig) → Buf (Elt Ideal) ℓ) (g' : Dev Cert.MixGradRefIdeal.nD → PrngReg), Pre_MixGradIdeal m →
    (∀ c : Dev Cert.MixGradIdeal.nD,
      m' ((c.tc : Thread Cert.MixGradRefIdeal.nD Cert.MixGradRefIdeal.τ).loc Cert.MixGradRefIdeal.main_arg0) = m ((c.tc : Thread Cert.MixGradIdeal.nD Cert.MixGradIdeal.τ).loc Cert.MixGradIdeal.main_arg0)
      ∧ m' ((c.tc : Thread Cert.MixGradRefIdeal.nD Cert.MixGradRefIdeal.τ).loc Cert.MixGradRefIdeal.main_arg1) = m ((c.tc : Thread Cert.MixGradIdeal.nD Cert.MixGradIdeal.τ).loc Cert.MixGradIdeal.main_arg1)
      ∧ m' ((c.tc : Thread Cert.MixGradRefIdeal.nD Cert.MixGradRefIdeal.τ).loc Cert.MixGradRefIdeal.main_arg2) = m ((c.tc : Thread Cert.MixGradIdeal.nD Cert.MixGradIdeal.τ).loc Cert.MixGradIdeal.main_arg2)
      ∧ m' ((c.tc : Thread Cert.MixGradRefIdeal.nD Cert.MixGradRefIdeal.τ).loc Cert.MixGradRefIdeal.main_arg3) = m ((c.tc : Thread Cert.MixGradIdeal.nD Cert.MixGradIdeal.τ).loc Cert.MixGradIdeal.main_arg3)
      ∧ m' ((c.tc : Thread Cert.MixGradRefIdeal.nD Cert.MixGradRefIdeal.τ).loc Cert.MixGradRefIdeal.main_arg4) = m ((c.tc : Thread Cert.MixGradIdeal.nD Cert.MixGradIdeal.τ).loc Cert.MixGradIdeal.main_arg4)
      ∧ m' ((c.tc : Thread Cert.MixGradRefIdeal.nD Cert.MixGradRefIdeal.τ).loc Cert.MixGradRefIdeal.main_arg5) = m ((c.tc : Thread Cert.MixGradIdeal.nD Cert.MixGradIdeal.τ).loc Cert.MixGradIdeal.main_arg5)
      ∧ m' ((c.tc : Thread Cert.MixGradRefIdeal.nD Cert.MixGradRefIdeal.τ).loc Cert.MixGradRefIdeal.main_arg6) = m ((c.tc : Thread Cert.MixGradIdeal.nD Cert.MixGradIdeal.τ).loc Cert.MixGradIdeal.main_arg6)
      ∧ m' ((c.tc : Thread Cert.MixGradRefIdeal.nD Cert.MixGradRefIdeal.τ).loc Cert.MixGradRefIdeal.main_arg7) = m ((c.tc : Thread Cert.MixGradIdeal.nD Cert.MixGradIdeal.τ).loc Cert.MixGradIdeal.main_arg7)) →
    ∃ (v0 : (c : Dev Cert.MixGradIdeal.nD) → Buf (Elt Ideal) ((c.tc : Thread Cert.MixGradIdeal.nD Cert.MixGradIdeal.τ).loc Cert.MixGradIdeal.main_v0)),
      θ_run (Cert.MixGradIdeal.defs (F := Ideal)) (onTc (τ := Cert.MixGradIdeal.τ) (Cert.MixGradIdeal.main (F := Ideal))) ⟨m, fun _ => 0, g⟩ (fun r => ∀ c : Dev Cert.MixGradIdeal.nD,
          r.2.mem ((c.tc : Thread Cert.MixGradIdeal.nD Cert.MixGradIdeal.τ).loc Cert.MixGradIdeal.main_v0) = v0 c
          ∧ r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
          ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
          ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
          ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
          ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
          ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6)
          ∧ r.2.mem ((c.tc : Thread Cert.MixGradIdeal.nD Cert.MixGradIdeal.τ).loc Cert.MixGradIdeal.main_arg7) = m ((c.tc : Thread Cert.MixGradIdeal.nD Cert.MixGradIdeal.τ).loc Cert.MixGradIdeal.main_arg7))
      ∧ θ_run (Cert.MixGradRefIdeal.defs (F := Ideal)) (onTc (τ := Cert.MixGradRefIdeal.τ) (Cert.MixGradRefIdeal.main (F := Ideal))) ⟨m', fun _ => 0, g'⟩ (fun r => ∀ c : Dev Cert.MixGradRefIdeal.nD,
          r.2.mem ((c.tc : Thread Cert.MixGradRefIdeal.nD Cert.MixGradRefIdeal.τ).loc Cert.MixGradRefIdeal.main_v18) = v0 c
          ∧ r.2.mem ((c.tc : Thread Cert.MixGradRefIdeal.nD Cert.MixGradRefIdeal.τ).loc Cert.MixGradRefIdeal.main_arg0) = m' ((c.tc : Thread Cert.MixGradRefIdeal.nD Cert.MixGradRefIdeal.τ).loc Cert.MixGradRefIdeal.main_arg0)
          ∧ r.2.mem ((c.tc : Thread Cert.MixGradRefIdeal.nD Cert.MixGradRefIdeal.τ).loc Cert.MixGradRefIdeal.main_arg1) = m' ((c.tc : Thread Cert.MixGradRefIdeal.nD Cert.MixGradRefIdeal.τ).loc Cert.MixGradRefIdeal.main_arg1)
          ∧ r.2.mem ((c.tc : Thread Cert.MixGradRefIdeal.nD Cert.MixGradRefIdeal.τ).loc Cert.MixGradRefIdeal.main_arg2) = m' ((c.tc : Thread Cert.MixGradRefIdeal.nD Cert.MixGradRefIdeal.τ).loc Cert.MixGradRefIdeal.main_arg2)
          ∧ r.2.mem ((c.tc : Thread Cert.MixGradRefIdeal.nD Cert.MixGradRefIdeal.τ).loc Cert.MixGradRefIdeal.main_arg3) = m' ((c.tc : Thread Cert.MixGradRefIdeal.nD Cert.MixGradRefIdeal.τ).loc Cert.MixGradRefIdeal.main_arg3)
          ∧ r.2.mem ((c.tc : Thread Cert.MixGradRefIdeal.nD Cert.MixGradRefIdeal.τ).loc Cert.MixGradRefIdeal.main_arg4) = m' ((c.tc : Thread Cert.MixGradRefIdeal.nD Cert.MixGradRefIdeal.τ).loc Cert.MixGradRefIdeal.main_arg4)
          ∧ r.2.mem ((c.tc : Thread Cert.MixGradRefIdeal.nD Cert.MixGradRefIdeal.τ).loc Cert.MixGradRefIdeal.main_arg5) = m' ((c.tc : Thread Cert.MixGradRefIdeal.nD Cert.MixGradRefIdeal.τ).loc Cert.MixGradRefIdeal.main_arg5)
          ∧ r.2.mem ((c.tc : Thread Cert.MixGradRefIdeal.nD Cert.MixGradRefIdeal.τ).loc Cert.MixGradRefIdeal.main_arg6) = m' ((c.tc : Thread Cert.MixGradRefIdeal.nD Cert.MixGradRefIdeal.τ).loc Cert.MixGradRefIdeal.main_arg6)
          ∧ r.2.mem ((c.tc : Thread Cert.MixGradRefIdeal.nD Cert.MixGradRefIdeal.τ).loc Cert.MixGradRefIdeal.main_arg7) = m' ((c.tc : Thread Cert.MixGradRefIdeal.nD Cert.MixGradRefIdeal.τ).loc Cert.MixGradRefIdeal.main_arg7))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v7) = v0 c
          ∧ r.2.mem ((c.tc : Thread Cert.MixOutRefIdeal.nD Cert.MixOutRefIdeal.τ).loc Cert.MixOutRefIdeal.main_v8) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def Claim : Prop :=
  ∃ (hWinGrad : Cert.WinGrad.Facts) (hWinGradIdeal : Cert.WinGradIdeal.Facts) (hWinRefIdeal : Cert.WinRefIdeal.Facts) (hWdownGrad : Cert.WdownGrad.Facts) (hWdownGradIdeal : Cert.WdownGradIdeal.Facts) (hWdownRefIdeal : Cert.WdownRefIdeal.Facts) (hConvBwd : Cert.ConvBwd.Facts) (hConvBwdIdeal : Cert.ConvBwdIdeal.Facts) (hConvRefIdeal : Cert.ConvRefIdeal.Facts) (hFfnBwd : Cert.FfnBwd.Facts) (hFfnBwdIdeal : Cert.FfnBwdIdeal.Facts) (hFfnRefIdeal : Cert.FfnRefIdeal.Facts) (hAdamGate : Cert.AdamGate.Facts) (hAdamGateIdeal : Cert.AdamGateIdeal.Facts) (hAdamGateRefIdeal : Cert.AdamGateRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hFfnFwd : Cert.FfnFwd.Facts) (hFfnFwdIdeal : Cert.FfnFwdIdeal.Facts) (hFwdRefIdeal : Cert.FwdRefIdeal.Facts) (hMixIn : Cert.MixIn.Facts) (hMixInIdeal : Cert.MixInIdeal.Facts) (hMixInRefIdeal : Cert.MixInRefIdeal.Facts) (hMixGrad : Cert.MixGrad.Facts) (hMixGradIdeal : Cert.MixGradIdeal.Facts) (hMixGradRefIdeal : Cert.MixGradRefIdeal.Facts) (hMixOut : Cert.MixOut.Facts) (hMixOutIdeal : Cert.MixOutIdeal.Facts) (hMixOutRefIdeal : Cert.MixOutRefIdeal.Facts) (hPre_finite_ffn : Cert.Pre_finite_ffn.Facts),
    quiescent_WinGrad (hWinGrad := hWinGrad)
    ∧ quiescent_WinGradIdeal (hWinGradIdeal := hWinGradIdeal)
    ∧ quiescent_WinRefIdeal (hWinRefIdeal := hWinRefIdeal)
    ∧ quiescent_WdownGrad (hWdownGrad := hWdownGrad)
    ∧ quiescent_WdownGradIdeal (hWdownGradIdeal := hWdownGradIdeal)
    ∧ quiescent_WdownRefIdeal (hWdownRefIdeal := hWdownRefIdeal)
    ∧ quiescent_ConvBwd (hConvBwd := hConvBwd)
    ∧ quiescent_ConvBwdIdeal (hConvBwdIdeal := hConvBwdIdeal)
    ∧ quiescent_ConvRefIdeal (hConvRefIdeal := hConvRefIdeal)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_FfnFwd (hFfnFwd := hFfnFwd)
    ∧ quiescent_FfnFwdIdeal (hFfnFwdIdeal := hFfnFwdIdeal)
    ∧ quiescent_FwdRefIdeal (hFwdRefIdeal := hFwdRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixGrad (hMixGrad := hMixGrad)
    ∧ quiescent_MixGradIdeal (hMixGradIdeal := hMixGradIdeal)
    ∧ quiescent_MixGradRefIdeal (hMixGradRefIdeal := hMixGradRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ preserves_WinGrad_WinGradIdeal
    ∧ algebraic_WinGradIdeal_WinRefIdeal (hWinGradIdeal := hWinGradIdeal) (hWinRefIdeal := hWinRefIdeal)
    ∧ preserves_WdownGrad_WdownGradIdeal
    ∧ algebraic_WdownGradIdeal_WdownRefIdeal (hWdownGradIdeal := hWdownGradIdeal) (hWdownRefIdeal := hWdownRefIdeal)
    ∧ preserves_ConvBwd_ConvBwdIdeal
    ∧ algebraic_ConvBwdIdeal_ConvRefIdeal (hConvBwdIdeal := hConvBwdIdeal) (hConvRefIdeal := hConvRefIdeal)
    ∧ preserves_FfnBwd_FfnBwdIdeal
    ∧ algebraic_FfnBwdIdeal_FfnRefIdeal_pre_finite_ffn (hFfnBwdIdeal := hFfnBwdIdeal) (hFfnRefIdeal := hFfnRefIdeal) (hPre_finite_ffn := hPre_finite_ffn)
    ∧ preserves_AdamGate_AdamGateIdeal
    ∧ algebraic_AdamGateIdeal_AdamGateRefIdeal (hAdamGateIdeal := hAdamGateIdeal) (hAdamGateRefIdeal := hAdamGateRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_FfnFwd_FfnFwdIdeal
    ∧ algebraic_FfnFwdIdeal_FwdRefIdeal (hFfnFwdIdeal := hFfnFwdIdeal) (hFwdRefIdeal := hFwdRefIdeal)
    ∧ preserves_MixIn_MixInIdeal
    ∧ algebraic_MixInIdeal_MixInRefIdeal (hMixInIdeal := hMixInIdeal) (hMixInRefIdeal := hMixInRefIdeal)
    ∧ preserves_MixGrad_MixGradIdeal
    ∧ algebraic_MixGradIdeal_MixGradRefIdeal (hMixGradIdeal := hMixGradIdeal) (hMixGradRefIdeal := hMixGradRefIdeal)
    ∧ preserves_MixOut_MixOutIdeal
    ∧ algebraic_MixOutIdeal_MixOutRefIdeal (hMixOutIdeal := hMixOutIdeal) (hMixOutRefIdeal := hMixOutRefIdeal)
-- ==== Pre_finite_ffn.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S2816x1024 .f32 := Host.absf main_arg5
  let main_cst_8 : FVec F S_ .f32 := constant S_ .f32 0x7F800000#32
  let main_v21 : FVec F S2816x1024 .f32 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : IVec S_ 1 := andi main_v19 main_v23
  let main_v25 : IVec S_ 1 := andi main_v15 main_v24
  let main_v26 : IVec S_ 1 := andi main_v11 main_v25
  let main_v27 : IVec S_ 1 := andi main_v7 main_v26
  let main_v28 : IVec S_ 1 := andi main_v3 main_v27
  main_v28

def fn {F : FTy → Type} [FloatOps F] (main_arg0 : FVec F S8192x1024 .f32) (main_arg1 : FVec F S8192x1024 .f32) (main_arg2 : FVec F S1x1024 .f32) (main_arg3 : FVec F S1024x2816 .f32) (main_arg4 : FVec F S1024x2816 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== WinGrad.lean ====
abbrev S8192x2816 : Shape := ⟨2, ![8192, 2816]⟩
abbrev S8192x1024 : Shape := ⟨2, ![8192, 1024]⟩
abbrev S1024x2816 : Shape := ⟨2, ![1024, 2816]⟩
abbrev S_ : Shape := ⟨0, ![]⟩
abbrev S8x128 : Shape := ⟨2, ![8, 128]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S1024x2816, .f32⟩
  | .hbm, ⟨3, _⟩ => ⟨S_, .f32⟩
  | .hbm, ⟨4, _⟩ => ⟨S8x128, .f32⟩
  | .hbm, ⟨5, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WinRefIdeal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S1024x2816, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WdownGrad.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩
abbrev S8x128 : Shape := ⟨2, ![8, 128]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S2816x1024, .f32⟩
  | .hbm, ⟨3, _⟩ => ⟨S_, .f32⟩
  | .hbm, ⟨4, _⟩ => ⟨S8x128, .f32⟩
  | .hbm, ⟨5, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WdownRefIdeal.lean ====
abbrev S8192x1024 : Shape := ⟨2, ![8192, 1024]⟩
abbrev S8192x2816 : Shape := ⟨2, ![8192, 2816]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S2816x1024, .f32⟩
  | .hbm, ⟨3, _⟩ => ⟨S8192x2816, .f32⟩
  | .hbm, ⟨4, _⟩ => ⟨S8192x1024, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvBwd.lean ====
abbrev S8192x1024 : Shape := ⟨2, ![8192, 1024]⟩
abbrev S8192x512 : Shape := ⟨2, ![8192, 512]⟩
abbrev S3x512 : Shape := ⟨2, ![3, 512]⟩
abbrev S1x512 : Shape := ⟨2, ![1, 512]⟩
abbrev S8x512 : Shape := ⟨2, ![8, 512]⟩
abbrev S1024x512 : Shape := ⟨2, ![1024, 512]⟩
abbrev S1024 : Shape := ⟨1, ![1024]⟩
abbrev S1024x1 : Shape := ⟨2, ![1024, 1]⟩
abbrev S512 : Shape := ⟨1, ![512]⟩

abbrev nBuf : Space → Nat
  | .hbm => 11
  | .vmem => 23
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S3x512, .f32⟩
  | .hbm, ⟨5, _⟩ => ⟨S1x512, .f32⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8x512, .f32⟩
  | .hbm, ⟨10, _⟩ => ⟨S1x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S8x512, .bf16⟩
  | .local _ .vmem, ⟨9, _⟩ => ⟨S8x512, .bf16⟩
  | .local _ .vmem, ⟨10, _⟩ => ⟨S8x512, .bf16⟩
  | .local _ .vmem, ⟨11, _⟩ => ⟨S8x512, .bf16⟩
  | .local _ .vmem, ⟨12, _⟩ => ⟨S3x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S8x512, .f32⟩
  | .local _ .vmem, ⟨21, _⟩ => ⟨S1x512, .f32⟩
  | .local _ .vmem, ⟨22, _⟩ => ⟨S8x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ConvRefIdeal.lean ====
abbrev S8192x1024 : Shape := ⟨2, ![8192, 1024]⟩
abbrev S8192x512 : Shape := ⟨2, ![8192, 512]⟩
abbrev S3x512 : Shape := ⟨2, ![3, 512]⟩
abbrev S1x512 : Shape := ⟨2, ![1, 512]⟩
abbrev S512 : Shape := ⟨1, ![512]⟩
abbrev S2x512 : Shape := ⟨2, ![2, 512]⟩
abbrev S_ : Shape := ⟨0, ![]⟩
abbrev S8190x512 : Shape := ⟨2, ![8190, 512]⟩
abbrev S8191x512 : Shape := ⟨2, ![8191, 512]⟩
abbrev S8192 : Shape := ⟨1, ![8192]⟩
abbrev S8192x1 : Shape := ⟨2, ![8192, 1]⟩
abbrev S8x512 : Shape := ⟨2, ![8, 512]⟩

abbrev nBuf : Space → Nat
  | .hbm => 141
  | .vmem => 0
  | .smem => 0
  | _ => 0

abbrev hbmTy0_0 (i : Nat) : BufTy := match i % 128 with
  | 0 => ⟨S8192x1024, .bf16⟩
  | 1 => ⟨S8192x512, .bf16⟩
  | 2 => ⟨S8192x512, .bf16⟩
  | 3 => ⟨S8192x512, .bf16⟩
  | 4 => ⟨S3x512, .f32⟩
  | 5 => ⟨S1x512, .f32⟩
  | 6 => ⟨S8192x1024, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S1x512, .f32⟩
  | 13 => ⟨S512, .f32⟩
  | 14 => ⟨S2x512, .f32⟩
  | 15 => ⟨S_, .f32⟩
  | 16 => ⟨S2x512, .f32⟩
  | 17 => ⟨S8190x512, .f32⟩
  | 18 => ⟨S8192x512, .f32⟩
  | 19 => ⟨S_, .f32⟩
  | 20 => ⟨S2x512, .f32⟩
  | 21 => ⟨S1x512, .f32⟩
  | 22 => ⟨S8192x512, .f32⟩
  | 23 => ⟨S8192x512, .f32⟩
  | 24 => ⟨S1x512, .f32⟩
  | 25 => ⟨S512, .f32⟩
  | 26 => ⟨S1x512, .f32⟩
  | 27 => ⟨S_, .f32⟩
  | 28 => ⟨S1x512, .f32⟩
  | 29 => ⟨S8191x512, .f32⟩
  | 30 => ⟨S8192x512, .f32⟩
  | 31 => ⟨S_, .f32⟩
  | 32 => ⟨S1x512, .f32⟩
  | 33 => ⟨S1x512, .f32⟩
  | 34 => ⟨S8192x512, .f32⟩
  | 35 => ⟨S8192x512, .f32⟩
  | 36 => ⟨S8192x512, .f32⟩
  | 37 => ⟨S1x512, .f32⟩
  | 38 => ⟨S512, .f32⟩
  | 39 => ⟨S1x512, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x512, .f32⟩
  | 60 => ⟨S8192x512, .f32⟩
  | 61 => ⟨S8192x512, .f32⟩
  | 62 => ⟨S8192x512, .f32⟩
  | 63 => ⟨S8192x512, .f32⟩
  | 64 => ⟨S_, .f32⟩
  | 65 => ⟨S512, .f32⟩
  | 66 => ⟨S1x512, .f32⟩
  | 67 => ⟨S8192x512, .f32⟩
  | 68 => ⟨S8192x512, .f32⟩
  | 69 => ⟨S8192x512, .f32⟩
  | 70 => ⟨S_, .f32⟩
  | 71 => ⟨S8192, .f32⟩
  | 72 => ⟨S8192x1, .f32⟩
  | 73 => ⟨S8192x512, .f32⟩
  | 74 => ⟨S8192x512, .f32⟩
  | 75 => ⟨S8192x1, .f32⟩
  | 76 => ⟨S_, .f32⟩
  | 77 => ⟨S8192x1, .f32⟩
  | 78 => ⟨S8192x1, .f32⟩
  | 79 => ⟨S_, .f32⟩
  | 80 => ⟨S8192, .f32⟩
  | 81 => ⟨S8192x512, .f32⟩
  | 82 => ⟨S8192x512, .f32⟩
  | 83 => ⟨S8192x512, .f32⟩
  | 84 => ⟨S8192x512, .f32⟩
  | 85 => ⟨S8192x512, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S_, .f32⟩
  | 92 => ⟨S512, .f32⟩
  | 93 => ⟨S1x512, .f32⟩
  | 94 => ⟨S_, .f32⟩
  | 95 => ⟨S512, .f32⟩
  | 96 => ⟨S1x512, .f32⟩
  | 97 => ⟨S_, .f32⟩
  | 98 => ⟨S3x512, .f32⟩
  | 99 => ⟨S8192x512, .f32⟩
  | 100 => ⟨S8192x512, .f32⟩
  | 101 => ⟨S8192x512, .f32⟩
  | 102 => ⟨S_, .f32⟩
  | 103 => ⟨S512, .f32⟩
  | 104 => ⟨S1x512, .f32⟩
  | 105 => ⟨S_, .f32⟩
  | 106 => ⟨S512, .f32⟩
  | 107 => ⟨S1x512, .f32⟩
  | 108 => ⟨S8191x512, .f32⟩
  | 109 => ⟨S_, .f32⟩
  | 110 => ⟨S8192x512, .f32⟩
  | 111 => ⟨S8192x512, .f32⟩
  | 112 => ⟨S1x512, .f32⟩
  | 113 => ⟨S_, .f32⟩
  | 114 => ⟨S3x512, .f32⟩
  | 115 => ⟨S3x512, .f32⟩
  | 116 => ⟨S8192x512, .f32⟩
  | 117 => ⟨S8192x512, .f32⟩
  | 118 => ⟨S8192x512, .f32⟩
  | 119 => ⟨S_, .f32⟩
  | 120 => ⟨S512, .f32⟩
  | 121 => ⟨S1x512, .f32⟩
  | 122 => ⟨S_, .f32⟩
  | 123 => ⟨S512, .f32⟩
  | 124 => ⟨S2x512, .f32⟩
  | 125 => ⟨S8190x512, .f32⟩
  | 126 => ⟨S_, .f32⟩
  | 127 => ⟨S8192x512, .f32⟩
  | _ => ⟨S8192x1024, .bf16⟩

abbrev hbmTy0_1 (i : Nat) : BufTy := match i % 128 with
  | 0 => ⟨S8192x512, .f32⟩
  | 1 => ⟨S1x512, .f32⟩
  | 2 => ⟨S_, .f32⟩
  | 3 => ⟨S3x512, .f32⟩
  | 4 => ⟨S3x512, .f32⟩
  | 5 => ⟨S8192x512, .f32⟩
  | 6 => ⟨S8192x512, .f32⟩
  | 7 => ⟨S8192x512, .bf16⟩
  | 8 => ⟨S8192x512, .bf16⟩
  | 9 => ⟨S8192x512, .bf16⟩
  | 10 => ⟨S_, .i32⟩
  | 11 => ⟨S_, .f32⟩
  | 12 => ⟨S8x512, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_cst_10 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_v76 : Ref sig .tc := ⟨.hbm, 96, rfl⟩
abbrev main_cst_13 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_14 : Ref sig .tc := ⟨.hbm, 102, rfl⟩
abbrev main_v81 : Ref sig .tc := ⟨.hbm, 103, rfl⟩
abbrev main_v82 : Ref sig .tc := ⟨.hbm, 104, rfl⟩
abbrev main_cst_15 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_16 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_17 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_18 : Ref sig .tc := ⟨.hbm, 119, rfl⟩
abbrev main_v94 : Ref sig .tc := ⟨.hbm, 120, rfl⟩
abbrev main_v95 : Ref sig .tc := ⟨.hbm, 121, rfl⟩
abbrev main_cst_19 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_20 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_21 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_c : Ref sig .tc := ⟨.hbm, 138, rfl⟩
abbrev main_call0_v0 : Ref sig .tc := ⟨.hbm, 139, rfl⟩
abbrev main_v109 : Ref sig .tc := ⟨.hbm, 140, rfl⟩

abbrev nD : Nat := 1
abbrev τ : Topo := Topo.v7x

variable {F : FTy → Type} [FloatOps F]
-- ==== FfnBwd.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S11x256x1024 : Shape := ⟨3, ![11, 256, 1024]⟩
abbrev S11x1x256x1024 : Shape := ⟨4, ![11, 1, 256, 1024]⟩
abbrev S11x2x256x1024 : Shape := ⟨4, ![11, 2, 256, 1024]⟩
abbrev S5632x1024 : Shape := ⟨2, ![5632, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8x128 : Shape := ⟨2, ![8, 128]⟩
abbrev S8192x2816 : Shape := ⟨2, ![8192, 2816]⟩
abbrev S1024x1024 : Shape := ⟨2, ![1024, 1024]⟩
abbrev S1024x512 : Shape := ⟨2, ![1024, 512]⟩
abbrev S512x1024 : Shape := ⟨2, ![512, 1024]⟩
abbrev S256x1024 : Shape := ⟨2, ![256, 1024]⟩
abbrev S1024x256 : Shape := ⟨2, ![1024, 256]⟩
abbrev S256x256 : Shape := ⟨2, ![256, 256]⟩
abbrev S256x512 : Shape := ⟨2, ![256, 512]⟩
abbrev S256 : Shape := ⟨1, ![256]⟩
abbrev S256x1 : Shape := ⟨2, ![256, 1]⟩
abbrev S1024 : Shape := ⟨1, ![1024]⟩

abbrev nBuf : Space → Nat
  | .hbm => 43
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S11x256x1024, .bf16⟩
  | .hbm, ⟨11, _⟩ => ⟨S11x256x1024, .bf16⟩
  | .hbm, ⟨12, _⟩ => ⟨S11x1x256x1024, .bf16⟩
  | .hbm, ⟨13, _⟩ => ⟨S11x1x256x1024, .bf16⟩
  | .hbm, ⟨14, _⟩ => ⟨S11x2x256x1024, .bf16⟩
  | .hbm, ⟨15, _⟩ => ⟨S5632x1024, .bf16⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S8192x5632, .f32⟩
  | .hbm, ⟨33, _⟩ => ⟨S8192x5632, .bf16⟩
  | .hbm, ⟨34, _⟩ => ⟨S_, .f32⟩
  | .hbm, ⟨35, _⟩ => ⟨S8x128, .f32⟩
  | .hbm, ⟨36, _⟩ => ⟨S2816x1024, .bf16⟩
  | .hbm, ⟨37, _⟩ => ⟨S1x1024, .f32⟩
  | .hbm, ⟨38, _⟩ => ⟨S8192x1024, .f32⟩
  | .hbm, ⟨39, _⟩ => ⟨S8192x2816, .bf16⟩
  | .hbm, ⟨40, _⟩ => ⟨S8192x2816, .bf16⟩
  | .hbm, ⟨41, _⟩ => ⟨S8192x2816, .bf16⟩
  | .hbm, ⟨42, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | .local _ .vmem, ⟨12, _⟩ => ⟨S1024x1024, .f32⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .f32⟩
  | .local _ .vmem, ⟨23, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev main_v27_3 : Ref sig .tc := ⟨.hbm, 40, rfl⟩
abbrev main_v27_4 : Ref sig .tc := ⟨.hbm, 41, rfl⟩
abbrev main_v27_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg1 : BitVec 32 := BitVec.ofNat 32 (i 1).val
  let c10_i32 : BitVec 32 := 10#32
  let v220 : BitVec 1 := Scalar.cmpi .eq arg1 c10_i32
  let v221 : BitVec 32 := Scalar.extui v220
  let c0_i32_127 : BitVec 32 := 0#32
  let v222 : BitVec 1 := Scalar.cmpi .ne v221 c0_i32_127
  v222

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x2816, .bf16⟩
  | .hbm, ⟨85, _⟩ => ⟨S8192x2816, .bf16⟩
  | .hbm, ⟨86, _⟩ => ⟨S8192x2816, .bf16⟩
  | .hbm, ⟨87, _⟩ => ⟨S_, .f32⟩
  | .hbm, ⟨88, _⟩ => ⟨S8192x1024, .f32⟩
  | .hbm, ⟨89, _⟩ => ⟨S8192x1024, .f32⟩
  | .hbm, ⟨90, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩

abbrev nD : Nat := 1
abbrev τ : Topo := Topo.v7x

variable {F : FTy → Type} [FloatOps F]
-- ==== AdamGate.lean ====
abbrev S8x352x1024 : Shape := ⟨3, ![8, 352, 1024]⟩
abbrev S1024x352 : Shape := ⟨2, ![1024, 352]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateRefIdeal.lean ====
abbrev S8x352x1024 : Shape := ⟨3, ![8, 352, 1024]⟩
abbrev S1024x352 : Shape := ⟨2, ![1024, 352]⟩
abbrev S_ : Shape := ⟨0, ![]⟩
abbrev S352x1024 : Shape := ⟨2, ![352, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1024x352, .f32⟩
  | .hbm, ⟨8, _⟩ => ⟨S_, .f32⟩
  | .hbm, ⟨9, _⟩ => ⟨S1024x352, .f32⟩
  | .hbm, ⟨10, _⟩ => ⟨S1024x352, .f32⟩
  | .hbm, ⟨11, _⟩ => ⟨S_, .f32⟩
  | .hbm, ⟨12, _⟩ => ⟨S1024x352, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S1024x352, .f32⟩
  | .hbm, ⟨23, _⟩ => ⟨S_, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | .hbm, ⟨37, _⟩ => ⟨S1024x352, .f32⟩
  | .hbm, ⟨38, _⟩ => ⟨S_, .f32⟩
  | .hbm, ⟨39, _⟩ => ⟨S1024x352, .f32⟩
  | .hbm, ⟨40, _⟩ => ⟨S1024x352, .f32⟩
  | .hbm, ⟨41, _⟩ => ⟨S352x1024, .f32⟩
  | .hbm, ⟨42, _⟩ => ⟨S352x1024, .f32⟩
  | .hbm, ⟨43, _⟩ => ⟨S352x1024, .f32⟩
  | .hbm, ⟨44, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamDown.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamIn.lean ====
abbrev S8x288x1024 : Shape := ⟨3, ![8, 288, 1024]⟩
abbrev S1024x288 : Shape := ⟨2, ![1024, 288]⟩
abbrev S288x1024 : Shape := ⟨2, ![288, 1024]⟩
abbrev S8x144x1024 : Shape := ⟨3, ![8, 144, 1024]⟩
abbrev S144x1024 : Shape := ⟨2, ![144, 1024]⟩
abbrev S1x144x1024 : Shape := ⟨3, ![1, 144, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x288x1024, .bf16⟩
  | .hbm, ⟨1, _⟩ => ⟨S1024x288, .f32⟩
  | .hbm, ⟨2, _⟩ => ⟨S1024x288, .f32⟩
  | .hbm, ⟨3, _⟩ => ⟨S1024x288, .f32⟩
  | .hbm, ⟨4, _⟩ => ⟨S288x1024, .f32⟩
  | .hbm, ⟨5, _⟩ => ⟨S288x1024, .f32⟩
  | .hbm, ⟨6, _⟩ => ⟨S288x1024, .f32⟩
  | .hbm, ⟨7, _⟩ => ⟨S288x1024, .f32⟩
  | .hbm, ⟨8, _⟩ => ⟨S288x1024, .f32⟩
  | .hbm, ⟨9, _⟩ => ⟨S288x1024, .f32⟩
  | .hbm, ⟨10, _⟩ => ⟨S288x1024, .f32⟩
  | .local _ .vmem, ⟨0, _⟩ => ⟨S8x144x1024, .bf16⟩
  | .local _ .vmem, ⟨1, _⟩ => ⟨S8x144x1024, .bf16⟩
  | .local _ .vmem, ⟨2, _⟩ => ⟨S144x1024, .f32⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | .local _ .vmem, ⟨7, _⟩ => ⟨S144x1024, .f32⟩
  | .local _ .vmem, ⟨8, _⟩ => ⟨S144x1024, .f32⟩
  | .local _ .vmem, ⟨9, _⟩ => ⟨S144x1024, .f32⟩
  | .local _ .vmem, ⟨10, _⟩ => ⟨S144x1024, .f32⟩
  | .local _ .vmem, ⟨11, _⟩ => ⟨S144x1024, .f32⟩
  | .local _ .vmem, ⟨12, _⟩ => ⟨S144x1024, .f32⟩
  | .local _ .vmem, ⟨13, _⟩ => ⟨S144x1024, .f32⟩
  | .local _ .vmem, ⟨14, _⟩ => ⟨S144x1024, .f32⟩
  | .local _ .vmem, ⟨15, _⟩ => ⟨S144x1024, .f32⟩
  | _, _ => ⟨S8x288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x144x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S144x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S144x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S144x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x288x1024 : Shape := ⟨3, ![8, 288, 1024]⟩
abbrev S1024x288 : Shape := ⟨2, ![1024, 288]⟩
abbrev S_ : Shape := ⟨0, ![]⟩
abbrev S288x1024 : Shape := ⟨2, ![288, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x288x1024, .bf16⟩
  | .hbm, ⟨1, _⟩ => ⟨S1024x288, .f32⟩
  | .hbm, ⟨2, _⟩ => ⟨S1024x288, .f32⟩
  | .hbm, ⟨3, _⟩ => ⟨S1024x288, .f32⟩
  | .hbm, ⟨4, _⟩ => ⟨S8x288x1024, .f32⟩
  | .hbm, ⟨5, _⟩ => ⟨S_, .f32⟩
  | .hbm, ⟨6, _⟩ => ⟨S288x1024, .f32⟩
  | .hbm, ⟨7, _⟩ => ⟨S1024x288, .f32⟩
  | .hbm, ⟨8, _⟩ => ⟨S_, .f32⟩
  | .hbm, ⟨9, _⟩ => ⟨S1024x288, .f32⟩
  | .hbm, ⟨10, _⟩ => ⟨S1024x288, .f32⟩
  | .hbm, ⟨11, _⟩ => ⟨S_, .f32⟩
  | .hbm, ⟨12, _⟩ => ⟨S1024x288, .f32⟩
  | .hbm, ⟨13, _⟩ => ⟨S1024x288, .f32⟩
  | .hbm, ⟨14, _⟩ => ⟨S1024x288, .f32⟩
  | .hbm, ⟨15, _⟩ => ⟨S_, .f32⟩
  | .hbm, ⟨16, _⟩ => ⟨S1024x288, .f32⟩
  | .hbm, ⟨17, _⟩ => ⟨S1024x288, .f32⟩
  | .hbm, ⟨18, _⟩ => ⟨S1024x288, .f32⟩
  | .hbm, ⟨19, _⟩ => ⟨S_, .f32⟩
  | .hbm, ⟨20, _⟩ => ⟨S1024x288, .f32⟩
  | .hbm, ⟨21, _⟩ => ⟨S1024x288, .f32⟩
  | .hbm, ⟨22, _⟩ => ⟨S1024x288, .f32⟩
  | .hbm, ⟨23, _⟩ => ⟨S_, .f32⟩
  | .hbm, ⟨24, _⟩ => ⟨S1024x288, .f32⟩
  | .hbm, ⟨25, _⟩ => ⟨S1024x288, .f32⟩
  | .hbm, ⟨26, _⟩ => ⟨S_, .f32⟩
  | .hbm, ⟨27, _⟩ => ⟨S1024x288, .f32⟩
  | .hbm, ⟨28, _⟩ => ⟨S1024x288, .f32⟩
  | .hbm, ⟨29, _⟩ => ⟨S1024x288, .f32⟩
  | .hbm, ⟨30, _⟩ => ⟨S_, .f32⟩
  | .hbm, ⟨31, _⟩ => ⟨S1024x288, .f32⟩
  | .hbm, ⟨32, _⟩ => ⟨S1024x288, .f32⟩
  | .hbm, ⟨33, _⟩ => ⟨S1024x288, .f32⟩
  | .hbm, ⟨34, _⟩ => ⟨S_, .f32⟩
  | .hbm, ⟨35, _⟩ => ⟨S1024x288, .f32⟩
  | .hbm, ⟨36, _⟩ => ⟨S1024x288, .f32⟩
  | .hbm, ⟨37, _⟩ => ⟨S1024x288, .f32⟩
  | .hbm, ⟨38, _⟩ => ⟨S_, .f32⟩
  | .hbm, ⟨39, _⟩ => ⟨S1024x288, .f32⟩
  | .hbm, ⟨40, _⟩ => ⟨S1024x288, .f32⟩
  | .hbm, ⟨41, _⟩ => ⟨S288x1024, .f32⟩
  | .hbm, ⟨42, _⟩ => ⟨S288x1024, .f32⟩
  | .hbm, ⟨43, _⟩ => ⟨S288x1024, .f32⟩
  | .hbm, ⟨44, _⟩ => ⟨S288x1024, .f32⟩
  | _, _ => ⟨S8x288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== FfnFwd.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S11x256x1024 : Shape := ⟨3, ![11, 256, 1024]⟩
abbrev S11x1x256x1024 : Shape := ⟨4, ![11, 1, 256, 1024]⟩
abbrev S11x2x256x1024 : Shape := ⟨4, ![11, 2, 256, 1024]⟩
abbrev S5632x1024 : Shape := ⟨2, ![5632, 1024]⟩
abbrev S_ : Shape := ⟨0, ![]⟩
abbrev S8x128 : Shape := ⟨2, ![8, 128]⟩
abbrev S8192x5632 : Shape := ⟨2, ![8192, 5632]⟩
abbrev S1024x1024 : Shape := ⟨2, ![1024, 1024]⟩
abbrev S512x1024 : Shape := ⟨2, ![512, 1024]⟩
abbrev S256x1024 : Shape := ⟨2, ![256, 1024]⟩
abbrev S1024x512 : Shape := ⟨2, ![1024, 512]⟩
abbrev S1024 : Shape := ⟨1, ![1024]⟩
abbrev S1024x1 : Shape := ⟨2, ![1024, 1]⟩
abbrev S256x512 : Shape := ⟨2, ![256, 512]⟩
abbrev S256x256 : Shape := ⟨2, ![256, 256]⟩

abbrev nBuf : Space → Nat
  | .hbm => 21
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S11x256x1024, .bf16⟩
  | .hbm, ⟨10, _⟩ => ⟨S11x256x1024, .bf16⟩
  | .hbm, ⟨11, _⟩ => ⟨S11x1x256x1024, .bf16⟩
  | .hbm, ⟨12, _⟩ => ⟨S11x1x256x1024, .bf16⟩
  | .hbm, ⟨13, _⟩ => ⟨S11x2x256x1024, .bf16⟩
  | .hbm, ⟨14, _⟩ => ⟨S5632x1024, .bf16⟩
  | .hbm, ⟨15, _⟩ => ⟨S_, .f32⟩
  | .hbm, ⟨16, _⟩ => ⟨S8x128, .f32⟩
  | .hbm, ⟨17, _⟩ => ⟨S2816x1024, .bf16⟩
  | .hbm, ⟨18, _⟩ => ⟨S8192x1024, .f32⟩
  | .hbm, ⟨19, _⟩ => ⟨S8192x1024, .bf16⟩
  | .hbm, ⟨20, _⟩ => ⟨S8192x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S256x1024, .bf16⟩
  | .local _ .vmem, ⟨6, _⟩ => ⟨S256x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x512, .bf16⟩
  | .local _ .vmem, ⟨12, _⟩ => ⟨S1024x512, .bf16⟩
  | .local _ .vmem, ⟨13, _⟩ => ⟨S1024x1024, .bf16⟩
  | .local _ .vmem, ⟨14, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v115 : BitVec 1 := Scalar.cmpi .eq arg1 c10_i32
  let v116 : BitVec 32 := Scalar.extui v115
  let c0_i32_64 : BitVec 32 := 0#32
  let v117 : BitVec 1 := Scalar.cmpi .ne v116 c0_i32_64
  v117

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FwdRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8192x11x256 : Shape := ⟨3, ![8192, 11, 256]⟩
abbrev S8192x11x1x256 : Shape := ⟨4, ![8192, 11, 1, 256]⟩
abbrev S8192x11x2x256 : Shape := ⟨4, ![8192, 11, 2, 256]⟩
abbrev S8192x5632 : Shape := ⟨2, ![8192, 5632]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S8192x11x256, .f32⟩
  | .hbm, ⟨39, _⟩ => ⟨S8192x11x256, .f32⟩
  | .hbm, ⟨40, _⟩ => ⟨S8192x11x1x256, .f32⟩
  | .hbm, ⟨41, _⟩ => ⟨S8192x11x1x256, .f32⟩
  | .hbm, ⟨42, _⟩ => ⟨S8192x11x2x256, .f32⟩
  | .hbm, ⟨43, _⟩ => ⟨S8192x5632, .f32⟩
  | .hbm, ⟨44, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== MixIn.lean ====
abbrev S8192x1024 : Shape := ⟨2, ![8192, 1024]⟩
abbrev S1x1024 : Shape := ⟨2, ![1, 1024]⟩
abbrev S1024x2304 : Shape := ⟨2, ![1024, 2304]⟩
abbrev S2304x1024 : Shape := ⟨2, ![2304, 1024]⟩
abbrev S8192x512 : Shape := ⟨2, ![8192, 512]⟩
abbrev S8192x128 : Shape := ⟨2, ![8192, 128]⟩
abbrev S1024x1024 : Shape := ⟨2, ![1024, 1024]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S512x1024 : Shape := ⟨2, ![512, 1024]⟩
abbrev S256x1024 : Shape := ⟨2, ![256, 1024]⟩
abbrev S1024x256 : Shape := ⟨2, ![1024, 256]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2304, .f32⟩
  | .hbm, ⟨3, _⟩ => ⟨S2304x1024, .f32⟩
  | .hbm, ⟨4, _⟩ => ⟨S2304x1024, .bf16⟩
  | .hbm, ⟨5, _⟩ => ⟨S8192x1024, .bf16⟩
  | .hbm, ⟨6, _⟩ => ⟨S8192x512, .bf16⟩
  | .hbm, ⟨7, _⟩ => ⟨S8192x128, .bf16⟩
  | .hbm, ⟨8, _⟩ => ⟨S8192x128, .bf16⟩
  | .hbm, ⟨9, _⟩ => ⟨S8192x512, .bf16⟩
  | .hbm, ⟨10, _⟩ => ⟨S8192x512, .bf16⟩
  | .hbm, ⟨11, _⟩ => ⟨S8192x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2304x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixInRefIdeal.lean ====
abbrev S8192x1024 : Shape := ⟨2, ![8192, 1024]⟩
abbrev S1x1024 : Shape := ⟨2, ![1, 1024]⟩
abbrev S1024x2304 : Shape := ⟨2, ![1024, 2304]⟩
abbrev S_ : Shape := ⟨0, ![]⟩
abbrev S8192 : Shape := ⟨1, ![8192]⟩
abbrev S8192x1 : Shape := ⟨2, ![8192, 1]⟩
abbrev S8192x2304 : Shape := ⟨2, ![8192, 2304]⟩
abbrev S8192x512 : Shape := ⟨2, ![8192, 512]⟩
abbrev S8192x128 : Shape := ⟨2, ![8192, 128]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2304, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x2304, .f32⟩
  | .hbm, ⟨19, _⟩ => ⟨S8192x512, .f32⟩
  | .hbm, ⟨20, _⟩ => ⟨S8192x128, .f32⟩
  | .hbm, ⟨21, _⟩ => ⟨S8192x128, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x1024, .bf16⟩
  | .hbm, ⟨26, _⟩ => ⟨S8192x512, .bf16⟩
  | .hbm, ⟨27, _⟩ => ⟨S8192x128, .bf16⟩
  | .hbm, ⟨28, _⟩ => ⟨S8192x128, .bf16⟩
  | .hbm, ⟨29, _⟩ => ⟨S8192x512, .bf16⟩
  | .hbm, ⟨30, _⟩ => ⟨S8192x512, .bf16⟩
  | .hbm, ⟨31, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== MixGrad.lean ====
abbrev S8192x512 : Shape := ⟨2, ![8192, 512]⟩
abbrev S8192x128 : Shape := ⟨2, ![8192, 128]⟩
abbrev S8192x1024 : Shape := ⟨2, ![8192, 1024]⟩
abbrev S1024x2304 : Shape := ⟨2, ![1024, 2304]⟩
abbrev S2304x1024 : Shape := ⟨2, ![2304, 1024]⟩
abbrev S1024x1024 : Shape := ⟨2, ![1024, 1024]⟩
abbrev S1024x512 : Shape := ⟨2, ![1024, 512]⟩
abbrev S1024x128 : Shape := ⟨2, ![1024, 128]⟩
abbrev S1024x256 : Shape := ⟨2, ![1024, 256]⟩
abbrev S256x1024 : Shape := ⟨2, ![256, 1024]⟩
abbrev S512x1024 : Shape := ⟨2, ![512, 1024]⟩

abbrev nBuf : Space → Nat
  | .hbm => 9
  | .vmem => 17
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x1024, .bf16⟩
  | .hbm, ⟨7, _⟩ => ⟨S1024x2304, .f32⟩
  | .hbm, ⟨8, _⟩ => ⟨S2304x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S2304x1024, .bf16⟩
  | .local _ .vmem, ⟨15, _⟩ => ⟨S2304x1024, .f32⟩
  | .local _ .vmem, ⟨16, _⟩ => ⟨S1024x256, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v47 : BitVec 1 := Scalar.cmpi .eq arg0 c7_i32
  let v48 : BitVec 32 := Scalar.extui v47
  let c0_i32_39 : BitVec 32 := 0#32
  let v49 : BitVec 1 := Scalar.cmpi .ne v48 c0_i32_39
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2304x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixGradRefIdeal.lean ====
abbrev S8192x512 : Shape := ⟨2, ![8192, 512]⟩
abbrev S8192x128 : Shape := ⟨2, ![8192, 128]⟩
abbrev S8192x1024 : Shape := ⟨2, ![8192, 1024]⟩
abbrev S1024x2304 : Shape := ⟨2, ![1024, 2304]⟩
abbrev S8192x2304 : Shape := ⟨2, ![8192, 2304]⟩
abbrev S2304x1024 : Shape := ⟨2, ![2304, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x1024, .bf16⟩
  | .hbm, ⟨7, _⟩ => ⟨S1024x2304, .f32⟩
  | .hbm, ⟨8, _⟩ => ⟨S8192x1024, .f32⟩
  | .hbm, ⟨9, _⟩ => ⟨S8192x2304, .f32⟩
  | .hbm, ⟨10, _⟩ => ⟨S8192x512, .f32⟩
  | .hbm, ⟨11, _⟩ => ⟨S8192x128, .f32⟩
  | .hbm, ⟨12, _⟩ => ⟨S8192x128, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x128, .f32⟩
  | .hbm, ⟨18, _⟩ => ⟨S8192x128, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x2304, .f32⟩
  | .hbm, ⟨23, _⟩ => ⟨S2304x1024, .f32⟩
  | .hbm, ⟨24, _⟩ => ⟨S1024x2304, .f32⟩
  | .hbm, ⟨25, _⟩ => ⟨S2304x1024, .f32⟩
  | .hbm, ⟨26, _⟩ => ⟨S2304x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== MixOut.lean ====
abbrev S8192x1024 : Shape := ⟨2, ![8192, 1024]⟩
abbrev S8192x512 : Shape := ⟨2, ![8192, 512]⟩
abbrev S1024x1024 : Shape := ⟨2, ![1024, 1024]⟩
abbrev S_ : Shape := ⟨0, ![]⟩
abbrev S8x128 : Shape := ⟨2, ![8, 128]⟩
abbrev S1024x512 : Shape := ⟨2, ![1024, 512]⟩
abbrev S512x1024 : Shape := ⟨2, ![512, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .f32⟩
  | .hbm, ⟨4, _⟩ => ⟨S_, .f32⟩
  | .hbm, ⟨5, _⟩ => ⟨S8x128, .f32⟩
  | .hbm, ⟨6, _⟩ => ⟨S1024x1024, .bf16⟩
  | .hbm, ⟨7, _⟩ => ⟨S8192x1024, .bf16⟩
  | .hbm, ⟨8, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v26 : BitVec 1 := Scalar.cmpi .eq arg0 c7_i32
  let v27 : BitVec 32 := Scalar.extui v26
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MixOutRefIdeal.lean ====
abbrev S8192x1024 : Shape := ⟨2, ![8192, 1024]⟩
abbrev S8192x512 : Shape := ⟨2, ![8192, 512]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .f32⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S8192x1024, .f32⟩
  | .hbm, ⟨11, _⟩ => ⟨S8192x1024, .bf16⟩
  | .hbm, ⟨12, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.WinGradValue.lean ====
module

public import proofs.«01_k».proof.Proof.Gen.WinGradIdeal.Value
public import proofs.«01_k».proof.Proof.Gen.WinRefIdeal.Run
public import Idealize.ShloMosaic.Lib.Pipeline.ValueKit

@[expose] public section

set_option maxRecDepth 16384

noncomputable section

/-! The gate's and the up projection's weight gradient: the kernel's array is the reference's. -/
namespace Cert.WinGradIdeal.Value

open Idealize.ShloMosaic Idealize.ShloMosaic.TcCoe Idealize.SL.Sem
open Idealize.ShloMosaic.Pipeline (Dat)
open Cert.WinGradIdeal Cert.WinGradIdeal.Gen

variable (m : (ℓ : Loc nD τ sig) → Buf (Elt Ideal) ℓ)

/-- The gradient that the reference computes, from the two arrays that the product contracts over time. -/
abbrev grad (A : FVec Ideal S8192x2816 .bf16) (B : FVec Ideal S8192x1024 .bf16) : FVec Ideal S2816x1024 .bf16 :=
  truncf .bf16 (transpose Cert.WinRefIdeal.S2816x1024 [1, 0] (transpose Cert.WinRefIdeal.S1024x2816 [1, 0] (Host.dotGeneral Cert.WinRefIdeal.dot_S8192x2816_S8192x1024_S2816x1024_0_0_1_1_n_n none (extf .f32 A Cert.WinRefIdeal.Gen.bitsLt_bf16_f32) (extf .f32 B Cert.WinRefIdeal.Gen.bitsLt_bf16_f32)) Cert.WinRefIdeal.Gen.transposes_S2816x1024_S1024x2816_1_0) Cert.WinRefIdeal.Gen.transposes_S1024x2816_S2816x1024_1_0) Cert.WinRefIdeal.Gen.bitsLt_bf16_f32

/-- One step adds the product of the two blocks over their 2048 rows. -/
theorem step_apply (acc : FVec Ideal S1408x1024 .f32) (a : FVec Ideal S2048x1408 .bf16) (b : FVec Ideal S2048x1024 .bf16)
    (j : S1408x1024.Idx) :
    k0_pay2 acc a b j = acc j + ∑ k : Fin 2048, a (ix2 k (j 0)) * b (ix2 k (j 1)) := by
  pointwise [k0_pay2]

/-- The gradient at an index: the sum over all 8192 rows. -/
theorem grad_apply (A : FVec Ideal S8192x2816 .bf16) (B : FVec Ideal S8192x1024 .bf16) (j : S2816x1024.Idx) :
    grad A B j = ∑ k : Fin 8192, A (ix2 k (j 0)) * B (ix2 k (j 1)) := by
  pointwise [grad]

/-- Where the blocks of each window lie at every grid point. -/
theorem idx : ∀ t : Fin cfg0.N, win0_0.index t = ![t.val % 4, t.val / 4] ∧ win0_1.index t = ![t.val % 4, 0]
    ∧ win0_2.index t = ![t.val / 4, 0] := (by decide +kernel : ∀ t : Fin grid0.N, _)

/-- What the point that writes a block back has accumulated: the run's four products. -/
theorem acc_eq (c : Dev nD) (t : Fin cfg0.N) (h : t.val % 4 = 3) (j : S1408x1024.Idx) :
    (outsAt0 m c t.val t.isLt).2 j = 0 + ∑ s : Fin 4, ∑ k : Fin 2048,
      (show FVec Ideal S2048x1408 .bf16 from iblk m c 0 ⟨4 * (t.val / 4) + s.val, Pipeline.run_point_lt_of_flush t h s⟩) (ix2 k (j 0))
      * (show FVec Ideal S2048x1024 .bf16 from iblk m c 1 ⟨4 * (t.val / 4) + s.val, Pipeline.run_point_lt_of_flush t h s⟩) (ix2 k (j 1)) := by
  refine Pipeline.eq_sum_fin_of_reset_step_apply_of_flush (M := EReal) (fun n h => (outsAt0 m c n h).2) 4 (fun _ => 0)
    (fun p j => ∑ k : Fin 2048, (show FVec Ideal S2048x1408 .bf16 from iblk m c 0 p) (ix2 k (j 0))
      * (show FVec Ideal S2048x1024 .bf16 from iblk m c 1 p) (ix2 k (j 1)))
    (fun p hp i => ?_) (fun p hp i => ?_) t h j
  · simp only []
    rw [outsAt0_A m c p hp (by omega)]; frame_out; rw [step_apply]; congr 1
    pointwise [k0_pay1]
  · simp only []
    by_cases h3 : p.val % 4 = 3
    · rw [outsAt0_C m c p hp h3]; frame_out; rw [step_apply]
      exact congrArg (· + _) (congrFun ((Memref.isWhole_whole cc0_scratch0).read_unread _) i)
    · rw [outsAt0_B m c p hp h3]; frame_out; rw [step_apply]
      exact congrArg (· + _) (congrFun ((Memref.isWhole_whole cc0_scratch0).read_unread _) i)

/-- What the kernel writes back at the last point of a run is the accumulator after that point, cast. -/
theorem out_eq (c : Dev nD) (t : Fin cfg0.N) (h : t.val % 4 = 3) (j : S1408x1024.Idx) :
    (outsAt0 m c t.val t.isLt).1 j = (outsAt0 m c t.val t.isLt).2 j := by
  rw [outsAt0_C m c t (by omega) h]; frame_out; pointwise [k0_pay3, k0_pay2]

/-- The array that the kernel leaves is the gradient. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, out_eq m c t h3, acc_eq m c t h3, zero_add, grad_apply]
  refine Fin.sum_mul_add_congr fun s k hl => ?_
  blk_point [iblk, V, idx t, idx ⟨_, Pipeline.run_point_lt_of_flush t h3 s⟩]

end Cert.WinGradIdeal.Value

end
-- ==== Proof.WdownGradValue.lean ====
module

public import proofs.«01_k».proof.Proof.Gen.WdownGradIdeal.Value
public import proofs.«01_k».proof.Proof.Gen.WdownRefIdeal.Run
public import Idealize.ShloMosaic.Lib.Pipeline.ValueKit

@[expose] public section

set_option maxRecDepth 16384

noncomputable section

/-! The down projection's weight gradient: the kernel's array is the reference's. -/
namespace Cert.WdownGradIdeal.Value

open Idealize.ShloMosaic Idealize.ShloMosaic.TcCoe Idealize.SL.Sem
open Idealize.ShloMosaic.Pipeline (Dat)
open Cert.WdownGradIdeal Cert.WdownGradIdeal.Gen

variable (m : (ℓ : Loc nD τ sig) → Buf (Elt Ideal) ℓ)

/-- The gradient that the reference computes, from the two arrays that the product contracts over time. -/
abbrev grad (A : FVec Ideal S8192x2816 .bf16) (B : FVec Ideal S8192x1024 .bf16) : FVec Ideal S2816x1024 .bf16 :=
  truncf .bf16 (transpose Cert.WdownRefIdeal.S2816x1024 [1, 0] (Host.dotGeneral Cert.WdownRefIdeal.dot_S8192x1024_S8192x2816_S1024x2816_0_0_1_1_n_n none (extf .f32 B Cert.WdownRefIdeal.Gen.bitsLt_bf16_f32) (extf .f32 A Cert.WdownRefIdeal.Gen.bitsLt_bf16_f32)) Cert.WdownRefIdeal.Gen.transposes_S1024x2816_S2816x1024_1_0) Cert.WdownRefIdeal.Gen.bitsLt_bf16_f32

/-- One step adds the product of the two blocks over their 2048 rows. -/
theorem step_apply (acc : FVec Ideal S1408x1024 .f32) (a : FVec Ideal S2048x1408 .bf16) (b : FVec Ideal S2048x1024 .bf16)
    (j : S1408x1024.Idx) :
    k0_pay2 acc a b j = acc j + ∑ k : Fin 2048, a (ix2 k (j 0)) * b (ix2 k (j 1)) := by
  pointwise [k0_pay2]

/-- The gradient at an index: the sum over all 8192 rows. -/
theorem grad_apply (A : FVec Ideal S8192x2816 .bf16) (B : FVec Ideal S8192x1024 .bf16) (j : S2816x1024.Idx) :
    grad A B j = ∑ k : Fin 8192, A (ix2 k (j 0)) * B (ix2 k (j 1)) := by
  pointwise [grad]
  exact Finset.sum_congr rfl fun k _ => mul_comm _ _

/-- Where the blocks of each window lie at every grid point. -/
theorem idx : ∀ t : Fin cfg0.N, win0_0.index t = ![t.val % 4, t.val / 4] ∧ win0_1.index t = ![t.val % 4, 0]
    ∧ win0_2.index t = ![t.val / 4, 0] := (by decide +kernel : ∀ t : Fin grid0.N, _)

/-- What the point that writes a block back has accumulated: the run's four products. -/
theorem acc_eq (c : Dev nD) (t : Fin cfg0.N) (h : t.val % 4 = 3) (j : S1408x1024.Idx) :
    (outsAt0 m c t.val t.isLt).2 j = 0 + ∑ s : Fin 4, ∑ k : Fin 2048,
      (show FVec Ideal S2048x1408 .bf16 from iblk m c 0 ⟨4 * (t.val / 4) + s.val, Pipeline.run_point_lt_of_flush t h s⟩) (ix2 k (j 0))
      * (show FVec Ideal S2048x1024 .bf16 from iblk m c 1 ⟨4 * (t.val / 4) + s.val, Pipeline.run_point_lt_of_flush t h s⟩) (ix2 k (j 1)) := by
  refine Pipeline.eq_sum_fin_of_reset_step_apply_of_flush (M := EReal) (fun n h => (outsAt0 m c n h).2) 4 (fun _ => 0)
    (fun p j => ∑ k : Fin 2048, (show FVec Ideal S2048x1408 .bf16 from iblk m c 0 p) (ix2 k (j 0))
      * (show FVec Ideal S2048x1024 .bf16 from iblk m c 1 p) (ix2 k (j 1)))
    (fun p hp i => ?_) (fun p hp i => ?_) t h j
  · simp only []
    rw [outsAt0_A m c p hp (by omega)]; frame_out; rw [step_apply]; congr 1
    pointwise [k0_pay1]
  · simp only []
    by_cases h3 : p.val % 4 = 3
    · rw [outsAt0_C m c p hp h3]; frame_out; rw [step_apply]
      exact congrArg (· + _) (congrFun ((Memref.isWhole_whole cc0_scratch0).read_unread _) i)
    · rw [outsAt0_B m c p hp h3]; frame_out; rw [step_apply]
      exact congrArg (· + _) (congrFun ((Memref.isWhole_whole cc0_scratch0).read_unread _) i)

/-- What the kernel writes back at the last point of a run is the accumulator after that point, cast. -/
theorem out_eq (c : Dev nD) (t : Fin cfg0.N) (h : t.val % 4 = 3) (j : S1408x1024.Idx) :
    (outsAt0 m c t.val t.isLt).1 j = (outsAt0 m c t.val t.isLt).2 j := by
  rw [outsAt0_C m c t (by omega) h]; frame_out; pointwise [k0_pay3, k0_pay2]

/-- The array that the kernel leaves is the gradient. -/
theorem final (c : Dev nD) : (dats m 0 c).arrAt 2 (cfgs 0).N
    = grad (m ((c : Thread nD τ).loc main_arg1)) (m ((c : Thread nD τ).loc main_arg0)) := by
  refine (dats m 0 c).arrAt_eq_of_covers 2 _ (by decide +kernel) fun t hf y => ?_
  have h3 : t.val % 4 = 3 := (flush0_2 t).mp hf
  blk_simp
  rw [after0_2, out_eq m c t h3, acc_eq m c t h3, zero_add, grad_apply]
  refine Fin.sum_mul_add_congr fun s k hl => ?_
  blk_point [iblk, V, idx t, idx ⟨_, Pipeline.run_point_lt_of_flush t h3 s⟩]

end Cert.WdownGradIdeal.Value

end
-- ==== Proof.Wgrad.lean ====
module

public import proofs.«01_k».proof.Defs
public import proofs.«01_k».proof.Proof.WinGradValue
public import proofs.«01_k».proof.Proof.WdownGradValue
public import proofs.«01_k».proof.Proof.Gen.WinGrad.Frame
public import proofs.«01_k».proof.Proof.Gen.WdownGrad.Frame

@[expose] public section

set_option maxRecDepth 16384

noncomputable section

/-! The feed-forward weights' gradients: the kernel against the reference. -/
namespace Cert.Wgrad

open Idealize.ShloMosaic Idealize.ShloMosaic.TcCoe Idealize.SL.Sem

/-- The gate's and the up projection's gradient: the same array from the kernel and from the reference. -/
theorem algebraic_in : Cert.algebraic_WinGradIdeal_WinRefIdeal := by
  pair_intro
  · run_from Cert.WinGradIdeal.Value.run_blocks m g
  · run_from Cert.WinRefIdeal.Value.run m' g'
    exact (Cert.WinGradIdeal.Value.final m c).symm

/-- The down projection's gradient: the same array from the kernel and from the reference. -/
theorem algebraic_down : Cert.algebraic_WdownGradIdeal_WdownRefIdeal := by
  pair_intro
  · run_from Cert.WdownGradIdeal.Value.run_blocks m g
  · run_from Cert.WdownRefIdeal.Value.run m' g'
    exact (Cert.WdownGradIdeal.Value.final m c).symm

/-- The kernel at its own floats runs to its end and leaves its arguments as they were. -/
theorem frame_in : Cert.quiescent_WinGrad := fun m ρ _ => Cert.WinGrad.Gen.frame m ρ

/-- The same of the ideal program. -/
theorem frame_in_ideal : Cert.quiescent_WinGradIdeal := fun m ρ _ => Cert.WinGradIdeal.Gen.frame m ρ

/-- The same of the reference. -/
theorem frame_in_reference : Cert.quiescent_WinRefIdeal := fun m ρ _ =>
  (θ_run Cert.WinRefIdeal.defs _ _).mono (fun r h => ⟨fun c => (h c).2, sem_eq_zero_of_no_sems (by decide) r.2⟩)
    (Cert.WinRefIdeal.Value.run m ρ)

/-- The kernel at its own floats runs to its end and leaves its arguments as they were. -/
theorem frame_down : Cert.quiescent_WdownGrad := fun m ρ _ => Cert.WdownGrad.Gen.frame m ρ

/-- The same of the ideal program. -/
theorem frame_down_ideal : Cert.quiescent_WdownGradIdeal := fun m ρ _ => Cert.WdownGradIdeal.Gen.frame m ρ

/-- The same of the reference. -/
theorem frame_down_reference : Cert.quiescent_WdownRefIdeal := fun m ρ _ =>
  (θ_run Cert.WdownRefIdeal.defs _ _).mono (fun r h => ⟨fun c => (h c).2, sem_eq_zero_of_no_sems (by decide) r.2⟩)
    (Cert.WdownRefIdeal.Value.run m ρ)

end Cert.Wgrad

end
-- ==== Proof.Reals.lean ====
module

public import Idealize.ShloMosaic.Lib.Pipeline.ValueKit
public import Idealize.ShloMosaic.Lib.ReduceAll

@[expose] public section

noncomputable section

/-! Extended reals: the constants of the programs, and the backward pass of a division by the root mean square. -/
namespace Cert.Reals

open Idealize.ShloMosaic

/-- The pattern of 512. -/
theorem c512 : Ideal.ofBits .f32 0x44000000#32 = ((512 : ℝ) : EReal) := by
  simp [Ideal.ofBits, Ideal.ieee, -EReal.coe_mul]; norm_num

/-- The pattern of 1024. -/
theorem c1024 : Ideal.ofBits .f32 0x44800000#32 = ((1024 : ℝ) : EReal) := by
  simp [Ideal.ofBits, Ideal.ieee, -EReal.coe_mul]; norm_num

/-- The pattern of one half. -/
theorem half : Ideal.ofBits .f32 0x3F000000#32 = (((1 : ℝ) / 2 : ℝ) : EReal) := by
  simp [Ideal.ofBits, Ideal.ieee, -EReal.coe_mul]; norm_num

/-- The pattern of minus one half. -/
theorem neg_half : Ideal.ofBits .f32 0xBF000000#32 = ((-((1 : ℝ) / 2) : ℝ) : EReal) := by
  simp [Ideal.ofBits, Ideal.ieee, -EReal.coe_mul]; norm_num

/-- The real that the pattern of the small constant under the root denotes. -/
def eps : ℝ := 8796093 * (2 : ℝ) ^ (-43 : ℤ)

/-- The pattern of the small constant under the root. -/
theorem ceps : Ideal.ofBits .f32 0x358637BD#32 = ((eps : ℝ) : EReal) := by
  simp [Ideal.ofBits, Ideal.ieee, eps, -EReal.coe_mul]

/-- The small constant is positive. -/
theorem eps_pos : 0 < eps := by unfold eps; positivity

/-- A real factor that is not negative goes into a finite sum. -/
theorem mul_sum {ι : Type*} (s : Finset ι) (f : ι → EReal) {r : ℝ} (hr : 0 ≤ r) :
    (r : EReal) * ∑ k ∈ s, f k = ∑ k ∈ s, (r : EReal) * f k := by
  classical
  induction s using Finset.induction_on with
  | empty => simp
  | insert a s ha ih =>
    rw [Finset.sum_insert ha, Finset.sum_insert ha, ← ih,
      EReal.left_distrib_of_nonneg_of_ne_top (EReal.coe_nonneg.2 hr) (EReal.coe_ne_top r)]

/-- Twice a real multiple. -/
theorem mul_add_self (x : EReal) (a : ℝ) : x * (a : EReal) + x * (a : EReal) = x * ((2 * a : ℝ) : EReal) := by
  rcases lt_trichotomy a 0 with h | h | h
  · induction x with
    | bot => rw [EReal.bot_mul_coe_of_neg h, EReal.bot_mul_coe_of_neg (show 2 * a < 0 by linarith)]; rfl
    | top => rw [EReal.top_mul_coe_of_neg h, EReal.top_mul_coe_of_neg (show 2 * a < 0 by linarith)]; rfl
    | coe x => norm_cast; ring
  · subst h; simp
  · induction x with
    | bot => rw [EReal.bot_mul_coe_of_pos h, EReal.bot_mul_coe_of_pos (show 0 < 2 * a by linarith)]; rfl
    | top => rw [EReal.top_mul_coe_of_pos h, EReal.top_mul_coe_of_pos (show 0 < 2 * a by linarith)]; rfl
    | coe x => norm_cast; ring

/-- The backward pass of `y / √(mean y² + e)` at the cotangent `g`, at index `i`: on the left as differentiation by
    the rule of each operation writes it, on the right as the projection off `y`. The two agree for all extended reals. -/
theorem rms_backward {n : ℕ} (y g : Fin n → EReal) (i : Fin n) {W e : ℝ} (hW : 0 < W) (he : 0 < e) (inv ms s : EReal)
    (hms : ms = Ideal.div (∑ k, y k * y k) (W : EReal) + (e : EReal)) (hinv : inv = Ideal.rsqrt ms)
    (hs : s = Ideal.div ((∑ k, y k * g k) * (((-((1 : ℝ) / 2) : ℝ) : EReal) * Ideal.div inv ms)) (W : EReal)) :
    g i * inv + y i * s + s * y i
      = inv * (g i - y i * inv * Ideal.div (∑ k, g k * (y k * inv)) (W : EReal)) := by
  have hQ : 0 ≤ ∑ k, y k * y k := Finset.sum_nonneg fun k _ => by
    rcases le_total 0 (y k) with h | h
    · exact mul_nonneg h h
    · have : 0 ≤ -y k := EReal.neg_nonneg.2 h
      simpa using mul_nonneg this this
  rw [Ideal.div_coe hW.ne'] at hms hs
  rw [Ideal.div_coe hW.ne']
  generalize hQd : ∑ k, y k * y k = Q at hms hQ
  induction Q with
  | bot => exact absurd hQ (by simp)
  | top =>
    have h1 : ms = ⊤ := by
      rw [hms, EReal.top_mul_coe_of_pos (by positivity)]; rfl
    have h2 : inv = 0 := by rw [hinv, h1]; rfl
    have h3 : s = 0 := by rw [hs, h2, h1]; simp [Ideal.div]
    rw [h2, h3]; simp
  | coe Q =>
    have hQ0 : 0 ≤ Q := by exact_mod_cast hQ
    set r : ℝ := Q * (1 / W) + e with hr
    have hr0 : 0 < r := by positivity
    have h1 : ms = (r : EReal) := by rw [hms, hr]; norm_cast
    set ρ : ℝ := (Real.sqrt r)⁻¹ with hρ
    have hρ0 : 0 < ρ := by positivity
    have h2 : inv = (ρ : EReal) := by
      rw [hinv, h1, Ideal.rsqrt_coe, if_neg (not_lt.2 hr0.le), if_neg hr0.ne']
    have hρr : ρ * ρ = 1 / r := by
      rw [hρ, ← mul_inv, Real.mul_self_sqrt hr0.le, one_div]
    have h3 : s = (∑ k, y k * g k) * ((-(1 / 2) * (ρ * (1 / r)) * (1 / W) : ℝ) : EReal) := by
      rw [hs, h2, h1, Ideal.div_coe hr0.ne', mul_assoc]; norm_cast
    have h4 : ∑ k, g k * (y k * inv) = (ρ : EReal) * ∑ k, y k * g k := by
      rw [mul_sum _ _ hρ0.le]
      refine Finset.sum_congr rfl fun k _ => ?_
      rw [h2]; ac_rfl
    rw [h4, h2, h3]
    generalize ∑ k, y k * g k = S
    have h5 : g i - y i * (ρ : EReal) * ((ρ : EReal) * S * ((1 / W : ℝ) : EReal))
        = g i + y i * S * ((-(ρ * ρ * (1 / W)) : ℝ) : EReal) := by
      rw [sub_eq_add_neg, show ((-(ρ * ρ * (1 / W)) : ℝ) : EReal) = -((ρ : EReal) * (ρ : EReal) * ((1 / W : ℝ) : EReal)) by norm_cast,
        mul_neg]
      congr 2; ac_rfl
    rw [h5, EReal.left_distrib_of_nonneg_of_ne_top (EReal.coe_nonneg.2 hρ0.le) (EReal.coe_ne_top ρ), mul_comm (g i), add_assoc]
    congr 1
    rw [mul_comm (S * _) (y i), ← mul_assoc, mul_add_self,
      show (ρ : EReal) * (y i * S * ((-(ρ * ρ * (1 / W)) : ℝ) : EReal)) = y i * S * ((ρ * -(ρ * ρ * (1 / W)) : ℝ) : EReal) by
        rw [EReal.coe_mul ρ]; ac_rfl]
    refine congrArg (fun a : ℝ => y i * S * (a : EReal)) ?_
    rw [hρr]; ring

end Cert.Reals

end
-- ==== Proof.ConvModel.lean ====
module

public import proofs.«01_k».proof.Proof.Reals

@[expose] public section

noncomputable section

/-! The backward pass of the convolution's group, at every time and channel, over the extended reals. -/
namespace Cert.ConvModel

open Idealize.ShloMosaic

/-- The arrays of the group: the cotangent, the input, the two gates, the three weights and the gain. -/
structure Data where
  dm : ℕ → Fin 512 → EReal
  u : ℕ → Fin 512 → EReal
  b : ℕ → Fin 512 → EReal
  c : ℕ → Fin 512 → EReal
  w : Fin 3 → Fin 512 → EReal
  g : Fin 512 → EReal

namespace Data

variable (D : Data)

/-- The gated input. -/
def cu (n : ℕ) (d : Fin 512) : EReal := D.c n d * D.u n d

/-- The gated input one step late. -/
def s1 (n : ℕ) (d : Fin 512) : EReal := if n < 1 then 0 else D.cu (n - 1) d

/-- The gated input two steps late. -/
def s2 (n : ℕ) (d : Fin 512) : EReal := if n < 2 then 0 else D.cu (n - 2) d

/-- The convolution. -/
def pre (n : ℕ) (d : Fin 512) : EReal := D.w 0 d * D.s2 n d + D.w 1 d * D.s1 n d + D.w 2 d * D.cu n d

/-- The convolution, gated. -/
def y (n : ℕ) (d : Fin 512) : EReal := D.b n d * D.pre n d

/-- One over the root mean square of a row. -/
def inv (n : ℕ) : EReal :=
  Ideal.rsqrt (Ideal.div (∑ k, D.y n k * D.y n k) (Ideal.ofBits .f32 0x44000000#32) + Ideal.ofBits .f32 0x358637BD#32)

/-- The normalised row. -/
def xh (n : ℕ) (d : Fin 512) : EReal := D.y n d * D.inv n

/-- The cotangent times the gain. -/
def gy (n : ℕ) (d : Fin 512) : EReal := D.dm n d * D.g d

/-- The cotangent's mean product with the normalised row. -/
def q (n : ℕ) : EReal := Ideal.div (∑ k, D.gy n k * D.xh n k) (Ideal.ofBits .f32 0x44000000#32)

/-- The cotangent of the gated convolution. -/
def dconv (n : ℕ) (d : Fin 512) : EReal := D.inv n * (D.gy n d - D.xh n d * D.q n)

/-- The cotangent of the outer gate. -/
def db (n : ℕ) (d : Fin 512) : EReal := D.dconv n d * D.pre n d

/-- The cotangent of the convolution. -/
def dpre (n : ℕ) (d : Fin 512) : EReal := D.dconv n d * D.b n d

/-- The cotangent of the convolution `k` steps on; nothing past the end. -/
def ahead (k n : ℕ) (d : Fin 512) : EReal := if n + k < 8192 then D.dpre (n + k) d else 0

/-- The cotangent of the gated input. -/
def dcu (n : ℕ) (d : Fin 512) : EReal := D.w 2 d * D.dpre n d + D.w 1 d * D.ahead 1 n d + D.w 0 d * D.ahead 2 n d

/-- What one time adds to the gain's gradient. -/
def gainTerm (n : ℕ) (d : Fin 512) : EReal := D.dm n d * D.xh n d

/-- What the three weights multiply at one time. -/
def tap (k : ℕ) (n : ℕ) (d : Fin 512) : EReal := if k = 0 then D.s2 n d else if k = 1 then D.s1 n d else D.cu n d

/-- The weights' gradient in eight rows, of which the last five are zero. -/
def dcw (k : ℕ) (d : Fin 512) : EReal := if k < 3 then ∑ n : Fin 8192, D.dpre n d * D.tap k n d else 0

/-- The gain's gradient. -/
def dgain (d : Fin 512) : EReal := ∑ n : Fin 8192, D.gainTerm n d

end Data

/-- The group's data out of the arrays that hold it; the cotangent is the right half of its array's columns. -/
def ofArrays (X0 : FVec Ideal ⟨2, ![8192, 1024]⟩ .bf16) (X1 X2 X3 : FVec Ideal ⟨2, ![8192, 512]⟩ .bf16)
    (X4 : FVec Ideal ⟨2, ![3, 512]⟩ .f32) (X5 : FVec Ideal ⟨2, ![1, 512]⟩ .f32) : Data where
  dm n d := if h : n < 8192 then X0 (ix2 ⟨n, h⟩ ⟨512 + d.val, by omega⟩) else 0
  u n d := if h : n < 8192 then X1 (ix2 ⟨n, h⟩ d) else 0
  b n d := if h : n < 8192 then X2 (ix2 ⟨n, h⟩ d) else 0
  c n d := if h : n < 8192 then X3 (ix2 ⟨n, h⟩ d) else 0
  w k d := X4 (ix2 k d)
  g d := X5 (ix2 0 d)

end Cert.ConvModel

end
-- ==== Proof.ConvPay.lean ====
module

public import proofs.«01_k».proof.Proof.ConvModel
public import proofs.«01_k».proof.Proof.Gen.ConvBwdIdeal.Value
public import Idealize.ShloMosaic.Lib.Pipeline.ValueKit

@[expose] public section

set_option maxRecDepth 16384

noncomputable section

/-! What the kernel computes from one block of time is the group's backward pass at the block's times. -/
namespace Cert.ConvBwdIdeal.Value

open Idealize.ShloMosaic Idealize.ShloMosaic.TcCoe Idealize.SL.Sem
open Cert.ConvBwdIdeal Cert.ConvBwdIdeal.Gen

/-- A choice on the equality of two small numbers. -/
theorem select_eq {α : Type} (a b : ℕ) (ha : a < 2 ^ 32) (hb : b < 2 ^ 32) (x y : α) :
    Scalar.select (IntOp.cmpi .eq (BitVec.ofNat 32 a) (BitVec.ofNat 32 b)) x y = if a = b then x else y := by
  have h : (BitVec.ofNat 32 a = BitVec.ofNat 32 b) ↔ a = b := by
    constructor
    · intro h
      have h := congrArg BitVec.toNat h
      rwa [BitVec.toNat_ofNat, BitVec.toNat_ofNat, Nat.mod_eq_of_lt ha, Nat.mod_eq_of_lt hb] at h
    · rintro rfl; rfl
  by_cases e : a = b
  · subst e; simp [Scalar.select, IntOp.cmpi]
  · have : ¬ BitVec.ofNat 32 a = BitVec.ofNat 32 b := fun hh => e (h.1 hh)
    simp only [Scalar.select, IntOp.cmpi, beq_eq_false_iff_ne.2 this, e]; rfl

/-- The blocks of one grid point: what they hold of the group's data, at the times from `T` on. -/
structure Holds (D : ConvModel.Data) (i : grid0.Coords) (T : ℕ) (X0 X1 X2 X3 : FVec Ideal S1024x512 .bf16) (X4 X5 : FVec Ideal S8x512 .bf16)
    (w0 w1 w2 : FVec Ideal S1x512 .f32) (G : FVec Ideal S1x512 .f32) : Prop where
  time : T = 1024 * (7 - (i 0).val)
  dm : ∀ (r : Fin 1024) (d : Fin 512), X0 (ix2 r d) = D.dm (T + r) d
  u : ∀ (r : Fin 1024) (d : Fin 512), X1 (ix2 r d) = D.u (T + r) d
  b : ∀ (r : Fin 1024) (d : Fin 512), X2 (ix2 r d) = D.b (T + r) d
  c : ∀ (r : Fin 1024) (d : Fin 512), X3 (ix2 r d) = D.c (T + r) d
  tc : T ≠ 0 → ∀ (r : Fin 8) (d : Fin 512), X4 (ix2 r d) = D.c (T - 8 + r) d
  tu : T ≠ 0 → ∀ (r : Fin 8) (d : Fin 512), X5 (ix2 r d) = D.u (T - 8 + r) d
  w0 : ∀ d : Fin 512, w0 (ix2 0 d) = D.w 0 d
  w1 : ∀ d : Fin 512, w1 (ix2 0 d) = D.w 1 d
  w2 : ∀ d : Fin 512, w2 (ix2 0 d) = D.w 2 d
  g : ∀ d : Fin 512, G (ix2 0 d) = D.g d

variable {D : ConvModel.Data} {i : grid0.Coords} {T : ℕ} {X0 X1 X2 X3 : FVec Ideal S1024x512 .bf16} {X4 X5 : FVec Ideal S8x512 .bf16}
  {w0 w1 w2 : FVec Ideal S1x512 .f32} {G : FVec Ideal S1x512 .f32} (H : Holds D i T X0 X1 X2 X3 X4 X5 w0 w1 w2 G)
include H

/-- The gated input. -/
theorem cu_at (r : Fin 1024) (d : Fin 512) : k0_pay11 (F := Ideal) X1 X3 (ix2 r d) = D.cu (T + r) d := by
  pointwise [k0_pay11, k0_pay9, k0_pay8, H.u, H.c]; rfl

/-- The gated input of the eight times before the block; nothing before the first. -/
theorem tail_at (r : Fin 8) (d : Fin 512) : k0_pay12 (F := Ideal) i X4 X5 (ix2 r d) = if T = 0 then 0 else D.cu (T - 8 + r) d := by
  have hi : (i 0).val < 8 := (i 0).isLt
  have ht := H.time
  pointwise [k0_pay12]
  refine (select_eq (i 0).val 7 (by omega) (by omega) _ _).trans ?_
  by_cases h : T = 0
  · rw [if_pos (by omega), if_pos h]
  · rw [if_neg (by omega), if_neg h, H.tu h, H.tc h]; rfl

/-- One step late. -/
theorem s1_at (r : Fin 1024) (d : Fin 512) : k0_pay14 (F := Ideal) i X1 X3 X4 X5 (ix2 r d) = D.s1 (T + r) d := by
  have ht := H.time
  pointwise [k0_pay14, k0_pay13, tail_at H, cu_at H]
  rw [select_eq r 0 (by omega) (by omega), ConvModel.Data.s1]
  by_cases h0 : T = 0 <;> by_cases hr : (r : ℕ) = 0
  · rw [if_pos hr, if_pos h0, if_pos (by omega)]
  · rw [if_neg hr, if_neg (by omega)]; congr 1; omega
  · rw [if_pos hr, if_neg h0, if_neg (by omega)]; congr 1; omega
  · rw [if_neg hr, if_neg (by omega)]; congr 1; omega

/-- Two steps late. -/
theorem s2_at (r : Fin 1024) (d : Fin 512) : k0_pay15 (F := Ideal) i X1 X3 X4 X5 (ix2 r d) = D.s2 (T + r) d := by
  have ht := H.time
  pointwise [k0_pay15, k0_pay13, tail_at H, cu_at H]
  rw [select_eq r 0 (by omega) (by omega), select_eq r 1 (by omega) (by omega), ConvModel.Data.s2]
  by_cases h0 : T = 0 <;> by_cases hr : (r : ℕ) = 0 <;> by_cases hr1 : (r : ℕ) = 1
  · omega
  · rw [if_pos hr, if_pos h0, if_pos (by omega)]
  · rw [if_neg hr, if_pos hr1, if_pos h0, if_pos (by omega)]
  · rw [if_neg hr, if_neg hr1, if_neg (by omega)]; congr 1; omega
  · omega
  · rw [if_pos hr, if_neg h0, if_neg (by omega)]; congr 1; omega
  · rw [if_neg hr, if_pos hr1, if_neg h0, if_neg (by omega)]; congr 1; omega
  · rw [if_neg hr, if_neg hr1, if_neg (by omega)]; congr 1; omega

/-- The outer gate. -/
theorem b_at (r : Fin 1024) (d : Fin 512) : k0_pay10 (F := Ideal) X2 (ix2 r d) = D.b (T + r) d := by
  pointwise [k0_pay10, H.b]

/-- The convolution. -/
theorem pre_at (r : Fin 1024) (d : Fin 512) :
    k0_pay16 (F := Ideal) (k0_pay11 X1 X3) (k0_pay14 i X1 X3 X4 X5) (k0_pay15 i X1 X3 X4 X5) w0 w1 w2 (ix2 r d) = D.pre (T + r) d := by
  pointwise [k0_pay16, s1_at H, s2_at H, cu_at H, H.w0, H.w1, H.w2]; rfl

/-- The convolution, gated. -/
theorem y_at (r : Fin 1024) (d : Fin 512) :
    k0_pay18 (F := Ideal) (k0_pay10 X2) (k0_pay11 X1 X3) (k0_pay14 i X1 X3 X4 X5) (k0_pay15 i X1 X3 X4 X5) w0 w1 w2 (ix2 r d) = D.y (T + r) d := by
  pointwise [k0_pay18, pre_at H, b_at H]; rfl

/-- One over the root mean square of a row. -/
theorem inv_at (r : Fin 1024) :
    k0_pay19 (F := Ideal) (k0_pay10 X2) (k0_pay11 X1 X3) (k0_pay14 i X1 X3 X4 X5) (k0_pay15 i X1 X3 X4 X5) w0 w1 w2 (ix2 r 0) = D.inv (T + r) := by
  pointwise [k0_pay19, y_at H]; rfl

/-- The normalised row. -/
theorem xh_at (r : Fin 1024) (d : Fin 512) :
    k0_pay20 (F := Ideal) (k0_pay10 X2) (k0_pay11 X1 X3) (k0_pay14 i X1 X3 X4 X5) (k0_pay15 i X1 X3 X4 X5) w0 w1 w2 (ix2 r d) = D.xh (T + r) d := by
  pointwise [k0_pay20, y_at H, inv_at H]; rfl

/-- The cotangent of the gated convolution. -/
theorem dconv_at (r : Fin 1024) (d : Fin 512) :
    k0_pay21 (F := Ideal) (k0_pay10 X2) (k0_pay11 X1 X3) (k0_pay14 i X1 X3 X4 X5) (k0_pay15 i X1 X3 X4 X5) w0 w1 w2 X0 G (ix2 r d)
      = D.dconv (T + r) d := by
  pointwise [k0_pay21, k0_pay17, xh_at H, inv_at H, H.dm, H.g]; rfl

/-- The gain's gradient, one block further. -/
theorem dgain_at (A : FVec Ideal S1x512 .f32) (d : Fin 512) :
    k0_pay22 (F := Ideal) (k0_pay10 X2) (k0_pay11 X1 X3) (k0_pay14 i X1 X3 X4 X5) (k0_pay15 i X1 X3 X4 X5) w0 w1 w2 X0 A (ix2 0 d)
      = A (ix2 0 d) + ∑ r : Fin 1024, D.gainTerm (T + r) d := by
  pointwise [k0_pay22, k0_pay17, xh_at H, H.dm]; rfl

/-- The cotangent of the convolution. -/
theorem dpre_at (r : Fin 1024) (d : Fin 512) :
    k0_pay24 (F := Ideal) (k0_pay10 X2) (k0_pay21 (k0_pay10 X2) (k0_pay11 X1 X3) (k0_pay14 i X1 X3 X4 X5) (k0_pay15 i X1 X3 X4 X5) w0 w1 w2 X0 G) (ix2 r d)
      = D.dpre (T + r) d := by
  pointwise [k0_pay24, dconv_at H, b_at H]; rfl

/-- The first weight's gradient, one block further. -/
theorem dcw0_at (A : FVec Ideal S1x512 .f32) (d : Fin 512) :
    k0_pay25 (F := Ideal) (k0_pay10 X2) (k0_pay15 i X1 X3 X4 X5) (k0_pay21 (k0_pay10 X2) (k0_pay11 X1 X3) (k0_pay14 i X1 X3 X4 X5) (k0_pay15 i X1 X3 X4 X5) w0 w1 w2 X0 G) A (ix2 0 d)
      = A (ix2 0 d) + ∑ r : Fin 1024, D.dpre (T + r) d * D.tap 0 (T + r) d := by
  pointwise [k0_pay25, dpre_at H, s2_at H]; rfl

/-- The second weight's gradient, one block further. -/
theorem dcw1_at (A : FVec Ideal S1x512 .f32) (d : Fin 512) :
    k0_pay26 (F := Ideal) (k0_pay10 X2) (k0_pay14 i X1 X3 X4 X5) (k0_pay21 (k0_pay10 X2) (k0_pay11 X1 X3) (k0_pay14 i X1 X3 X4 X5) (k0_pay15 i X1 X3 X4 X5) w0 w1 w2 X0 G) A (ix2 0 d)
      = A (ix2 0 d) + ∑ r : Fin 1024, D.dpre (T + r) d * D.tap 1 (T + r) d := by
  pointwise [k0_pay26, dpre_at H, s1_at H]; rfl

/-- The third weight's gradient, one block further. -/
theorem dcw2_at (A : FVec Ideal S1x512 .f32) (d : Fin 512) :
    k0_pay27 (F := Ideal) (k0_pay10 X2) (k0_pay11 X1 X3) (k0_pay21 (k0_pay10 X2) (k0_pay11 X1 X3) (k0_pay14 i X1 X3 X4 X5) (k0_pay15 i X1 X3 X4 X5) w0 w1 w2 X0 G) A (ix2 0 d)
      = A (ix2 0 d) + ∑ r : Fin 1024, D.dpre (T + r) d * D.tap 2 (T + r) d := by
  pointwise [k0_pay27, dpre_at H, cu_at H]; rfl

/-- What the block leaves for the one before it in time: its first eight rows. -/
theorem head_at (r : Fin 8) (d : Fin 512) :
    k0_pay1 (F := Ideal) (k0_pay24 (k0_pay10 X2) (k0_pay21 (k0_pay10 X2) (k0_pay11 X1 X3) (k0_pay14 i X1 X3 X4 X5) (k0_pay15 i X1 X3 X4 X5) w0 w1 w2 X0 G)) (ix2 r d)
      = D.dpre (T + r) d := by
  pointwise [k0_pay1, dpre_at H]

/-- The cotangent of the outer gate. -/
theorem db_at (r : Fin 1024) (d : Fin 512) :
    k0_pay23 (F := Ideal) (k0_pay16 (k0_pay11 X1 X3) (k0_pay14 i X1 X3 X4 X5) (k0_pay15 i X1 X3 X4 X5) w0 w1 w2) (k0_pay21 (k0_pay10 X2) (k0_pay11 X1 X3) (k0_pay14 i X1 X3 X4 X5) (k0_pay15 i X1 X3 X4 X5) w0 w1 w2 X0 G) (ix2 r d)
      = D.db (T + r) d := by
  pointwise [k0_pay23, dconv_at H, pre_at H]; rfl

/-- The cotangent of the gated input, from the block and the first rows of the one after it. -/
theorem dcu_at (N : FVec Ideal S8x512 .f32)
    (hN : ∀ (r : Fin 8) (d : Fin 512), N (ix2 r d) = if T + 1024 + r < 8192 then D.dpre (T + 1024 + r) d else 0) (r : Fin 1024) (d : Fin 512) :
    k0_pay2 (F := Ideal) w0 w1 w2 (k0_pay24 (k0_pay10 X2) (k0_pay21 (k0_pay10 X2) (k0_pay11 X1 X3) (k0_pay14 i X1 X3 X4 X5) (k0_pay15 i X1 X3 X4 X5) w0 w1 w2 X0 G))
        (iota .tc S1024x512 32 [0] iota_S1024x512_d0_w32) (k0_pay28 N) (k0_pay29 N) k0_pay30 (ix2 r d)
      = D.dcu (T + r) d := by
  have ht := H.time
  pointwise [k0_pay2, k0_pay28, k0_pay29, k0_pay30, dpre_at H, H.w0, H.w1, H.w2, hN]
  rw [select_eq r 1023 (by omega) (by omega), select_eq r 1023 (by omega) (by omega), select_eq r 1022 (by omega) (by omega)]
  have h1 : (if (r : ℕ) = 1023 then if T + 1024 < 8192 then D.dpre (T + 1024) d else 0 else D.dpre (T + (↑r + 1024 - 1023) % 1024) d)
      = D.ahead 1 (T + r) d := by
    rw [ConvModel.Data.ahead]
    by_cases hr : (r : ℕ) = 1023
    · rw [if_pos hr, hr]
    · rw [if_neg hr, if_pos (by omega)]; congr 1; omega
  have h2 : (if (r : ℕ) = 1023 then if T + 1024 + 1 < 8192 then D.dpre (T + 1024 + 1) d else 0
        else if (r : ℕ) = 1022 then if T + 1024 < 8192 then D.dpre (T + 1024) d else 0
          else D.dpre (T + (↑r + 1024 - 1022) % 1024) d) = D.ahead 2 (T + r) d := by
    rw [ConvModel.Data.ahead]
    by_cases hr : (r : ℕ) = 1023
    · rw [if_pos hr, hr]
    · by_cases hr2 : (r : ℕ) = 1022
      · rw [if_neg hr, if_pos hr2, hr2]
      · rw [if_neg hr, if_neg hr2, if_pos (by omega)]; congr 1; omega
  rw [h1, h2]; rfl

end Cert.ConvBwdIdeal.Value

end
-- ==== Proof.ConvBwdValue.lean ====
module

public import proofs.«01_k».proof.Proof.ConvPay

@[expose] public section

set_option maxRecDepth 16384

noncomputable section

/-! The arrays that the kernel leaves are the group's backward pass. -/
namespace Cert.ConvBwdIdeal.Value

open Idealize.ShloMosaic Idealize.ShloMosaic.TcCoe Idealize.SL.Sem
open Idealize.ShloMosaic.Pipeline (Dat)
open Cert.ConvBwdIdeal Cert.ConvBwdIdeal.Gen

variable (m : (ℓ : Loc nD τ sig) → Buf (Elt Ideal) ℓ)

/-- The group's data, from the kernel's arguments. -/
abbrev data (c : Dev nD) : ConvModel.Data :=
  ConvModel.ofArrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Where the blocks of each window lie at every grid point: time runs backwards. -/
theorem idx : ∀ t : Fin cfg0.N, win0_0.index t = ![7 - t.val, 1] ∧ win0_1.index t = ![7 - t.val, 0] ∧ win0_2.index t = ![7 - t.val, 0]
    ∧ win0_3.index t = ![7 - t.val, 0] ∧ win0_4.index t = ![(7 - t.val) * 128 - 1, 0] ∧ win0_5.index t = ![(7 - t.val) * 128 - 1, 0]
    ∧ win0_6.index t = ![0, 0] ∧ win0_7.index t = ![0, 0] ∧ win0_8.index t = ![7 - t.val, 0] ∧ win0_9.index t = ![7 - t.val, 0]
    ∧ win0_10.index t = ![7 - t.val, 0] ∧ win0_11.index t = ![0, 0] ∧ win0_12.index t = ![0, 0] ∧ (grid0.coords t 0).val = t.val :=
  (by decide +kernel : ∀ t : Fin grid0.N, _)

/-- The blocks of a grid point hold the group's data at its times. -/
theorem holds (c : Dev nD) (t : Fin cfg0.N) (w0 w1 w2 : FVec Ideal S1x512 .f32) (h0 : ∀ d : Fin 512, w0 (ix2 0 d) = (data m c).w 0 d)
    (h1 : ∀ d : Fin 512, w1 (ix2 0 d) = (data m c).w 1 d) (h2 : ∀ d : Fin 512, w2 (ix2 0 d) = (data m c).w 2 d) :
    Holds (data m c) (grid0.coords t) (1024 * (7 - t.val)) (iblk m c 0 t) (iblk m c 1 t) (iblk m c 2 t) (iblk m c 3 t)
      (iblk m c 5 t) (iblk m c 4 t) w0 w1 w2 (iblk m c 7 t) where
  time := by rw [(idx t).2.2.2.2.2.2.2.2.2.2.2.2.2]
  dm r d := by
    simp only [ConvModel.ofArrays]; rw [dif_pos (by omega)]; blk_point [iblk, V, idx t]
  u r d := by
    simp only [ConvModel.ofArrays]; rw [dif_pos (by omega)]; blk_point [iblk, V, idx t]
  b r d := by
    simp only [ConvModel.ofArrays]; rw [dif_pos (by omega)]; blk_point [iblk, V, idx t]
  c r d := by
    simp only [ConvModel.ofArrays]; rw [dif_pos (by omega)]; blk_point [iblk, V, idx t]
  tc hT r d := by
    have hr := r.isLt
    simp only [ConvModel.ofArrays]; rw [dif_pos (by omega)]; blk_point [iblk, V, idx t]
  tu hT r d := by
    have hr := r.isLt
    simp only [ConvModel.ofArrays]; rw [dif_pos (by omega)]; blk_point [iblk, V, idx t]
  w0 := h0
  w1 := h1
  w2 := h2
  g d := by
    simp only [ConvModel.ofArrays]; blk_point [iblk, V, idx t]

/-- The cotangent of the outer gate, at a grid point. -/
theorem db_block (c : Dev nD) (t : Fin cfg0.N) (r : Fin 1024) (d : Fin 512) :
    (outsAt0 m c t.val t.isLt).2.1 (ix2 r d) = (data m c).db (1024 * (7 - t.val) + r) d := by
  by_cases h : t.val % 8 = 0
  · rw [outsAt0_A m c t h]; frame_out
    refine db_at (holds m c t _ _ _ (fun d => ?_) (fun d => ?_) (fun d => ?_)) r d <;> pointwise [] <;> blk_point [iblk, V, idx t]
  · rw [outsAt0_B m c t h]; frame_out
    refine db_at (holds m c t _ _ _ (fun d => ?_) (fun d => ?_) (fun d => ?_)) r d <;> pointwise [] <;> blk_point [iblk, V, idx t]

end Cert.ConvBwdIdeal.Value

end
-- ==== Proof.ConvRefStage.lean ====
module

public import proofs.«01_k».proof.Proof.Gen.ConvRefIdeal.Run
public import proofs.«01_k».proof.Proof.ConvModel
public import Idealize.ShloMosaic.Lib.Pipeline.ValueKit

@[expose] public section

set_option maxRecDepth 16384

noncomputable section

/-! The reference's operations, named where they mean something. -/
namespace Cert.ConvRefIdeal.Stage

open Idealize.ShloMosaic Idealize.ShloMosaic.TcCoe Idealize.SL.Sem
open Cert.ConvRefIdeal Cert.ConvRefIdeal.Gen

/-- The reference's arguments. -/
structure Args where
  a0 : FVec Ideal S8192x1024 .bf16
  a1 : FVec Ideal S8192x512 .bf16
  a2 : FVec Ideal S8192x512 .bf16
  a3 : FVec Ideal S8192x512 .bf16
  a4 : FVec Ideal S3x512 .f32
  a5 : FVec Ideal S1x512 .f32

variable (A : Args)

/-- The cotangent of the group: the right half of the columns. -/
def dm : FVec Ideal S8192x512 .f32 :=
  extractStridedSlice S8192x512 ![0, 512] (extf .f32 A.a0 bitsLt_bf16_f32) slices_S8192x1024_S8192x512_0_512

/-- The gated input. -/
def cu : FVec Ideal S8192x512 .f32 :=
  mulf (extf .f32 A.a3 bitsLt_bf16_f32) (extf .f32 A.a1 bitsLt_bf16_f32)

/-- The gated input two steps late. -/
def s2 : FVec Ideal S8192x512 .f32 :=
  concatenate S8192x512 0 [⟨S2x512, (broadcastInDim S2x512 ![] bcast_S_S2x512 ((constant S_ .f32 0x00000000#32)))⟩, ⟨S8190x512, (extractStridedSlice S8190x512 ![0, 0] (cu A) slices_S8192x512_S8190x512_0_0)⟩] concatenates_S2x512_S8190x512_S8192x512_d0

/-- The gated input one step late. -/
def s1 : FVec Ideal S8192x512 .f32 :=
  concatenate S8192x512 0 [⟨S1x512, (broadcastInDim S1x512 ![] bcast_S_S1x512 ((constant S_ .f32 0x00000000#32)))⟩, ⟨S8191x512, (extractStridedSlice S8191x512 ![0, 0] (cu A) slices_S8192x512_S8191x512_0_0)⟩] concatenates_S1x512_S8191x512_S8192x512_d0

/-- The convolution. -/
def pre : FVec Ideal S8192x512 .f32 :=
  addf (addf (mulf (broadcastInDim S8192x512 ![0, 1] bcast_S1x512_S8192x512_0_1 (broadcastInDim S1x512 ![1] bcast_S512_S1x512_1 (shapeCast S512 (extractStridedSlice S1x512 ![0, 0] A.a4 slices_S3x512_S1x512_0_0) shapeCasts_S1x512_S512))) (s2 A)) (mulf (broadcastInDim S8192x512 ![0, 1] bcast_S1x512_S8192x512_0_1 (broadcastInDim S1x512 ![1] bcast_S512_S1x512_1 (shapeCast S512 (extractStridedSlice S1x512 ![1, 0] A.a4 slices_S3x512_S1x512_1_0) shapeCasts_S1x512_S512))) (s1 A))) (mulf (broadcastInDim S8192x512 ![0, 1] bcast_S1x512_S8192x512_0_1 (broadcastInDim S1x512 ![1] bcast_S512_S1x512_1 (shapeCast S512 (extractStridedSlice S1x512 ![2, 0] A.a4 slices_S3x512_S1x512_2_0) shapeCasts_S1x512_S512))) (cu A))

/-- The convolution, gated. -/
def y : FVec Ideal S8192x512 .f32 :=
  mulf (extf .f32 A.a2 bitsLt_bf16_f32) (pre A)

/-- The mean square, and the small constant. -/
def ms : FVec Ideal S8192x1 .f32 :=
  addf (Host.divf (broadcastInDim S8192x1 ![0] bcast_S8192_S8192x1_0 (Host.reduceAdd (mulf (y A) (y A)) ((constant S_ .f32 0x00000000#32)) reducesTo_S8192x512_S8192_d1 h_S_)) (broadcastInDim S8192x1 ![] bcast_S_S8192x1 ((constant S_ .f32 0x44000000#32)))) (broadcastInDim S8192x1 ![] bcast_S_S8192x1 ((constant S_ .f32 0x358637BD#32)))

/-- One over its root. -/
def inv : FVec Ideal S8192x1 .f32 :=
  Host.rsqrt (ms A)

/-- The derivative of that. -/
def dinv : FVec Ideal S8192x1 .f32 :=
  mulf (broadcastInDim S8192x1 ![] bcast_S_S8192x1 ((constant S_ .f32 0xBF000000#32))) (Host.divf (inv A) (ms A))

/-- The normalised rows. -/
def xh : FVec Ideal S8192x512 .f32 :=
  mulf (y A) (broadcastInDim S8192x512 ![0, 1] bcast_S8192x1_S8192x512_0_1 (inv A))

/-- The gradient of the gain. -/
def dgain : FVec Ideal S1x512 .f32 :=
  shapeCast S1x512 (Host.reduceAdd (mulf (xh A) (dm A)) ((constant S_ .f32 0x00000000#32)) reducesTo_S8192x512_S512_d0 h_S_) shapeCasts_S512_S1x512

/-- The cotangent times the gain. -/
def gy : FVec Ideal S8192x512 .f32 :=
  mulf (dm A) (broadcastInDim S8192x512 ![0, 1] bcast_S1x512_S8192x512_0_1 A.a5)

/-- Its products with the rows. -/
def ygy : FVec Ideal S8192x512 .f32 :=
  mulf (y A) (gy A)

/-- The cotangent of the mean square, spread over the row. -/
def s : FVec Ideal S8192x512 .f32 :=
  broadcastInDim S8192x512 ![0] bcast_S8192_S8192x512_0 (Host.reduceAdd (Host.divf (mulf (shapeCast S8192x1 (Host.reduceAdd (ygy A) ((constant S_ .f32 0x00000000#32)) reducesTo_S8192x512_S8192_d1 h_S_) shapeCasts_S8192_S8192x1) (dinv A)) (broadcastInDim S8192x1 ![] bcast_S_S8192x1 ((constant S_ .f32 0x44000000#32)))) ((constant S_ .f32 0x00000000#32)) reducesTo_S8192x1_S8192_d1 h_S_)

/-- The cotangent of the gated convolution. -/
def dconv : FVec Ideal S8192x512 .f32 :=
  addf (addf (mulf (gy A) (broadcastInDim S8192x512 ![0, 1] bcast_S8192x1_S8192x512_0_1 (inv A))) (mulf (y A) (s A))) (mulf (s A) (y A))

/-- The cotangent of the convolution. -/
def dpre : FVec Ideal S8192x512 .f32 :=
  mulf (extf .f32 A.a2 bitsLt_bf16_f32) (dconv A)

/-- The cotangent of the gate. -/
def db : FVec Ideal S8192x512 .f32 :=
  mulf (dconv A) (pre A)

/-- The cotangent of the gated input. -/
def dcu : FVec Ideal S8192x512 .f32 :=
  addf (addf (mulf (broadcastInDim S8192x512 ![0, 1] bcast_S1x512_S8192x512_0_1 (broadcastInDim S1x512 ![1] bcast_S512_S1x512_1 (shapeCast S512 (extractStridedSlice S1x512 ![2, 0] A.a4 slices_S3x512_S1x512_2_0) shapeCasts_S1x512_S512))) (dpre A)) (pad S8192x512 ![0, 0] ![1, 0] ![0, 0] (extractStridedSlice S8191x512 ![1, 0] (mulf (broadcastInDim S8192x512 ![0, 1] bcast_S1x512_S8192x512_0_1 (broadcastInDim S1x512 ![1] bcast_S512_S1x512_1 (shapeCast S512 (extractStridedSlice S1x512 ![1, 0] A.a4 slices_S3x512_S1x512_1_0) shapeCasts_S1x512_S512))) (dpre A)) slices_S8192x512_S8191x512_1_0) ((constant S_ .f32 0x00000000#32)) pads_S8191x512_S8192x512_010_000 h_S_)) (pad S8192x512 ![0, 0] ![2, 0] ![0, 0] (extractStridedSlice S8190x512 ![2, 0] (mulf (broadcastInDim S8192x512 ![0, 1] bcast_S1x512_S8192x512_0_1 (broadcastInDim S1x512 ![1] bcast_S512_S1x512_1 (shapeCast S512 (extractStridedSlice S1x512 ![0, 0] A.a4 slices_S3x512_S1x512_0_0) shapeCasts_S1x512_S512))) (dpre A)) slices_S8192x512_S8190x512_2_0) ((constant S_ .f32 0x00000000#32)) pads_S8190x512_S8192x512_020_000 h_S_)

/-- The gradient of the three weights. -/
def dcw : FVec Ideal S3x512 .f32 :=
  addf (addf (pad S3x512 ![2, 0] ![0, 0] ![0, 0] (broadcastInDim S1x512 ![1] bcast_S512_S1x512_1 (Host.reduceAdd (shapeCast S1x512 (Host.reduceAdd (mulf (dpre A) (cu A)) ((constant S_ .f32 0x00000000#32)) reducesTo_S8192x512_S512_d0 h_S_) shapeCasts_S512_S1x512) ((constant S_ .f32 0x00000000#32)) reducesTo_S1x512_S512_d0 h_S_)) ((constant S_ .f32 0x00000000#32)) pads_S1x512_S3x512_200_000 h_S_) (pad S3x512 ![1, 0] ![1, 0] ![0, 0] (broadcastInDim S1x512 ![1] bcast_S512_S1x512_1 (Host.reduceAdd (shapeCast S1x512 (Host.reduceAdd (mulf (dpre A) (s1 A)) ((constant S_ .f32 0x00000000#32)) reducesTo_S8192x512_S512_d0 h_S_) shapeCasts_S512_S1x512) ((constant S_ .f32 0x00000000#32)) reducesTo_S1x512_S512_d0 h_S_)) ((constant S_ .f32 0x00000000#32)) pads_S1x512_S3x512_110_000 h_S_)) (pad S3x512 ![0, 0] ![2, 0] ![0, 0] (broadcastInDim S1x512 ![1] bcast_S512_S1x512_1 (Host.reduceAdd (shapeCast S1x512 (Host.reduceAdd (mulf (dpre A) (s2 A)) ((constant S_ .f32 0x00000000#32)) reducesTo_S8192x512_S512_d0 h_S_) shapeCasts_S512_S1x512) ((constant S_ .f32 0x00000000#32)) reducesTo_S1x512_S512_d0 h_S_)) ((constant S_ .f32 0x00000000#32)) pads_S1x512_S3x512_020_000 h_S_)

/-- The result for the input. -/
def du : FVec Ideal S8192x512 .bf16 :=
  truncf .bf16 (mulf (extf .f32 A.a3 bitsLt_bf16_f32) (dcu A)) bitsLt_bf16_f32

/-- The result for the outer gate. -/
def dbOut : FVec Ideal S8192x512 .bf16 :=
  truncf .bf16 (db A) bitsLt_bf16_f32

/-- The result for the inner gate. -/
def dcOut : FVec Ideal S8192x512 .bf16 :=
  truncf .bf16 (mulf (dcu A) (extf .f32 A.a1 bitsLt_bf16_f32)) bitsLt_bf16_f32

/-- The result for the weights: three rows and five of zeros. -/
def dcwOut : FVec Ideal S8x512 .f32 :=
  pad S8x512 ![0, 0] ![5, 0] ![0, 0] (dcw A) ((sitofp .f32) ((constantI S_ 32 0#32))) pads_S3x512_S8x512_050_000 h_S_

/-- The results that the run states are these stages at the arguments. -/
abbrev args (m : (ℓ : Loc nD τ sig) → Buf (Elt Ideal) ℓ) (c : Dev nD) : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)

set_option maxHeartbeats 4000000 in
/-- The first result. -/
theorem res_du (m : (ℓ : Loc nD τ sig) → Buf (Elt Ideal) ℓ) (c : Dev nD) : Value.res_out0 m c = du (args m c) := rfl

set_option maxHeartbeats 4000000 in
/-- The second result. -/
theorem res_db (m : (ℓ : Loc nD τ sig) → Buf (Elt Ideal) ℓ) (c : Dev nD) : Value.res_out1 m c = dbOut (args m c) := rfl

set_option maxHeartbeats 4000000 in
/-- The third result. -/
theorem res_dc (m : (ℓ : Loc nD τ sig) → Buf (Elt Ideal) ℓ) (c : Dev nD) : Value.res_out2 m c = dcOut (args m c) := rfl

set_option maxHeartbeats 4000000 in
/-- The fourth result. -/
theorem res_dcw (m : (ℓ : Loc nD τ sig) → Buf (Elt Ideal) ℓ) (c : Dev nD) : Value.res_out3 m c = dcwOut (args m c) := rfl

set_option maxHeartbeats 4000000 in
/-- The fifth result. -/
theorem res_dgain (m : (ℓ : Loc nD τ sig) → Buf (Elt Ideal) ℓ) (c : Dev nD) : Value.res_out4 m c = dgain (args m c) := rfl

end Cert.ConvRefIdeal.Stage

end
-- ==== Proof.ConvRefValue.lean ====
module

public import proofs.«01_k».proof.Proof.ConvRefStage

@[expose] public section

set_option maxRecDepth 16384

noncomputable section

/-! The reference's stages are the group's backward pass, index by index. -/
namespace Cert.ConvRefIdeal.Stage

open Idealize.ShloMosaic Idealize.ShloMosaic.TcCoe Idealize.SL.Sem
open Cert.ConvRefIdeal Cert.ConvRefIdeal.Gen

variable (A : Args)

/-- The group's data. -/
abbrev data : ConvModel.Data := ConvModel.ofArrays A.a0 A.a1 A.a2 A.a3 A.a4 A.a5

/-- The gated input. -/
theorem cu_at (n : Fin 8192) (d : Fin 512) : cu A (ix2 n d) = (data A).cu n d := by
  simp only [ConvModel.Data.cu, ConvModel.ofArrays, Fin.is_lt, dite_true]
  pointwise [cu]

/-- The cotangent. -/
theorem dm_at (n : Fin 8192) (d : Fin 512) : dm A (ix2 n d) = (data A).dm n d := by
  simp only [ConvModel.ofArrays, Fin.is_lt, dite_true]
  pointwise [dm]

/-- The outer gate. -/
theorem b_at (n : Fin 8192) (d : Fin 512) : A.a2 (ix2 n d) = (data A).b n d := by
  simp only [ConvModel.ofArrays, Fin.is_lt, dite_true]

/-- The inner gate. -/
theorem c_at (n : Fin 8192) (d : Fin 512) : A.a3 (ix2 n d) = (data A).c n d := by
  simp only [ConvModel.ofArrays, Fin.is_lt, dite_true]

/-- The input. -/
theorem u_at (n : Fin 8192) (d : Fin 512) : A.a1 (ix2 n d) = (data A).u n d := by
  simp only [ConvModel.ofArrays, Fin.is_lt, dite_true]

/-- Two steps late. -/
theorem s2_at (n : Fin 8192) (d : Fin 512) : s2 A (ix2 n d) = (data A).s2 n d := by
  pointwise [s2, cu_at]; rfl

/-- One step late. -/
theorem s1_at (n : Fin 8192) (d : Fin 512) : s1 A (ix2 n d) = (data A).s1 n d := by
  pointwise [s1, cu_at]; rfl

/-- The convolution. -/
theorem pre_at (n : Fin 8192) (d : Fin 512) : pre A (ix2 n d) = (data A).pre n d := by
  pointwise [pre, cu_at, s1_at, s2_at]; rfl

/-- The convolution, gated. -/
theorem y_at (n : Fin 8192) (d : Fin 512) : y A (ix2 n d) = (data A).y n d := by
  simp only [ConvModel.Data.y]
  pointwise [y, pre_at, b_at]

/-- The mean square of a row. -/
theorem ms_at (n : Fin 8192) : ms A (ix2 n 0)
    = Ideal.div (∑ k, (data A).y n k * (data A).y n k) (Ideal.ofBits .f32 0x44000000#32) + Ideal.ofBits .f32 0x358637BD#32 := by
  pointwise [ms, y_at]

/-- One over its root. -/
theorem inv_at (n : Fin 8192) : inv A (ix2 n 0) = (data A).inv n := by
  pointwise [inv, ms_at]; rfl

/-- The normalised row. -/
theorem xh_at (n : Fin 8192) (d : Fin 512) : xh A (ix2 n d) = (data A).xh n d := by
  pointwise [xh, y_at, inv_at]; rfl

/-- The cotangent times the gain. -/
theorem gy_at (n : Fin 8192) (d : Fin 512) : gy A (ix2 n d) = (data A).gy n d := by
  pointwise [gy, dm_at]; rfl

/-- The cotangent of the mean square, spread over the row. -/
theorem s_at (n : Fin 8192) (d : Fin 512) : s A (ix2 n d)
    = Ideal.div ((∑ k, (data A).y n k * (data A).gy n k) * (((-((1 : ℝ) / 2) : ℝ) : EReal) * Ideal.div (inv A (ix2 n 0)) (ms A (ix2 n 0)))) ((512 : ℝ) : EReal) := by
  pointwise [s, dinv, ygy, gy_at, y_at]
  rw [Fin.sum_univ_one, Reals.neg_half, Reals.c512]

/-- The cotangent of the gated convolution: the two ways to write it agree. -/
theorem dconv_at (n : Fin 8192) (d : Fin 512) : dconv A (ix2 n d) = (data A).dconv n d := by
  have h := Reals.rms_backward ((data A).y n) ((data A).gy n) d (by norm_num : (0 : ℝ) < 512) Reals.eps_pos
    (inv A (ix2 n 0)) (ms A (ix2 n 0)) (s A (ix2 n d)) (by rw [ms_at, Reals.c512, Reals.ceps]) (by pointwise [inv]) (s_at A n d)
  pointwise [dconv, gy_at, y_at]
  rw [h, inv_at, ← Reals.c512]; rfl

/-- The cotangent of the convolution. -/
theorem dpre_at (n : Fin 8192) (d : Fin 512) : dpre A (ix2 n d) = (data A).dpre n d := by
  pointwise [dpre, dconv_at, b_at]
  exact mul_comm _ _

/-- The cotangent of the gated input. -/
theorem dcu_at (n : Fin 8192) (d : Fin 512) : dcu A (ix2 n d) = (data A).dcu n d := by
  pointwise [dcu, dpre_at]
  simp only [ConvModel.Data.dcu, ConvModel.Data.ahead, mul_ite, mul_zero, dite_eq_ite, add_comm 1 (n : ℕ), add_comm 2 (n : ℕ)]
  congr 1
  · congr 1
    exact if_congr (by omega) rfl rfl
  · exact if_congr (by omega) rfl rfl

/-- The result for the input. -/
theorem du_at (n : Fin 8192) (d : Fin 512) : du A (ix2 n d) = (data A).dcu n d * (data A).c n d := by
  pointwise [du, dcu_at, c_at]
  exact mul_comm _ _

/-- The result for the inner gate. -/
theorem dc_at (n : Fin 8192) (d : Fin 512) : dcOut A (ix2 n d) = (data A).dcu n d * (data A).u n d := by
  pointwise [dcOut, dcu_at, u_at]

/-- The result for the outer gate. -/
theorem db_at (n : Fin 8192) (d : Fin 512) : dbOut A (ix2 n d) = (data A).db n d := by
  pointwise [dbOut, db, dconv_at, pre_at]; rfl

/-- The gain's gradient. -/
theorem dgain_at (d : Fin 512) : dgain A (ix2 0 d) = (data A).dgain d := by
  pointwise [dgain, xh_at, dm_at]
  exact Finset.sum_congr rfl fun n _ => mul_comm _ _

/-- The weights' gradient. -/
theorem dcw_at (k : Fin 8) (d : Fin 512) : dcwOut A (ix2 k d) = (data A).dcw k d := by
  pointwise [dcwOut, dcw, dpre_at, s2_at, s1_at, cu_at]
  have hz : FloatOps.sitofp (F := Ideal) FTy.f32 0#32 = (0 : EReal) := by
    show ((((0#32 : BitVec 32).toInt : ℝ)) : EReal) = 0
    simp
  rw [hz]
  fin_vals k with hk
  all_goals simp [hk, ConvModel.Data.dcw, ConvModel.Data.tap]

end Cert.ConvRefIdeal.Stage

end
-- ==== Proof.ConvBwdArrays.lean ====
module

public import proofs.«01_k».proof.Proof.ConvBwdValue
public import proofs.«01_k».proof.Proof.ConvRefValue
public import Idealize.ShloMosaic.Lib.Pipeline.RowLoads
public import Idealize.ShloMosaic.Lib.Pipeline.ReadBack
public import Idealize.ShloMosaic.Lib.WritesUnit

@[expose] public section

set_option maxRecDepth 16384

noncomputable section

/-! The arrays that the group's backward pass leaves, block by block and whole. -/
namespace Cert.ConvBwdIdeal.Value

open Idealize.ShloMosaic Idealize.ShloMosaic.TcCoe Idealize.SL.Sem
open Idealize.ShloMosaic.Pipeline (Dat)
open Cert.ConvBwdIdeal Cert.ConvBwdIdeal.Gen
variable (m : (ℓ : Loc nD τ sig) → Buf (Elt Ideal) ℓ)

section Rows
variable {sp : Space} {Val : EltTy → Type} [∀ e, Nonempty (Val e)]

/-- Reading the row that the newest store wrote. -/
theorem canon_row {k : ℕ} (inb : ∀ a : Fin 2, (![k, 0] : Fin 2 → ℕ) a + (![1, 512] : Fin 2 → ℕ) a ≤ S8x512.size a)
    (w : (Rect.unit (s := S8x512) ![k, 0] ![1, 512] inb).shape.Idx → Val .f32) (L : List (View.Piece Val S8x512 .f32)) (j : Fin 8) (hj : j.val = k) (d : Fin 512) :
    View.canon ((⟨Rect.unit (s := S8x512) ![k, 0] ![1, 512] inb, w⟩ : View.Piece Val S8x512 .f32) :: L) (ix2 j d) = w (ix2 0 d) := by
  have hy : (Rect.unit (s := S8x512) ![k, 0] ![1, 512] inb).emb (ix2 0 d) = ix2 j d := by
    funext a; refine Fin.ext ?_; revert a; refine Fin.forall_fin_two.mpr ⟨?_, ?_⟩
    · show k + 1 * 0 = j.val; omega
    · show 0 + 1 * d.val = d.val; omega
  rw [← hy]; exact View.canon_cons_emb _ w L _

/-- Reading another row than the newest store wrote. -/
theorem canon_other_row {k : ℕ} (inb : ∀ a : Fin 2, (![k, 0] : Fin 2 → ℕ) a + (![1, 512] : Fin 2 → ℕ) a ≤ S8x512.size a)
    (w : (Rect.unit (s := S8x512) ![k, 0] ![1, 512] inb).shape.Idx → Val .f32) (L : List (View.Piece Val S8x512 .f32)) (j : Fin 8) (hj : j.val ≠ k) (d : Fin 512) :
    View.canon ((⟨Rect.unit (s := S8x512) ![k, 0] ![1, 512] inb, w⟩ : View.Piece Val S8x512 .f32) :: L) (ix2 j d) = View.canon L (ix2 j d) := by
  refine View.canon_cons_of_not_mem _ L ?_
  rw [Rect.mem_set_unit]
  intro h
  have h0 : k ≤ j.val ∧ j.val < k + 1 := h 0
  omega

end Rows

/-- The block's first rows, left for the block before it in time. -/
theorem head_block (c : Dev nD) (t : Fin cfg0.N) (r : Fin 8) (d : Fin 512) :
    (outsAt0 m c t.val t.isLt).2.2.2.2.2 (ix2 r d) = (data m c).dpre (1024 * (7 - t.val) + r) d := by
  by_cases h : t.val % 8 = 0
  · rw [outsAt0_A m c t h]; frame_out
    refine head_at (holds m c t _ _ _ (fun d => ?_) (fun d => ?_) (fun d => ?_)) r d <;> pointwise [] <;> blk_point [iblk, V, idx t]
  · rw [outsAt0_B m c t h]; frame_out
    refine head_at (holds m c t _ _ _ (fun d => ?_) (fun d => ?_) (fun d => ?_)) r d <;> pointwise [] <;> blk_point [iblk, V, idx t]

/-- The gain's gradient after the first grid point. -/
theorem dgain_first (c : Dev nD) (t : Fin cfg0.N) (h : t.val % 8 = 0) (d : Fin 512) :
    (outsAt0 m c t.val t.isLt).2.2.2.2.1 (ix2 0 d) = ∑ r : Fin 1024, (data m c).gainTerm (1024 * (7 - t.val) + r) d := by
  rw [outsAt0_A m c t h]; frame_out
  refine (dgain_at (holds m c t _ _ _ (fun d => ?_) (fun d => ?_) (fun d => ?_)) _ d).trans ?_
  iterate 3 (· pointwise []; blk_point [iblk, V, idx t])
  pointwise [k0_pay7]

/-- The gain's gradient after a later grid point. -/
theorem dgain_next (c : Dev nD) (t : Fin cfg0.N) (h : ¬ t.val % 8 = 0) (d : Fin 512) :
    (outsAt0 m c t.val t.isLt).2.2.2.2.1 (ix2 0 d) = (outsAt0 m c (t.val - 1) (by omega)).2.2.2.2.1 (ix2 0 d)
      + ∑ r : Fin 1024, (data m c).gainTerm (1024 * (7 - t.val) + r) d := by
  rw [outsAt0_B m c t h]; frame_out
  refine (dgain_at (holds m c t _ _ _ (fun d => ?_) (fun d => ?_) (fun d => ?_)) _ d) <;> pointwise [] <;> blk_point [iblk, V, idx t]

/-- The block that follows in time, as the kernel keeps it: zero after the last block. -/
theorem next_zero (D : ConvModel.Data) (T : ℕ) (hT : T = 7168) (r : Fin 8) (d : Fin 512) :
    k0_pay5 (F := Ideal) (ix2 r d) = if T + 1024 + r < 8192 then D.dpre (T + 1024 + r) d else 0 := by
  rw [if_neg (by omega)]; pointwise [k0_pay5]

/-- The cotangent of the inner product times the inner gate. -/
theorem du_block (c : Dev nD) (t : Fin cfg0.N) (r : Fin 1024) (d : Fin 512) :
    (outsAt0 m c t.val t.isLt).1 (ix2 r d) = (data m c).dcu (1024 * (7 - t.val) + r) d * (data m c).c (1024 * (7 - t.val) + r) d := by
  have ht8 : t.val < 8 := lt_of_lt_of_eq t.isLt (by decide)
  have hc : ∀ r : Fin 1024, ∀ d : Fin 512, k0_pay9 (F := Ideal) (iblk m c 3 t) (ix2 r d) = (data m c).c (1024 * (7 - t.val) + r) d := by
    intro r d
    simp only [ConvModel.ofArrays]; rw [dif_pos (by omega)]; pointwise [k0_pay9]; blk_point [iblk, V, idx t]
  by_cases h : t.val % 8 = 0
  · rw [outsAt0_A m c t h]; frame_out
    pointwise [k0_pay3, hc]
    refine congrArg (· * _) (dcu_at (holds m c t _ _ _ (fun d => ?_) (fun d => ?_) (fun d => ?_)) _ (next_zero _ _ (by omega)) r d) <;> pointwise [] <;> blk_point [iblk, V, idx t]
  · rw [outsAt0_B m c t h]; frame_out
    have hN : ∀ (r : Fin 8) (d : Fin 512), (outsAt0 m c (t.val - 1) (by omega)).2.2.2.2.2 (ix2 r d)
        = if 1024 * (7 - t.val) + 1024 + r < 8192 then (data m c).dpre (1024 * (7 - t.val) + 1024 + r) d else 0 := by
      intro r d
      rw [if_pos (by omega), head_block m c ⟨t.val - 1, by omega⟩ r d]
      exact congrArg (fun n => (data m c).dpre n d) (by show 1024 * (7 - (t.val - 1)) + r.val = _; omega)
    rw [(Memref.isWhole_whole cc0_scratch0).read_unread]
    pointwise [k0_pay3, hc]
    refine congrArg (· * _) (dcu_at (holds m c t _ _ _ (fun d => ?_) (fun d => ?_) (fun d => ?_)) _ hN r d) <;> pointwise [] <;> blk_point [iblk, V, idx t]

/-- The cotangent of the inner product times the other factor. -/
theorem dc_block (c : Dev nD) (t : Fin cfg0.N) (r : Fin 1024) (d : Fin 512) :
    (outsAt0 m c t.val t.isLt).2.2.1 (ix2 r d) = (data m c).dcu (1024 * (7 - t.val) + r) d * (data m c).u (1024 * (7 - t.val) + r) d := by
  have ht8 : t.val < 8 := lt_of_lt_of_eq t.isLt (by decide)
  have hc : ∀ r : Fin 1024, ∀ d : Fin 512, k0_pay8 (F := Ideal) (iblk m c 1 t) (ix2 r d) = (data m c).u (1024 * (7 - t.val) + r) d := by
    intro r d
    simp only [ConvModel.ofArrays]; rw [dif_pos (by omega)]; pointwise [k0_pay8]; blk_point [iblk, V, idx t]
  by_cases h : t.val % 8 = 0
  · rw [outsAt0_A m c t h]; frame_out
    pointwise [k0_pay4, hc]
    refine congrArg (· * _) (dcu_at (holds m c t _ _ _ (fun d => ?_) (fun d => ?_) (fun d => ?_)) _ (next_zero _ _ (by omega)) r d) <;> pointwise [] <;> blk_point [iblk, V, idx t]
  · rw [outsAt0_B m c t h]; frame_out
    have hN : ∀ (r : Fin 8) (d : Fin 512), (outsAt0 m c (t.val - 1) (by omega)).2.2.2.2.2 (ix2 r d)
        = if 1024 * (7 - t.val) + 1024 + r < 8192 then (data m c).dpre (1024 * (7 - t.val) + 1024 + r) d else 0 := by
      intro r d
      rw [if_pos (by omega), head_block m c ⟨t.val - 1, by omega⟩ r d]
      exact congrArg (fun n => (data m c).dpre n d) (by show 1024 * (7 - (t.val - 1)) + r.val = _; omega)
    rw [(Memref.isWhole_whole cc0_scratch0).read_unread]
    pointwise [k0_pay4, hc]
    refine congrArg (· * _) (dcu_at (holds m c t _ _ _ (fun d => ?_) (fun d => ?_) (fun d => ?_)) _ hN r d) <;> pointwise [] <;> blk_point [iblk, V, idx t]

/-- What one grid point adds to the weights' gradient. -/
def dcwStep (D : ConvModel.Data) (T : ℕ) (k : Fin 8) (d : Fin 512) : EReal :=
  if k.val < 3 then ∑ r : Fin 1024, D.dpre (T + r) d * D.tap k (T + r) d else 0

/-- The weights' gradient after the first grid point. -/
theorem dcw_first (c : Dev nD) (t : Fin cfg0.N) (h : t.val % 8 = 0) (k : Fin 8) (d : Fin 512) :
    (outsAt0 m c t.val t.isLt).2.2.2.1 (ix2 k d) = dcwStep (data m c) (1024 * (7 - t.val)) k d := by
  rw [outsAt0_A m c t h]; frame_out
  unfold dcwStep
  by_cases h2 : k.val = 2
  · refine (canon_row _ _ _ k h2 d).trans ?_
    refine (dcw2_at (holds m c t _ _ _ (fun d => ?_) (fun d => ?_) (fun d => ?_)) _ d).trans ?_
    iterate 3 (· pointwise []; blk_point [iblk, V, idx t])
    rw [if_pos (by omega), h2]
    refine (congrArg (· + _) ?_).trans (zero_add _)
    refine (congrFun ((View.readCov_skip _ _ _ _ _ (by decide)).trans ((View.readCov_skip _ _ _ _ _ (by decide)).trans (View.readCov_fill _ _ _ _ _ (by decide)))) _).trans ?_
    pointwise [k0_pay6]
  refine (canon_other_row _ _ _ k h2 d).trans ?_
  by_cases h1 : k.val = 1
  · refine (canon_row _ _ _ k h1 d).trans ?_
    refine (dcw1_at (holds m c t _ _ _ (fun d => ?_) (fun d => ?_) (fun d => ?_)) _ d).trans ?_
    iterate 3 (· pointwise []; blk_point [iblk, V, idx t])
    rw [if_pos (by omega), h1]
    refine (congrArg (· + _) ?_).trans (zero_add _)
    refine (congrFun ((View.readCov_skip _ _ _ _ _ (by decide)).trans (View.readCov_fill _ _ _ _ _ (by decide))) _).trans ?_
    pointwise [k0_pay6]
  refine (canon_other_row _ _ _ k h1 d).trans ?_
  by_cases h0 : k.val = 0
  · refine (canon_row _ _ _ k h0 d).trans ?_
    refine (dcw0_at (holds m c t _ _ _ (fun d => ?_) (fun d => ?_) (fun d => ?_)) _ d).trans ?_
    iterate 3 (· pointwise []; blk_point [iblk, V, idx t])
    rw [if_pos (by omega), h0]
    refine (congrArg (· + _) ?_).trans (zero_add _)
    refine (congrFun (View.readCov_fill _ _ _ _ _ (by decide)) _).trans ?_
    pointwise [k0_pay6]
  refine (canon_other_row _ _ _ k h0 d).trans ?_
  rw [if_neg (by omega)]
  refine (congrFun (View.canon_cons_unit_lit _ _ _ (by decide)) _).trans ?_
  pointwise [k0_pay6]

/-- The weights' gradient after a later grid point. -/
theorem dcw_next (c : Dev nD) (t : Fin cfg0.N) (h : ¬ t.val % 8 = 0) (k : Fin 8) (d : Fin 512) :
    (outsAt0 m c t.val t.isLt).2.2.2.1 (ix2 k d) = (outsAt0 m c (t.val - 1) (by omega)).2.2.2.1 (ix2 k d)
      + dcwStep (data m c) (1024 * (7 - t.val)) k d := by
  rw [outsAt0_B m c t h]; frame_out
  unfold dcwStep
  by_cases h2 : k.val = 2
  · refine (View.read_writes_cons_rows_of_mem _ _ _ _ _ _ (ix2 0 d) rfl (by show k.val = 2 + 0; omega) (by rfl)).trans ?_
    refine (dcw2_at (holds m c t _ _ _ (fun d => ?_) (fun d => ?_) (fun d => ?_)) _ d).trans ?_
    iterate 3 (· pointwise []; blk_point [iblk, V, idx t])
    rw [if_pos (by omega), h2]
    refine congrArg (· + _) ?_
    pointwise []; blk_ext
  refine (View.read_writes_cons_rows_of_not_mem _ _ _ _ _ _ rfl rfl (by show k.val < 2 ∨ 2 + 1 ≤ k.val; omega)).trans ?_
  by_cases h1 : k.val = 1
  · refine (View.read_writes_cons_rows_of_mem _ _ _ _ _ _ (ix2 0 d) rfl (by show k.val = 1 + 0; omega) (by rfl)).trans ?_
    refine (dcw1_at (holds m c t _ _ _ (fun d => ?_) (fun d => ?_) (fun d => ?_)) _ d).trans ?_
    iterate 3 (· pointwise []; blk_point [iblk, V, idx t])
    rw [if_pos (by omega), h1]
    refine congrArg (· + _) ?_
    pointwise []; blk_ext
  refine (View.read_writes_cons_rows_of_not_mem _ _ _ _ _ _ rfl rfl (by show k.val < 1 ∨ 1 + 1 ≤ k.val; omega)).trans ?_
  by_cases h0 : k.val = 0
  · refine (View.read_writes_cons_rows_of_mem _ _ _ _ _ _ (ix2 0 d) rfl (by show k.val = 0 + 0; omega) (by rfl)).trans ?_
    refine (dcw0_at (holds m c t _ _ _ (fun d => ?_) (fun d => ?_) (fun d => ?_)) _ d).trans ?_
    iterate 3 (· pointwise []; blk_point [iblk, V, idx t])
    rw [if_pos (by omega), h0]
    refine congrArg (· + _) ?_
    pointwise []; blk_ext
  refine (View.read_writes_cons_rows_of_not_mem _ _ _ _ _ _ rfl rfl (by show k.val < 0 ∨ 0 + 1 ≤ k.val; omega)).trans ?_
  rw [if_neg (by omega), add_zero]
  exact congrFun ((hs0_11 t).read_unread _) _

/-- What the kernel keeps after `n + 1` grid points is the sum of the points' terms. -/
theorem kept_eq {α : Type} [AddCommMonoid α] (O : (n : ℕ) → n < cfg0.N → α) (g : ℕ → α)
    (h0 : ∀ t : Fin cfg0.N, t.val % 8 = 0 → O t.val t.isLt = g (7 - t.val))
    (h1 : ∀ t : Fin cfg0.N, ¬ t.val % 8 = 0 → O t.val t.isLt = O (t.val - 1) (by omega) + g (7 - t.val)) :
    ∀ (n : ℕ) (hn : n < cfg0.N), O n hn = ∑ s ∈ Finset.range (n + 1), g (7 - s)
  | 0, hn => by rw [h0 ⟨0, hn⟩ rfl]; simp
  | n + 1, hn => by
    have h8 : n + 1 < 8 := lt_of_lt_of_eq hn (by decide)
    rw [h1 ⟨n + 1, hn⟩ (by show ¬ (n + 1) % 8 = 0; omega), Finset.sum_range_succ]
    exact congrArg (· + _) (kept_eq O g h0 h1 n (by omega))

/-- Eight blocks of 1024 rows, taken backwards, are all the rows. -/
theorem all_rows (f : ℕ → EReal) : ∑ s ∈ Finset.range (7 + 1), ∑ r : Fin 1024, f (1024 * (7 - s) + r) = ∑ n : Fin 8192, f n := by
  rw [Finset.sum_range_reflect (fun s => ∑ r : Fin 1024, f (1024 * s + r)) 8, Finset.sum_range, Fin.sum_univ_tiles 8 1024 rfl]
  exact Finset.sum_congr rfl fun s _ => Finset.sum_congr rfl fun r _ => congrArg f (by show 1024 * s.val + r.val = s.val * 1024 + r.val; omega)

/-- The kernel's arguments, as the reference takes them. -/
abbrev refArgs (c : Dev nD) : ConvRefIdeal.Stage.Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)⟩

/-- The cotangent of the inner product's first factor. -/
theorem final_du (c : Dev nD) : (dats m 0 c).arrAt 8 (cfgs 0).N = ConvRefIdeal.Stage.du (refArgs m c) := by
  refine (dats m 0 c).arrAt_eq_of_covers 8 _ (by decide +kernel) fun t hf y => ?_
  have ht8 : t.val < 8 := lt_of_lt_of_eq t.isLt (by decide)
  blk_simp
  obtain ⟨r, d, rfl⟩ : ∃ (r : Fin 1024) (d : Fin 512), y = ix2 r d := ⟨y 0, y 1, by blk_ext⟩
  have e : (win0_8.blk t).view.emb (ix2 r d) = ix2 (⟨1024 * (7 - t.val) + r.val, by omega⟩ : Fin 8192) d := by
    funext a; refine Fin.ext ?_; revert a; refine Fin.forall_fin_two.mpr ⟨?_, ?_⟩
    · blk_simp [idx t]; show (7 - t.val) * 1024 + r.val = 1024 * (7 - t.val) + r.val; omega
    · blk_simp [idx t] <;> try omega
  rw [after0_8, du_block, e, ConvRefIdeal.Stage.du_at]

/-- The cotangent of the outer gate. -/
theorem final_db (c : Dev nD) : (dats m 0 c).arrAt 9 (cfgs 0).N = ConvRefIdeal.Stage.dbOut (refArgs m c) := by
  refine (dats m 0 c).arrAt_eq_of_covers 9 _ (by decide +kernel) fun t hf y => ?_
  have ht8 : t.val < 8 := lt_of_lt_of_eq t.isLt (by decide)
  blk_simp
  obtain ⟨r, d, rfl⟩ : ∃ (r : Fin 1024) (d : Fin 512), y = ix2 r d := ⟨y 0, y 1, by blk_ext⟩
  have e : (win0_9.blk t).view.emb (ix2 r d) = ix2 (⟨1024 * (7 - t.val) + r.val, by omega⟩ : Fin 8192) d := by
    funext a; refine Fin.ext ?_; revert a; refine Fin.forall_fin_two.mpr ⟨?_, ?_⟩
    · blk_simp [idx t]; show (7 - t.val) * 1024 + r.val = 1024 * (7 - t.val) + r.val; omega
    · blk_simp [idx t] <;> try omega
  rw [after0_9, db_block, e, ConvRefIdeal.Stage.db_at]

/-- The cotangent of the inner gate. -/
theorem final_dc (c : Dev nD) : (dats m 0 c).arrAt 10 (cfgs 0).N = ConvRefIdeal.Stage.dcOut (refArgs m c) := by
  refine (dats m 0 c).arrAt_eq_of_covers 10 _ (by decide +kernel) fun t hf y => ?_
  have ht8 : t.val < 8 := lt_of_lt_of_eq t.isLt (by decide)
  blk_simp
  obtain ⟨r, d, rfl⟩ : ∃ (r : Fin 1024) (d : Fin 512), y = ix2 r d := ⟨y 0, y 1, by blk_ext⟩
  have e : (win0_10.blk t).view.emb (ix2 r d) = ix2 (⟨1024 * (7 - t.val) + r.val, by omega⟩ : Fin 8192) d := by
    funext a; refine Fin.ext ?_; revert a; refine Fin.forall_fin_two.mpr ⟨?_, ?_⟩
    · blk_simp [idx t]; show (7 - t.val) * 1024 + r.val = 1024 * (7 - t.val) + r.val; omega
    · blk_simp [idx t] <;> try omega
  rw [after0_10, dc_block, e, ConvRefIdeal.Stage.dc_at]

/-- The gain's gradient. -/
theorem final_dgain (c : Dev nD) : (dats m 0 c).arrAt 12 (cfgs 0).N = ConvRefIdeal.Stage.dgain (refArgs m c) := by
  refine (dats m 0 c).arrAt_eq_of_covers 12 _ (by decide +kernel) fun t hf y => ?_
  have h7 : t.val % 8 = 7 := (flush0_12 t).mp hf
  have ht8 : t.val < 8 := lt_of_lt_of_eq t.isLt (by decide)
  blk_simp
  obtain ⟨k, d, rfl⟩ : ∃ (k : Fin 1) (d : Fin 512), y = ix2 k d := ⟨y 0, y 1, by blk_ext⟩
  have e : (win0_12.blk t).view.emb (ix2 k d) = ix2 k d := by
    funext a; refine Fin.ext ?_; revert a; refine Fin.forall_fin_two.mpr ⟨?_, ?_⟩
    · blk_simp [idx t] <;> try omega
    · blk_simp [idx t] <;> try omega
  obtain rfl : k = 0 := Subsingleton.elim _ _
  rw [after0_12, e, ConvRefIdeal.Stage.dgain_at]
  refine (kept_eq (fun n hn => (outsAt0 m c n hn).2.2.2.2.1 (ix2 0 d)) (fun b => ∑ r : Fin 1024, (data m c).gainTerm (1024 * b + r) d)
    (fun t h => dgain_first m c t h d) (fun t h => dgain_next m c t h d) t.val t.isLt).trans ?_
  rw [show t.val = 7 by omega]
  exact all_rows fun n => (data m c).gainTerm n d

/-- The weights' gradient. -/
theorem final_dcw (c : Dev nD) : (dats m 0 c).arrAt 11 (cfgs 0).N = ConvRefIdeal.Stage.dcwOut (refArgs m c) := by
  refine (dats m 0 c).arrAt_eq_of_covers 11 _ (by decide +kernel) fun t hf y => ?_
  have h7 : t.val % 8 = 7 := (flush0_11 t).mp hf
  have ht8 : t.val < 8 := lt_of_lt_of_eq t.isLt (by decide)
  blk_simp
  obtain ⟨k, d, rfl⟩ : ∃ (k : Fin 8) (d : Fin 512), y = ix2 k d := ⟨y 0, y 1, by blk_ext⟩
  have e : (win0_11.blk t).view.emb (ix2 k d) = ix2 k d := by
    funext a; refine Fin.ext ?_; revert a; refine Fin.forall_fin_two.mpr ⟨?_, ?_⟩
    · blk_simp [idx t] <;> try omega
    · blk_simp [idx t] <;> try omega
  rw [after0_11, e, ConvRefIdeal.Stage.dcw_at]
  refine (kept_eq (fun n hn => (outsAt0 m c n hn).2.2.2.1 (ix2 k d)) (fun b => dcwStep (data m c) (1024 * b) k d)
    (fun t h => dcw_first m c t h k d) (fun t h => dcw_next m c t h k d) t.val t.isLt).trans ?_
  rw [show t.val = 7 by omega]
  unfold dcwStep ConvModel.Data.dcw
  by_cases h3 : k.val < 3
  · simp only [if_pos h3]
    exact all_rows fun n => (data m c).dpre n d * (data m c).tap k n d
  · simp only [if_neg h3, Finset.sum_const_zero]

end Cert.ConvBwdIdeal.Value

end
-- ==== Proof.Conv.lean ====
module

public import proofs.«01_k».proof.Defs
public import proofs.«01_k».proof.Proof.ConvBwdArrays
public import proofs.«01_k».proof.Proof.Gen.ConvBwd.Frame

@[expose] public section

set_option maxRecDepth 16384

noncomputable section

/-! The gated convolution group's backward pass: the kernel against the reference. -/
namespace Cert.Conv

open Idealize.ShloMosaic Idealize.ShloMosaic.TcCoe Idealize.SL.Sem

/-- All five results: the same arrays from the kernel and from the reference. -/
theorem algebraic : Cert.algebraic_ConvBwdIdeal_ConvRefIdeal := by
  pair_intro
  · run_from Cert.ConvBwdIdeal.Value.run_blocks m g
  · refine θ_run_mono (Cert.ConvRefIdeal.Value.run m' g') fun r hr c => ?_
    have ha : ConvRefIdeal.Stage.args m' c = ConvBwdIdeal.Value.refArgs m c := by
      obtain ⟨h0, h1, h2, h3, h4, h5⟩ := hagree c
      unfold ConvRefIdeal.Stage.args ConvBwdIdeal.Value.refArgs
      congr 1
    obtain ⟨e0, e1, e2, e3, e4, hr⟩ := hr c
    exact ⟨e0.trans ((ConvRefIdeal.Stage.res_du m' c).trans ((congrArg ConvRefIdeal.Stage.du ha).trans (ConvBwdIdeal.Value.final_du m c).symm)),
      e1.trans ((ConvRefIdeal.Stage.res_db m' c).trans ((congrArg ConvRefIdeal.Stage.dbOut ha).trans (ConvBwdIdeal.Value.final_db m c).symm)),
      e2.trans ((ConvRefIdeal.Stage.res_dc m' c).trans ((congrArg ConvRefIdeal.Stage.dcOut ha).trans (ConvBwdIdeal.Value.final_dc m c).symm)),
      e3.trans ((ConvRefIdeal.Stage.res_dcw m' c).trans ((congrArg ConvRefIdeal.Stage.dcwOut ha).trans (ConvBwdIdeal.Value.final_dcw m c).symm)),
      e4.trans ((ConvRefIdeal.Stage.res_dgain m' c).trans ((congrArg ConvRefIdeal.Stage.dgain ha).trans (ConvBwdIdeal.Value.final_dgain m c).symm)), hr⟩

/-- The kernel at its own floats runs to its end and leaves its arguments as they were. -/
theorem frame : Cert.quiescent_ConvBwd := fun m ρ _ => Cert.ConvBwd.Gen.frame m ρ

/-- The same of the ideal program. -/
theorem frame_ideal : Cert.quiescent_ConvBwdIdeal := fun m ρ _ => Cert.ConvBwdIdeal.Gen.frame m ρ

/-- The same of the reference. -/
theorem frame_reference : Cert.quiescent_ConvRefIdeal := fun m ρ _ =>
  (θ_run Cert.ConvRefIdeal.defs _ _).mono (fun r h => ⟨fun c => (h c).2.2.2.2.2, sem_eq_zero_of_no_sems (by decide) r.2⟩)
    (Cert.ConvRefIdeal.Value.run m ρ)

end Cert.Conv

end
-- ==== Proof.FfnPoints.lean ====
/- The feed-forward backward kernel (over the reals): which branches its body takes at which points,
   which windows are idle where, and the buffers it works on. -/
module

public import proofs.«01_k».proof.Proof.Gen.FfnBwdIdeal.Frame
public import proofs.«01_k».proof.Proof.Gen.FfnBwdIdeal.Skeleton
public import proofs.«01_k».proof.Proof.Gen.FfnBwdIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the grid: the condition of one of the body's three branches. -/
abbrev cond0_0 (i : grid0.Coords) : Prop := k0_cond1 i = 1#1
/-- That branch is taken exactly at point 0. -/
theorem hcond0_0 : ∀ t : Fin cfg0.N, cond0_0 (grid0.coords t) ↔ t.val % 88 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_0, k0_cond1, e0, e1]
    word_cmp
   : ∀ t : Fin grid0.N, cond0_0 (grid0.coords t) ↔ t.val % 88 = 0)

/-- The first hidden tile of a row block: the condition of one of the body's three branches. -/
abbrev cond0_1 (i : grid0.Coords) : Prop := k0_cond2 i = 1#1
/-- That branch is taken exactly at the points divisible by 11. -/
theorem hcond0_1 : ∀ t : Fin cfg0.N, cond0_1 (grid0.coords t) ↔ t.val % 11 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_1, k0_cond2, e0, e1]
    word_cmp
   : ∀ t : Fin grid0.N, cond0_1 (grid0.coords t) ↔ t.val % 11 = 0)

/-- The last hidden tile of a row block: the condition of one of the body's three branches. -/
abbrev cond0_2 (i : grid0.Coords) : Prop := k0_cond3 i = 1#1
/-- That branch is taken exactly at the points that leave 10 when divided by 11. -/
theorem hcond0_2 : ∀ t : Fin cfg0.N, cond0_2 (grid0.coords t) ↔ t.val % 11 = 10 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_2, k0_cond3, e0, e1]
    word_cmp
   : ∀ t : Fin grid0.N, cond0_2 (grid0.coords t) ↔ t.val % 11 = 10)

/-- Window 0 is live at every point. -/
theorem liveAt0_0 : ∀ t : Fin cfg0.N, cfg0.idle 0 (grid0.coords t) = false := fun _ => rfl
/-- Window 1 is live at every point. -/
theorem liveAt0_1 : ∀ t : Fin cfg0.N, cfg0.idle 1 (grid0.coords t) = false := fun _ => rfl
/-- Window 2 is live at every point. -/
theorem liveAt0_2 : ∀ t : Fin cfg0.N, cfg0.idle 2 (grid0.coords t) = false := fun _ => rfl
/-- Window 3 is live at every point. -/
theorem liveAt0_3 : ∀ t : Fin cfg0.N, cfg0.idle 3 (grid0.coords t) = false := fun _ => rfl
/-- Window 4 is live at every point. -/
theorem liveAt0_4 : ∀ t : Fin cfg0.N, cfg0.idle 4 (grid0.coords t) = false := fun _ => rfl
/-- Window 5 is live at every point. -/
theorem liveAt0_5 : ∀ t : Fin cfg0.N, cfg0.idle 5 (grid0.coords t) = false := fun _ => rfl
/-- Window 8 is live at every point. -/
theorem liveAt0_8 : ∀ t : Fin cfg0.N, cfg0.idle 8 (grid0.coords t) = false := fun _ => rfl
/-- Window 9 is live at every point. -/
theorem liveAt0_9 : ∀ t : Fin cfg0.N, cfg0.idle 9 (grid0.coords t) = false := fun _ => rfl
/-- Window 10 is live at every point. -/
theorem liveAt0_10 : ∀ t : Fin cfg0.N, cfg0.idle 10 (grid0.coords t) = false := fun _ => rfl
/-- Whether window 6's buffer has received nothing since its last write-back, position by position, as a bit table. -/
def freshTab0_6 : ℕ → Bool
  | 0 => true
  | n + 1 => (0x8000000000000000000000 : ℕ).testBit n
/-- The table of window 6 follows the pipeline's own step. -/
theorem freshTab0_6_step : ∀ t : Fin cfg0.N,
    freshTab0_6 (t.val + 1) = ((cfg0.win 6).flush t || (cfg0.idle 6 (cfg0.grid.coords t) && freshTab0_6 t.val)) := by decide +kernel
/-- The table of window 6 is the pipeline's own notion. -/
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- Window 6 is live at the points of case A. -/
theorem liveAt0_6_A : ∀ t : Fin cfg0.N, cond0_0 (grid0.coords t) → cond0_1 (grid0.coords t) → ¬cond0_2 (grid0.coords t) → cfg0.idle 6 (grid0.coords t) = false := by decide +kernel
/-- Nothing is stored into window 6 at the points of case B. -/
theorem idleAt0_6_B : ∀ t : Fin cfg0.N, ¬cond0_0 (grid0.coords t) → ¬cond0_1 (grid0.coords t) → ¬cond0_2 (grid0.coords t) → cfg0.idle 6 (grid0.coords t) = true := by decide +kernel
/-- Window 6 is not written back at the points of case B. -/
theorem noFlush0_6_B : ∀ t : Fin cfg0.N, ¬cond0_0 (grid0.coords t) → ¬cond0_1 (grid0.coords t) → ¬cond0_2 (grid0.coords t) → (cfg0.win 6).flush t = false := by decide +kernel
/-- Window 6 is live at the points of case C. -/
theorem liveAt0_6_C : ∀ t : Fin cfg0.N, ¬cond0_0 (grid0.coords t) → ¬cond0_1 (grid0.coords t) → cond0_2 (grid0.coords t) → cfg0.idle 6 (grid0.coords t) = false := by decide +kernel
/-- At the points of case C window 6 holds what an earlier point stored. -/
theorem notFresh0_6_C : ∀ t : Fin cfg0.N, ¬cond0_0 (grid0.coords t) → ¬cond0_1 (grid0.coords t) → cond0_2 (grid0.coords t) → cfg0.fresh 6 t.val = false := by
  intro t; rw [fresh0_6_eq t]; revert t; decide +kernel
/-- Nothing is stored into window 6 at the points of case D. -/
theorem idleAt0_6_D : ∀ t : Fin cfg0.N, ¬cond0_0 (grid0.coords t) → cond0_1 (grid0.coords t) → ¬cond0_2 (grid0.coords t) → cfg0.idle 6 (grid0.coords t) = true := by decide +kernel
/-- Window 6 is not written back at the points of case D. -/
theorem noFlush0_6_D : ∀ t : Fin cfg0.N, ¬cond0_0 (grid0.coords t) → cond0_1 (grid0.coords t) → ¬cond0_2 (grid0.coords t) → (cfg0.win 6).flush t = false := by decide +kernel
/-- Nothing is stored into window 7 at the points of case A. -/
theorem idleAt0_7_A : ∀ t : Fin cfg0.N, cond0_0 (grid0.coords t) → cond0_1 (grid0.coords t) → ¬cond0_2 (grid0.coords t) → cfg0.idle 7 (grid0.coords t) = true := by decide +kernel
/-- Window 7 is not written back at the points of case A. -/
theorem noFlush0_7_A : ∀ t : Fin cfg0.N, cond0_0 (grid0.coords t) → cond0_1 (grid0.coords t) → ¬cond0_2 (grid0.coords t) → (cfg0.win 7).flush t = false := by decide +kernel
/-- Nothing is stored into window 7 at the points of case B. -/
theorem idleAt0_7_B : ∀ t : Fin cfg0.N, ¬cond0_0 (grid0.coords t) → ¬cond0_1 (grid0.coords t) → ¬cond0_2 (grid0.coords t) → cfg0.idle 7 (grid0.coords t) = true := by decide +kernel
/-- Window 7 is not written back at the points of case B. -/
theorem noFlush0_7_B : ∀ t : Fin cfg0.N, ¬cond0_0 (grid0.coords t) → ¬cond0_1 (grid0.coords t) → ¬cond0_2 (grid0.coords t) → (cfg0.win 7).flush t = false := by decide +kernel
/-- Window 7 is live at the points of case C. -/
theorem liveAt0_7_C : ∀ t : Fin cfg0.N, ¬cond0_0 (grid0.coords t) → ¬cond0_1 (grid0.coords t) → cond0_2 (grid0.coords t) → cfg0.idle 7 (grid0.coords t) = false := by decide +kernel
/-- Nothing is stored into window 7 at the points of case D. -/
theorem idleAt0_7_D : ∀ t : Fin cfg0.N, ¬cond0_0 (grid0.coords t) → cond0_1 (grid0.coords t) → ¬cond0_2 (grid0.coords t) → cfg0.idle 7 (grid0.coords t) = true := by decide +kernel
/-- Window 7 is not written back at the points of case D. -/
theorem noFlush0_7_D : ∀ t : Fin cfg0.N, ¬cond0_0 (grid0.coords t) → cond0_1 (grid0.coords t) → ¬cond0_2 (grid0.coords t) → (cfg0.win 7).flush t = false := by decide +kernel
/-- Whether window 11's buffer has received nothing since its last write-back, position by position, as a bit table. -/
def freshTab0_11 : ℕ → Bool
  | 0 => true
  | n + 1 => (0x8010020040080100200400 : ℕ).testBit n
/-- The table of window 11 follows the pipeline's own step. -/
theorem freshTab0_11_step : ∀ t : Fin cfg0.N,
    freshTab0_11 (t.val + 1) = ((cfg0.win 11).flush t || (cfg0.idle 11 (cfg0.grid.coords t) && freshTab0_11 t.val)) := by decide +kernel
/-- The table of window 11 is the pipeline's own notion. -/
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- Window 11 is live at the points of case A. -/
theorem liveAt0_11_A : ∀ t : Fin cfg0.N, cond0_0 (grid0.coords t) → cond0_1 (grid0.coords t) → ¬cond0_2 (grid0.coords t) → cfg0.idle 11 (grid0.coords t) = false := by decide +kernel
/-- Nothing is stored into window 11 at the points of case B. -/
theorem idleAt0_11_B : ∀ t : Fin cfg0.N, ¬cond0_0 (grid0.coords t) → ¬cond0_1 (grid0.coords t) → ¬cond0_2 (grid0.coords t) → cfg0.idle 11 (grid0.coords t) = true := by decide +kernel
/-- Window 11 is not written back at the points of case B. -/
theorem noFlush0_11_B : ∀ t : Fin cfg0.N, ¬cond0_0 (grid0.coords t) → ¬cond0_1 (grid0.coords t) → ¬cond0_2 (grid0.coords t) → (cfg0.win 11).flush t = false := by decide +kernel
/-- Nothing is stored into window 11 at the points of case C. -/
theorem idleAt0_11_C : ∀ t : Fin cfg0.N, ¬cond0_0 (grid0.coords t) → ¬cond0_1 (grid0.coords t) → cond0_2 (grid0.coords t) → cfg0.idle 11 (grid0.coords t) = true := by decide +kernel
/-- Window 11 is written back at the points of case C. -/
theorem flushAt0_11_C : ∀ t : Fin cfg0.N, ¬cond0_0 (grid0.coords t) → ¬cond0_1 (grid0.coords t) → cond0_2 (grid0.coords t) → (cfg0.win 11).flush t = true := by decide +kernel
/-- At the points of case C window 11 holds what an earlier point stored. -/
theorem notFresh0_11_C : ∀ t : Fin cfg0.N, ¬cond0_0 (grid0.coords t) → ¬cond0_1 (grid0.coords t) → cond0_2 (grid0.coords t) → cfg0.fresh 11 t.val = false := by
  intro t; rw [fresh0_11_eq t]; revert t; decide +kernel
/-- Window 11 is live at the points of case D. -/
theorem liveAt0_11_D : ∀ t : Fin cfg0.N, ¬cond0_0 (grid0.coords t) → cond0_1 (grid0.coords t) → ¬cond0_2 (grid0.coords t) → cfg0.idle 11 (grid0.coords t) = false := by decide +kernel

/-- A buffer of output window 6, through which its contents are read. -/
abbrev VO0_6 : View sig .tc .vmem S1x1024 .f32 := (Memref.whole cc0_stg6_0 : Memref sig .tc .vmem S1x1024 .f32).view
/-- A buffer of output window 7, through which its contents are read. -/
abbrev VO0_7 : View sig .tc .vmem S1024x1024 .f32 := (Memref.whole cc0_stg7_0 : Memref sig .tc .vmem S1024x1024 .f32).view
/-- A buffer of output window 8, through which its contents are read. -/
abbrev VO0_8 : View sig .tc .vmem S1024x256 .bf16 := (Memref.whole cc0_stg8_0 : Memref sig .tc .vmem S1024x256 .bf16).view
/-- A buffer of output window 9, through which its contents are read. -/
abbrev VO0_9 : View sig .tc .vmem S1024x256 .bf16 := (Memref.whole cc0_stg9_0 : Memref sig .tc .vmem S1024x256 .bf16).view
/-- A buffer of output window 10, through which its contents are read. -/
abbrev VO0_10 : View sig .tc .vmem S1024x256 .bf16 := (Memref.whole cc0_stg10_0 : Memref sig .tc .vmem S1024x256 .bf16).view
/-- A buffer of output window 11, through which its contents are read. -/
abbrev VO0_11 : View sig .tc .vmem S1024x1024 .bf16 := (Memref.whole cc0_stg11_0 : Memref sig .tc .vmem S1024x1024 .bf16).view
/-- The buffer window 0 uses at a point. -/
abbrev ms0_0 (t : Fin cfg0.N) : Memref sig .tc .vmem S1024x1024 .f32 := win0_0.stage (cfg0.slots t 0)
/-- The buffer of window 0 is a whole one. -/
abbrev hs0_0 (t : Fin cfg0.N) : (ms0_0 t).IsWhole := hstage0_0 ((cfg0.slots t 0).cast nbuf0_0)
/-- The buffer window 1 uses at a point. -/
abbrev ms0_1 (t : Fin cfg0.N) : Memref sig .tc .vmem S1024x1024 .f32 := win0_1.stage (cfg0.slots t 1)
/-- The buffer of window 1 is a whole one. -/
abbrev hs0_1 (t : Fin cfg0.N) : (ms0_1 t).IsWhole := hstage0_1 ((cfg0.slots t 1).cast nbuf0_1)
/-- The buffer window 2 uses at a point. -/
abbrev ms0_2 (t : Fin cfg0.N) : Memref sig .tc .vmem S1x1024 .f32 := win0_2.stage (cfg0.slots t 2)
/-- The buffer of window 2 is a whole one. -/
abbrev hs0_2 (t : Fin cfg0.N) : (ms0_2 t).IsWhole := hstage0_2 ((cfg0.slots t 2).cast nbuf0_2)
/-- The buffer window 3 uses at a point. -/
abbrev ms0_3 (t : Fin cfg0.N) : Memref sig .tc .vmem S1024x512 .bf16 := win0_3.stage (cfg0.slots t 3)
/-- The buffer of window 3 is a whole one. -/
abbrev hs0_3 (t : Fin cfg0.N) : (ms0_3 t).IsWhole := hstage0_3 ((cfg0.slots t 3).cast nbuf0_3)
/-- The buffer window 4 uses at a point. -/
abbrev ms0_4 (t : Fin cfg0.N) : Memref sig .tc .vmem S512x1024 .bf16 := win0_4.stage (cfg0.slots t 4)
/-- The buffer of window 4 is a whole one. -/
abbrev hs0_4 (t : Fin cfg0.N) : (ms0_4 t).IsWhole := hstage0_4 ((cfg0.slots t 4).cast nbuf0_4)
/-- The buffer window 5 uses at a point. -/
abbrev ms0_5 (t : Fin cfg0.N) : Memref sig .tc .vmem S256x1024 .bf16 := win0_5.stage (cfg0.slots t 5)
/-- The buffer of window 5 is a whole one. -/
abbrev hs0_5 (t : Fin cfg0.N) : (ms0_5 t).IsWhole := hstage0_5 ((cfg0.slots t 5).cast nbuf0_5)
/-- The buffer window 6 uses at a point. -/
abbrev ms0_6 (t : Fin cfg0.N) : Memref sig .tc .vmem S1x1024 .f32 := win0_6.stage (cfg0.slots t 6)
/-- The buffer of window 6 is a whole one. -/
abbrev hs0_6 (t : Fin cfg0.N) : (ms0_6 t).IsWhole := hstage0_6 ((cfg0.slots t 6).cast nbuf0_6)
/-- The buffer window 7 uses at a point. -/
abbrev ms0_7 (t : Fin cfg0.N) : Memref sig .tc .vmem S1024x1024 .f32 := win0_7.stage (cfg0.slots t 7)
/-- The buffer of window 7 is a whole one. -/
abbrev hs0_7 (t : Fin cfg0.N) : (ms0_7 t).IsWhole := hstage0_7 ((cfg0.slots t 7).cast nbuf0_7)
/-- The buffer window 8 uses at a point. -/
abbrev ms0_8 (t : Fin cfg0.N) : Memref sig .tc .vmem S1024x256 .bf16 := win0_8.stage (cfg0.slots t 8)
/-- The buffer of window 8 is a whole one. -/
abbrev hs0_8 (t : Fin cfg0.N) : (ms0_8 t).IsWhole := hstage0_8 ((cfg0.slots t 8).cast nbuf0_8)
/-- The buffer window 9 uses at a point. -/
abbrev ms0_9 (t : Fin cfg0.N) : Memref sig .tc .vmem S1024x256 .bf16 := win0_9.stage (cfg0.slots t 9)
/-- The buffer of window 9 is a whole one. -/
abbrev hs0_9 (t : Fin cfg0.N) : (ms0_9 t).IsWhole := hstage0_9 ((cfg0.slots t 9).cast nbuf0_9)
/-- The buffer window 10 uses at a point. -/
abbrev ms0_10 (t : Fin cfg0.N) : Memref sig .tc .vmem S1024x256 .bf16 := win0_10.stage (cfg0.slots t 10)
/-- The buffer of window 10 is a whole one. -/
abbrev hs0_10 (t : Fin cfg0.N) : (ms0_10 t).IsWhole := hstage0_10 ((cfg0.slots t 10).cast nbuf0_10)
/-- The buffer window 11 uses at a point. -/
abbrev ms0_11 (t : Fin cfg0.N) : Memref sig .tc .vmem S1024x1024 .bf16 := win0_11.stage (cfg0.slots t 11)
/-- The buffer of window 11 is a whole one. -/
abbrev hs0_11 (t : Fin cfg0.N) : (ms0_11 t).IsWhole := hstage0_11 ((cfg0.slots t 11).cast nbuf0_11)
/-- The scratch that holds half the output gradient in bfloat16. -/
abbrev scM0_0 : Memref sig .tc .vmem S1024x1024 .bf16 := Memref.whole cc0_scratch0
/-- The scratch that accumulates the gradient of the normed input. -/
abbrev scM0_1 : Memref sig .tc .vmem S1024x1024 .f32 := Memref.whole cc0_scratch1
/-- The scratch that holds the gate and up gradients of a tile side by side. -/
abbrev scM0_2 : Memref sig .tc .vmem S1024x512 .bf16 := Memref.whole cc0_scratch2
/-- The half-gradient scratch as a view. -/
abbrev VS0_0 : View sig .tc .vmem S1024x1024 .bf16 := scM0_0.view
/-- The accumulator as a view. -/
abbrev VS0_1 : View sig .tc .vmem S1024x1024 .f32 := scM0_1.view

/-- Before the first point the three scratch buffers hold anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The branches taken at point 0. -/
theorem condsA (t : Fin cfg0.N) (h0 : t.val = 0) :
    cond0_0 (grid0.coords t) ∧ cond0_1 (grid0.coords t) ∧ ¬cond0_2 (grid0.coords t) :=
  ⟨(hcond0_0 t).mpr (by omega), (hcond0_1 t).mpr (by omega), fun h => by have := (hcond0_2 t).mp h; omega⟩

/-- The branches taken at a middle tile. -/
theorem condsB (t : Fin cfg0.N) (h1 : ¬t.val % 11 = 0) (h2 : ¬t.val % 11 = 10) :
    ¬cond0_0 (grid0.coords t) ∧ ¬cond0_1 (grid0.coords t) ∧ ¬cond0_2 (grid0.coords t) :=
  ⟨fun h => by have := (hcond0_0 t).mp h; omega, fun h => h1 ((hcond0_1 t).mp h), fun h => h2 ((hcond0_2 t).mp h)⟩

/-- The branches taken at the last tile of a row block. -/
theorem condsC (t : Fin cfg0.N) (h2 : t.val % 11 = 10) :
    ¬cond0_0 (grid0.coords t) ∧ ¬cond0_1 (grid0.coords t) ∧ cond0_2 (grid0.coords t) :=
  ⟨fun h => by have := (hcond0_0 t).mp h; omega, fun h => by have := (hcond0_1 t).mp h; omega, (hcond0_2 t).mpr h2⟩

/-- The branches taken at the first tile of a later row block. -/
theorem condsD (t : Fin cfg0.N) (h0 : ¬t.val = 0) (h1 : t.val % 11 = 0) :
    ¬cond0_0 (grid0.coords t) ∧ cond0_1 (grid0.coords t) ∧ ¬cond0_2 (grid0.coords t) :=
  ⟨fun h => by
    have := (hcond0_0 t).mp h
    have : t.val < 88 := Nat.lt_of_lt_of_eq t.isLt N_0
    omega, (hcond0_1 t).mpr h1, fun h => by have := (hcond0_2 t).mp h; omega⟩

end Cert.FfnBwdIdeal.Gen

end
-- ==== Proof.FfnRunA.lean ====
/- The feed-forward backward kernel (over the reals): one run of its body at the first point: both row-block branches' starts are taken. -/
module

public import proofs.«01_k».proof.Proof.FfnPoints

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point: both row-block branches' starts are taken. From the inputs' buffers at `x0 … x5` (and, where it reads them, the carried buffers at `xo·`, `xs·`)
    it ends with every buffer it stores into at the pieces named by the lists, and the rest as it was. -/
noncomputable def kernelRun0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S256x1024 .bf16) (harg7 : arg7.IsWhole) (arg9 : Memref sig .tc .vmem S1x1024 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S1024x256 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .f32) (harg16 : arg16.IsWhole) (arg17 : Memref sig .tc .vmem S1024x512 .bf16) (harg17 : arg17.IsWhole) (hc0 : cond0_0 i) (hc1 : cond0_1 i) (hc2 : ¬cond0_2 i)
    (x0 : Vec F S1024x1024 .f32) (x1 : Vec F S1024x1024 .f32) (x2 : Vec F S1x1024 .f32) (x3 : Vec F S1024x512 .bf16) (x4 : Vec F S512x1024 .bf16) (x5 : Vec F S256x1024 .bf16) :
    Σ' (L6 : List (View.Piece (Elt F) S1x1024 .f32)), Σ' (L7 : List (View.Piece (Elt F) S1024x1024 .f32)), Σ' (L8 : List (View.Piece (Elt F) S1024x256 .bf16)), Σ' (L9 : List (View.Piece (Elt F) S1024x256 .bf16)), Σ' (L10 : List (View.Piece (Elt F) S1024x256 .bf16)), Σ' (L11 : List (View.Piece (Elt F) S1024x1024 .bf16)), Σ' (LS0 : List (View.Piece (Elt F) S1024x1024 .bf16)), Σ' (LS1 : List (View.Piece (Elt F) S1024x1024 .f32)), { LT2 : List (View.Piece (Elt F) S1024x512 .bf16) //
      ∀ (xi7 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ owns (c : Thread nD τ) arg10 fullShare xi7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L6) ∗ owns (c : Thread nD τ) arg10 fullShare xi7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LT2)) -∗ K ⟨⟩))
          ⊢ wp frame (wpE (defs₀ (F := F)) Variants.none c none) E (cc0_ffn_bwd i arg2 harg2 arg3 harg3 arg4 harg4 arg5 harg5 arg6 harg6 arg7 harg7 (Memref.whole main_v25) (Memref.isWhole_whole _) arg9 harg9 arg10 harg10 arg11 harg11 arg12 harg12 arg13 harg13 arg14 harg14 arg15 harg15 arg16 harg16 arg17 harg17) K } := by
  refine ⟨?_, [], ?_, ?_, ?_, ?_, ?_, ?_, ?_, fun xi7 E K => ?run⟩
  case run =>
    simp only [cc0_ffn_bwd_eq_skeleton]; unfold cc0_ffn_bwd_skel
    simp only [k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg10.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    iexists _; iexact HS2

end Cert.FfnBwdIdeal.Gen

end
-- ==== Proof.FfnRunB.lean ====
/- The feed-forward backward kernel (over the reals): one run of its body at a middle hidden tile: no branch is taken. -/
module

public import proofs.«01_k».proof.Proof.FfnRunA

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a middle hidden tile: no branch is taken. From the inputs' buffers at `x0 … x5` (and, where it reads them, the carried buffers at `xo·`, `xs·`)
    it ends with every buffer it stores into at the pieces named by the lists, and the rest as it was. -/
noncomputable def kernelRun0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S256x1024 .bf16) (harg7 : arg7.IsWhole) (arg9 : Memref sig .tc .vmem S1x1024 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S1024x256 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .f32) (harg16 : arg16.IsWhole) (arg17 : Memref sig .tc .vmem S1024x512 .bf16) (harg17 : arg17.IsWhole) (hc0 : ¬cond0_0 i) (hc1 : ¬cond0_1 i) (hc2 : ¬cond0_2 i)
    (x0 : Vec F S1024x1024 .f32) (x1 : Vec F S1024x1024 .f32) (x2 : Vec F S1x1024 .f32) (x3 : Vec F S1024x512 .bf16) (x4 : Vec F S512x1024 .bf16) (x5 : Vec F S256x1024 .bf16) (xs0 : Vec F S1024x1024 .bf16) (xs1 : Vec F S1024x1024 .f32) :
    Σ' (L6 : List (View.Piece (Elt F) S1x1024 .f32)), Σ' (L7 : List (View.Piece (Elt F) S1024x1024 .f32)), Σ' (L8 : List (View.Piece (Elt F) S1024x256 .bf16)), Σ' (L9 : List (View.Piece (Elt F) S1024x256 .bf16)), Σ' (L10 : List (View.Piece (Elt F) S1024x256 .bf16)), Σ' (L11 : List (View.Piece (Elt F) S1024x1024 .bf16)), Σ' (LS0 : List (View.Piece (Elt F) S1024x1024 .bf16)), Σ' (LS1 : List (View.Piece (Elt F) S1024x1024 .f32)), { LT2 : List (View.Piece (Elt F) S1024x512 .bf16) //
      ∀ (xi6 : Vec F S1x1024 .f32) (xi7 : Vec F S1024x1024 .f32) (xi11 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xi6 ∗ owns (c : Thread nD τ) arg10 fullShare xi7 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xi11 ∗ owns (c : Thread nD τ) arg15 fullShare xs0 ∗ owns (c : Thread nD τ) arg16 fullShare xs1 ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xi6 ∗ owns (c : Thread nD τ) arg10 fullShare xi7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ owns (c : Thread nD τ) arg14 fullShare xi11 ∗ owns (c : Thread nD τ) arg15 fullShare xs0 ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LT2)) -∗ K ⟨⟩))
          ⊢ wp frame (wpE (defs₀ (F := F)) Variants.none c none) E (cc0_ffn_bwd i arg2 harg2 arg3 harg3 arg4 harg4 arg5 harg5 arg6 harg6 arg7 harg7 (Memref.whole main_v25) (Memref.isWhole_whole _) arg9 harg9 arg10 harg10 arg11 harg11 arg12 harg12 arg13 harg13 arg14 harg14 arg15 harg15 arg16 harg16 arg17 harg17) K } := by
  refine ⟨[], [], ?_, ?_, ?_, [], [], ?_, ?_, fun xi6 xi7 xi11 E K => ?run⟩
  case run =>
    simp only [cc0_ffn_bwd_eq_skeleton]; unfold cc0_ffn_bwd_skel
    simp only [k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf6; obtain rfl := harg10.eq_unread hf7; obtain rfl := harg14.eq_unread hf11; obtain rfl := harg15.eq_unread hfs0; obtain rfl := harg16.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [H10]; · iexists _; iexact H10
    isplitl [H11]
    · iexists _; isplitr; · ipureintro; exact harg14.read_unread _
      iexact H11
    isplitl [HS0]
    · iexists _; isplitr; · ipureintro; exact harg15.read_unread _
      iexact HS0
    isplitl [HS1]; · iexists _; iexact HS1
    iexists _; iexact HS2

end Cert.FfnBwdIdeal.Gen

end
-- ==== Proof.FfnRunC.lean ====
/- The feed-forward backward kernel (over the reals): one run of its body at the last hidden tile of a row block: the normalisation's gradient is finished. -/
module

public import proofs.«01_k».proof.Proof.FfnRunB

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last hidden tile of a row block: the normalisation's gradient is finished. From the inputs' buffers at `x0 … x5` (and, where it reads them, the carried buffers at `xo·`, `xs·`)
    it ends with every buffer it stores into at the pieces named by the lists, and the rest as it was. -/
noncomputable def kernelRun0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S256x1024 .bf16) (harg7 : arg7.IsWhole) (arg9 : Memref sig .tc .vmem S1x1024 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S1024x256 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .f32) (harg16 : arg16.IsWhole) (arg17 : Memref sig .tc .vmem S1024x512 .bf16) (harg17 : arg17.IsWhole) (hc0 : ¬cond0_0 i) (hc1 : ¬cond0_1 i) (hc2 : cond0_2 i)
    (x0 : Vec F S1024x1024 .f32) (x1 : Vec F S1024x1024 .f32) (x2 : Vec F S1x1024 .f32) (x3 : Vec F S1024x512 .bf16) (x4 : Vec F S512x1024 .bf16) (x5 : Vec F S256x1024 .bf16) (xo6 : Vec F S1x1024 .f32) (xo11 : Vec F S1024x1024 .bf16) (xs0 : Vec F S1024x1024 .bf16) (xs1 : Vec F S1024x1024 .f32) :
    Σ' (L6 : List (View.Piece (Elt F) S1x1024 .f32)), Σ' (L7 : List (View.Piece (Elt F) S1024x1024 .f32)), Σ' (L8 : List (View.Piece (Elt F) S1024x256 .bf16)), Σ' (L9 : List (View.Piece (Elt F) S1024x256 .bf16)), Σ' (L10 : List (View.Piece (Elt F) S1024x256 .bf16)), Σ' (L11 : List (View.Piece (Elt F) S1024x1024 .bf16)), Σ' (LS0 : List (View.Piece (Elt F) S1024x1024 .bf16)), Σ' (LS1 : List (View.Piece (Elt F) S1024x1024 .f32)), { LT2 : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xo6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo11 ∗ owns (c : Thread nD τ) arg15 fullShare xs0 ∗ owns (c : Thread nD τ) arg16 fullShare xs1 ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ owns (c : Thread nD τ) arg14 fullShare xo11 ∗ owns (c : Thread nD τ) arg15 fullShare xs0 ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LT2)) -∗ K ⟨⟩))
          ⊢ wp frame (wpE (defs₀ (F := F)) Variants.none c none) E (cc0_ffn_bwd i arg2 harg2 arg3 harg3 arg4 harg4 arg5 harg5 arg6 harg6 arg7 harg7 (Memref.whole main_v25) (Memref.isWhole_whole _) arg9 harg9 arg10 harg10 arg11 harg11 arg12 harg12 arg13 harg13 arg14 harg14 arg15 harg15 arg16 harg16 arg17 harg17) K } := by
  refine ⟨?_, ?_, ?_, ?_, ?_, [], [], ?_, ?_, fun E K => ?run⟩
  case run =>
    simp only [cc0_ffn_bwd_eq_skeleton]; unfold cc0_ffn_bwd_skel
    simp only [k0_part4_eq_skeleton, k0_part5_eq_skeleton, k0_part6_eq_skeleton, k0_part7_eq_skeleton, k0_part8_eq_skeleton, k0_part9_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf6; obtain rfl := harg14.eq_unread hf11; obtain rfl := harg15.eq_unread hfs0; obtain rfl := harg16.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]
    · iexists _; isplitr; · ipureintro; exact harg14.read_unread _
      iexact H11
    isplitl [HS0]
    · iexists _; isplitr; · ipureintro; exact harg15.read_unread _
      iexact HS0
    isplitl [HS1]; · iexists _; iexact HS1
    iexists _; iexact HS2

end Cert.FfnBwdIdeal.Gen

end
-- ==== Proof.FfnRunD.lean ====
/- The feed-forward backward kernel (over the reals): one run of its body at the first hidden tile of a later row block. -/
module

public import proofs.«01_k».proof.Proof.FfnRunC

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first hidden tile of a later row block. From the inputs' buffers at `x0 … x5` (and, where it reads them, the carried buffers at `xo·`, `xs·`)
    it ends with every buffer it stores into at the pieces named by the lists, and the rest as it was. -/
noncomputable def kernelRun0_D (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S256x1024 .bf16) (harg7 : arg7.IsWhole) (arg9 : Memref sig .tc .vmem S1x1024 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S1024x256 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .f32) (harg16 : arg16.IsWhole) (arg17 : Memref sig .tc .vmem S1024x512 .bf16) (harg17 : arg17.IsWhole) (hc0 : ¬cond0_0 i) (hc1 : cond0_1 i) (hc2 : ¬cond0_2 i)
    (x0 : Vec F S1024x1024 .f32) (x1 : Vec F S1024x1024 .f32) (x2 : Vec F S1x1024 .f32) (x3 : Vec F S1024x512 .bf16) (x4 : Vec F S512x1024 .bf16) (x5 : Vec F S256x1024 .bf16) :
    Σ' (L6 : List (View.Piece (Elt F) S1x1024 .f32)), Σ' (L7 : List (View.Piece (Elt F) S1024x1024 .f32)), Σ' (L8 : List (View.Piece (Elt F) S1024x256 .bf16)), Σ' (L9 : List (View.Piece (Elt F) S1024x256 .bf16)), Σ' (L10 : List (View.Piece (Elt F) S1024x256 .bf16)), Σ' (L11 : List (View.Piece (Elt F) S1024x1024 .bf16)), Σ' (LS0 : List (View.Piece (Elt F) S1024x1024 .bf16)), Σ' (LS1 : List (View.Piece (Elt F) S1024x1024 .f32)), { LT2 : List (View.Piece (Elt F) S1024x512 .bf16) //
      ∀ (xi6 : Vec F S1x1024 .f32) (xi7 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xi6 ∗ owns (c : Thread nD τ) arg10 fullShare xi7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xi6 ∗ owns (c : Thread nD τ) arg10 fullShare xi7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LT2)) -∗ K ⟨⟩))
          ⊢ wp frame (wpE (defs₀ (F := F)) Variants.none c none) E (cc0_ffn_bwd i arg2 harg2 arg3 harg3 arg4 harg4 arg5 harg5 arg6 harg6 arg7 harg7 (Memref.whole main_v25) (Memref.isWhole_whole _) arg9 harg9 arg10 harg10 arg11 harg11 arg12 harg12 arg13 harg13 arg14 harg14 arg15 harg15 arg16 harg16 arg17 harg17) K } := by
  refine ⟨[], [], ?_, ?_, ?_, ?_, ?_, ?_, ?_, fun xi6 xi7 E K => ?run⟩
  case run =>
    simp only [cc0_ffn_bwd_eq_skeleton]; unfold cc0_ffn_bwd_skel
    simp only [k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf6; obtain rfl := harg10.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    iexists _; iexact HS2

end Cert.FfnBwdIdeal.Gen

end
-- ==== Proof.FfnFrame.lean ====
/- The feed-forward backward kernel (over the reals): what its buffers hold point by point, the pipeline's proof data,
   and the frame. -/
module

public import proofs.«01_k».proof.Proof.FfnRunD
public import Idealize.ShloMosaic.Lib.Claim

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the six output buffers and the two carried scratch buffers hold. -/
abbrev St (F : FTy → Type) [FloatOps F] : Type :=
  Vec F S1x1024 .f32 × Vec F S1024x1024 .f32 × Vec F S1024x256 .bf16 × Vec F S1024x256 .bf16 × Vec F S1024x256 .bf16 × Vec F S1024x1024 .bf16 × Vec F S1024x1024 .bf16 × Vec F S1024x1024 .f32

/-- The body's run at a point of case A, on that point's buffers and input blocks. -/
abbrev runA (c : Dev nD) (t : Fin cfg0.N) (h0 : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
    (condsA t h0).1 (condsA t h0).2.1 (condsA t h0).2.2 (iblk m c 0 t) (iblk m c 1 t) (iblk m c 2 t) (iblk m c 3 t) (iblk m c 4 t) (iblk m c 5 t)

/-- The pieces case A stores for the gain's gradient fill its buffer. -/
theorem cover0_A_6 (c : Dev nD) (t : Fin cfg0.N) (h0 : t.val = 0) (y : S1x1024.Idx) :
    ∃ pc ∈ (runA m c t h0).1, y ∈ pc.1.set :=
  View.cover_of_tiledL (runA m c t h0).1 S1x1024.size (by sl_kernel_rfl) y

/-- What case A leaves as the gain's gradient. -/
def out0_A_6 (c : Dev nD) (t : Fin cfg0.N) (h0 : t.val = 0) : Vec F S1x1024 .f32 :=
  VO0_6.read (Elt F) (VO0_6.writes (Elt F) VO0_6.junk (runA m c t h0).1)

/-- The pieces case A stores for the gate gradient fill its buffer. -/
theorem cover0_A_8 (c : Dev nD) (t : Fin cfg0.N) (h0 : t.val = 0) (y : S1024x256.Idx) :
    ∃ pc ∈ (runA m c t h0).2.2.1, y ∈ pc.1.set :=
  View.cover_of_tiledL (runA m c t h0).2.2.1 S256x256.size (by sl_kernel_rfl) y

/-- What case A leaves as the gate gradient. -/
def out0_A_8 (c : Dev nD) (t : Fin cfg0.N) (h0 : t.val = 0) : Vec F S1024x256 .bf16 :=
  VO0_8.read (Elt F) (VO0_8.writes (Elt F) VO0_8.junk (runA m c t h0).2.2.1)

/-- The pieces case A stores for the up gradient fill its buffer. -/
theorem cover0_A_9 (c : Dev nD) (t : Fin cfg0.N) (h0 : t.val = 0) (y : S1024x256.Idx) :
    ∃ pc ∈ (runA m c t h0).2.2.2.1, y ∈ pc.1.set :=
  View.cover_of_tiledL (runA m c t h0).2.2.2.1 S256x256.size (by sl_kernel_rfl) y

/-- What case A leaves as the up gradient. -/
def out0_A_9 (c : Dev nD) (t : Fin cfg0.N) (h0 : t.val = 0) : Vec F S1024x256 .bf16 :=
  VO0_9.read (Elt F) (VO0_9.writes (Elt F) VO0_9.junk (runA m c t h0).2.2.2.1)

/-- The pieces case A stores for the hidden block fill its buffer. -/
theorem cover0_A_10 (c : Dev nD) (t : Fin cfg0.N) (h0 : t.val = 0) (y : S1024x256.Idx) :
    ∃ pc ∈ (runA m c t h0).2.2.2.2.1, y ∈ pc.1.set :=
  View.cover_of_tiledL (runA m c t h0).2.2.2.2.1 S256x256.size (by sl_kernel_rfl) y

/-- What case A leaves as the hidden block. -/
def out0_A_10 (c : Dev nD) (t : Fin cfg0.N) (h0 : t.val = 0) : Vec F S1024x256 .bf16 :=
  VO0_10.read (Elt F) (VO0_10.writes (Elt F) VO0_10.junk (runA m c t h0).2.2.2.2.1)

/-- The pieces case A stores for the halved output gradient fill its buffer. -/
theorem cover0_A_11 (c : Dev nD) (t : Fin cfg0.N) (h0 : t.val = 0) (y : S1024x1024.Idx) :
    ∃ pc ∈ (runA m c t h0).2.2.2.2.2.1, y ∈ pc.1.set :=
  View.cover_of_tiledL (runA m c t h0).2.2.2.2.2.1 S1024x1024.size (by sl_kernel_rfl) y

/-- What case A leaves as the halved output gradient. -/
def out0_A_11 (c : Dev nD) (t : Fin cfg0.N) (h0 : t.val = 0) : Vec F S1024x1024 .bf16 :=
  VO0_11.read (Elt F) (VO0_11.writes (Elt F) VO0_11.junk (runA m c t h0).2.2.2.2.2.1)

/-- The pieces case A stores for the half-gradient scratch fill its buffer. -/
theorem scover0_A_0 (c : Dev nD) (t : Fin cfg0.N) (h0 : t.val = 0) (y : S1024x1024.Idx) :
    ∃ pc ∈ (runA m c t h0).2.2.2.2.2.2.1, y ∈ pc.1.set :=
  View.cover_of_tiledL (runA m c t h0).2.2.2.2.2.2.1 S1024x1024.size (by sl_kernel_rfl) y

/-- What case A leaves as the half-gradient scratch. -/
def sout0_A_0 (c : Dev nD) (t : Fin cfg0.N) (h0 : t.val = 0) : Vec F S1024x1024 .bf16 :=
  VS0_0.read (Elt F) (VS0_0.writes (Elt F) VS0_0.junk (runA m c t h0).2.2.2.2.2.2.1)

/-- The pieces case A stores for the accumulator fill its buffer. -/
theorem scover0_A_1 (c : Dev nD) (t : Fin cfg0.N) (h0 : t.val = 0) (y : S1024x1024.Idx) :
    ∃ pc ∈ (runA m c t h0).2.2.2.2.2.2.2.1, y ∈ pc.1.set :=
  View.cover_of_wholeMem (runA m c t h0).2.2.2.2.2.2.2.1 (by sl_whole_mem) y

/-- What case A leaves as the accumulator. -/
def sout0_A_1 (c : Dev nD) (t : Fin cfg0.N) (h0 : t.val = 0) : Vec F S1024x1024 .f32 :=
  VS0_1.read (Elt F) (VS0_1.writes (Elt F) VS0_1.junk (runA m c t h0).2.2.2.2.2.2.2.1)

/-- Everything the buffers hold after a point of case A. -/
abbrev stA (c : Dev nD) (t : Fin cfg0.N) (h0 : t.val = 0) : St F :=
  (out0_A_6 m c t h0, VO0_7.read (Elt F) VO0_7.junk, out0_A_8 m c t h0, out0_A_9 m c t h0, out0_A_10 m c t h0, out0_A_11 m c t h0, sout0_A_0 m c t h0, sout0_A_1 m c t h0)

/-- The body's run at a point of case B, on that point's buffers and input blocks. -/
abbrev runB (c : Dev nD) (t : Fin cfg0.N) (h1 : ¬t.val % 11 = 0) (h2 : ¬t.val % 11 = 10) (p : St F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
    (condsB t h1 h2).1 (condsB t h1 h2).2.1 (condsB t h1 h2).2.2 (iblk m c 0 t) (iblk m c 1 t) (iblk m c 2 t) (iblk m c 3 t) (iblk m c 4 t) (iblk m c 5 t) p.2.2.2.2.2.2.1 p.2.2.2.2.2.2.2

/-- The pieces case B stores for the gate gradient fill its buffer. -/
theorem cover0_B_8 (c : Dev nD) (t : Fin cfg0.N) (h1 : ¬t.val % 11 = 0) (h2 : ¬t.val % 11 = 10) (p : St F) (y : S1024x256.Idx) :
    ∃ pc ∈ (runB m c t h1 h2 p).2.2.1, y ∈ pc.1.set :=
  View.cover_of_tiledL (runB m c t h1 h2 p).2.2.1 S256x256.size (by sl_kernel_rfl) y

/-- What case B leaves as the gate gradient. -/
def out0_B_8 (c : Dev nD) (t : Fin cfg0.N) (h1 : ¬t.val % 11 = 0) (h2 : ¬t.val % 11 = 10) (p : St F) : Vec F S1024x256 .bf16 :=
  VO0_8.read (Elt F) (VO0_8.writes (Elt F) VO0_8.junk (runB m c t h1 h2 p).2.2.1)

/-- The pieces case B stores for the up gradient fill its buffer. -/
theorem cover0_B_9 (c : Dev nD) (t : Fin cfg0.N) (h1 : ¬t.val % 11 = 0) (h2 : ¬t.val % 11 = 10) (p : St F) (y : S1024x256.Idx) :
    ∃ pc ∈ (runB m c t h1 h2 p).2.2.2.1, y ∈ pc.1.set :=
  View.cover_of_tiledL (runB m c t h1 h2 p).2.2.2.1 S256x256.size (by sl_kernel_rfl) y

/-- What case B leaves as the up gradient. -/
def out0_B_9 (c : Dev nD) (t : Fin cfg0.N) (h1 : ¬t.val % 11 = 0) (h2 : ¬t.val % 11 = 10) (p : St F) : Vec F S1024x256 .bf16 :=
  VO0_9.read (Elt F) (VO0_9.writes (Elt F) VO0_9.junk (runB m c t h1 h2 p).2.2.2.1)

/-- The pieces case B stores for the hidden block fill its buffer. -/
theorem cover0_B_10 (c : Dev nD) (t : Fin cfg0.N) (h1 : ¬t.val % 11 = 0) (h2 : ¬t.val % 11 = 10) (p : St F) (y : S1024x256.Idx) :
    ∃ pc ∈ (runB m c t h1 h2 p).2.2.2.2.1, y ∈ pc.1.set :=
  View.cover_of_tiledL (runB m c t h1 h2 p).2.2.2.2.1 S256x256.size (by sl_kernel_rfl) y

/-- What case B leaves as the hidden block. -/
def out0_B_10 (c : Dev nD) (t : Fin cfg0.N) (h1 : ¬t.val % 11 = 0) (h2 : ¬t.val % 11 = 10) (p : St F) : Vec F S1024x256 .bf16 :=
  VO0_10.read (Elt F) (VO0_10.writes (Elt F) VO0_10.junk (runB m c t h1 h2 p).2.2.2.2.1)

/-- The pieces case B stores for the accumulator fill its buffer. -/
theorem scover0_B_1 (c : Dev nD) (t : Fin cfg0.N) (h1 : ¬t.val % 11 = 0) (h2 : ¬t.val % 11 = 10) (p : St F) (y : S1024x1024.Idx) :
    ∃ pc ∈ (runB m c t h1 h2 p).2.2.2.2.2.2.2.1, y ∈ pc.1.set :=
  View.cover_of_tiledL (runB m c t h1 h2 p).2.2.2.2.2.2.2.1 S256x1024.size (by sl_kernel_rfl) y

/-- What case B leaves as the accumulator. -/
def sout0_B_1 (c : Dev nD) (t : Fin cfg0.N) (h1 : ¬t.val % 11 = 0) (h2 : ¬t.val % 11 = 10) (p : St F) : Vec F S1024x1024 .f32 :=
  VS0_1.read (Elt F) (VS0_1.writes (Elt F) VS0_1.junk (runB m c t h1 h2 p).2.2.2.2.2.2.2.1)

/-- Everything the buffers hold after a point of case B, over what they held before. -/
abbrev stB (c : Dev nD) (t : Fin cfg0.N) (h1 : ¬t.val % 11 = 0) (h2 : ¬t.val % 11 = 10) (p : St F) : St F :=
  (p.1, VO0_7.read (Elt F) VO0_7.junk, out0_B_8 m c t h1 h2 p, out0_B_9 m c t h1 h2 p, out0_B_10 m c t h1 h2 p, p.2.2.2.2.2.1, p.2.2.2.2.2.2.1, sout0_B_1 m c t h1 h2 p)

/-- The body's run at a point of case C, on that point's buffers and input blocks. -/
abbrev runC (c : Dev nD) (t : Fin cfg0.N) (h2 : t.val % 11 = 10) (p : St F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
    (condsC t h2).1 (condsC t h2).2.1 (condsC t h2).2.2 (iblk m c 0 t) (iblk m c 1 t) (iblk m c 2 t) (iblk m c 3 t) (iblk m c 4 t) (iblk m c 5 t) p.1 p.2.2.2.2.2.1 p.2.2.2.2.2.2.1 p.2.2.2.2.2.2.2

/-- The pieces case C stores for the gain's gradient fill its buffer. -/
theorem cover0_C_6 (c : Dev nD) (t : Fin cfg0.N) (h2 : t.val % 11 = 10) (p : St F) (y : S1x1024.Idx) :
    ∃ pc ∈ (runC m c t h2 p).1, y ∈ pc.1.set :=
  View.cover_of_tiledL (runC m c t h2 p).1 S1x1024.size (by sl_kernel_rfl) y

/-- What case C leaves as the gain's gradient. -/
def out0_C_6 (c : Dev nD) (t : Fin cfg0.N) (h2 : t.val % 11 = 10) (p : St F) : Vec F S1x1024 .f32 :=
  VO0_6.read (Elt F) (VO0_6.writes (Elt F) VO0_6.junk (runC m c t h2 p).1)

/-- The pieces case C stores for the input's gradient fill its buffer. -/
theorem cover0_C_7 (c : Dev nD) (t : Fin cfg0.N) (h2 : t.val % 11 = 10) (p : St F) (y : S1024x1024.Idx) :
    ∃ pc ∈ (runC m c t h2 p).2.1, y ∈ pc.1.set :=
  View.cover_of_tiledL (runC m c t h2 p).2.1 S256x1024.size (by sl_kernel_rfl) y

/-- What case C leaves as the input's gradient. -/
def out0_C_7 (c : Dev nD) (t : Fin cfg0.N) (h2 : t.val % 11 = 10) (p : St F) : Vec F S1024x1024 .f32 :=
  VO0_7.read (Elt F) (VO0_7.writes (Elt F) VO0_7.junk (runC m c t h2 p).2.1)

/-- The pieces case C stores for the gate gradient fill its buffer. -/
theorem cover0_C_8 (c : Dev nD) (t : Fin cfg0.N) (h2 : t.val % 11 = 10) (p : St F) (y : S1024x256.Idx) :
    ∃ pc ∈ (runC m c t h2 p).2.2.1, y ∈ pc.1.set :=
  View.cover_of_tiledL (runC m c t h2 p).2.2.1 S256x256.size (by sl_kernel_rfl) y

/-- What case C leaves as the gate gradient. -/
def out0_C_8 (c : Dev nD) (t : Fin cfg0.N) (h2 : t.val % 11 = 10) (p : St F) : Vec F S1024x256 .bf16 :=
  VO0_8.read (Elt F) (VO0_8.writes (Elt F) VO0_8.junk (runC m c t h2 p).2.2.1)

/-- The pieces case C stores for the up gradient fill its buffer. -/
theorem cover0_C_9 (c : Dev nD) (t : Fin cfg0.N) (h2 : t.val % 11 = 10) (p : St F) (y : S1024x256.Idx) :
    ∃ pc ∈ (runC m c t h2 p).2.2.2.1, y ∈ pc.1.set :=
  View.cover_of_tiledL (runC m c t h2 p).2.2.2.1 S256x256.size (by sl_kernel_rfl) y

/-- What case C leaves as the up gradient. -/
def out0_C_9 (c : Dev nD) (t : Fin cfg0.N) (h2 : t.val % 11 = 10) (p : St F) : Vec F S1024x256 .bf16 :=
  VO0_9.read (Elt F) (VO0_9.writes (Elt F) VO0_9.junk (runC m c t h2 p).2.2.2.1)

/-- The pieces case C stores for the hidden block fill its buffer. -/
theorem cover0_C_10 (c : Dev nD) (t : Fin cfg0.N) (h2 : t.val % 11 = 10) (p : St F) (y : S1024x256.Idx) :
    ∃ pc ∈ (runC m c t h2 p).2.2.2.2.1, y ∈ pc.1.set :=
  View.cover_of_tiledL (runC m c t h2 p).2.2.2.2.1 S256x256.size (by sl_kernel_rfl) y

/-- What case C leaves as the hidden block. -/
def out0_C_10 (c : Dev nD) (t : Fin cfg0.N) (h2 : t.val % 11 = 10) (p : St F) : Vec F S1024x256 .bf16 :=
  VO0_10.read (Elt F) (VO0_10.writes (Elt F) VO0_10.junk (runC m c t h2 p).2.2.2.2.1)

/-- The pieces case C stores for the accumulator fill its buffer. -/
theorem scover0_C_1 (c : Dev nD) (t : Fin cfg0.N) (h2 : t.val % 11 = 10) (p : St F) (y : S1024x1024.Idx) :
    ∃ pc ∈ (runC m c t h2 p).2.2.2.2.2.2.2.1, y ∈ pc.1.set :=
  View.cover_of_tiledL (runC m c t h2 p).2.2.2.2.2.2.2.1 S256x1024.size (by sl_kernel_rfl) y

/-- What case C leaves as the accumulator. -/
def sout0_C_1 (c : Dev nD) (t : Fin cfg0.N) (h2 : t.val % 11 = 10) (p : St F) : Vec F S1024x1024 .f32 :=
  VS0_1.read (Elt F) (VS0_1.writes (Elt F) VS0_1.junk (runC m c t h2 p).2.2.2.2.2.2.2.1)

/-- Everything the buffers hold after a point of case C, over what they held before. -/
abbrev stC (c : Dev nD) (t : Fin cfg0.N) (h2 : t.val % 11 = 10) (p : St F) : St F :=
  (out0_C_6 m c t h2 p, out0_C_7 m c t h2 p, out0_C_8 m c t h2 p, out0_C_9 m c t h2 p, out0_C_10 m c t h2 p, p.2.2.2.2.2.1, p.2.2.2.2.2.2.1, sout0_C_1 m c t h2 p)

/-- The body's run at a point of case D, on that point's buffers and input blocks. -/
abbrev runD (c : Dev nD) (t : Fin cfg0.N) (h0 : ¬t.val = 0) (h1 : t.val % 11 = 0) :=
  kernelRun0_D (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
    (condsD t h0 h1).1 (condsD t h0 h1).2.1 (condsD t h0 h1).2.2 (iblk m c 0 t) (iblk m c 1 t) (iblk m c 2 t) (iblk m c 3 t) (iblk m c 4 t) (iblk m c 5 t)

/-- The pieces case D stores for the gate gradient fill its buffer. -/
theorem cover0_D_8 (c : Dev nD) (t : Fin cfg0.N) (h0 : ¬t.val = 0) (h1 : t.val % 11 = 0) (y : S1024x256.Idx) :
    ∃ pc ∈ (runD m c t h0 h1).2.2.1, y ∈ pc.1.set :=
  View.cover_of_tiledL (runD m c t h0 h1).2.2.1 S256x256.size (by sl_kernel_rfl) y

/-- What case D leaves as the gate gradient. -/
def out0_D_8 (c : Dev nD) (t : Fin cfg0.N) (h0 : ¬t.val = 0) (h1 : t.val % 11 = 0) : Vec F S1024x256 .bf16 :=
  VO0_8.read (Elt F) (VO0_8.writes (Elt F) VO0_8.junk (runD m c t h0 h1).2.2.1)

/-- The pieces case D stores for the up gradient fill its buffer. -/
theorem cover0_D_9 (c : Dev nD) (t : Fin cfg0.N) (h0 : ¬t.val = 0) (h1 : t.val % 11 = 0) (y : S1024x256.Idx) :
    ∃ pc ∈ (runD m c t h0 h1).2.2.2.1, y ∈ pc.1.set :=
  View.cover_of_tiledL (runD m c t h0 h1).2.2.2.1 S256x256.size (by sl_kernel_rfl) y

/-- What case D leaves as the up gradient. -/
def out0_D_9 (c : Dev nD) (t : Fin cfg0.N) (h0 : ¬t.val = 0) (h1 : t.val % 11 = 0) : Vec F S1024x256 .bf16 :=
  VO0_9.read (Elt F) (VO0_9.writes (Elt F) VO0_9.junk (runD m c t h0 h1).2.2.2.1)

/-- The pieces case D stores for the hidden block fill its buffer. -/
theorem cover0_D_10 (c : Dev nD) (t : Fin cfg0.N) (h0 : ¬t.val = 0) (h1 : t.val % 11 = 0) (y : S1024x256.Idx) :
    ∃ pc ∈ (runD m c t h0 h1).2.2.2.2.1, y ∈ pc.1.set :=
  View.cover_of_tiledL (runD m c t h0 h1).2.2.2.2.1 S256x256.size (by sl_kernel_rfl) y

/-- What case D leaves as the hidden block. -/
def out0_D_10 (c : Dev nD) (t : Fin cfg0.N) (h0 : ¬t.val = 0) (h1 : t.val % 11 = 0) : Vec F S1024x256 .bf16 :=
  VO0_10.read (Elt F) (VO0_10.writes (Elt F) VO0_10.junk (runD m c t h0 h1).2.2.2.2.1)

/-- The pieces case D stores for the halved output gradient fill its buffer. -/
theorem cover0_D_11 (c : Dev nD) (t : Fin cfg0.N) (h0 : ¬t.val = 0) (h1 : t.val % 11 = 0) (y : S1024x1024.Idx) :
    ∃ pc ∈ (runD m c t h0 h1).2.2.2.2.2.1, y ∈ pc.1.set :=
  View.cover_of_tiledL (runD m c t h0 h1).2.2.2.2.2.1 S1024x1024.size (by sl_kernel_rfl) y

/-- What case D leaves as the halved output gradient. -/
def out0_D_11 (c : Dev nD) (t : Fin cfg0.N) (h0 : ¬t.val = 0) (h1 : t.val % 11 = 0) : Vec F S1024x1024 .bf16 :=
  VO0_11.read (Elt F) (VO0_11.writes (Elt F) VO0_11.junk (runD m c t h0 h1).2.2.2.2.2.1)

/-- The pieces case D stores for the half-gradient scratch fill its buffer. -/
theorem scover0_D_0 (c : Dev nD) (t : Fin cfg0.N) (h0 : ¬t.val = 0) (h1 : t.val % 11 = 0) (y : S1024x1024.Idx) :
    ∃ pc ∈ (runD m c t h0 h1).2.2.2.2.2.2.1, y ∈ pc.1.set :=
  View.cover_of_tiledL (runD m c t h0 h1).2.2.2.2.2.2.1 S1024x1024.size (by sl_kernel_rfl) y

/-- What case D leaves as the half-gradient scratch. -/
def sout0_D_0 (c : Dev nD) (t : Fin cfg0.N) (h0 : ¬t.val = 0) (h1 : t.val % 11 = 0) : Vec F S1024x1024 .bf16 :=
  VS0_0.read (Elt F) (VS0_0.writes (Elt F) VS0_0.junk (runD m c t h0 h1).2.2.2.2.2.2.1)

/-- The pieces case D stores for the accumulator fill its buffer. -/
theorem scover0_D_1 (c : Dev nD) (t : Fin cfg0.N) (h0 : ¬t.val = 0) (h1 : t.val % 11 = 0) (y : S1024x1024.Idx) :
    ∃ pc ∈ (runD m c t h0 h1).2.2.2.2.2.2.2.1, y ∈ pc.1.set :=
  View.cover_of_wholeMem (runD m c t h0 h1).2.2.2.2.2.2.2.1 (by sl_whole_mem) y

/-- What case D leaves as the accumulator. -/
def sout0_D_1 (c : Dev nD) (t : Fin cfg0.N) (h0 : ¬t.val = 0) (h1 : t.val % 11 = 0) : Vec F S1024x1024 .f32 :=
  VS0_1.read (Elt F) (VS0_1.writes (Elt F) VS0_1.junk (runD m c t h0 h1).2.2.2.2.2.2.2.1)

/-- Everything the buffers hold after a point of case D, over what they held before. -/
abbrev stD (c : Dev nD) (t : Fin cfg0.N) (h0 : ¬t.val = 0) (h1 : t.val % 11 = 0) (p : St F) : St F :=
  (p.1, VO0_7.read (Elt F) VO0_7.junk, out0_D_8 m c t h0 h1, out0_D_9 m c t h0 h1, out0_D_10 m c t h0 h1, out0_D_11 m c t h0 h1, sout0_D_0 m c t h0 h1, sout0_D_1 m c t h0 h1)

/-- What the buffers hold after each point: case A at point 0; later the case the position selects, over what the point
    before left. -/
def outsAt0 (c : Dev nD) : (n : ℕ) → n < cfg0.N → St F
  | 0, hn => stA m c ⟨0, hn⟩ rfl
  | n + 1, hn =>
    if h1 : (n + 1) % 11 = 0 then stD m c ⟨n + 1, hn⟩ (Nat.succ_ne_zero n) h1 (outsAt0 c n (Nat.lt_of_succ_lt hn))
    else if h2 : (n + 1) % 11 = 10 then stC m c ⟨n + 1, hn⟩ h2 (outsAt0 c n (Nat.lt_of_succ_lt hn))
    else stB m c ⟨n + 1, hn⟩ h1 h2 (outsAt0 c n (Nat.lt_of_succ_lt hn))

/-- What the buffers held before a point that is not the first. -/
abbrev prev (c : Dev nD) (t : Fin cfg0.N) : St F := outsAt0 m c (t.val - 1) (Nat.lt_of_le_of_lt (Nat.sub_le _ _) t.isLt)

/-- After point 0. -/
theorem outsAt0_A (c : Dev nD) (t : Fin cfg0.N) (h0 : t.val = 0) : outsAt0 m c t.val t.isLt = stA m c t h0 := by
  obtain ⟨n, hn⟩ := t
  cases n with
  | zero => rfl
  | succ n => exact absurd h0 (Nat.succ_ne_zero n)

/-- After a middle tile. -/
theorem outsAt0_B (c : Dev nD) (t : Fin cfg0.N) (h1 : ¬t.val % 11 = 0) (h2 : ¬t.val % 11 = 10) :
    outsAt0 m c t.val t.isLt = stB m c t h1 h2 (prev m c t) := by
  obtain ⟨n, hn⟩ := t
  cases n with
  | zero => exact absurd (Nat.zero_mod _) h1
  | succ n => exact (dif_neg h1).trans ((dif_neg h2).trans rfl)

/-- After the last tile of a row block. -/
theorem outsAt0_C (c : Dev nD) (t : Fin cfg0.N) (h2 : t.val % 11 = 10) :
    outsAt0 m c t.val t.isLt = stC m c t h2 (prev m c t) := by
  obtain ⟨n, hn⟩ := t
  cases n with
  | zero => exact absurd ((Nat.zero_mod 11).symm.trans h2) (by decide)
  | succ n => exact (dif_neg (by have : (n + 1) % 11 = 10 := h2; omega)).trans ((dif_pos h2).trans rfl)

/-- After the first tile of a later row block. -/
theorem outsAt0_D (c : Dev nD) (t : Fin cfg0.N) (h0 : ¬t.val = 0) (h1 : t.val % 11 = 0) :
    outsAt0 m c t.val t.isLt = stD m c t h0 h1 (prev m c t) := by
  obtain ⟨n, hn⟩ := t
  cases n with
  | zero => exact absurd rfl h0
  | succ n => exact (dif_pos h1).trans rfl

/-- What is held before position `n`: at the start the scratch buffers at anything, later the two carried ones at what the
    point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2) ∗ (∃ d, owns (c : Thread nD τ) scM0_2 fullShare d)) ∗ (∃ r, prngReg c r))

/-- Before the first point. -/
theorem PhiS_zero (c : Dev nD) (n : ℕ) (h : n ≤ cfg0.N) (hz : n = 0) : PhiS m c n h = Pipeline.ΦA spec0 c := by
  subst hz; rfl

/-- Just after a point. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2) ∗ (∃ d, owns (c : Thread nD τ) scM0_2 fullShare d)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2) ∗ (∃ d, owns (c : Thread nD τ) scM0_2 fullShare d)) ∗ (∃ r, prngReg c r)) := by
  cases n with
  | zero => exact absurd rfl hz
  | succ n => rfl

/-- The proof data of the pipeline: each input's buffer at its block, the outputs' at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
    | ⟨10, _⟩ => (outsAt0 m c t.val t.isLt).2.2.2.2.1
    | ⟨11, _⟩ => (outsAt0 m c t.val t.isLt).2.2.2.2.2.1
  Φ t := PhiS m c t.val (Nat.le_of_lt_succ t.isLt)
  q _ := fullShare
  owed _ := 0

/-- The arrays are those the launch finds. -/
theorem A_eq (c : Dev nD) (w : Fin cfg0.W) : (dats m 0 c).A w = V m c (Pipeline.arrRef spec0 w) := by
  dsimp only [dats]

/-- What is held at the start of a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Window 0 after a point. -/
theorem after0_0 (c : Dev nD) (t : Fin cfg0.N) : (dats m 0 c).after 0 t = iblk m c 0 t := by dsimp only [dats]
/-- Window 1 after a point. -/
theorem after0_1 (c : Dev nD) (t : Fin cfg0.N) : (dats m 0 c).after 1 t = iblk m c 1 t := by dsimp only [dats]
/-- Window 2 after a point. -/
theorem after0_2 (c : Dev nD) (t : Fin cfg0.N) : (dats m 0 c).after 2 t = iblk m c 2 t := by dsimp only [dats]
/-- Window 3 after a point. -/
theorem after0_3 (c : Dev nD) (t : Fin cfg0.N) : (dats m 0 c).after 3 t = iblk m c 3 t := by dsimp only [dats]
/-- Window 4 after a point. -/
theorem after0_4 (c : Dev nD) (t : Fin cfg0.N) : (dats m 0 c).after 4 t = iblk m c 4 t := by dsimp only [dats]
/-- Window 5 after a point. -/
theorem after0_5 (c : Dev nD) (t : Fin cfg0.N) : (dats m 0 c).after 5 t = iblk m c 5 t := by dsimp only [dats]
/-- Window 6 after a point. -/
theorem after0_6 (c : Dev nD) (t : Fin cfg0.N) : (dats m 0 c).after 6 t = (outsAt0 m c t.val t.isLt).1 := by dsimp only [dats]
/-- Window 7 after a point. -/
theorem after0_7 (c : Dev nD) (t : Fin cfg0.N) : (dats m 0 c).after 7 t = (outsAt0 m c t.val t.isLt).2.1 := by dsimp only [dats]
/-- Window 8 after a point. -/
theorem after0_8 (c : Dev nD) (t : Fin cfg0.N) : (dats m 0 c).after 8 t = (outsAt0 m c t.val t.isLt).2.2.1 := by dsimp only [dats]
/-- Window 9 after a point. -/
theorem after0_9 (c : Dev nD) (t : Fin cfg0.N) : (dats m 0 c).after 9 t = (outsAt0 m c t.val t.isLt).2.2.2.1 := by dsimp only [dats]
/-- Window 10 after a point. -/
theorem after0_10 (c : Dev nD) (t : Fin cfg0.N) : (dats m 0 c).after 10 t = (outsAt0 m c t.val t.isLt).2.2.2.2.1 := by dsimp only [dats]
/-- Window 11 after a point. -/
theorem after0_11 (c : Dev nD) (t : Fin cfg0.N) : (dats m 0 c).after 11 t = (outsAt0 m c t.val t.isLt).2.2.2.2.2.1 := by dsimp only [dats]

/-- Input window 0 before a point: its block. -/
theorem before0_0 (c : Dev nD) (t : Fin cfg0.N) (d) : (dats m 0 c).before 0 t d = iblk m c 0 t :=
  before0_0_of m (dats m 0 c) (A_eq m c 0) (after0_0 m c) t d
/-- Input window 1 before a point: its block. -/
theorem before0_1 (c : Dev nD) (t : Fin cfg0.N) (d) : (dats m 0 c).before 1 t d = iblk m c 1 t :=
  before0_1_of m (dats m 0 c) (A_eq m c 1) (after0_1 m c) t d
/-- Input window 2 before a point: its block. -/
theorem before0_2 (c : Dev nD) (t : Fin cfg0.N) (d) : (dats m 0 c).before 2 t d = iblk m c 2 t :=
  before0_2_of m (dats m 0 c) (A_eq m c 2) (after0_2 m c) t d
/-- Input window 3 before a point: its block. -/
theorem before0_3 (c : Dev nD) (t : Fin cfg0.N) (d) : (dats m 0 c).before 3 t d = iblk m c 3 t :=
  before0_3_of m (dats m 0 c) (A_eq m c 3) (after0_3 m c) t d
/-- Input window 4 before a point: its block. -/
theorem before0_4 (c : Dev nD) (t : Fin cfg0.N) (d) : (dats m 0 c).before 4 t d = iblk m c 4 t :=
  before0_4_of m (dats m 0 c) (A_eq m c 4) (after0_4 m c) t d
/-- Input window 5 before a point: its block. -/
theorem before0_5 (c : Dev nD) (t : Fin cfg0.N) (d) : (dats m 0 c).before 5 t d = iblk m c 5 t :=
  before0_5_of m (dats m 0 c) (A_eq m c 5) (after0_5 m c) t d

/-- Where window 6 is idle it keeps what the point before left. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t h0 hi _
  rw [after0_6, after0_6]
  by_cases h1 : t.val % 11 = 0
  · rw [outsAt0_D m c t h0 h1]
  · by_cases h2 : t.val % 11 = 10
    · rw [liveAt0_6_C t (condsC t h2).1 (condsC t h2).2.1 (condsC t h2).2.2] at hi; exact absurd hi Bool.false_ne_true
    · rw [outsAt0_B m c t h1 h2]

/-- Where window 11 is idle it keeps what the point before left. -/
theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t h0 hi _
  rw [after0_11, after0_11]
  by_cases h1 : t.val % 11 = 0
  · rw [liveAt0_11_D t (condsD t h0 h1).1 (condsD t h0 h1).2.1 (condsD t h0 h1).2.2] at hi; exact absurd hi Bool.false_ne_true
  · by_cases h2 : t.val % 11 = 10
    · rw [outsAt0_C m c t h2]
    · rw [outsAt0_B m c t h1 h2]

/-- At the last tile of a row block window 6 holds what the point before left. -/
theorem before0_6_C (c : Dev nD) (t : Fin cfg0.N) (h2 : t.val % 11 = 10) (d) :
    (dats m 0 c).before 6 t d = (prev m c t).1 := by
  rw [Dat.before_out_traj _ 6 rfl (fun _ _ => rfl) (hcarry0_6 m c) t.val t rfl d,
    if_neg (by rw [notFresh0_6_C t (condsC t h2).1 (condsC t h2).2.1 (condsC t h2).2.2]; exact Bool.false_ne_true)]
  dsimp only [dats]

/-- At the last tile of a row block window 11 holds what the point before left. -/
theorem before0_11_C (c : Dev nD) (t : Fin cfg0.N) (h2 : t.val % 11 = 10) (d) :
    (dats m 0 c).before 11 t d = (prev m c t).2.2.2.2.2.1 := by
  rw [Dat.before_out_traj _ 11 rfl (fun _ _ => rfl) (hcarry0_11 m c) t.val t rfl d,
    if_neg (by rw [notFresh0_11_C t (condsC t h2).1 (condsC t h2).2.1 (condsC t h2).2.2]; exact Bool.false_ne_true)]
  dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- A live window leaves its buffer at its contents after the point. -/
theorem leaves_live (c : Dev nD) (t : Fin cfg0.N) (w : Fin cfg0.W) (h : cfg0.idle w (grid0.coords t) = false) :
    (dats m 0 c).leavesExact w t
      = owns (c : Thread nD τ) ((cfg0.win w).stage (cfg0.slots t w)) fullShare ((dats m 0 c).after w t) := by
  unfold Dat.leavesExact
  rw [h]

set_option maxHeartbeats 4800000 in
/-- The body at a point of case A does what the pipeline asks of it. -/
theorem sound_A (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves_live m c t 0 (liveAt0_0 t), after0_0]
  rw [leaves_live m c t 1 (liveAt0_1 t), after0_1]
  rw [leaves_live m c t 2 (liveAt0_2 t), after0_2]
  rw [leaves_live m c t 3 (liveAt0_3 t), after0_3]
  rw [leaves_live m c t 4 (liveAt0_4 t), after0_4]
  rw [leaves_live m c t 5 (liveAt0_5 t), after0_5]
  rw [leaves_live m c t 8 (liveAt0_8 t), after0_8]
  rw [leaves_live m c t 9 (liveAt0_9 t), after0_9]
  rw [leaves_live m c t 10 (liveAt0_10 t), after0_10]
  rw [leaves_live m c t 6 (liveAt0_6_A t (condsA t h0).1 (condsA t h0).2.1 (condsA t h0).2.2), after0_6]
  rw [Dat.leavesExact_idle (dats m 0 c) 7 t (idleAt0_7_A t (condsA t h0).1 (condsA t h0).2.1 (condsA t h0).2.2) (noFlush0_7_A t (condsA t h0).1 (condsA t h0).2.1 (condsA t h0).2.2)]
  rw [leaves_live m c t 11 (liveAt0_11_A t (condsA t h0).1 (condsA t h0).2.1 (condsA t h0).2.2), after0_11]
  rw [PhiS_castSucc m c t, PhiS_zero m c _ _ h0, PhiA0_eq]
  rw [outsAt0_A m c t h0]
  try dsimp only
  unfold out0_A_6 out0_A_8 out0_A_9 out0_A_10 out0_A_11 sout0_A_0 sout0_A_1
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runA m c t h0).2.2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  iintro ⟨H0, H1, H2, H3, H4, H5, ⟨%e6, H6⟩, H7, ⟨%e8, H8⟩, ⟨%e9, H9⟩, ⟨%e10, H10⟩, ⟨%e11, H11⟩, ⟨%es0, HS0⟩, ⟨%es1, HS1⟩, ⟨%fT2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scover0_A_0 m c t h0)
      isplitl [HS1]
      · unfold owns; iexists _; isplitr
        swap; · iexact HS1
        ipureintro; exact View.read_writes_of_cover _ _ _ _ _ (scover0_A_1 m c t h0)
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 m c t h0)
  isplitl [H7]; · iexists _; iexact H7
  isplitl [H8]
  · unfold owns; iexists _; isplitr
    swap; · iexact H8
    ipureintro; exact View.read_writes_of_cover _ _ _ _ _ (cover0_A_8 m c t h0)
  isplitl [H9]
  · unfold owns; iexists _; isplitr
    swap; · iexact H9
    ipureintro; exact View.read_writes_of_cover _ _ _ _ _ (cover0_A_9 m c t h0)
  isplitl [H10]
  · unfold owns; iexists _; isplitr
    swap; · iexact H10
    ipureintro; exact View.read_writes_of_cover _ _ _ _ _ (cover0_A_10 m c t h0)
  unfold owns; iexists _; isplitr
  swap; · iexact H11
  ipureintro; exact View.read_writes_of_cover _ _ _ _ _ (cover0_A_11 m c t h0)

set_option maxHeartbeats 4800000 in
/-- The body at a point of case B does what the pipeline asks of it. -/
theorem sound_B (c : Dev nD) (t : Fin cfg0.N) (h1 : ¬t.val % 11 = 0) (h2 : ¬t.val % 11 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves_live m c t 0 (liveAt0_0 t), after0_0]
  rw [leaves_live m c t 1 (liveAt0_1 t), after0_1]
  rw [leaves_live m c t 2 (liveAt0_2 t), after0_2]
  rw [leaves_live m c t 3 (liveAt0_3 t), after0_3]
  rw [leaves_live m c t 4 (liveAt0_4 t), after0_4]
  rw [leaves_live m c t 5 (liveAt0_5 t), after0_5]
  rw [leaves_live m c t 8 (liveAt0_8 t), after0_8]
  rw [leaves_live m c t 9 (liveAt0_9 t), after0_9]
  rw [leaves_live m c t 10 (liveAt0_10 t), after0_10]
  rw [Dat.leavesExact_idle (dats m 0 c) 6 t (idleAt0_6_B t (condsB t h1 h2).1 (condsB t h1 h2).2.1 (condsB t h1 h2).2.2) (noFlush0_6_B t (condsB t h1 h2).1 (condsB t h1 h2).2.1 (condsB t h1 h2).2.2)]
  rw [Dat.leavesExact_idle (dats m 0 c) 7 t (idleAt0_7_B t (condsB t h1 h2).1 (condsB t h1 h2).2.1 (condsB t h1 h2).2.2) (noFlush0_7_B t (condsB t h1 h2).1 (condsB t h1 h2).2.1 (condsB t h1 h2).2.2)]
  rw [Dat.leavesExact_idle (dats m 0 c) 11 t (idleAt0_11_B t (condsB t h1 h2).1 (condsB t h1 h2).2.1 (condsB t h1 h2).2.2) (noFlush0_11_B t (condsB t h1 h2).1 (condsB t h1 h2).2.1 (condsB t h1 h2).2.2)]
  rw [PhiS_castSucc m c t, PhiS_pos m c _ _ (by omega)]
  rw [outsAt0_B m c t h1 h2]
  try dsimp only
  unfold out0_B_8 out0_B_9 out0_B_10 sout0_B_1
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runB m c t h1 h2 (prev m c t)).2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [HS0]; · iexact HS0
  isplitl [HS1]; · iexact HS1
  isplitl [HS2]; · iexact HS2
  iintro ⟨H0, H1, H2, H3, H4, H5, H6, H7, ⟨%e8, H8⟩, ⟨%e9, H9⟩, ⟨%e10, H10⟩, H11, HS0, ⟨%es1, HS1⟩, ⟨%fT2, HS2⟩⟩
  isplitl [HS0 HS1 HS2 Hg]
  · isplitl [HS0 HS1 HS2]
    · isplitl [HS0]
      · iexact HS0
      isplitl [HS1]
      · unfold owns; iexists _; isplitr
        swap; · iexact HS1
        ipureintro; exact View.read_writes_of_cover _ _ _ _ _ (scover0_B_1 m c t h1 h2 (prev m c t))
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]
  · unfold owns; iexists _; isplitr
    swap; · iexact H8
    ipureintro; exact View.read_writes_of_cover _ _ _ _ _ (cover0_B_8 m c t h1 h2 (prev m c t))
  isplitl [H9]
  · unfold owns; iexists _; isplitr
    swap; · iexact H9
    ipureintro; exact View.read_writes_of_cover _ _ _ _ _ (cover0_B_9 m c t h1 h2 (prev m c t))
  isplitl [H10]
  · unfold owns; iexists _; isplitr
    swap; · iexact H10
    ipureintro; exact View.read_writes_of_cover _ _ _ _ _ (cover0_B_10 m c t h1 h2 (prev m c t))
  iexists _; iexact H11

set_option maxHeartbeats 4800000 in
/-- The body at a point of case C does what the pipeline asks of it. -/
theorem sound_C (c : Dev nD) (t : Fin cfg0.N) (h2 : t.val % 11 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves_live m c t 0 (liveAt0_0 t), after0_0]
  rw [leaves_live m c t 1 (liveAt0_1 t), after0_1]
  rw [leaves_live m c t 2 (liveAt0_2 t), after0_2]
  rw [leaves_live m c t 3 (liveAt0_3 t), after0_3]
  rw [leaves_live m c t 4 (liveAt0_4 t), after0_4]
  rw [leaves_live m c t 5 (liveAt0_5 t), after0_5]
  rw [leaves_live m c t 8 (liveAt0_8 t), after0_8]
  rw [leaves_live m c t 9 (liveAt0_9 t), after0_9]
  rw [leaves_live m c t 10 (liveAt0_10 t), after0_10]
  rw [leaves_live m c t 6 (liveAt0_6_C t (condsC t h2).1 (condsC t h2).2.1 (condsC t h2).2.2), after0_6]
  rw [leaves_live m c t 7 (liveAt0_7_C t (condsC t h2).1 (condsC t h2).2.1 (condsC t h2).2.2), after0_7]
  rw [show (dats m 0 c).leavesExact 11 t = owns (c : Thread nD τ) (ms0_11 t) fullShare ((dats m 0 c).after 11 t) from by
    unfold Dat.leavesExact; rw [idleAt0_11_C t (condsC t h2).1 (condsC t h2).2.1 (condsC t h2).2.2, flushAt0_11_C t (condsC t h2).1 (condsC t h2).2.1 (condsC t h2).2.2], after0_11]
  rw [PhiS_castSucc m c t, PhiS_pos m c _ _ (by omega)]
  rw [outsAt0_C m c t h2]
  simp only [before0_6_C m c t h2, before0_11_C m c t h2]
  try dsimp only
  unfold out0_C_6 out0_C_7 out0_C_8 out0_C_9 out0_C_10 sout0_C_1
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runC m c t h2 (prev m c t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexact H11
  isplitl [HS0]; · iexact HS0
  isplitl [HS1]; · iexact HS1
  isplitl [HS2]; · iexact HS2
  iintro ⟨H0, H1, H2, H3, H4, H5, ⟨%e6, H6⟩, ⟨%e7, H7⟩, ⟨%e8, H8⟩, ⟨%e9, H9⟩, ⟨%e10, H10⟩, H11, HS0, ⟨%es1, HS1⟩, ⟨%fT2, HS2⟩⟩
  isplitl [HS0 HS1 HS2 Hg]
  · isplitl [HS0 HS1 HS2]
    · isplitl [HS0]
      · iexact HS0
      isplitl [HS1]
      · unfold owns; iexists _; isplitr
        swap; · iexact HS1
        ipureintro; exact View.read_writes_of_cover _ _ _ _ _ (scover0_C_1 m c t h2 (prev m c t))
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_C_6 m c t h2 (prev m c t))
  isplitl [H7]
  · unfold owns; iexists _; isplitr
    swap; · iexact H7
    ipureintro; exact View.read_writes_of_cover _ _ _ _ _ (cover0_C_7 m c t h2 (prev m c t))
  isplitl [H8]
  · unfold owns; iexists _; isplitr
    swap; · iexact H8
    ipureintro; exact View.read_writes_of_cover _ _ _ _ _ (cover0_C_8 m c t h2 (prev m c t))
  isplitl [H9]
  · unfold owns; iexists _; isplitr
    swap; · iexact H9
    ipureintro; exact View.read_writes_of_cover _ _ _ _ _ (cover0_C_9 m c t h2 (prev m c t))
  isplitl [H10]
  · unfold owns; iexists _; isplitr
    swap; · iexact H10
    ipureintro; exact View.read_writes_of_cover _ _ _ _ _ (cover0_C_10 m c t h2 (prev m c t))
  iexact H11

set_option maxHeartbeats 4800000 in
/-- The body at a point of case D does what the pipeline asks of it. -/
theorem sound_D (c : Dev nD) (t : Fin cfg0.N) (h0 : ¬t.val = 0) (h1 : t.val % 11 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves_live m c t 0 (liveAt0_0 t), after0_0]
  rw [leaves_live m c t 1 (liveAt0_1 t), after0_1]
  rw [leaves_live m c t 2 (liveAt0_2 t), after0_2]
  rw [leaves_live m c t 3 (liveAt0_3 t), after0_3]
  rw [leaves_live m c t 4 (liveAt0_4 t), after0_4]
  rw [leaves_live m c t 5 (liveAt0_5 t), after0_5]
  rw [leaves_live m c t 8 (liveAt0_8 t), after0_8]
  rw [leaves_live m c t 9 (liveAt0_9 t), after0_9]
  rw [leaves_live m c t 10 (liveAt0_10 t), after0_10]
  rw [Dat.leavesExact_idle (dats m 0 c) 6 t (idleAt0_6_D t (condsD t h0 h1).1 (condsD t h0 h1).2.1 (condsD t h0 h1).2.2) (noFlush0_6_D t (condsD t h0 h1).1 (condsD t h0 h1).2.1 (condsD t h0 h1).2.2)]
  rw [Dat.leavesExact_idle (dats m 0 c) 7 t (idleAt0_7_D t (condsD t h0 h1).1 (condsD t h0 h1).2.1 (condsD t h0 h1).2.2) (noFlush0_7_D t (condsD t h0 h1).1 (condsD t h0 h1).2.1 (condsD t h0 h1).2.2)]
  rw [leaves_live m c t 11 (liveAt0_11_D t (condsD t h0 h1).1 (condsD t h0 h1).2.1 (condsD t h0 h1).2.2), after0_11]
  rw [PhiS_castSucc m c t, PhiS_pos m c _ _ h0]
  rw [outsAt0_D m c t h0 h1]
  try dsimp only
  unfold out0_D_8 out0_D_9 out0_D_10 out0_D_11 sout0_D_0 sout0_D_1
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runD m c t h0 h1).2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexists _; iexact HS0
  isplitl [HS1]; · iexists _; iexact HS1
  isplitl [HS2]; · iexact HS2
  iintro ⟨H0, H1, H2, H3, H4, H5, H6, H7, ⟨%e8, H8⟩, ⟨%e9, H9⟩, ⟨%e10, H10⟩, ⟨%e11, H11⟩, ⟨%es0, HS0⟩, ⟨%es1, HS1⟩, ⟨%fT2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scover0_D_0 m c t h0 h1)
      isplitl [HS1]
      · unfold owns; iexists _; isplitr
        swap; · iexact HS1
        ipureintro; exact View.read_writes_of_cover _ _ _ _ _ (scover0_D_1 m c t h0 h1)
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]
  · unfold owns; iexists _; isplitr
    swap; · iexact H8
    ipureintro; exact View.read_writes_of_cover _ _ _ _ _ (cover0_D_8 m c t h0 h1)
  isplitl [H9]
  · unfold owns; iexists _; isplitr
    swap; · iexact H9
    ipureintro; exact View.read_writes_of_cover _ _ _ _ _ (cover0_D_9 m c t h0 h1)
  isplitl [H10]
  · unfold owns; iexists _; isplitr
    swap; · iexact H10
    ipureintro; exact View.read_writes_of_cover _ _ _ _ _ (cover0_D_10 m c t h0 h1)
  unfold owns; iexists _; isplitr
  swap; · iexact H11
  ipureintro; exact View.read_writes_of_cover _ _ _ _ _ (cover0_D_11 m c t h0 h1)

/-- The body at any point does what the pipeline asks of it. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  by_cases h1 : t.val % 11 = 0
  · exact sound_D m c t h0 h1
  by_cases h2 : t.val % 11 = 10
  · exact sound_C m c t h2
  · exact sound_B m c t h1 h2

/-- The pipeline calls the body at a point's buffers. -/
theorem defs₀_row (t : Fin cfg0.N) :
    defs₀ (F := F) .tc cfg0.body (cfg0.bodyArgs t (cfg0.slots t)) = bodyAt0 t := by
  unfold defs₀; rw [Defs.onTc_tc]

/-- The pipeline's demand on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what is held before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After any point the scratch contents may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 88 := N_0; omega)

set_option backward.isDefEq.respectTransparency.types false in
/-- Every run of the program ends, with the arrays the proof data name and all semaphores at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame of the program: every run ends, arguments unchanged, semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-- Every run ends with each result array at what the pipeline writes back, and the arguments as they were. -/
theorem run_blocks : θ_run defs (onTc (τ := τ) (main (F := F))) ⟨m, fun _ => 0, ρ⟩ fun r => ∀ c : Dev nD,
      r.2.mem ((c : Thread nD τ).loc main_v27_0) = (dats m 0 c).arrAt 6 cfg0.N
      ∧ r.2.mem ((c : Thread nD τ).loc main_v27_1) = (dats m 0 c).arrAt 7 cfg0.N
      ∧ r.2.mem ((c : Thread nD τ).loc main_v27_2) = (dats m 0 c).arrAt 8 cfg0.N
      ∧ r.2.mem ((c : Thread nD τ).loc main_v27_3) = (dats m 0 c).arrAt 9 cfg0.N
      ∧ r.2.mem ((c : Thread nD τ).loc main_v27_4) = (dats m 0 c).arrAt 10 cfg0.N
      ∧ r.2.mem ((c : Thread nD τ).loc main_v27_5) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      (h c).1 7,
      (h c).1 8,
      (h c).1 9,
      (h c).1 10,
      (h c).1 11,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.FfnBwdIdeal.Gen

end
-- ==== Proof.FfnBlock.lean ====
module

public import proofs.«01_k».proof.Proof.FfnPoints
public import proofs.«01_k».proof.Proof.Reals
public import Idealize.ShloMosaic.Lib.Pipeline.ReadBack
public import Idealize.ShloMosaic.Lib.Pipeline.ValueKit

@[expose] public section

set_option maxRecDepth 16384

noncomputable section

/-! What the feed-forward backward body computes from one point's blocks: the gradients of one tile of hidden units at
1024 rows, and what that tile adds to the gradient of the normed input. The body works on four groups of 256 rows; here
each group's stores are found to be parts of one array. -/
namespace Cert.FfnBwdIdeal.Value

open Idealize.ShloMosaic Idealize.ShloMosaic.TcCoe Idealize.SL.Sem
open Cert.FfnBwdIdeal Cert.FfnBwdIdeal.Gen

/-- The logistic function as the kernel computes it, from the hyperbolic tangent. -/
def sg (g : EReal) : EReal :=
  Ideal.ofBits .f32 0x3F000000#32 * Ideal.tanh (Ideal.ofBits .f32 0x3F000000#32 * g) + Ideal.ofBits .f32 0x3F000000#32

/-- The gate's gradient as the kernel computes it. -/
def dgate (h g u : EReal) : EReal := h * u * (sg g + g * sg g * (1 - sg g))

/-- The up projection's gradient. -/
def dup (h g : EReal) : EReal := h * (g * sg g)

/-- The hidden value. -/
def hid (g u : EReal) : EReal := g * sg g * u

/-- Row group 0: the gradient of the hidden values is a product over the 1024 features. -/
theorem pay24_at (o D : FVec Ideal S256x1024 .bf16) (x : S256x256.Idx) :
    k0_pay24 (F := Ideal) o D x = ∑ d : Fin 1024, o (ix2 (x 0) d) * D (ix2 (x 1) d) := by
  pointwise [k0_pay24]

/-- Row group 0: the gate's gradient. -/
theorem pay34_at (h : FVec Ideal S256x256 .f32) (a u : FVec Ideal S256x256 .bf16) (x : S256x256.Idx) :
    k0_pay34 (F := Ideal) h (k0_pay28 (F := Ideal) a) u x = dgate (h x) (a x) (u x) := by
  pointwise [k0_pay34, k0_pay28, k0_pay29, k0_pay30, k0_pay31, k0_pay32, k0_pay33]; rfl

/-- Row group 0: the same, for the product. -/
theorem pay36_at (h : FVec Ideal S256x256 .f32) (a u : FVec Ideal S256x256 .bf16) (x : S256x256.Idx) :
    k0_pay36 (F := Ideal) h (k0_pay28 (F := Ideal) a) u x = dgate (h x) (a x) (u x) := by
  pointwise [k0_pay36, k0_pay28, k0_pay29, k0_pay30, k0_pay31, k0_pay32, k0_pay33]; rfl

/-- Row group 0: the up gradient. -/
theorem pay35_at (h : FVec Ideal S256x256 .f32) (a : FVec Ideal S256x256 .bf16) (x : S256x256.Idx) :
    k0_pay35 (F := Ideal) h (k0_pay28 (F := Ideal) a) x = dup (h x) (a x) := by
  pointwise [k0_pay35, k0_pay28, k0_pay29, k0_pay30, k0_pay31, k0_pay32, k0_pay33]; rfl

/-- Row group 0: the same, for the product. -/
theorem pay37_at (h : FVec Ideal S256x256 .f32) (a : FVec Ideal S256x256 .bf16) (x : S256x256.Idx) :
    k0_pay37 (F := Ideal) h (k0_pay28 (F := Ideal) a) x = dup (h x) (a x) := by
  pointwise [k0_pay37, k0_pay28, k0_pay29, k0_pay30, k0_pay31, k0_pay32, k0_pay33]; rfl

/-- Row group 0: the hidden values. -/
theorem pay38_at (a u : FVec Ideal S256x256 .bf16) (x : S256x256.Idx) :
    k0_pay38 (F := Ideal) (k0_pay28 (F := Ideal) a) u x = hid (a x) (u x) := by
  pointwise [k0_pay38, k0_pay28, k0_pay29, k0_pay30, k0_pay31, k0_pay32, k0_pay33]; rfl

/-- Row group 0: what is added to the accumulator is a product over the tile's 512 columns. -/
theorem acc0_at (a : FVec Ideal S256x1024 .f32) (b : FVec Ideal S256x512 .bf16) (w : FVec Ideal S512x1024 .bf16) (x : S256x1024.Idx) :
    k0_pay75 (F := Ideal) a b w x = a x + ∑ c : Fin 512, b (ix2 (x 0) c) * w (ix2 c (x 1)) := by
  pointwise [k0_pay75]

/-- Row group 1: the gradient of the hidden values is a product over the 1024 features. -/
theorem pay25_at (o D : FVec Ideal S256x1024 .bf16) (x : S256x256.Idx) :
    k0_pay25 (F := Ideal) o D x = ∑ d : Fin 1024, o (ix2 (x 0) d) * D (ix2 (x 1) d) := by
  pointwise [k0_pay25]

/-- Row group 1: the gate's gradient. -/
theorem pay46_at (h : FVec Ideal S256x256 .f32) (a u : FVec Ideal S256x256 .bf16) (x : S256x256.Idx) :
    k0_pay46 (F := Ideal) h (k0_pay39 (F := Ideal) a) u x = dgate (h x) (a x) (u x) := by
  pointwise [k0_pay46, k0_pay39, k0_pay40, k0_pay41, k0_pay42, k0_pay43, k0_pay44, k0_pay45]; rfl

/-- Row group 1: the same, for the product. -/
theorem pay48_at (h : FVec Ideal S256x256 .f32) (a u : FVec Ideal S256x256 .bf16) (x : S256x256.Idx) :
    k0_pay48 (F := Ideal) h (k0_pay39 (F := Ideal) a) u x = dgate (h x) (a x) (u x) := by
  pointwise [k0_pay48, k0_pay39, k0_pay40, k0_pay41, k0_pay42, k0_pay43, k0_pay44, k0_pay45]; rfl

/-- Row group 1: the up gradient. -/
theorem pay47_at (h : FVec Ideal S256x256 .f32) (a : FVec Ideal S256x256 .bf16) (x : S256x256.Idx) :
    k0_pay47 (F := Ideal) h (k0_pay39 (F := Ideal) a) x = dup (h x) (a x) := by
  pointwise [k0_pay47, k0_pay39, k0_pay40, k0_pay41, k0_pay42, k0_pay43, k0_pay44, k0_pay45]; rfl

/-- Row group 1: the same, for the product. -/
theorem pay49_at (h : FVec Ideal S256x256 .f32) (a : FVec Ideal S256x256 .bf16) (x : S256x256.Idx) :
    k0_pay49 (F := Ideal) h (k0_pay39 (F := Ideal) a) x = dup (h x) (a x) := by
  pointwise [k0_pay49, k0_pay39, k0_pay40, k0_pay41, k0_pay42, k0_pay43, k0_pay44, k0_pay45]; rfl

/-- Row group 1: the hidden values. -/
theorem pay50_at (a u : FVec Ideal S256x256 .bf16) (x : S256x256.Idx) :
    k0_pay50 (F := Ideal) (k0_pay39 (F := Ideal) a) u x = hid (a x) (u x) := by
  pointwise [k0_pay50, k0_pay39, k0_pay40, k0_pay41, k0_pay42, k0_pay43, k0_pay44, k0_pay45]; rfl

/-- Row group 1: what is added to the accumulator is a product over the tile's 512 columns. -/
theorem acc1_at (a : FVec Ideal S256x1024 .f32) (b : FVec Ideal S256x512 .bf16) (w : FVec Ideal S512x1024 .bf16) (x : S256x1024.Idx) :
    k0_pay76 (F := Ideal) a b w x = a x + ∑ c : Fin 512, b (ix2 (x 0) c) * w (ix2 c (x 1)) := by
  pointwise [k0_pay76]

/-- Row group 2: the gradient of the hidden values is a product over the 1024 features. -/
theorem pay26_at (o D : FVec Ideal S256x1024 .bf16) (x : S256x256.Idx) :
    k0_pay26 (F := Ideal) o D x = ∑ d : Fin 1024, o (ix2 (x 0) d) * D (ix2 (x 1) d) := by
  pointwise [k0_pay26]

/-- Row group 2: the gate's gradient. -/
theorem pay57_at (h : FVec Ideal S256x256 .f32) (a u : FVec Ideal S256x256 .bf16) (x : S256x256.Idx) :
    k0_pay57 (F := Ideal) h a u x = dgate (h x) (a x) (u x) := by
  pointwise [k0_pay57, k0_pay51, k0_pay52, k0_pay53, k0_pay54, k0_pay55, k0_pay56, k0_pay61, k0_pay62]; rfl

/-- Row group 2: the same, for the product. -/
theorem pay59_at (h : FVec Ideal S256x256 .f32) (a u : FVec Ideal S256x256 .bf16) (x : S256x256.Idx) :
    k0_pay59 (F := Ideal) h a u x = dgate (h x) (a x) (u x) := by
  pointwise [k0_pay59, k0_pay51, k0_pay52, k0_pay53, k0_pay54, k0_pay55, k0_pay56, k0_pay61, k0_pay62]; rfl

/-- Row group 2: the up gradient. -/
theorem pay58_at (h : FVec Ideal S256x256 .f32) (a : FVec Ideal S256x256 .bf16) (x : S256x256.Idx) :
    k0_pay58 (F := Ideal) h a x = dup (h x) (a x) := by
  pointwise [k0_pay58, k0_pay51, k0_pay52, k0_pay53, k0_pay54, k0_pay55, k0_pay56, k0_pay61, k0_pay62]; rfl

/-- Row group 2: the same, for the product. -/
theorem pay60_at (h : FVec Ideal S256x256 .f32) (a : FVec Ideal S256x256 .bf16) (x : S256x256.Idx) :
    k0_pay60 (F := Ideal) h a x = dup (h x) (a x) := by
  pointwise [k0_pay60, k0_pay51, k0_pay52, k0_pay53, k0_pay54, k0_pay55, k0_pay56, k0_pay61, k0_pay62]; rfl

/-- Row group 2: the hidden values. -/
theorem pay61_at (a u : FVec Ideal S256x256 .bf16) (x : S256x256.Idx) :
    k0_pay62 (F := Ideal) (k0_pay61 (F := Ideal) a u) x = hid (a x) (u x) := by
  pointwise [k0_pay51, k0_pay52, k0_pay53, k0_pay54, k0_pay55, k0_pay56, k0_pay61, k0_pay62]; rfl

/-- Row group 2: what is added to the accumulator is a product over the tile's 512 columns. -/
theorem acc2_at (a : FVec Ideal S256x1024 .f32) (b : FVec Ideal S256x512 .bf16) (w : FVec Ideal S512x1024 .bf16) (x : S256x1024.Idx) :
    k0_pay1 (F := Ideal) (k0_pay77 (F := Ideal) a b w) x = a x + ∑ c : Fin 512, b (ix2 (x 0) c) * w (ix2 c (x 1)) := by
  pointwise [k0_pay1, k0_pay77]

/-- Row group 3: the gradient of the hidden values is a product over the 1024 features. -/
theorem pay27_at (o D : FVec Ideal S256x1024 .bf16) (x : S256x256.Idx) :
    k0_pay27 (F := Ideal) o D x = ∑ d : Fin 1024, o (ix2 (x 0) d) * D (ix2 (x 1) d) := by
  pointwise [k0_pay27]

/-- Row group 3: the gate's gradient. -/
theorem pay69_at (h : FVec Ideal S256x256 .f32) (a u : FVec Ideal S256x256 .bf16) (x : S256x256.Idx) :
    k0_pay69 (F := Ideal) h a u x = dgate (h x) (a x) (u x) := by
  pointwise [k0_pay69, k0_pay63, k0_pay64, k0_pay65, k0_pay66, k0_pay67, k0_pay68, k0_pay73, k0_pay74]; rfl

/-- Row group 3: the same, for the product. -/
theorem pay71_at (h : FVec Ideal S256x256 .f32) (a u : FVec Ideal S256x256 .bf16) (x : S256x256.Idx) :
    k0_pay71 (F := Ideal) h a u x = dgate (h x) (a x) (u x) := by
  pointwise [k0_pay71, k0_pay63, k0_pay64, k0_pay65, k0_pay66, k0_pay67, k0_pay68, k0_pay73, k0_pay74]; rfl

/-- Row group 3: the up gradient. -/
theorem pay70_at (h : FVec Ideal S256x256 .f32) (a : FVec Ideal S256x256 .bf16) (x : S256x256.Idx) :
    k0_pay70 (F := Ideal) h a x = dup (h x) (a x) := by
  pointwise [k0_pay70, k0_pay63, k0_pay64, k0_pay65, k0_pay66, k0_pay67, k0_pay68, k0_pay73, k0_pay74]; rfl

/-- Row group 3: the same, for the product. -/
theorem pay72_at (h : FVec Ideal S256x256 .f32) (a : FVec Ideal S256x256 .bf16) (x : S256x256.Idx) :
    k0_pay72 (F := Ideal) h a x = dup (h x) (a x) := by
  pointwise [k0_pay72, k0_pay63, k0_pay64, k0_pay65, k0_pay66, k0_pay67, k0_pay68, k0_pay73, k0_pay74]; rfl

/-- Row group 3: the hidden values. -/
theorem pay73_at (a u : FVec Ideal S256x256 .bf16) (x : S256x256.Idx) :
    k0_pay74 (F := Ideal) (k0_pay73 (F := Ideal) a u) x = hid (a x) (u x) := by
  pointwise [k0_pay63, k0_pay64, k0_pay65, k0_pay66, k0_pay67, k0_pay68, k0_pay73, k0_pay74]; rfl

/-- Row group 3: what is added to the accumulator is a product over the tile's 512 columns. -/
theorem acc3_at (a : FVec Ideal S256x1024 .f32) (b : FVec Ideal S256x512 .bf16) (w : FVec Ideal S512x1024 .bf16) (x : S256x1024.Idx) :
    k0_pay2 (F := Ideal) a b w x = a x + ∑ c : Fin 512, b (ix2 (x 0) c) * w (ix2 c (x 1)) := by
  pointwise [k0_pay2]

/-- The halved output gradient of a block. -/
theorem pay22_at (X : FVec Ideal S1024x1024 .f32) (x : S1024x1024.Idx) :
    k0_pay22 (F := Ideal) X x = Ideal.ofBits .f32 0x3F000000#32 * X x := by
  pointwise [k0_pay22, k0_pay20]

/-- The same as it is stored for the caller. -/
theorem pay21_at (X : FVec Ideal S1024x1024 .f32) (x : S1024x1024.Idx) :
    k0_pay21 (F := Ideal) X x = Ideal.ofBits .f32 0x3F000000#32 * X x := by
  pointwise [k0_pay21, k0_pay20]

/-- The accumulator starts from zero. -/
theorem pay23_at (x : S1024x1024.Idx) : k0_pay23 (F := Ideal) x = 0 := by
  pointwise [k0_pay23]

/-- The gain's gradient starts from zero. -/
theorem pay19_at (x : S1x1024.Idx) : k0_pay19 (F := Ideal) x = 0 := by
  pointwise [k0_pay19]

variable (o : FVec Ideal S1024x1024 .bf16) (gu : FVec Ideal S1024x512 .bf16) (D : FVec Ideal S256x1024 .bf16)
  (W : FVec Ideal S512x1024 .bf16)

/-- The gradient of the tile's hidden values. -/
def dhB (r : Fin 1024) (k : Fin 256) : EReal := ∑ d : Fin 1024, o (ix2 r d) * D (ix2 k d)

/-- The tile's gate values are the first 256 columns of its block. -/
def gB (r : Fin 1024) (k : Fin 256) : EReal := gu (ix2 r ⟨k, by omega⟩)

/-- Its up values are the other 256. -/
def uB (r : Fin 1024) (k : Fin 256) : EReal := gu (ix2 r ⟨256 + k, by omega⟩)

/-- The tile's gate gradient. -/
def dgV : FVec Ideal S1024x256 .bf16 := fun y => dgate (dhB o D (y 0) (y 1)) (gB gu (y 0) (y 1)) (uB gu (y 0) (y 1))

/-- The tile's up gradient. -/
def duV : FVec Ideal S1024x256 .bf16 := fun y => dup (dhB o D (y 0) (y 1)) (gB gu (y 0) (y 1))

/-- The tile's hidden values. -/
def hhV : FVec Ideal S1024x256 .bf16 := fun y => hid (gB gu (y 0) (y 1)) (uB gu (y 0) (y 1))

/-- The two gradients side by side. -/
def catV : FVec Ideal S1024x512 .bf16 := fun y =>
  if h : (y 1 : ℕ) < 256 then dgV o gu D (ix2 (y 0) ⟨y 1, h⟩)
  else duV o gu D (ix2 (y 0) ⟨(y 1 : ℕ) - 256, by have : (y 1 : ℕ) < 512 := (y 1).isLt; omega⟩)

/-- The accumulator after the tile. -/
def accV (acc : FVec Ideal S1024x1024 .f32) : FVec Ideal S1024x1024 .f32 := fun y =>
  acc y + ∑ c : Fin 512, catV o gu D (ix2 (y 0) c) * W (ix2 c (y 1))

/-- A row group's rows of the gradient product. -/
theorem dh_piece (off : ℕ) (i1 : ∀ a, ![off, 0] a + ![256, 1024] a ≤ S1024x1024.size a)
    (x : S256x256.Idx) (r : Fin 1024) (hr : (r : ℕ) = off + x 0) :
    (∑ d : Fin 1024, View.ld (Val := Elt Ideal) (e' := .bf16) o (Rect.unit ![off, 0] ![256, 1024] i1) (ix2 (x 0) d) * D (ix2 (x 1) d)) = dhB o D r (x 1) := by
  refine Finset.sum_congr rfl fun d _ => congrArg (· * _) ?_
  exact View.ld_unit_apply_of (Val := Elt Ideal) (e := .bf16) o ![off, 0] ![256, 1024] i1 (ix2 (x 0) d) (ix2 r d)
    (Fin.forall_fin_two.mpr ⟨hr, (Nat.zero_add _).symm⟩)

/-- A row group's rows of the gate values. -/
theorem g_piece (off : ℕ) (i1 : ∀ a, ![off, 0] a + ![256, 256] a ≤ S1024x512.size a)
    (x : S256x256.Idx) (r : Fin 1024) (hr : (r : ℕ) = off + x 0) :
    View.ld (Val := Elt Ideal) (e' := .bf16) gu (Rect.unit ![off, 0] ![256, 256] i1) x = gB gu r (x 1) :=
  View.ld_unit_apply_of (Val := Elt Ideal) (e := .bf16) gu ![off, 0] ![256, 256] i1 x (ix2 r ⟨x 1, _⟩)
    (Fin.forall_fin_two.mpr ⟨hr, (Nat.zero_add _).symm⟩)

/-- A row group's rows of the up values. -/
theorem u_piece (off : ℕ) (i1 : ∀ a, ![off, 256] a + ![256, 256] a ≤ S1024x512.size a)
    (x : S256x256.Idx) (r : Fin 1024) (hr : (r : ℕ) = off + x 0) :
    View.ld (Val := Elt Ideal) (e' := .bf16) gu (Rect.unit ![off, 256] ![256, 256] i1) x = uB gu r (x 1) :=
  View.ld_unit_apply_of (Val := Elt Ideal) (e := .bf16) gu ![off, 256] ![256, 256] i1 x (ix2 r ⟨256 + x 1, _⟩)
    (Fin.forall_fin_two.mpr ⟨hr, rfl⟩)

/-- A row group's part of the gate gradient. -/
theorem dg_piece (off : ℕ) (i1 : ∀ a, ![off, 0] a + ![256, 1024] a ≤ S1024x1024.size a)
    (i2 : ∀ a, ![off, 0] a + ![256, 256] a ≤ S1024x512.size a) (i3 : ∀ a, ![off, 256] a + ![256, 256] a ≤ S1024x512.size a)
    (x : S256x256.Idx) (y : S1024x256.Idx) (h0 : (y 0 : ℕ) = off + x 0) (h1 : (y 1 : ℕ) = x 1) :
    dgate (∑ d : Fin 1024, View.ld (Val := Elt Ideal) (e' := .bf16) o (Rect.unit ![off, 0] ![256, 1024] i1) (ix2 (x 0) d) * D (ix2 (x 1) d))
      (View.ld (Val := Elt Ideal) (e' := .bf16) gu (Rect.unit ![off, 0] ![256, 256] i2) x) (View.ld (Val := Elt Ideal) (e' := .bf16) gu (Rect.unit ![off, 256] ![256, 256] i3) x) = dgV o gu D y := by
  have e : y 1 = x 1 := Fin.ext h1
  show _ = dgate (dhB o D (y 0) (y 1)) (gB gu (y 0) (y 1)) (uB gu (y 0) (y 1))
  rw [dh_piece o D off i1 x (y 0) h0, g_piece gu off i2 x (y 0) h0, u_piece gu off i3 x (y 0) h0, e]

/-- A row group's part of the up gradient. -/
theorem du_piece (off : ℕ) (i1 : ∀ a, ![off, 0] a + ![256, 1024] a ≤ S1024x1024.size a)
    (i2 : ∀ a, ![off, 0] a + ![256, 256] a ≤ S1024x512.size a)
    (x : S256x256.Idx) (y : S1024x256.Idx) (h0 : (y 0 : ℕ) = off + x 0) (h1 : (y 1 : ℕ) = x 1) :
    dup (∑ d : Fin 1024, View.ld (Val := Elt Ideal) (e' := .bf16) o (Rect.unit ![off, 0] ![256, 1024] i1) (ix2 (x 0) d) * D (ix2 (x 1) d))
      (View.ld (Val := Elt Ideal) (e' := .bf16) gu (Rect.unit ![off, 0] ![256, 256] i2) x) = duV o gu D y := by
  have e : y 1 = x 1 := Fin.ext h1
  show _ = dup (dhB o D (y 0) (y 1)) (gB gu (y 0) (y 1))
  rw [dh_piece o D off i1 x (y 0) h0, g_piece gu off i2 x (y 0) h0, e]

/-- A row group's part of the hidden values. -/
theorem hh_piece (off : ℕ) (i2 : ∀ a, ![off, 0] a + ![256, 256] a ≤ S1024x512.size a) (i3 : ∀ a, ![off, 256] a + ![256, 256] a ≤ S1024x512.size a)
    (x : S256x256.Idx) (y : S1024x256.Idx) (h0 : (y 0 : ℕ) = off + x 0) (h1 : (y 1 : ℕ) = x 1) :
    hid (View.ld (Val := Elt Ideal) (e' := .bf16) gu (Rect.unit ![off, 0] ![256, 256] i2) x) (View.ld (Val := Elt Ideal) (e' := .bf16) gu (Rect.unit ![off, 256] ![256, 256] i3) x) = hhV gu y := by
  have e : y 1 = x 1 := Fin.ext h1
  show _ = hid (gB gu (y 0) (y 1)) (uB gu (y 0) (y 1))
  rw [g_piece gu off i2 x (y 0) h0, u_piece gu off i3 x (y 0) h0, e]

/-- In the first 256 columns the joined gradients are the gate's. -/
theorem catV_left (y : S1024x512.Idx) (z : S1024x256.Idx) (h0 : (y 0 : ℕ) = z 0) (h1 : (y 1 : ℕ) = z 1) :
    dgV o gu D z = catV o gu D y := by
  have hz : (z 1 : ℕ) < 256 := (z 1).isLt
  have h : (y 1 : ℕ) < 256 := h1 ▸ hz
  show _ = dite _ _ _
  rw [dif_pos h]
  exact congrArg (dgV o gu D) (funext (Fin.forall_fin_two.mpr ⟨Fin.ext h0.symm, Fin.ext h1.symm⟩))

/-- In the other 256 they are the up projection's. -/
theorem catV_right (y : S1024x512.Idx) (z : S1024x256.Idx) (h0 : (y 0 : ℕ) = z 0) (h1 : (y 1 : ℕ) = 256 + z 1) :
    duV o gu D z = catV o gu D y := by
  have h : ¬(y 1 : ℕ) < 256 := by omega
  show _ = dite _ _ _
  rw [dif_neg h]
  exact congrArg (duV o gu D) (funext (Fin.forall_fin_two.mpr ⟨Fin.ext h0.symm, Fin.ext (by show (z 1 : ℕ) = (y 1 : ℕ) - 256; omega)⟩))

/-- The four stores of the gate gradient, last first. -/
abbrev dgL : List (View.Piece (Elt Ideal) S1024x256 .bf16) :=
    [⟨Rect.unit ![768, 0] ![256, 256] inb_S1024x256_S256x256_768_0, k0_pay69 (F := Ideal) (k0_pay27 (F := Ideal) (View.ld (Val := Elt Ideal) (e' := .bf16) o (Rect.unit ![768, 0] ![256, 1024] inb_S1024x1024_S256x1024_768_0)) D) (View.ld (Val := Elt Ideal) (e' := .bf16) gu (Rect.unit ![768, 0] ![256, 256] inb_S1024x512_S256x256_768_0)) (View.ld (Val := Elt Ideal) (e' := .bf16) gu (Rect.unit ![768, 256] ![256, 256] inb_S1024x512_S256x256_768_256))⟩,
     ⟨Rect.unit ![512, 0] ![256, 256] inb_S1024x256_S256x256_512_0, k0_pay57 (F := Ideal) (k0_pay26 (F := Ideal) (View.ld (Val := Elt Ideal) (e' := .bf16) o (Rect.unit ![512, 0] ![256, 1024] inb_S1024x1024_S256x1024_512_0)) D) (View.ld (Val := Elt Ideal) (e' := .bf16) gu (Rect.unit ![512, 0] ![256, 256] inb_S1024x512_S256x256_512_0)) (View.ld (Val := Elt Ideal) (e' := .bf16) gu (Rect.unit ![512, 256] ![256, 256] inb_S1024x512_S256x256_512_256))⟩,
     ⟨Rect.unit ![256, 0] ![256, 256] inb_S1024x256_S256x256_256_0, k0_pay46 (F := Ideal) (k0_pay25 (F := Ideal) (View.ld (Val := Elt Ideal) (e' := .bf16) o (Rect.unit ![256, 0] ![256, 1024] inb_S1024x1024_S256x1024_256_0)) D) (k0_pay39 (F := Ideal) (View.ld (Val := Elt Ideal) (e' := .bf16) gu (Rect.unit ![256, 0] ![256, 256] inb_S1024x512_S256x256_256_0))) (View.ld (Val := Elt Ideal) (e' := .bf16) gu (Rect.unit ![256, 256] ![256, 256] inb_S1024x512_S256x256_256_256))⟩,
     ⟨Rect.unit ![0, 0] ![256, 256] inb_S1024x256_S256x256_0_0, k0_pay34 (F := Ideal) (k0_pay24 (F := Ideal) (View.ld (Val := Elt Ideal) (e' := .bf16) o (Rect.unit ![0, 0] ![256, 1024] inb_S1024x1024_S256x1024_0_0)) D) (k0_pay28 (F := Ideal) (View.ld (Val := Elt Ideal) (e' := .bf16) gu (Rect.unit ![0, 0] ![256, 256] inb_S1024x512_S256x256_0_0))) (View.ld (Val := Elt Ideal) (e' := .bf16) gu (Rect.unit ![0, 256] ![256, 256] inb_S1024x512_S256x256_0_256))⟩]

/-- Together they are the tile's gate gradient. -/
theorem dgL_eq : View.canon (dgL o gu D) = dgV o gu D := by
  funext y
  have h : View.PiecesOf (dgV o gu D) (dgL o gu D) :=
    ⟨fun (x : S256x256.Idx) => (pay69_at _ _ _ x).trans ((congrArg (fun h => dgate h _ _) (pay27_at _ _ x)).trans (dg_piece o gu D 768 _ _ _ x _ (Rect.idx_unit_val (s := S1024x256) ![768, 0] S256x256.size inb_S1024x256_S256x256_768_0 x 0) ((Rect.idx_unit_val (s := S1024x256) ![768, 0] S256x256.size inb_S1024x256_S256x256_768_0 x 1).trans (Nat.zero_add _)))),
     fun (x : S256x256.Idx) => (pay57_at _ _ _ x).trans ((congrArg (fun h => dgate h _ _) (pay26_at _ _ x)).trans (dg_piece o gu D 512 _ _ _ x _ (Rect.idx_unit_val (s := S1024x256) ![512, 0] S256x256.size inb_S1024x256_S256x256_512_0 x 0) ((Rect.idx_unit_val (s := S1024x256) ![512, 0] S256x256.size inb_S1024x256_S256x256_512_0 x 1).trans (Nat.zero_add _)))),
     fun (x : S256x256.Idx) => (pay46_at _ _ _ x).trans ((congrArg (fun h => dgate h _ _) (pay25_at _ _ x)).trans (dg_piece o gu D 256 _ _ _ x _ (Rect.idx_unit_val (s := S1024x256) ![256, 0] S256x256.size inb_S1024x256_S256x256_256_0 x 0) ((Rect.idx_unit_val (s := S1024x256) ![256, 0] S256x256.size inb_S1024x256_S256x256_256_0 x 1).trans (Nat.zero_add _)))),
     fun (x : S256x256.Idx) => (pay34_at _ _ _ x).trans ((congrArg (fun h => dgate h _ _) (pay24_at _ _ x)).trans (dg_piece o gu D 0 _ _ _ x _ (Rect.idx_unit_val (s := S1024x256) ![0, 0] S256x256.size inb_S1024x256_S256x256_0_0 x 0) ((Rect.idx_unit_val (s := S1024x256) ![0, 0] S256x256.size inb_S1024x256_S256x256_0_0 x 1).trans (Nat.zero_add _)))), trivial⟩
  exact View.canon_apply_of_pieces _ _ h.mem y (View.cover_of_tiledL (dgL o gu D) S256x256.size (by sl_kernel_rfl) y)

/-- The four stores of the up gradient, last first. -/
abbrev duL : List (View.Piece (Elt Ideal) S1024x256 .bf16) :=
    [⟨Rect.unit ![768, 0] ![256, 256] inb_S1024x256_S256x256_768_0, k0_pay70 (F := Ideal) (k0_pay27 (F := Ideal) (View.ld (Val := Elt Ideal) (e' := .bf16) o (Rect.unit ![768, 0] ![256, 1024] inb_S1024x1024_S256x1024_768_0)) D) (View.ld (Val := Elt Ideal) (e' := .bf16) gu (Rect.unit ![768, 0] ![256, 256] inb_S1024x512_S256x256_768_0))⟩,
     ⟨Rect.unit ![512, 0] ![256, 256] inb_S1024x256_S256x256_512_0, k0_pay58 (F := Ideal) (k0_pay26 (F := Ideal) (View.ld (Val := Elt Ideal) (e' := .bf16) o (Rect.unit ![512, 0] ![256, 1024] inb_S1024x1024_S256x1024_512_0)) D) (View.ld (Val := Elt Ideal) (e' := .bf16) gu (Rect.unit ![512, 0] ![256, 256] inb_S1024x512_S256x256_512_0))⟩,
     ⟨Rect.unit ![256, 0] ![256, 256] inb_S1024x256_S256x256_256_0, k0_pay47 (F := Ideal) (k0_pay25 (F := Ideal) (View.ld (Val := Elt Ideal) (e' := .bf16) o (Rect.unit ![256, 0] ![256, 1024] inb_S1024x1024_S256x1024_256_0)) D) (k0_pay39 (F := Ideal) (View.ld (Val := Elt Ideal) (e' := .bf16) gu (Rect.unit ![256, 0] ![256, 256] inb_S1024x512_S256x256_256_0)))⟩,
     ⟨Rect.unit ![0, 0] ![256, 256] inb_S1024x256_S256x256_0_0, k0_pay35 (F := Ideal) (k0_pay24 (F := Ideal) (View.ld (Val := Elt Ideal) (e' := .bf16) o (Rect.unit ![0, 0] ![256, 1024] inb_S1024x1024_S256x1024_0_0)) D) (k0_pay28 (F := Ideal) (View.ld (Val := Elt Ideal) (e' := .bf16) gu (Rect.unit ![0, 0] ![256, 256] inb_S1024x512_S256x256_0_0)))⟩]

/-- Together they are the tile's up gradient. -/
theorem duL_eq : View.canon (duL o gu D) = duV o gu D := by
  funext y
  have h : View.PiecesOf (duV o gu D) (duL o gu D) :=
    ⟨fun (x : S256x256.Idx) => (pay70_at _ _ x).trans ((congrArg (fun h => dup h _) (pay27_at _ _ x)).trans (du_piece o gu D 768 _ _ x _ (Rect.idx_unit_val (s := S1024x256) ![768, 0] S256x256.size inb_S1024x256_S256x256_768_0 x 0) ((Rect.idx_unit_val (s := S1024x256) ![768, 0] S256x256.size inb_S1024x256_S256x256_768_0 x 1).trans (Nat.zero_add _)))),
     fun (x : S256x256.Idx) => (pay58_at _ _ x).trans ((congrArg (fun h => dup h _) (pay26_at _ _ x)).trans (du_piece o gu D 512 _ _ x _ (Rect.idx_unit_val (s := S1024x256) ![512, 0] S256x256.size inb_S1024x256_S256x256_512_0 x 0) ((Rect.idx_unit_val (s := S1024x256) ![512, 0] S256x256.size inb_S1024x256_S256x256_512_0 x 1).trans (Nat.zero_add _)))),
     fun (x : S256x256.Idx) => (pay47_at _ _ x).trans ((congrArg (fun h => dup h _) (pay25_at _ _ x)).trans (du_piece o gu D 256 _ _ x _ (Rect.idx_unit_val (s := S1024x256) ![256, 0] S256x256.size inb_S1024x256_S256x256_256_0 x 0) ((Rect.idx_unit_val (s := S1024x256) ![256, 0] S256x256.size inb_S1024x256_S256x256_256_0 x 1).trans (Nat.zero_add _)))),
     fun (x : S256x256.Idx) => (pay35_at _ _ x).trans ((congrArg (fun h => dup h _) (pay24_at _ _ x)).trans (du_piece o gu D 0 _ _ x _ (Rect.idx_unit_val (s := S1024x256) ![0, 0] S256x256.size inb_S1024x256_S256x256_0_0 x 0) ((Rect.idx_unit_val (s := S1024x256) ![0, 0] S256x256.size inb_S1024x256_S256x256_0_0 x 1).trans (Nat.zero_add _)))), trivial⟩
  exact View.canon_apply_of_pieces _ _ h.mem y (View.cover_of_tiledL (duL o gu D) S256x256.size (by sl_kernel_rfl) y)

/-- The four stores of the hidden values, last first. -/
abbrev hhL : List (View.Piece (Elt Ideal) S1024x256 .bf16) :=
    [⟨Rect.unit ![768, 0] ![256, 256] inb_S1024x256_S256x256_768_0, k0_pay74 (F := Ideal) (k0_pay73 (F := Ideal) (View.ld (Val := Elt Ideal) (e' := .bf16) gu (Rect.unit ![768, 0] ![256, 256] inb_S1024x512_S256x256_768_0)) (View.ld (Val := Elt Ideal) (e' := .bf16) gu (Rect.unit ![768, 256] ![256, 256] inb_S1024x512_S256x256_768_256)))⟩,
     ⟨Rect.unit ![512, 0] ![256, 256] inb_S1024x256_S256x256_512_0, k0_pay62 (F := Ideal) (k0_pay61 (F := Ideal) (View.ld (Val := Elt Ideal) (e' := .bf16) gu (Rect.unit ![512, 0] ![256, 256] inb_S1024x512_S256x256_512_0)) (View.ld (Val := Elt Ideal) (e' := .bf16) gu (Rect.unit ![512, 256] ![256, 256] inb_S1024x512_S256x256_512_256)))⟩,
     ⟨Rect.unit ![256, 0] ![256, 256] inb_S1024x256_S256x256_256_0, k0_pay50 (F := Ideal) (k0_pay39 (F := Ideal) (View.ld (Val := Elt Ideal) (e' := .bf16) gu (Rect.unit ![256, 0] ![256, 256] inb_S1024x512_S256x256_256_0))) (View.ld (Val := Elt Ideal) (e' := .bf16) gu (Rect.unit ![256, 256] ![256, 256] inb_S1024x512_S256x256_256_256))⟩,
     ⟨Rect.unit ![0, 0] ![256, 256] inb_S1024x256_S256x256_0_0, k0_pay38 (F := Ideal) (k0_pay28 (F := Ideal) (View.ld (Val := Elt Ideal) (e' := .bf16) gu (Rect.unit ![0, 0] ![256, 256] inb_S1024x512_S256x256_0_0))) (View.ld (Val := Elt Ideal) (e' := .bf16) gu (Rect.unit ![0, 256] ![256, 256] inb_S1024x512_S256x256_0_256))⟩]

/-- Together they are the tile's hidden values. -/
theorem hhL_eq : View.canon (hhL gu) = hhV gu := by
  funext y
  have h : View.PiecesOf (hhV gu) (hhL gu) :=
    ⟨fun (x : S256x256.Idx) => (pay73_at _ _ x).trans (hh_piece gu 768 _ _ x _ (Rect.idx_unit_val (s := S1024x256) ![768, 0] S256x256.size inb_S1024x256_S256x256_768_0 x 0) ((Rect.idx_unit_val (s := S1024x256) ![768, 0] S256x256.size inb_S1024x256_S256x256_768_0 x 1).trans (Nat.zero_add _))),
     fun (x : S256x256.Idx) => (pay61_at _ _ x).trans (hh_piece gu 512 _ _ x _ (Rect.idx_unit_val (s := S1024x256) ![512, 0] S256x256.size inb_S1024x256_S256x256_512_0 x 0) ((Rect.idx_unit_val (s := S1024x256) ![512, 0] S256x256.size inb_S1024x256_S256x256_512_0 x 1).trans (Nat.zero_add _))),
     fun (x : S256x256.Idx) => (pay50_at _ _ x).trans (hh_piece gu 256 _ _ x _ (Rect.idx_unit_val (s := S1024x256) ![256, 0] S256x256.size inb_S1024x256_S256x256_256_0 x 0) ((Rect.idx_unit_val (s := S1024x256) ![256, 0] S256x256.size inb_S1024x256_S256x256_256_0 x 1).trans (Nat.zero_add _))),
     fun (x : S256x256.Idx) => (pay38_at _ _ x).trans (hh_piece gu 0 _ _ x _ (Rect.idx_unit_val (s := S1024x256) ![0, 0] S256x256.size inb_S1024x256_S256x256_0_0 x 0) ((Rect.idx_unit_val (s := S1024x256) ![0, 0] S256x256.size inb_S1024x256_S256x256_0_0 x 1).trans (Nat.zero_add _))), trivial⟩
  exact View.canon_apply_of_pieces _ _ h.mem y (View.cover_of_tiledL (hhL gu) S256x256.size (by sl_kernel_rfl) y)

/-- The eight stores of the joined gradients, last first. -/
abbrev catL : List (View.Piece (Elt Ideal) S1024x512 .bf16) :=
    [⟨Rect.unit ![768, 256] ![256, 256] inb_S1024x512_S256x256_768_256, k0_pay72 (F := Ideal) (k0_pay27 (F := Ideal) (View.ld (Val := Elt Ideal) (e' := .bf16) o (Rect.unit ![768, 0] ![256, 1024] inb_S1024x1024_S256x1024_768_0)) D) (View.ld (Val := Elt Ideal) (e' := .bf16) gu (Rect.unit ![768, 0] ![256, 256] inb_S1024x512_S256x256_768_0))⟩,
     ⟨Rect.unit ![768, 0] ![256, 256] inb_S1024x512_S256x256_768_0, k0_pay71 (F := Ideal) (k0_pay27 (F := Ideal) (View.ld (Val := Elt Ideal) (e' := .bf16) o (Rect.unit ![768, 0] ![256, 1024] inb_S1024x1024_S256x1024_768_0)) D) (View.ld (Val := Elt Ideal) (e' := .bf16) gu (Rect.unit ![768, 0] ![256, 256] inb_S1024x512_S256x256_768_0)) (View.ld (Val := Elt Ideal) (e' := .bf16) gu (Rect.unit ![768, 256] ![256, 256] inb_S1024x512_S256x256_768_256))⟩,
     ⟨Rect.unit ![512, 256] ![256, 256] inb_S1024x512_S256x256_512_256, k0_pay60 (F := Ideal) (k0_pay26 (F := Ideal) (View.ld (Val := Elt Ideal) (e' := .bf16) o (Rect.unit ![512, 0] ![256, 1024] inb_S1024x1024_S256x1024_512_0)) D) (View.ld (Val := Elt Ideal) (e' := .bf16) gu (Rect.unit ![512, 0] ![256, 256] inb_S1024x512_S256x256_512_0))⟩,
     ⟨Rect.unit ![512, 0] ![256, 256] inb_S1024x512_S256x256_512_0, k0_pay59 (F := Ideal) (k0_pay26 (F := Ideal) (View.ld (Val := Elt Ideal) (e' := .bf16) o (Rect.unit ![512, 0] ![256, 1024] inb_S1024x1024_S256x1024_512_0)) D) (View.ld (Val := Elt Ideal) (e' := .bf16) gu (Rect.unit ![512, 0] ![256, 256] inb_S1024x512_S256x256_512_0)) (View.ld (Val := Elt Ideal) (e' := .bf16) gu (Rect.unit ![512, 256] ![256, 256] inb_S1024x512_S256x256_512_256))⟩,
     ⟨Rect.unit ![256, 256] ![256, 256] inb_S1024x512_S256x256_256_256, k0_pay49 (F := Ideal) (k0_pay25 (F := Ideal) (View.ld (Val := Elt Ideal) (e' := .bf16) o (Rect.unit ![256, 0] ![256, 1024] inb_S1024x1024_S256x1024_256_0)) D) (k0_pay39 (F := Ideal) (View.ld (Val := Elt Ideal) (e' := .bf16) gu (Rect.unit ![256, 0] ![256, 256] inb_S1024x512_S256x256_256_0)))⟩,
     ⟨Rect.unit ![256, 0] ![256, 256] inb_S1024x512_S256x256_256_0, k0_pay48 (F := Ideal) (k0_pay25 (F := Ideal) (View.ld (Val := Elt Ideal) (e' := .bf16) o (Rect.unit ![256, 0] ![256, 1024] inb_S1024x1024_S256x1024_256_0)) D) (k0_pay39 (F := Ideal) (View.ld (Val := Elt Ideal) (e' := .bf16) gu (Rect.unit ![256, 0] ![256, 256] inb_S1024x512_S256x256_256_0))) (View.ld (Val := Elt Ideal) (e' := .bf16) gu (Rect.unit ![256, 256] ![256, 256] inb_S1024x512_S256x256_256_256))⟩,
     ⟨Rect.unit ![0, 256] ![256, 256] inb_S1024x512_S256x256_0_256, k0_pay37 (F := Ideal) (k0_pay24 (F := Ideal) (View.ld (Val := Elt Ideal) (e' := .bf16) o (Rect.unit ![0, 0] ![256, 1024] inb_S1024x1024_S256x1024_0_0)) D) (k0_pay28 (F := Ideal) (View.ld (Val := Elt Ideal) (e' := .bf16) gu (Rect.unit ![0, 0] ![256, 256] inb_S1024x512_S256x256_0_0)))⟩,
     ⟨Rect.unit ![0, 0] ![256, 256] inb_S1024x512_S256x256_0_0, k0_pay36 (F := Ideal) (k0_pay24 (F := Ideal) (View.ld (Val := Elt Ideal) (e' := .bf16) o (Rect.unit ![0, 0] ![256, 1024] inb_S1024x1024_S256x1024_0_0)) D) (k0_pay28 (F := Ideal) (View.ld (Val := Elt Ideal) (e' := .bf16) gu (Rect.unit ![0, 0] ![256, 256] inb_S1024x512_S256x256_0_0))) (View.ld (Val := Elt Ideal) (e' := .bf16) gu (Rect.unit ![0, 256] ![256, 256] inb_S1024x512_S256x256_0_256))⟩]

/-- Together they are the joined gradients. -/
theorem catL_eq : View.canon (catL o gu D) = catV o gu D := by
  funext y
  have h : View.PiecesOf (catV o gu D) (catL o gu D) :=
    ⟨fun (x : S256x256.Idx) => ((pay72_at _ _ x).trans ((congrArg (fun h => dup h _) (pay27_at _ _ x)).trans (du_piece o gu D 768 _ _ x (ix2 (⟨768 + x 0, by have : (x 0 : ℕ) < 256 := (x 0).isLt; omega⟩ : Fin 1024) (x 1)) rfl rfl))).trans (catV_right o gu D _ (ix2 (⟨768 + x 0, by have : (x 0 : ℕ) < 256 := (x 0).isLt; omega⟩ : Fin 1024) (x 1)) (Rect.idx_unit_val (s := S1024x512) ![768, 256] S256x256.size inb_S1024x512_S256x256_768_256 x 0) (Rect.idx_unit_val (s := S1024x512) ![768, 256] S256x256.size inb_S1024x512_S256x256_768_256 x 1)),
     fun (x : S256x256.Idx) => ((pay71_at _ _ _ x).trans ((congrArg (fun h => dgate h _ _) (pay27_at _ _ x)).trans (dg_piece o gu D 768 _ _ _ x (ix2 (⟨768 + x 0, by have : (x 0 : ℕ) < 256 := (x 0).isLt; omega⟩ : Fin 1024) (x 1)) rfl rfl))).trans (catV_left o gu D _ (ix2 (⟨768 + x 0, by have : (x 0 : ℕ) < 256 := (x 0).isLt; omega⟩ : Fin 1024) (x 1)) (Rect.idx_unit_val (s := S1024x512) ![768, 0] S256x256.size inb_S1024x512_S256x256_768_0 x 0) ((Rect.idx_unit_val (s := S1024x512) ![768, 0] S256x256.size inb_S1024x512_S256x256_768_0 x 1).trans (Nat.zero_add _))),
     fun (x : S256x256.Idx) => ((pay60_at _ _ x).trans ((congrArg (fun h => dup h _) (pay26_at _ _ x)).trans (du_piece o gu D 512 _ _ x (ix2 (⟨512 + x 0, by have : (x 0 : ℕ) < 256 := (x 0).isLt; omega⟩ : Fin 1024) (x 1)) rfl rfl))).trans (catV_right o gu D _ (ix2 (⟨512 + x 0, by have : (x 0 : ℕ) < 256 := (x 0).isLt; omega⟩ : Fin 1024) (x 1)) (Rect.idx_unit_val (s := S1024x512) ![512, 256] S256x256.size inb_S1024x512_S256x256_512_256 x 0) (Rect.idx_unit_val (s := S1024x512) ![512, 256] S256x256.size inb_S1024x512_S256x256_512_256 x 1)),
     fun (x : S256x256.Idx) => ((pay59_at _ _ _ x).trans ((congrArg (fun h => dgate h _ _) (pay26_at _ _ x)).trans (dg_piece o gu D 512 _ _ _ x (ix2 (⟨512 + x 0, by have : (x 0 : ℕ) < 256 := (x 0).isLt; omega⟩ : Fin 1024) (x 1)) rfl rfl))).trans (catV_left o gu D _ (ix2 (⟨512 + x 0, by have : (x 0 : ℕ) < 256 := (x 0).isLt; omega⟩ : Fin 1024) (x 1)) (Rect.idx_unit_val (s := S1024x512) ![512, 0] S256x256.size inb_S1024x512_S256x256_512_0 x 0) ((Rect.idx_unit_val (s := S1024x512) ![512, 0] S256x256.size inb_S1024x512_S256x256_512_0 x 1).trans (Nat.zero_add _))),
     fun (x : S256x256.Idx) => ((pay49_at _ _ x).trans ((congrArg (fun h => dup h _) (pay25_at _ _ x)).trans (du_piece o gu D 256 _ _ x (ix2 (⟨256 + x 0, by have : (x 0 : ℕ) < 256 := (x 0).isLt; omega⟩ : Fin 1024) (x 1)) rfl rfl))).trans (catV_right o gu D _ (ix2 (⟨256 + x 0, by have : (x 0 : ℕ) < 256 := (x 0).isLt; omega⟩ : Fin 1024) (x 1)) (Rect.idx_unit_val (s := S1024x512) ![256, 256] S256x256.size inb_S1024x512_S256x256_256_256 x 0) (Rect.idx_unit_val (s := S1024x512) ![256, 256] S256x256.size inb_S1024x512_S256x256_256_256 x 1)),
     fun (x : S256x256.Idx) => ((pay48_at _ _ _ x).trans ((congrArg (fun h => dgate h _ _) (pay25_at _ _ x)).trans (dg_piece o gu D 256 _ _ _ x (ix2 (⟨256 + x 0, by have : (x 0 : ℕ) < 256 := (x 0).isLt; omega⟩ : Fin 1024) (x 1)) rfl rfl))).trans (catV_left o gu D _ (ix2 (⟨256 + x 0, by have : (x 0 : ℕ) < 256 := (x 0).isLt; omega⟩ : Fin 1024) (x 1)) (Rect.idx_unit_val (s := S1024x512) ![256, 0] S256x256.size inb_S1024x512_S256x256_256_0 x 0) ((Rect.idx_unit_val (s := S1024x512) ![256, 0] S256x256.size inb_S1024x512_S256x256_256_0 x 1).trans (Nat.zero_add _))),
     fun (x : S256x256.Idx) => ((pay37_at _ _ x).trans ((congrArg (fun h => dup h _) (pay24_at _ _ x)).trans (du_piece o gu D 0 _ _ x (ix2 (⟨0 + x 0, by have : (x 0 : ℕ) < 256 := (x 0).isLt; omega⟩ : Fin 1024) (x 1)) rfl rfl))).trans (catV_right o gu D _ (ix2 (⟨0 + x 0, by have : (x 0 : ℕ) < 256 := (x 0).isLt; omega⟩ : Fin 1024) (x 1)) (Rect.idx_unit_val (s := S1024x512) ![0, 256] S256x256.size inb_S1024x512_S256x256_0_256 x 0) (Rect.idx_unit_val (s := S1024x512) ![0, 256] S256x256.size inb_S1024x512_S256x256_0_256 x 1)),
     fun (x : S256x256.Idx) => ((pay36_at _ _ _ x).trans ((congrArg (fun h => dgate h _ _) (pay24_at _ _ x)).trans (dg_piece o gu D 0 _ _ _ x (ix2 (⟨0 + x 0, by have : (x 0 : ℕ) < 256 := (x 0).isLt; omega⟩ : Fin 1024) (x 1)) rfl rfl))).trans (catV_left o gu D _ (ix2 (⟨0 + x 0, by have : (x 0 : ℕ) < 256 := (x 0).isLt; omega⟩ : Fin 1024) (x 1)) (Rect.idx_unit_val (s := S1024x512) ![0, 0] S256x256.size inb_S1024x512_S256x256_0_0 x 0) ((Rect.idx_unit_val (s := S1024x512) ![0, 0] S256x256.size inb_S1024x512_S256x256_0_0 x 1).trans (Nat.zero_add _))), trivial⟩
  exact View.canon_apply_of_pieces _ _ h.mem y (View.cover_of_tiledL (catL o gu D) S256x256.size (by sl_kernel_rfl) y)

/-- A load from the buffer they are stored in reads the joined gradients. -/
theorem catL_read (r : Rect S1024x512) :
    View.readCov (Val := Elt Ideal) (s := S1024x512) (e := .bf16) (View.whole cc0_scratch2) (catL o gu D) r.toLoadRect = View.ld (Val := Elt Ideal) (e' := .bf16) (catV o gu D) r := by
  rw [View.readCov_eq_canon_ld _ _ _ (fun y => View.cover_of_tiledL (catL o gu D) S256x256.size (by sl_kernel_rfl) y), catL_eq]

/-- A row group's part of the accumulator after the tile. -/
theorem acc_piece (acc : FVec Ideal S1024x1024 .f32) (off : ℕ) (i1 : ∀ a, ![off, 0] a + ![256, 1024] a ≤ S1024x1024.size a)
    (i2 : ∀ a, ![off, 0] a + ![256, 512] a ≤ S1024x512.size a)
    (x : S256x1024.Idx) (y : S1024x1024.Idx) (h0 : (y 0 : ℕ) = off + x 0) (h1 : (y 1 : ℕ) = 0 + x 1) :
    View.ld (Val := Elt Ideal) (e' := .f32) acc (Rect.unit ![off, 0] ![256, 1024] i1) x
      + ∑ c : Fin 512, View.ld (Val := Elt Ideal) (e' := .bf16) (catV o gu D) (Rect.unit ![off, 0] ![256, 512] i2) (ix2 (x 0) c) * W (ix2 c (x 1)) = accV o gu D W acc y := by
  have e : x 1 = y 1 := Fin.ext (h1.trans (Nat.zero_add _)).symm
  refine congrArg₂ (· + ·) (View.ld_unit_apply_of (Val := Elt Ideal) (e := .f32) acc _ _ i1 x y (Fin.forall_fin_two.mpr ⟨h0, h1⟩)) ?_
  refine Finset.sum_congr rfl fun c _ => congrArg₂ (· * ·) ?_ (congrArg (fun k => W (ix2 c k)) e)
  exact View.ld_unit_apply_of (Val := Elt Ideal) (e := .bf16) (catV o gu D) ![off, 0] ![256, 512] i2 (ix2 (x 0) c) (ix2 (y 0) c)
    (Fin.forall_fin_two.mpr ⟨h0, (Nat.zero_add _).symm⟩)

/-- The four stores of the accumulator, last first. -/
abbrev accL (acc : FVec Ideal S1024x1024 .f32) : List (View.Piece (Elt Ideal) S1024x1024 .f32) :=
    [⟨Rect.unit ![768, 0] ![256, 1024] inb_S1024x1024_S256x1024_768_0, k0_pay2 (F := Ideal) (View.ld (Val := Elt Ideal) (e' := .f32) acc (Rect.unit ![768, 0] ![256, 1024] inb_S1024x1024_S256x1024_768_0)) (View.readCov (Val := Elt Ideal) (s := S1024x512) (e := .bf16) (View.whole cc0_scratch2) (catL o gu D) (Rect.unit (s := S1024x512) ![768, 0] S256x512.size inb_S1024x512_S256x512_768_0).toLoadRect) W⟩,
     ⟨Rect.unit ![512, 0] ![256, 1024] inb_S1024x1024_S256x1024_512_0, k0_pay1 (F := Ideal) (k0_pay77 (F := Ideal) (View.ld (Val := Elt Ideal) (e' := .f32) acc (Rect.unit ![512, 0] ![256, 1024] inb_S1024x1024_S256x1024_512_0)) (View.readCov (Val := Elt Ideal) (s := S1024x512) (e := .bf16) (View.whole cc0_scratch2) (catL o gu D) (Rect.unit (s := S1024x512) ![512, 0] S256x512.size inb_S1024x512_S256x512_512_0).toLoadRect) W)⟩,
     ⟨Rect.unit ![256, 0] ![256, 1024] inb_S1024x1024_S256x1024_256_0, k0_pay76 (F := Ideal) (View.ld (Val := Elt Ideal) (e' := .f32) acc (Rect.unit ![256, 0] ![256, 1024] inb_S1024x1024_S256x1024_256_0)) (View.readCov (Val := Elt Ideal) (s := S1024x512) (e := .bf16) (View.whole cc0_scratch2) (catL o gu D) (Rect.unit (s := S1024x512) ![256, 0] S256x512.size inb_S1024x512_S256x512_256_0).toLoadRect) W⟩,
     ⟨Rect.unit ![0, 0] ![256, 1024] inb_S1024x1024_S256x1024_0_0, k0_pay75 (F := Ideal) (View.ld (Val := Elt Ideal) (e' := .f32) acc (Rect.unit ![0, 0] ![256, 1024] inb_S1024x1024_S256x1024_0_0)) (View.readCov (Val := Elt Ideal) (s := S1024x512) (e := .bf16) (View.whole cc0_scratch2) (catL o gu D) (Rect.unit (s := S1024x512) ![0, 0] S256x512.size inb_S1024x512_S256x512_0_0).toLoadRect) W⟩]

/-- Each is a part of the accumulator after the tile. -/
theorem accL_of (acc : FVec Ideal S1024x1024 .f32) : View.PiecesOf (accV o gu D W acc) (accL o gu D W acc) :=
    ⟨fun (x : S256x1024.Idx) => (congrFun (congrArg (fun b => k0_pay2 (F := Ideal) _ b W) (catL_read o gu D _)) x).trans ((acc3_at _ _ _ x).trans (acc_piece o gu D W acc 768 _ _ x _ (Rect.idx_unit_val (s := S1024x1024) ![768, 0] S256x1024.size inb_S1024x1024_S256x1024_768_0 x 0) (Rect.idx_unit_val (s := S1024x1024) ![768, 0] S256x1024.size inb_S1024x1024_S256x1024_768_0 x 1))),
     fun (x : S256x1024.Idx) => (congrFun (congrArg (fun b => k0_pay1 (F := Ideal) (k0_pay77 (F := Ideal) _ b W)) (catL_read o gu D _)) x).trans ((acc2_at _ _ _ x).trans (acc_piece o gu D W acc 512 _ _ x _ (Rect.idx_unit_val (s := S1024x1024) ![512, 0] S256x1024.size inb_S1024x1024_S256x1024_512_0 x 0) (Rect.idx_unit_val (s := S1024x1024) ![512, 0] S256x1024.size inb_S1024x1024_S256x1024_512_0 x 1))),
     fun (x : S256x1024.Idx) => (congrFun (congrArg (fun b => k0_pay76 (F := Ideal) _ b W) (catL_read o gu D _)) x).trans ((acc1_at _ _ _ x).trans (acc_piece o gu D W acc 256 _ _ x _ (Rect.idx_unit_val (s := S1024x1024) ![256, 0] S256x1024.size inb_S1024x1024_S256x1024_256_0 x 0) (Rect.idx_unit_val (s := S1024x1024) ![256, 0] S256x1024.size inb_S1024x1024_S256x1024_256_0 x 1))),
     fun (x : S256x1024.Idx) => (congrFun (congrArg (fun b => k0_pay75 (F := Ideal) _ b W) (catL_read o gu D _)) x).trans ((acc0_at _ _ _ x).trans (acc_piece o gu D W acc 0 _ _ x _ (Rect.idx_unit_val (s := S1024x1024) ![0, 0] S256x1024.size inb_S1024x1024_S256x1024_0_0 x 0) (Rect.idx_unit_val (s := S1024x1024) ![0, 0] S256x1024.size inb_S1024x1024_S256x1024_0_0 x 1))), trivial⟩

/-- Together, over whatever was stored before, they are the accumulator after the tile. -/
theorem accL_eq (acc : FVec Ideal S1024x1024 .f32) (L : List (View.Piece (Elt Ideal) S1024x1024 .f32)) :
    View.canon (accL o gu D W acc ++ L) = accV o gu D W acc := by
  funext y
  exact View.canon_append_of_piecesOf _ L _ (accL_of o gu D W acc) y (View.cover_of_tiledL (accL o gu D W acc) S256x1024.size (by sl_kernel_rfl) y)

end Cert.FfnBwdIdeal.Value

end
-- ==== Proof.FfnTail.lean ====
module

public import proofs.«01_k».proof.Proof.FfnBlock

@[expose] public section

set_option maxRecDepth 16384

noncomputable section

/-! What the feed-forward backward body does with the finished accumulator, at the last tile of a row block: the norm's
backward pass on four groups of 256 rows. -/
namespace Cert.FfnBwdIdeal.Value

open Idealize.ShloMosaic Idealize.ShloMosaic.TcCoe Idealize.SL.Sem
open Cert.FfnBwdIdeal Cert.FfnBwdIdeal.Gen

/-- One over the root mean square of a row. -/
def invK (y : Fin 1024 → EReal) : EReal :=
  Ideal.rsqrt (Ideal.div (∑ k, y k * y k) (Ideal.ofBits .f32 0x44800000#32) + Ideal.ofBits .f32 0x358637BD#32)

/-- A row's gradient through the norm, from the gradient `a` of the normed row, the row `x` and the gain `g`. -/
def rmsK (a x g : Fin 1024 → EReal) (d : Fin 1024) : EReal :=
  invK x * (a d * g d - x d * invK x * Ideal.div (∑ k, a k * g k * (x k * invK x)) (Ideal.ofBits .f32 0x44800000#32))

/-- Row group 0: one over the root mean square. -/
theorem pay7_at (x : FVec Ideal S256x1024 .f32) (i : S256x1.Idx) : k0_pay7 (F := Ideal) x i = invK fun k => x (ix2 (i 0) k) := by
  pointwise [k0_pay7]; rfl

/-- Row group 0: what it adds to the gain's gradient. -/
theorem pay9_at (a x : FVec Ideal S256x1024 .f32) (g : FVec Ideal S1x1024 .f32) (d : Fin 1024) :
    k0_pay9 (F := Ideal) a x g (ix2 0 d)
      = g (ix2 0 d) + ∑ r : Fin 256, a (ix2 r d) * (x (ix2 r d) * invK fun k => x (ix2 r k)) := by
  pointwise [k0_pay9, k0_pay8, pay7_at]

/-- Row group 0: the input's gradient. -/
theorem pay10_at (a x : FVec Ideal S256x1024 .f32) (g : FVec Ideal S1x1024 .f32) (y : FVec Ideal S256x1024 .f32) (r : Fin 256) (d : Fin 1024) :
    k0_pay10 (F := Ideal) a x g y (ix2 r d)
      = y (ix2 r d) + rmsK (fun k => a (ix2 r k)) (fun k => x (ix2 r k)) (fun k => g (ix2 0 k)) d := by
  unfold rmsK
  pointwise [k0_pay10, k0_pay8, pay7_at]

/-- Row group 1: one over the root mean square. -/
theorem pay11_at (x : FVec Ideal S256x1024 .f32) (i : S256x1.Idx) : k0_pay11 (F := Ideal) x i = invK fun k => x (ix2 (i 0) k) := by
  pointwise [k0_pay11]; rfl

/-- Row group 1: what it adds to the gain's gradient. -/
theorem pay13_at (a x : FVec Ideal S256x1024 .f32) (g : FVec Ideal S1x1024 .f32) (d : Fin 1024) :
    k0_pay13 (F := Ideal) a x g (ix2 0 d)
      = g (ix2 0 d) + ∑ r : Fin 256, a (ix2 r d) * (x (ix2 r d) * invK fun k => x (ix2 r k)) := by
  pointwise [k0_pay13, k0_pay12, pay11_at]

/-- Row group 1: the input's gradient. -/
theorem pay14_at (a x : FVec Ideal S256x1024 .f32) (g : FVec Ideal S1x1024 .f32) (y : FVec Ideal S256x1024 .f32) (r : Fin 256) (d : Fin 1024) :
    k0_pay14 (F := Ideal) a x g y (ix2 r d)
      = y (ix2 r d) + rmsK (fun k => a (ix2 r k)) (fun k => x (ix2 r k)) (fun k => g (ix2 0 k)) d := by
  unfold rmsK
  pointwise [k0_pay14, k0_pay12, pay11_at]

/-- Row group 2: one over the root mean square. -/
theorem pay15_at (x : FVec Ideal S256x1024 .f32) (i : S256x1.Idx) : k0_pay15 (F := Ideal) x i = invK fun k => x (ix2 (i 0) k) := by
  pointwise [k0_pay15]; rfl

/-- Row group 2: what it adds to the gain's gradient. -/
theorem pay17_at (a x : FVec Ideal S256x1024 .f32) (g : FVec Ideal S1x1024 .f32) (d : Fin 1024) :
    k0_pay17 (F := Ideal) a x g (ix2 0 d)
      = g (ix2 0 d) + ∑ r : Fin 256, a (ix2 r d) * (x (ix2 r d) * invK fun k => x (ix2 r k)) := by
  pointwise [k0_pay17, k0_pay16, pay15_at]

/-- Row group 2: the input's gradient. -/
theorem pay18_at (a x : FVec Ideal S256x1024 .f32) (g : FVec Ideal S1x1024 .f32) (y : FVec Ideal S256x1024 .f32) (r : Fin 256) (d : Fin 1024) :
    k0_pay18 (F := Ideal) a x g y (ix2 r d)
      = y (ix2 r d) + rmsK (fun k => a (ix2 r k)) (fun k => x (ix2 r k)) (fun k => g (ix2 0 k)) d := by
  unfold rmsK
  pointwise [k0_pay18, k0_pay16, pay15_at]

/-- Row group 3: one over the root mean square. -/
theorem pay3_at (x : FVec Ideal S256x1024 .f32) (i : S256x1.Idx) : k0_pay3 (F := Ideal) x i = invK fun k => x (ix2 (i 0) k) := by
  pointwise [k0_pay3]; rfl

/-- Row group 3: what it adds to the gain's gradient. -/
theorem pay5_at (a x : FVec Ideal S256x1024 .f32) (g : FVec Ideal S1x1024 .f32) (d : Fin 1024) :
    k0_pay5 (F := Ideal) a x g (ix2 0 d)
      = g (ix2 0 d) + ∑ r : Fin 256, a (ix2 r d) * (x (ix2 r d) * invK fun k => x (ix2 r k)) := by
  pointwise [k0_pay5, k0_pay4, pay3_at]

/-- Row group 3: the input's gradient. -/
theorem pay6_at (a x : FVec Ideal S256x1024 .f32) (g : FVec Ideal S1x1024 .f32) (y : FVec Ideal S256x1024 .f32) (r : Fin 256) (d : Fin 1024) :
    k0_pay6 (F := Ideal) a x g y (ix2 r d)
      = y (ix2 r d) + rmsK (fun k => a (ix2 r k)) (fun k => x (ix2 r k)) (fun k => g (ix2 0 k)) d := by
  unfold rmsK
  pointwise [k0_pay6, k0_pay4, pay3_at]

variable (o : FVec Ideal S1024x1024 .bf16) (gu : FVec Ideal S1024x512 .bf16) (D : FVec Ideal S256x1024 .bf16)
  (W : FVec Ideal S512x1024 .bf16) (acc : FVec Ideal S1024x1024 .f32)
  (x : FVec Ideal S1024x1024 .f32) (gn : FVec Ideal S1x1024 .f32) (dy : FVec Ideal S1024x1024 .f32)

/-- The block's input gradient from the finished accumulator `A`. -/
def dxV (A : FVec Ideal S1024x1024 .f32) : FVec Ideal S1024x1024 .f32 := fun y =>
  dy y + rmsK (fun k => A (ix2 (y 0) k)) (fun k => x (ix2 (y 0) k)) (fun k => gn (ix2 0 k)) (y 1)

/-- The gain's gradient with the block's part added. -/
def dgainV (A : FVec Ideal S1024x1024 .f32) (g0 : FVec Ideal S1x1024 .f32) : FVec Ideal S1x1024 .f32 := fun y =>
  g0 (ix2 0 (y 1)) + ∑ r : Fin 1024, A (ix2 r (y 1)) * (x (ix2 r (y 1)) * invK fun k => x (ix2 r k))

/-- A load from the accumulator's buffer reads the accumulator after the tile. -/
theorem accL_read (r : Rect S1024x1024) :
    View.readCov (Val := Elt Ideal) (s := S1024x1024) (e := .f32) (View.whole cc0_scratch1) (accL o gu D W acc) r.toLoadRect
      = View.ld (Val := Elt Ideal) (e' := .f32) (accV o gu D W acc) r := by
  rw [View.readCov_eq_canon_ld _ _ _ (fun y => View.cover_of_tiledL (accL o gu D W acc) S256x1024.size (by sl_kernel_rfl) y)]
  exact congrArg (fun v => View.ld v r) (accL_eq o gu D W acc [])

/-- A row group's rows of a block. -/
theorem row_piece (A : FVec Ideal S1024x1024 .f32) (off : ℕ) (i1 : ∀ a, ![off, 0] a + ![256, 1024] a ≤ S1024x1024.size a)
    (x : Fin 256) (r : Fin 1024) (hr : (r : ℕ) = off + x) (k : Fin 1024) :
    View.ld (Val := Elt Ideal) (e' := .f32) A (Rect.unit ![off, 0] ![256, 1024] i1) (ix2 x k) = A (ix2 r k) :=
  View.ld_unit_apply_of (Val := Elt Ideal) (e := .f32) A ![off, 0] ![256, 1024] i1 (ix2 x k) (ix2 r k)
    (Fin.forall_fin_two.mpr ⟨hr, (Nat.zero_add _).symm⟩)

/-- A row group's part of the input gradient. -/
theorem dx_piece (A : FVec Ideal S1024x1024 .f32) (off : ℕ) (i1 : ∀ a, ![off, 0] a + ![256, 1024] a ≤ S1024x1024.size a)
    (r : Fin 256) (d : Fin 1024) (y : S1024x1024.Idx) (h0 : (y 0 : ℕ) = off + r) (h1 : (y 1 : ℕ) = 0 + d) :
    View.ld (Val := Elt Ideal) (e' := .f32) dy (Rect.unit ![off, 0] ![256, 1024] i1) (ix2 r d)
      + rmsK (fun k => View.ld (Val := Elt Ideal) (e' := .f32) A (Rect.unit ![off, 0] ![256, 1024] i1) (ix2 r k))
          (fun k => View.ld (Val := Elt Ideal) (e' := .f32) x (Rect.unit ![off, 0] ![256, 1024] i1) (ix2 r k))
          (fun k => gn (ix2 0 k)) d = dxV x gn dy A y := by
  have e : y 1 = d := Fin.ext (h1.trans (Nat.zero_add _))
  have ey : ix2 (y 0) (y 1) = y := (ix2_eta y)
  rw [row_piece dy off i1 r (y 0) h0 d, funext (row_piece A off i1 r (y 0) h0), funext (row_piece x off i1 r (y 0) h0), ← e]
  exact congrArg (fun z => dy z + rmsK (fun k => A (ix2 (y 0) k)) (fun k => x (ix2 (y 0) k)) (fun k => gn (ix2 0 k)) (y 1)) ey

/-- A row group's part of the gain's gradient. -/
theorem dgain_piece (A : FVec Ideal S1024x1024 .f32) (off : ℕ) (i1 : ∀ a, ![off, 0] a + ![256, 1024] a ≤ S1024x1024.size a)
    (d : Fin 1024) (hoff : ∀ r : Fin 256, off + (r : ℕ) < 1024) :
    (∑ r : Fin 256, View.ld (Val := Elt Ideal) (e' := .f32) A (Rect.unit ![off, 0] ![256, 1024] i1) (ix2 r d)
        * (View.ld (Val := Elt Ideal) (e' := .f32) x (Rect.unit ![off, 0] ![256, 1024] i1) (ix2 r d)
          * invK fun k => View.ld (Val := Elt Ideal) (e' := .f32) x (Rect.unit ![off, 0] ![256, 1024] i1) (ix2 r k)))
      = ∑ r : Fin 256, A (ix2 ⟨off + r, hoff r⟩ d) * (x (ix2 ⟨off + r, hoff r⟩ d) * invK fun k => x (ix2 ⟨off + r, hoff r⟩ k)) := by
  refine Finset.sum_congr rfl fun r _ => ?_
  rw [row_piece A off i1 r ⟨off + r, hoff r⟩ rfl d, row_piece x off i1 r ⟨off + r, hoff r⟩ rfl d, funext (row_piece x off i1 r ⟨off + r, hoff r⟩ rfl)]

/-- The four stores of the input gradient, last first. -/
abbrev dxL : List (View.Piece (Elt Ideal) S1024x1024 .f32) :=
    [⟨Rect.unit ![768, 0] ![256, 1024] inb_S1024x1024_S256x1024_768_0, k0_pay6 (F := Ideal) (View.readCov (Val := Elt Ideal) (s := S1024x1024) (e := .f32) (View.whole cc0_scratch1) (accL o gu D W acc) (Rect.unit (s := S1024x1024) ![768, 0] S256x1024.size inb_S1024x1024_S256x1024_768_0).toLoadRect) (View.ld (Val := Elt Ideal) (e' := .f32) x (Rect.unit ![768, 0] ![256, 1024] inb_S1024x1024_S256x1024_768_0)) gn (View.ld (Val := Elt Ideal) (e' := .f32) dy (Rect.unit ![768, 0] ![256, 1024] inb_S1024x1024_S256x1024_768_0))⟩,
     ⟨Rect.unit ![512, 0] ![256, 1024] inb_S1024x1024_S256x1024_512_0, k0_pay18 (F := Ideal) (View.readCov (Val := Elt Ideal) (s := S1024x1024) (e := .f32) (View.whole cc0_scratch1) (accL o gu D W acc) (Rect.unit (s := S1024x1024) ![512, 0] S256x1024.size inb_S1024x1024_S256x1024_512_0).toLoadRect) (View.ld (Val := Elt Ideal) (e' := .f32) x (Rect.unit ![512, 0] ![256, 1024] inb_S1024x1024_S256x1024_512_0)) gn (View.ld (Val := Elt Ideal) (e' := .f32) dy (Rect.unit ![512, 0] ![256, 1024] inb_S1024x1024_S256x1024_512_0))⟩,
     ⟨Rect.unit ![256, 0] ![256, 1024] inb_S1024x1024_S256x1024_256_0, k0_pay14 (F := Ideal) (View.readCov (Val := Elt Ideal) (s := S1024x1024) (e := .f32) (View.whole cc0_scratch1) (accL o gu D W acc) (Rect.unit (s := S1024x1024) ![256, 0] S256x1024.size inb_S1024x1024_S256x1024_256_0).toLoadRect) (View.ld (Val := Elt Ideal) (e' := .f32) x (Rect.unit ![256, 0] ![256, 1024] inb_S1024x1024_S256x1024_256_0)) gn (View.ld (Val := Elt Ideal) (e' := .f32) dy (Rect.unit ![256, 0] ![256, 1024] inb_S1024x1024_S256x1024_256_0))⟩,
     ⟨Rect.unit ![0, 0] ![256, 1024] inb_S1024x1024_S256x1024_0_0, k0_pay10 (F := Ideal) (View.readCov (Val := Elt Ideal) (s := S1024x1024) (e := .f32) (View.whole cc0_scratch1) (accL o gu D W acc) (Rect.unit (s := S1024x1024) ![0, 0] S256x1024.size inb_S1024x1024_S256x1024_0_0).toLoadRect) (View.ld (Val := Elt Ideal) (e' := .f32) x (Rect.unit ![0, 0] ![256, 1024] inb_S1024x1024_S256x1024_0_0)) gn (View.ld (Val := Elt Ideal) (e' := .f32) dy (Rect.unit ![0, 0] ![256, 1024] inb_S1024x1024_S256x1024_0_0))⟩]

/-- Together they are the block's input gradient. -/
theorem dxL_eq : View.canon (dxL o gu D W acc x gn dy) = dxV x gn dy (accV o gu D W acc) := by
  funext y
  have h : View.PiecesOf (dxV x gn dy (accV o gu D W acc)) (dxL o gu D W acc x gn dy) :=
    ⟨fun (z : S256x1024.Idx) => (congrFun (congrArg (fun a => k0_pay6 (F := Ideal) a (View.ld (Val := Elt Ideal) (e' := .f32) x (Rect.unit ![768, 0] ![256, 1024] inb_S1024x1024_S256x1024_768_0)) gn (View.ld (Val := Elt Ideal) (e' := .f32) dy (Rect.unit ![768, 0] ![256, 1024] inb_S1024x1024_S256x1024_768_0))) (accL_read o gu D W acc _)) z).trans ((congrArg _ (ix2_eta z).symm).trans ((pay6_at _ _ _ _ (z 0) (z 1)).trans (dx_piece x gn dy _ 768 _ _ _ _ (Rect.idx_unit_val (s := S1024x1024) ![768, 0] S256x1024.size inb_S1024x1024_S256x1024_768_0 z 0) (Rect.idx_unit_val (s := S1024x1024) ![768, 0] S256x1024.size inb_S1024x1024_S256x1024_768_0 z 1)))),
     fun (z : S256x1024.Idx) => (congrFun (congrArg (fun a => k0_pay18 (F := Ideal) a (View.ld (Val := Elt Ideal) (e' := .f32) x (Rect.unit ![512, 0] ![256, 1024] inb_S1024x1024_S256x1024_512_0)) gn (View.ld (Val := Elt Ideal) (e' := .f32) dy (Rect.unit ![512, 0] ![256, 1024] inb_S1024x1024_S256x1024_512_0))) (accL_read o gu D W acc _)) z).trans ((congrArg _ (ix2_eta z).symm).trans ((pay18_at _ _ _ _ (z 0) (z 1)).trans (dx_piece x gn dy _ 512 _ _ _ _ (Rect.idx_unit_val (s := S1024x1024) ![512, 0] S256x1024.size inb_S1024x1024_S256x1024_512_0 z 0) (Rect.idx_unit_val (s := S1024x1024) ![512, 0] S256x1024.size inb_S1024x1024_S256x1024_512_0 z 1)))),
     fun (z : S256x1024.Idx) => (congrFun (congrArg (fun a => k0_pay14 (F := Ideal) a (View.ld (Val := Elt Ideal) (e' := .f32) x (Rect.unit ![256, 0] ![256, 1024] inb_S1024x1024_S256x1024_256_0)) gn (View.ld (Val := Elt Ideal) (e' := .f32) dy (Rect.unit ![256, 0] ![256, 1024] inb_S1024x1024_S256x1024_256_0))) (accL_read o gu D W acc _)) z).trans ((congrArg _ (ix2_eta z).symm).trans ((pay14_at _ _ _ _ (z 0) (z 1)).trans (dx_piece x gn dy _ 256 _ _ _ _ (Rect.idx_unit_val (s := S1024x1024) ![256, 0] S256x1024.size inb_S1024x1024_S256x1024_256_0 z 0) (Rect.idx_unit_val (s := S1024x1024) ![256, 0] S256x1024.size inb_S1024x1024_S256x1024_256_0 z 1)))),
     fun (z : S256x1024.Idx) => (congrFun (congrArg (fun a => k0_pay10 (F := Ideal) a (View.ld (Val := Elt Ideal) (e' := .f32) x (Rect.unit ![0, 0] ![256, 1024] inb_S1024x1024_S256x1024_0_0)) gn (View.ld (Val := Elt Ideal) (e' := .f32) dy (Rect.unit ![0, 0] ![256, 1024] inb_S1024x1024_S256x1024_0_0))) (accL_read o gu D W acc _)) z).trans ((congrArg _ (ix2_eta z).symm).trans ((pay10_at _ _ _ _ (z 0) (z 1)).trans (dx_piece x gn dy _ 0 _ _ _ _ (Rect.idx_unit_val (s := S1024x1024) ![0, 0] S256x1024.size inb_S1024x1024_S256x1024_0_0 z 0) (Rect.idx_unit_val (s := S1024x1024) ![0, 0] S256x1024.size inb_S1024x1024_S256x1024_0_0 z 1)))), trivial⟩
  exact View.canon_apply_of_pieces _ _ h.mem y (View.cover_of_tiledL (dxL o gu D W acc x gn dy) S256x1024.size (by sl_kernel_rfl) y)

/-- The gain's gradient after the four row groups. -/
abbrev dgainX (g0 : FVec Ideal S1x1024 .f32) : FVec Ideal S1x1024 .f32 :=
    (k0_pay5 (F := Ideal) (View.readCov (Val := Elt Ideal) (s := S1024x1024) (e := .f32) (View.whole cc0_scratch1) (accL o gu D W acc) (Rect.unit (s := S1024x1024) ![768, 0] S256x1024.size inb_S1024x1024_S256x1024_768_0).toLoadRect) (View.ld (Val := Elt Ideal) (e' := .f32) x (Rect.unit ![768, 0] ![256, 1024] inb_S1024x1024_S256x1024_768_0)) (k0_pay17 (F := Ideal) (View.readCov (Val := Elt Ideal) (s := S1024x1024) (e := .f32) (View.whole cc0_scratch1) (accL o gu D W acc) (Rect.unit (s := S1024x1024) ![512, 0] S256x1024.size inb_S1024x1024_S256x1024_512_0).toLoadRect) (View.ld (Val := Elt Ideal) (e' := .f32) x (Rect.unit ![512, 0] ![256, 1024] inb_S1024x1024_S256x1024_512_0)) (k0_pay13 (F := Ideal) (View.readCov (Val := Elt Ideal) (s := S1024x1024) (e := .f32) (View.whole cc0_scratch1) (accL o gu D W acc) (Rect.unit (s := S1024x1024) ![256, 0] S256x1024.size inb_S1024x1024_S256x1024_256_0).toLoadRect) (View.ld (Val := Elt Ideal) (e' := .f32) x (Rect.unit ![256, 0] ![256, 1024] inb_S1024x1024_S256x1024_256_0)) (k0_pay9 (F := Ideal) (View.readCov (Val := Elt Ideal) (s := S1024x1024) (e := .f32) (View.whole cc0_scratch1) (accL o gu D W acc) (Rect.unit (s := S1024x1024) ![0, 0] S256x1024.size inb_S1024x1024_S256x1024_0_0).toLoadRect) (View.ld (Val := Elt Ideal) (e' := .f32) x (Rect.unit ![0, 0] ![256, 1024] inb_S1024x1024_S256x1024_0_0)) g0))))

/-- It is the earlier one with the whole block's part added. -/
theorem dgainX_eq (g0 : FVec Ideal S1x1024 .f32) : dgainX o gu D W acc x g0 = dgainV x (accV o gu D W acc) g0 := by
  funext y
  obtain ⟨d, rfl⟩ : ∃ d : Fin 1024, y = ix2 0 d := ⟨y 1, by blk_ext⟩
  show dgainX o gu D W acc x g0 (ix2 0 d) = g0 (ix2 0 d) + ∑ r : Fin 1024, _
  rw [Fin.sum_univ_tiles 4 256 rfl, Fin.sum_univ_four]
  have e : dgainX o gu D W acc x g0 = (k0_pay5 (F := Ideal) (View.ld (Val := Elt Ideal) (e' := .f32) (accV o gu D W acc) (Rect.unit ![768, 0] ![256, 1024] inb_S1024x1024_S256x1024_768_0)) (View.ld (Val := Elt Ideal) (e' := .f32) x (Rect.unit ![768, 0] ![256, 1024] inb_S1024x1024_S256x1024_768_0)) (k0_pay17 (F := Ideal) (View.ld (Val := Elt Ideal) (e' := .f32) (accV o gu D W acc) (Rect.unit ![512, 0] ![256, 1024] inb_S1024x1024_S256x1024_512_0)) (View.ld (Val := Elt Ideal) (e' := .f32) x (Rect.unit ![512, 0] ![256, 1024] inb_S1024x1024_S256x1024_512_0)) (k0_pay13 (F := Ideal) (View.ld (Val := Elt Ideal) (e' := .f32) (accV o gu D W acc) (Rect.unit ![256, 0] ![256, 1024] inb_S1024x1024_S256x1024_256_0)) (View.ld (Val := Elt Ideal) (e' := .f32) x (Rect.unit ![256, 0] ![256, 1024] inb_S1024x1024_S256x1024_256_0)) (k0_pay9 (F := Ideal) (View.ld (Val := Elt Ideal) (e' := .f32) (accV o gu D W acc) (Rect.unit ![0, 0] ![256, 1024] inb_S1024x1024_S256x1024_0_0)) (View.ld (Val := Elt Ideal) (e' := .f32) x (Rect.unit ![0, 0] ![256, 1024] inb_S1024x1024_S256x1024_0_0)) g0)))) := by
    unfold dgainX
    rw [accL_read, accL_read, accL_read, accL_read]
  rw [e, pay5_at, pay17_at, pay13_at, pay9_at]
  rw [dgain_piece x (accV o gu D W acc) 0 inb_S1024x1024_S256x1024_0_0 d (fun r => by omega), dgain_piece x (accV o gu D W acc) 256 inb_S1024x1024_S256x1024_256_0 d (fun r => by omega), dgain_piece x (accV o gu D W acc) 512 inb_S1024x1024_S256x1024_512_0 d (fun r => by omega), dgain_piece x (accV o gu D W acc) 768 inb_S1024x1024_S256x1024_768_0 d (fun r => by omega)]
  have h5 (a b c d e : EReal) : a + b + c + d + e = a + (b + c + d + e) := by simp only [add_assoc]
  exact h5 _ _ _ _ _

end Cert.FfnBwdIdeal.Value

end
-- ==== Proof.FfnHost.lean ====
module

public import proofs.«01_k».proof.Proof.FfnFrame
public import proofs.«01_k».proof.Proof.FfnTail

@[expose] public section

set_option maxRecDepth 16384

noncomputable section

/-! The arrays the host prepares for the feed-forward backward kernel. -/
namespace Cert.FfnBwdIdeal.Value

open Cert.FfnBwdIdeal Cert.FfnBwdIdeal.Gen Idealize.ShloMosaic Idealize.ShloMosaic.TcCoe
open Idealize.SL Idealize.SL.Sem

/-- One weight, transposed and cut into groups of 256 rows. -/
def part (w : FVec Ideal S1024x2816 .f32) : FVec Ideal S11x1x256x1024 .bf16 :=
  broadcastInDim S11x1x256x1024 ![0, 2, 3] bcast_S11x256x1024_S11x1x256x1024_0_2_3
    (shapeCast S11x256x1024 (truncf (F := Ideal) .bf16
      (transpose S2816x1024 [1, 0] w transposes_S1024x2816_S2816x1024_1_0) bitsLt_bf16_f32)
      shapeCasts_S2816x1024_S11x256x1024)

/-- The two weights, their row groups interleaved. -/
def wguA (wg wu : FVec Ideal S1024x2816 .f32) : FVec Ideal S5632x1024 .bf16 :=
  shapeCast S5632x1024 (concatenate S11x2x256x1024 1 [⟨S11x1x256x1024, part wg⟩, ⟨S11x1x256x1024, part wu⟩]
    concatenates_S11x1x256x1024_S11x1x256x1024_S11x2x256x1024_d1) shapeCasts_S11x2x256x1024_S5632x1024

theorem part_at (w : FVec Ideal S1024x2816 .f32) (j : Fin 11) (k : Fin 256) (d : Fin 1024) :
    part w (ix4 j 0 k d) = w (ix2 d ⟨j * 256 + k, by omega⟩) := by
  pointwise [part]

/-- Row `k` of gate group `j`. -/
theorem wgu_gate (wg wu : FVec Ideal S1024x2816 .f32) (j : Fin 11) (k : Fin 256) (d : Fin 1024) :
    wguA wg wu (ix2 ⟨512 * j + k, by omega⟩ d) = wg (ix2 d ⟨j * 256 + k, by omega⟩) := by
  rw [← part_at wg]
  pointwise [wguA]
  have h : (512 * j.val + k.val) / 256 % 2 = 0 := by omega
  simp only [h]
  rfl

/-- Row `k` of up group `j`. -/
theorem wgu_up (wg wu : FVec Ideal S1024x2816 .f32) (j : Fin 11) (k : Fin 256) (d : Fin 1024) :
    wguA wg wu (ix2 ⟨512 * j + (256 + k), by omega⟩ d) = wu (ix2 d ⟨j * 256 + k, by omega⟩) := by
  rw [← part_at wu]
  pointwise [wguA]
  have h : ¬ (512 * j.val + (256 + k.val)) / 256 % 2 < 1 := by omega
  rw [dif_neg h]
  congr 1
  refine congrFun (congrFun (congrArg (ix4 j) (Fin.ext ?_)) k) d
  show (512 * j.val + (256 + k.val)) / 256 % 2 - 1 = 0
  omega

/-- The normed input. -/
def normA (x : FVec Ideal S8192x1024 .f32) (gn : FVec Ideal S1x1024 .f32) : FVec Ideal S8192x1024 .bf16 :=
  truncf (F := Ideal) .bf16 (mulf (mulf x (broadcastInDim S8192x1024 ![0, 1] bcast_S8192x1_S8192x1024_0_1
    (Host.rsqrt (addf (Host.divf (broadcastInDim S8192x1 ![0] bcast_S8192_S8192x1_0
      (Host.reduceAdd (mulf x x) (constant S_ .f32 0x00000000#32) reducesTo_S8192x1024_S8192_d1 h_S_))
      (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 gn)) bitsLt_bf16_f32

theorem norm_at (x : FVec Ideal S8192x1024 .f32) (gn : FVec Ideal S1x1024 .f32) (n : Fin 8192) (d : Fin 1024) :
    normA x gn (ix2 n d) = x (ix2 n d) * invK (fun k => x (ix2 n k)) * gn (ix2 0 d) := by
  pointwise [normA, invK]

/-- The saved gate and up products. -/
def guA (x : FVec Ideal S8192x1024 .f32) (gn : FVec Ideal S1x1024 .f32) (w : FVec Ideal S5632x1024 .bf16) :
    FVec Ideal S8192x5632 .bf16 :=
  truncf (F := Ideal) .bf16 (Host.dotGeneral dot_S8192x1024_S5632x1024_S8192x5632_1_1_0_0_n_n none (normA x gn) w)
    bitsLt_bf16_f32

theorem gu_at (x : FVec Ideal S8192x1024 .f32) (gn : FVec Ideal S1x1024 .f32) (w : FVec Ideal S5632x1024 .bf16)
    (n : Fin 8192) (q : Fin 5632) : guA x gn w (ix2 n q) = ∑ d, normA x gn (ix2 n d) * w (ix2 q d) := by
  pointwise [guA]

variable (m : (ℓ : Loc nD τ sig) → Buf (Elt Ideal) ℓ)

/-- What the host leaves for the interleaved weights. -/
theorem V_wgu (c : Dev nD) : V m c main_v9 =
    wguA (m ((c : Thread nD τ).loc main_arg3)) (m ((c : Thread nD τ).loc main_arg4)) := by
  unfold V
  after_results_simp
  rfl

/-- What the host leaves for the saved products. -/
theorem V_gu (c : Dev nD) : V m c main_v24 =
    guA (m ((c : Thread nD τ).loc main_arg1)) (m ((c : Thread nD τ).loc main_arg2))
      (wguA (m ((c : Thread nD τ).loc main_arg3)) (m ((c : Thread nD τ).loc main_arg4))) := by
  unfold V
  after_results_simp
  rfl

/-- What the host leaves for the narrowed down weight. -/
theorem V_wd (c : Dev nD) : V m c main_v26 =
    truncf (F := Ideal) .bf16 (show FVec Ideal S2816x1024 .f32 from m ((c : Thread nD τ).loc main_arg5))
      bitsLt_bf16_f32 := by
  unfold V
  after_results_simp

end Cert.FfnBwdIdeal.Value

end
-- ==== Proof.FfnModel.lean ====
module

public import proofs.«01_k».proof.Proof.FfnTail
public import proofs.«01_k».proof.Proof.Reals

@[expose] public section

noncomputable section

/-! The feed-forward group's backward pass over plain matrices, and what finite arguments give it. -/
namespace Cert.FfnModel

open Idealize.ShloMosaic
open Cert.FfnBwdIdeal.Value (invK rmsK sg dgate dup hid)

/-- The arguments as matrices: output gradient, input, gain, gate, up and down weights. -/
structure Mats where
  dy : Fin 8192 → Fin 1024 → EReal
  x : Fin 8192 → Fin 1024 → EReal
  gn : Fin 1024 → EReal
  wg : Fin 1024 → Fin 2816 → EReal
  wu : Fin 1024 → Fin 2816 → EReal
  wd : Fin 2816 → Fin 1024 → EReal

namespace Mats

variable (M : Mats)

/-- One over a row's root mean square. -/
def inv (n : Fin 8192) : EReal := invK (M.x n)

/-- The normed input, with its gain. -/
def norm (n : Fin 8192) (d : Fin 1024) : EReal := M.x n d * M.inv n * M.gn d

/-- The gate product. -/
def gate (n : Fin 8192) (f : Fin 2816) : EReal := ∑ d, M.norm n d * M.wg d f

/-- The up product. -/
def up (n : Fin 8192) (f : Fin 2816) : EReal := ∑ d, M.norm n d * M.wu d f

/-- Half of the output's gradient. -/
def halfDy (n : Fin 8192) (d : Fin 1024) : EReal := Ideal.ofBits .f32 0x3F000000#32 * M.dy n d

/-- The hidden values' gradient. -/
def dh (n : Fin 8192) (f : Fin 2816) : EReal := ∑ d, M.halfDy n d * M.wd f d

/-- The gate product's gradient. -/
def dgM (n : Fin 8192) (f : Fin 2816) : EReal := dgate (M.dh n f) (M.gate n f) (M.up n f)

/-- The up product's gradient. -/
def duM (n : Fin 8192) (f : Fin 2816) : EReal := dup (M.dh n f) (M.gate n f)

/-- The hidden values. -/
def hhM (n : Fin 8192) (f : Fin 2816) : EReal := hid (M.gate n f) (M.up n f)

/-- The normed input's gradient. -/
def dn (n : Fin 8192) (d : Fin 1024) : EReal := ∑ f, M.duM n f * M.wu d f + ∑ f, M.dgM n f * M.wg d f

/-- The input's gradient. -/
def dxM (n : Fin 8192) (d : Fin 1024) : EReal := M.dy n d + rmsK (M.dn n) (M.x n) M.gn d

/-- The gain's gradient. -/
def dgainM (d : Fin 1024) : EReal := ∑ n, M.dn n d * (M.x n d * M.inv n)

/-- Every argument is a real number. -/
structure Real : Prop where
  dy : ∀ n d, ∃ r : ℝ, M.dy n d = r
  x : ∀ n d, ∃ r : ℝ, M.x n d = r
  gn : ∀ d, ∃ r : ℝ, M.gn d = r
  wg : ∀ d f, ∃ r : ℝ, M.wg d f = r
  wu : ∀ d f, ∃ r : ℝ, M.wu d f = r
  wd : ∀ f d, ∃ r : ℝ, M.wd f d = r

end Mats

/-- A finite sum of reals is real. -/
theorem real_sum {ι : Type*} (s : Finset ι) (f : ι → EReal) (h : ∀ k, ∃ r : ℝ, f k = r) : ∃ r : ℝ, ∑ k ∈ s, f k = r := by
  choose g hg using h
  exact ⟨∑ k ∈ s, g k, by simp only [hg]; exact (map_sum (⟨⟨fun r : ℝ => (r : EReal), rfl⟩, fun a b => EReal.coe_add a b⟩ : ℝ →+ EReal) g s).symm⟩

/-- A product of reals is real. -/
theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

/-- One over the root mean square of a real row is real. -/
theorem real_invK (y : Fin 1024 → EReal) (h : ∀ k, ∃ r : ℝ, y k = r) : ∃ r : ℝ, invK y = r := by
  choose g hg using h
  have e : ∑ k, y k * y k = ((∑ k, g k * g k : ℝ) : EReal) := by
    simp only [hg, ← EReal.coe_mul]
    exact (map_sum (⟨⟨fun r : ℝ => (r : EReal), rfl⟩, fun a b => EReal.coe_add a b⟩ : ℝ →+ EReal) (fun k => g k * g k) Finset.univ).symm
  have hS : 0 ≤ ∑ k, g k * g k := Finset.sum_nonneg fun k _ => mul_self_nonneg (g k)
  unfold invK
  rw [e, Reals.c1024, Reals.ceps, Ideal.div_coe (by norm_num), ← EReal.coe_mul, ← EReal.coe_add, Ideal.rsqrt_coe]
  have hp : 0 < (∑ k, g k * g k) * (1 / 1024) + Reals.eps := add_pos_of_nonneg_of_pos (by positivity) Reals.eps_pos
  rw [if_neg hp.not_gt, if_neg hp.ne']
  exact ⟨_, rfl⟩

namespace Mats

variable {M : Mats}

theorem Real.norm (h : M.Real) (n : Fin 8192) (d : Fin 1024) : ∃ r : ℝ, M.norm n d = r :=
  real_mul (real_mul (h.x n d) (real_invK _ (h.x n))) (h.gn d)

theorem Real.gate (h : M.Real) (n : Fin 8192) (f : Fin 2816) : ∃ r : ℝ, M.gate n f = r :=
  real_sum _ _ fun d => real_mul (h.norm n d) (h.wg d f)

theorem Real.up (h : M.Real) (n : Fin 8192) (f : Fin 2816) : ∃ r : ℝ, M.up n f = r :=
  real_sum _ _ fun d => real_mul (h.norm n d) (h.wu d f)

theorem Real.dh (h : M.Real) (n : Fin 8192) (f : Fin 2816) : ∃ r : ℝ, M.dh n f = r :=
  real_sum _ _ fun d => real_mul (real_mul ⟨_, Reals.half⟩ (h.dy n d)) (h.wd f d)

end Mats

/-- The logistic function by the hyperbolic tangent of the half argument, over the reals. -/
theorem logistic_real (r : ℝ) : 1 / 2 * Real.tanh (1 / 2 * r) + 1 / 2 = 1 / (1 + Real.exp (-r)) := by
  rw [Real.tanh_eq_sinh_div_cosh, Real.sinh_eq, Real.cosh_eq]
  have e : Real.exp (-r) = Real.exp (-(1 / 2 * r)) * Real.exp (-(1 / 2 * r)) := by rw [← Real.exp_add]; congr 1; ring
  have e1 : Real.exp (1 / 2 * r) * Real.exp (-(1 / 2 * r)) = 1 := by rw [← Real.exp_add]; simp
  rw [e]
  generalize Real.exp (-(1 / 2 * r)) = b at *
  generalize ha : Real.exp (1 / 2 * r) = a at *
  have hb : 0 < a := ha ▸ Real.exp_pos _
  have hb' : b = 1 / a := by field_simp; linarith
  subst hb'
  field_simp
  ring

/-- The kernel's logistic function of a real. -/
theorem sg_coe (r : ℝ) : sg (r : EReal) = ((1 / (1 + Real.exp (-r)) : ℝ) : EReal) := by
  unfold sg
  rw [Reals.half, ← EReal.coe_mul, Ideal.tanh_coe, ← EReal.coe_mul, ← EReal.coe_add, logistic_real]

/-- The logistic function as a quotient of a real. -/
theorem logistic_coe (r : ℝ) : Ideal.div 1 (1 + Ideal.exp (-(r : EReal))) = sg (r : EReal) := by
  rw [sg_coe, ← EReal.coe_neg, Ideal.exp_coe]
  have h : (1 + Real.exp (-r)) ≠ 0 := by positivity
  rw [← EReal.coe_one, ← EReal.coe_add, Ideal.div_coe h, ← EReal.coe_mul, one_mul]

/-- The gate's gradient by the product rule is the kernel's, over the reals. -/
theorem dgate_coe (h g u : ℝ) :
    (h : EReal) * u * sg g + (g : EReal) * ((h : EReal) * u) * (sg g * (1 - sg g)) = dgate h g u := by
  unfold dgate
  rw [sg_coe]
  generalize (1 / (1 + Real.exp (-g))) = s
  rw [← EReal.coe_one]
  norm_cast
  ring

end Cert.FfnModel

end
-- ==== Proof.FfnFirst.lean ====
module

public import proofs.«01_k».proof.Proof.FfnTail

@[expose] public section

set_option maxRecDepth 16384

noncomputable section

/-! The stores of the feed-forward backward body at the first tile of a row block, where what it loads is what it has
stored at the same point: the halved output gradient and the zero accumulator, each over a whole buffer. -/
namespace Cert.FfnBwdIdeal.Value

open Idealize.ShloMosaic Idealize.ShloMosaic.TcCoe Idealize.SL.Sem
open Cert.FfnBwdIdeal Cert.FfnBwdIdeal.Gen

/-- A load after a fill of the whole buffer reads the fill. -/
theorem fill0 (Z : FVec Ideal S1024x1024 .bf16) (r : Rect S1024x1024) :
    View.readCov (Val := Elt Ideal) (s := S1024x1024) (e := .bf16) (View.whole cc0_scratch0) [⟨Rect.unit (s := S1024x1024) ![0, 0] S1024x1024.size inb_S1024x1024_S1024x1024_0_0, Z⟩] (Rect.toLoadRect r)
      = View.ld (Val := Elt Ideal) (e' := .bf16) Z r := by
  rw [View.readCov_eq_canon_ld _ _ _ (fun y => View.cover_of_tiledL (Val := Elt Ideal) (s := S1024x1024) (e := .bf16) [⟨Rect.unit (s := S1024x1024) ![0, 0] S1024x1024.size inb_S1024x1024_S1024x1024_0_0, Z⟩] S1024x1024.size (by sl_kernel_rfl) y),
    View.canon_cons_unit_lit _ _ _ (by decide)]

/-- The same of the accumulator. -/
theorem fill1 (Z : FVec Ideal S1024x1024 .f32) (r : Rect S1024x1024) :
    View.readCov (Val := Elt Ideal) (s := S1024x1024) (e := .f32) (View.whole cc0_scratch1) [⟨Rect.unit (s := S1024x1024) ![0, 0] S1024x1024.size inb_S1024x1024_S1024x1024_0_0, Z⟩] (Rect.toLoadRect r)
      = View.ld (Val := Elt Ideal) (e' := .f32) Z r := by
  rw [View.readCov_eq_canon_ld _ _ _ (fun y => View.cover_of_tiledL (Val := Elt Ideal) (s := S1024x1024) (e := .f32) [⟨Rect.unit (s := S1024x1024) ![0, 0] S1024x1024.size inb_S1024x1024_S1024x1024_0_0, Z⟩] S1024x1024.size (by sl_kernel_rfl) y),
    View.canon_cons_unit_lit _ _ _ (by decide)]

/-- Row group 1 of the accumulator, after the fill and the stores of the groups before it. -/
theorem skip1 (Z : FVec Ideal S1024x1024 .f32) (w0 : FVec Ideal S256x1024 .f32) :
    View.readCov (Val := Elt Ideal) (s := S1024x1024) (e := .f32) (View.whole cc0_scratch1) [⟨(Rect.unit (s := S1024x1024) ![0, 0] S256x1024.size inb_S1024x1024_S256x1024_0_0), w0⟩, ⟨Rect.unit (s := S1024x1024) ![0, 0] S1024x1024.size inb_S1024x1024_S1024x1024_0_0, Z⟩] (Rect.toLoadRect (Rect.unit (s := S1024x1024) ![256, 0] S256x1024.size inb_S1024x1024_S256x1024_256_0))
      = View.ld (Val := Elt Ideal) (e' := .f32) Z (Rect.unit (s := S1024x1024) ![256, 0] S256x1024.size inb_S1024x1024_S256x1024_256_0) := by
  rw [View.readCov_skip _ _ _ _ _ (by decide), fill1]

/-- Row group 2 of the accumulator, after the fill and the stores of the groups before it. -/
theorem skip2 (Z : FVec Ideal S1024x1024 .f32) (w0 w1 : FVec Ideal S256x1024 .f32) :
    View.readCov (Val := Elt Ideal) (s := S1024x1024) (e := .f32) (View.whole cc0_scratch1) [⟨(Rect.unit (s := S1024x1024) ![256, 0] S256x1024.size inb_S1024x1024_S256x1024_256_0), w1⟩, ⟨(Rect.unit (s := S1024x1024) ![0, 0] S256x1024.size inb_S1024x1024_S256x1024_0_0), w0⟩, ⟨Rect.unit (s := S1024x1024) ![0, 0] S1024x1024.size inb_S1024x1024_S1024x1024_0_0, Z⟩] (Rect.toLoadRect (Rect.unit (s := S1024x1024) ![512, 0] S256x1024.size inb_S1024x1024_S256x1024_512_0))
      = View.ld (Val := Elt Ideal) (e' := .f32) Z (Rect.unit (s := S1024x1024) ![512, 0] S256x1024.size inb_S1024x1024_S256x1024_512_0) := by
  rw [View.readCov_skip _ _ _ _ _ (by decide), View.readCov_skip _ _ _ _ _ (by decide), fill1]

/-- Row group 3 of the accumulator, after the fill and the stores of the groups before it. -/
theorem skip3 (Z : FVec Ideal S1024x1024 .f32) (w0 w1 w2 : FVec Ideal S256x1024 .f32) :
    View.readCov (Val := Elt Ideal) (s := S1024x1024) (e := .f32) (View.whole cc0_scratch1) [⟨(Rect.unit (s := S1024x1024) ![512, 0] S256x1024.size inb_S1024x1024_S256x1024_512_0), w2⟩, ⟨(Rect.unit (s := S1024x1024) ![256, 0] S256x1024.size inb_S1024x1024_S256x1024_256_0), w1⟩, ⟨(Rect.unit (s := S1024x1024) ![0, 0] S256x1024.size inb_S1024x1024_S256x1024_0_0), w0⟩, ⟨Rect.unit (s := S1024x1024) ![0, 0] S1024x1024.size inb_S1024x1024_S1024x1024_0_0, Z⟩] (Rect.toLoadRect (Rect.unit (s := S1024x1024) ![768, 0] S256x1024.size inb_S1024x1024_S256x1024_768_0))
      = View.ld (Val := Elt Ideal) (e' := .f32) Z (Rect.unit (s := S1024x1024) ![768, 0] S256x1024.size inb_S1024x1024_S256x1024_768_0) := by
  rw [View.readCov_skip _ _ _ _ _ (by decide), View.readCov_skip _ _ _ _ _ (by decide), View.readCov_skip _ _ _ _ _ (by decide), fill1]

variable (o : FVec Ideal S1024x1024 .bf16) (gu : FVec Ideal S1024x512 .bf16) (D : FVec Ideal S256x1024 .bf16)
  (W : FVec Ideal S512x1024 .bf16) (acc : FVec Ideal S1024x1024 .f32)

/-- The stores of `dgL`, with the loads of the halved output gradient as the body makes them here. -/
abbrev dgF : List (View.Piece (Elt Ideal) S1024x256 .bf16) :=
    [⟨Rect.unit ![768, 0] ![256, 256] inb_S1024x256_S256x256_768_0, k0_pay69 (F := Ideal) (k0_pay27 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![768, 0] S256x1024.size inb_S1024x1024_S256x1024_768_0))) D) (View.ld (Val := Elt Ideal) (e' := .bf16) gu (Rect.unit ![768, 0] ![256, 256] inb_S1024x512_S256x256_768_0)) (View.ld (Val := Elt Ideal) (e' := .bf16) gu (Rect.unit ![768, 256] ![256, 256] inb_S1024x512_S256x256_768_256))⟩,
     ⟨Rect.unit ![512, 0] ![256, 256] inb_S1024x256_S256x256_512_0, k0_pay57 (F := Ideal) (k0_pay26 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![512, 0] S256x1024.size inb_S1024x1024_S256x1024_512_0))) D) (View.ld (Val := Elt Ideal) (e' := .bf16) gu (Rect.unit ![512, 0] ![256, 256] inb_S1024x512_S256x256_512_0)) (View.ld (Val := Elt Ideal) (e' := .bf16) gu (Rect.unit ![512, 256] ![256, 256] inb_S1024x512_S256x256_512_256))⟩,
     ⟨Rect.unit ![256, 0] ![256, 256] inb_S1024x256_S256x256_256_0, k0_pay46 (F := Ideal) (k0_pay25 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![256, 0] S256x1024.size inb_S1024x1024_S256x1024_256_0))) D) (k0_pay39 (F := Ideal) (View.ld (Val := Elt Ideal) (e' := .bf16) gu (Rect.unit ![256, 0] ![256, 256] inb_S1024x512_S256x256_256_0))) (View.ld (Val := Elt Ideal) (e' := .bf16) gu (Rect.unit ![256, 256] ![256, 256] inb_S1024x512_S256x256_256_256))⟩,
     ⟨Rect.unit ![0, 0] ![256, 256] inb_S1024x256_S256x256_0_0, k0_pay34 (F := Ideal) (k0_pay24 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![0, 0] S256x1024.size inb_S1024x1024_S256x1024_0_0))) D) (k0_pay28 (F := Ideal) (View.ld (Val := Elt Ideal) (e' := .bf16) gu (Rect.unit ![0, 0] ![256, 256] inb_S1024x512_S256x256_0_0))) (View.ld (Val := Elt Ideal) (e' := .bf16) gu (Rect.unit ![0, 256] ![256, 256] inb_S1024x512_S256x256_0_256))⟩]

/-- They are the same stores. -/
theorem dgF_eq : dgF o gu D = dgL o gu D := by
  unfold dgF
  rw [fill0, fill0, fill0, fill0]

/-- The stores of `duL`, with the loads of the halved output gradient as the body makes them here. -/
abbrev duF : List (View.Piece (Elt Ideal) S1024x256 .bf16) :=
    [⟨Rect.unit ![768, 0] ![256, 256] inb_S1024x256_S256x256_768_0, k0_pay70 (F := Ideal) (k0_pay27 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![768, 0] S256x1024.size inb_S1024x1024_S256x1024_768_0))) D) (View.ld (Val := Elt Ideal) (e' := .bf16) gu (Rect.unit ![768, 0] ![256, 256] inb_S1024x512_S256x256_768_0))⟩,
     ⟨Rect.unit ![512, 0] ![256, 256] inb_S1024x256_S256x256_512_0, k0_pay58 (F := Ideal) (k0_pay26 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![512, 0] S256x1024.size inb_S1024x1024_S256x1024_512_0))) D) (View.ld (Val := Elt Ideal) (e' := .bf16) gu (Rect.unit ![512, 0] ![256, 256] inb_S1024x512_S256x256_512_0))⟩,
     ⟨Rect.unit ![256, 0] ![256, 256] inb_S1024x256_S256x256_256_0, k0_pay47 (F := Ideal) (k0_pay25 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![256, 0] S256x1024.size inb_S1024x1024_S256x1024_256_0))) D) (k0_pay39 (F := Ideal) (View.ld (Val := Elt Ideal) (e' := .bf16) gu (Rect.unit ![256, 0] ![256, 256] inb_S1024x512_S256x256_256_0)))⟩,
     ⟨Rect.unit ![0, 0] ![256, 256] inb_S1024x256_S256x256_0_0, k0_pay35 (F := Ideal) (k0_pay24 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![0, 0] S256x1024.size inb_S1024x1024_S256x1024_0_0))) D) (k0_pay28 (F := Ideal) (View.ld (Val := Elt Ideal) (e' := .bf16) gu (Rect.unit ![0, 0] ![256, 256] inb_S1024x512_S256x256_0_0)))⟩]

/-- They are the same stores. -/
theorem duF_eq : duF o gu D = duL o gu D := by
  unfold duF
  rw [fill0, fill0, fill0, fill0]

/-- The stores of `catL`, with the loads of the halved output gradient as the body makes them here. -/
abbrev catF : List (View.Piece (Elt Ideal) S1024x512 .bf16) :=
    [⟨Rect.unit ![768, 256] ![256, 256] inb_S1024x512_S256x256_768_256, k0_pay72 (F := Ideal) (k0_pay27 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![768, 0] S256x1024.size inb_S1024x1024_S256x1024_768_0))) D) (View.ld (Val := Elt Ideal) (e' := .bf16) gu (Rect.unit ![768, 0] ![256, 256] inb_S1024x512_S256x256_768_0))⟩,
     ⟨Rect.unit ![768, 0] ![256, 256] inb_S1024x512_S256x256_768_0, k0_pay71 (F := Ideal) (k0_pay27 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![768, 0] S256x1024.size inb_S1024x1024_S256x1024_768_0))) D) (View.ld (Val := Elt Ideal) (e' := .bf16) gu (Rect.unit ![768, 0] ![256, 256] inb_S1024x512_S256x256_768_0)) (View.ld (Val := Elt Ideal) (e' := .bf16) gu (Rect.unit ![768, 256] ![256, 256] inb_S1024x512_S256x256_768_256))⟩,
     ⟨Rect.unit ![512, 256] ![256, 256] inb_S1024x512_S256x256_512_256, k0_pay60 (F := Ideal) (k0_pay26 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![512, 0] S256x1024.size inb_S1024x1024_S256x1024_512_0))) D) (View.ld (Val := Elt Ideal) (e' := .bf16) gu (Rect.unit ![512, 0] ![256, 256] inb_S1024x512_S256x256_512_0))⟩,
     ⟨Rect.unit ![512, 0] ![256, 256] inb_S1024x512_S256x256_512_0, k0_pay59 (F := Ideal) (k0_pay26 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![512, 0] S256x1024.size inb_S1024x1024_S256x1024_512_0))) D) (View.ld (Val := Elt Ideal) (e' := .bf16) gu (Rect.unit ![512, 0] ![256, 256] inb_S1024x512_S256x256_512_0)) (View.ld (Val := Elt Ideal) (e' := .bf16) gu (Rect.unit ![512, 256] ![256, 256] inb_S1024x512_S256x256_512_256))⟩,
     ⟨Rect.unit ![256, 256] ![256, 256] inb_S1024x512_S256x256_256_256, k0_pay49 (F := Ideal) (k0_pay25 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![256, 0] S256x1024.size inb_S1024x1024_S256x1024_256_0))) D) (k0_pay39 (F := Ideal) (View.ld (Val := Elt Ideal) (e' := .bf16) gu (Rect.unit ![256, 0] ![256, 256] inb_S1024x512_S256x256_256_0)))⟩,
     ⟨Rect.unit ![256, 0] ![256, 256] inb_S1024x512_S256x256_256_0, k0_pay48 (F := Ideal) (k0_pay25 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![256, 0] S256x1024.size inb_S1024x1024_S256x1024_256_0))) D) (k0_pay39 (F := Ideal) (View.ld (Val := Elt Ideal) (e' := .bf16) gu (Rect.unit ![256, 0] ![256, 256] inb_S1024x512_S256x256_256_0))) (View.ld (Val := Elt Ideal) (e' := .bf16) gu (Rect.unit ![256, 256] ![256, 256] inb_S1024x512_S256x256_256_256))⟩,
     ⟨Rect.unit ![0, 256] ![256, 256] inb_S1024x512_S256x256_0_256, k0_pay37 (F := Ideal) (k0_pay24 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![0, 0] S256x1024.size inb_S1024x1024_S256x1024_0_0))) D) (k0_pay28 (F := Ideal) (View.ld (Val := Elt Ideal) (e' := .bf16) gu (Rect.unit ![0, 0] ![256, 256] inb_S1024x512_S256x256_0_0)))⟩,
     ⟨Rect.unit ![0, 0] ![256, 256] inb_S1024x512_S256x256_0_0, k0_pay36 (F := Ideal) (k0_pay24 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![0, 0] S256x1024.size inb_S1024x1024_S256x1024_0_0))) D) (k0_pay28 (F := Ideal) (View.ld (Val := Elt Ideal) (e' := .bf16) gu (Rect.unit ![0, 0] ![256, 256] inb_S1024x512_S256x256_0_0))) (View.ld (Val := Elt Ideal) (e' := .bf16) gu (Rect.unit ![0, 256] ![256, 256] inb_S1024x512_S256x256_0_256))⟩]

/-- They are the same stores. -/
theorem catF_eq : catF o gu D = catL o gu D := by
  unfold catF
  rw [fill0, fill0, fill0, fill0]

/-- Row group 0's store of the accumulator. -/
abbrev accF0 : FVec Ideal S256x1024 .f32 :=
    k0_pay75 (F := Ideal) (View.readCov (Val := Elt Ideal) (s := S1024x1024) (e := .f32) (View.whole cc0_scratch1) [⟨Rect.unit (s := S1024x1024) ![0, 0] S1024x1024.size inb_S1024x1024_S1024x1024_0_0, acc⟩] (Rect.toLoadRect (Rect.unit (s := S1024x1024) ![0, 0] S256x1024.size inb_S1024x1024_S256x1024_0_0))) (View.readCov (Val := Elt Ideal) (s := S1024x512) (e := .bf16) (View.whole cc0_scratch2) (catF o gu D) (Rect.unit (s := S1024x512) ![0, 0] S256x512.size inb_S1024x512_S256x512_0_0).toLoadRect) W

/-- It is the same store as at the later tiles. -/
theorem accF0_eq : accF0 o gu D W acc = k0_pay75 (F := Ideal) (View.ld (Val := Elt Ideal) (e' := .f32) acc (Rect.unit ![0, 0] ![256, 1024] inb_S1024x1024_S256x1024_0_0)) (View.readCov (Val := Elt Ideal) (s := S1024x512) (e := .bf16) (View.whole cc0_scratch2) (catL o gu D) (Rect.unit (s := S1024x512) ![0, 0] S256x512.size inb_S1024x512_S256x512_0_0).toLoadRect) W := by
  unfold accF0
  rw [catF_eq, fill1]

/-- Row group 1's store of the accumulator. -/
abbrev accF1 : FVec Ideal S256x1024 .f32 :=
    k0_pay76 (F := Ideal) (View.readCov (Val := Elt Ideal) (s := S1024x1024) (e := .f32) (View.whole cc0_scratch1) [⟨(Rect.unit (s := S1024x1024) ![0, 0] S256x1024.size inb_S1024x1024_S256x1024_0_0), accF0 o gu D W acc⟩, ⟨Rect.unit (s := S1024x1024) ![0, 0] S1024x1024.size inb_S1024x1024_S1024x1024_0_0, acc⟩] (Rect.toLoadRect (Rect.unit (s := S1024x1024) ![256, 0] S256x1024.size inb_S1024x1024_S256x1024_256_0))) (View.readCov (Val := Elt Ideal) (s := S1024x512) (e := .bf16) (View.whole cc0_scratch2) (catF o gu D) (Rect.unit (s := S1024x512) ![256, 0] S256x512.size inb_S1024x512_S256x512_256_0).toLoadRect) W

/-- It is the same store as at the later tiles. -/
theorem accF1_eq : accF1 o gu D W acc = k0_pay76 (F := Ideal) (View.ld (Val := Elt Ideal) (e' := .f32) acc (Rect.unit ![256, 0] ![256, 1024] inb_S1024x1024_S256x1024_256_0)) (View.readCov (Val := Elt Ideal) (s := S1024x512) (e := .bf16) (View.whole cc0_scratch2) (catL o gu D) (Rect.unit (s := S1024x512) ![256, 0] S256x512.size inb_S1024x512_S256x512_256_0).toLoadRect) W := by
  unfold accF1
  rw [catF_eq, skip1]

/-- Row group 2's store of the accumulator. -/
abbrev accF2 : FVec Ideal S256x1024 .f32 :=
    k0_pay1 (F := Ideal) (k0_pay77 (F := Ideal) (View.readCov (Val := Elt Ideal) (s := S1024x1024) (e := .f32) (View.whole cc0_scratch1) [⟨(Rect.unit (s := S1024x1024) ![256, 0] S256x1024.size inb_S1024x1024_S256x1024_256_0), accF1 o gu D W acc⟩, ⟨(Rect.unit (s := S1024x1024) ![0, 0] S256x1024.size inb_S1024x1024_S256x1024_0_0), accF0 o gu D W acc⟩, ⟨Rect.unit (s := S1024x1024) ![0, 0] S1024x1024.size inb_S1024x1024_S1024x1024_0_0, acc⟩] (Rect.toLoadRect (Rect.unit (s := S1024x1024) ![512, 0] S256x1024.size inb_S1024x1024_S256x1024_512_0))) (View.readCov (Val := Elt Ideal) (s := S1024x512) (e := .bf16) (View.whole cc0_scratch2) (catF o gu D) (Rect.unit (s := S1024x512) ![512, 0] S256x512.size inb_S1024x512_S256x512_512_0).toLoadRect) W)

/-- It is the same store as at the later tiles. -/
theorem accF2_eq : accF2 o gu D W acc = k0_pay1 (F := Ideal) (k0_pay77 (F := Ideal) (View.ld (Val := Elt Ideal) (e' := .f32) acc (Rect.unit ![512, 0] ![256, 1024] inb_S1024x1024_S256x1024_512_0)) (View.readCov (Val := Elt Ideal) (s := S1024x512) (e := .bf16) (View.whole cc0_scratch2) (catL o gu D) (Rect.unit (s := S1024x512) ![512, 0] S256x512.size inb_S1024x512_S256x512_512_0).toLoadRect) W) := by
  unfold accF2
  rw [catF_eq, skip2]

/-- Row group 3's store of the accumulator. -/
abbrev accF3 : FVec Ideal S256x1024 .f32 :=
    k0_pay2 (F := Ideal) (View.readCov (Val := Elt Ideal) (s := S1024x1024) (e := .f32) (View.whole cc0_scratch1) [⟨(Rect.unit (s := S1024x1024) ![512, 0] S256x1024.size inb_S1024x1024_S256x1024_512_0), accF2 o gu D W acc⟩, ⟨(Rect.unit (s := S1024x1024) ![256, 0] S256x1024.size inb_S1024x1024_S256x1024_256_0), accF1 o gu D W acc⟩, ⟨(Rect.unit (s := S1024x1024) ![0, 0] S256x1024.size inb_S1024x1024_S256x1024_0_0), accF0 o gu D W acc⟩, ⟨Rect.unit (s := S1024x1024) ![0, 0] S1024x1024.size inb_S1024x1024_S1024x1024_0_0, acc⟩] (Rect.toLoadRect (Rect.unit (s := S1024x1024) ![768, 0] S256x1024.size inb_S1024x1024_S256x1024_768_0))) (View.readCov (Val := Elt Ideal) (s := S1024x512) (e := .bf16) (View.whole cc0_scratch2) (catF o gu D) (Rect.unit (s := S1024x512) ![768, 0] S256x512.size inb_S1024x512_S256x512_768_0).toLoadRect) W

/-- It is the same store as at the later tiles. -/
theorem accF3_eq : accF3 o gu D W acc = k0_pay2 (F := Ideal) (View.ld (Val := Elt Ideal) (e' := .f32) acc (Rect.unit ![768, 0] ![256, 1024] inb_S1024x1024_S256x1024_768_0)) (View.readCov (Val := Elt Ideal) (s := S1024x512) (e := .bf16) (View.whole cc0_scratch2) (catL o gu D) (Rect.unit (s := S1024x512) ![768, 0] S256x512.size inb_S1024x512_S256x512_768_0).toLoadRect) W := by
  unfold accF3
  rw [catF_eq, skip3]

/-- The four stores of the accumulator, last first. -/
abbrev accF : List (View.Piece (Elt Ideal) S1024x1024 .f32) := [⟨(Rect.unit (s := S1024x1024) ![768, 0] S256x1024.size inb_S1024x1024_S256x1024_768_0), accF3 o gu D W acc⟩, ⟨(Rect.unit (s := S1024x1024) ![512, 0] S256x1024.size inb_S1024x1024_S256x1024_512_0), accF2 o gu D W acc⟩, ⟨(Rect.unit (s := S1024x1024) ![256, 0] S256x1024.size inb_S1024x1024_S256x1024_256_0), accF1 o gu D W acc⟩, ⟨(Rect.unit (s := S1024x1024) ![0, 0] S256x1024.size inb_S1024x1024_S256x1024_0_0), accF0 o gu D W acc⟩]

/-- They are the same stores. -/
theorem accF_eq : accF o gu D W acc = accL o gu D W acc := by
  unfold accF
  rw [accF0_eq, accF1_eq, accF2_eq, accF3_eq]

/-- The gate gradient at the first tile. -/
theorem dgF_canon : View.canon (dgF o gu D) = dgV o gu D := (congrArg View.canon (dgF_eq o gu D)).trans (dgL_eq o gu D)

/-- The up gradient at the first tile. -/
theorem duF_canon : View.canon (duF o gu D) = duV o gu D := (congrArg View.canon (duF_eq o gu D)).trans (duL_eq o gu D)

/-- The accumulator after the first tile. -/
theorem accF_canon (L : List (View.Piece (Elt Ideal) S1024x1024 .f32)) : View.canon (accF o gu D W acc ++ L) = accV o gu D W acc :=
  (congrArg (fun K => View.canon (K ++ L)) (accF_eq o gu D W acc)).trans (accL_eq o gu D W acc L)

end Cert.FfnBwdIdeal.Value

end
-- ==== Proof.FfnPointValue.lean ====
module

public import proofs.«01_k».proof.Proof.FfnFrame
public import proofs.«01_k».proof.Proof.FfnFirst

@[expose] public section

set_option maxRecDepth 16384

noncomputable section

/-! What each point of the feed-forward backward kernel leaves in its buffers, as the block values of its input blocks and
of what the previous point left. -/
namespace Cert.FfnBwdIdeal.Value

open Idealize.ShloMosaic Idealize.ShloMosaic.TcCoe Idealize.SL.Sem
open Cert.FfnBwdIdeal Cert.FfnBwdIdeal.Gen

variable (m : (ℓ : Loc nD τ sig) → Buf (Elt Ideal) ℓ)

/-- Case A: the gate gradient. -/
theorem outA_8 (c : Dev nD) (t : Fin cfg0.N) (h0 : t.val = 0) :
    out0_A_8 m c t h0 = dgV (k0_pay21 (F := Ideal) (iblk m c 0 t)) (iblk m c 3 t) (iblk m c 5 t) := by
  unfold out0_A_8 runA
  frame_out
  exact dgF_canon _ _ _

/-- Case A: the up gradient. -/
theorem outA_9 (c : Dev nD) (t : Fin cfg0.N) (h0 : t.val = 0) :
    out0_A_9 m c t h0 = duV (k0_pay21 (F := Ideal) (iblk m c 0 t)) (iblk m c 3 t) (iblk m c 5 t) := by
  unfold out0_A_9 runA
  frame_out
  exact duF_canon _ _ _

/-- Case A: the hidden values. -/
theorem outA_10 (c : Dev nD) (t : Fin cfg0.N) (h0 : t.val = 0) :
    out0_A_10 m c t h0 = hhV (iblk m c 3 t) := by
  unfold out0_A_10 runA
  frame_out
  exact hhL_eq _

/-- Case A: the accumulator. -/
theorem soutA_1 (c : Dev nD) (t : Fin cfg0.N) (h0 : t.val = 0) :
    sout0_A_1 m c t h0 = accV (k0_pay21 (F := Ideal) (iblk m c 0 t)) (iblk m c 3 t) (iblk m c 5 t) (iblk m c 4 t) (k0_pay23 (F := Ideal)) := by
  unfold sout0_A_1 runA
  frame_out
  exact accF_canon _ _ _ _ _ [⟨Rect.unit (s := S1024x1024) ![0, 0] S1024x1024.size inb_S1024x1024_S1024x1024_0_0, k0_pay23 (F := Ideal)⟩]

/-- Case A: the halved output gradient, kept for the later tiles. -/
theorem soutA_0 (c : Dev nD) (t : Fin cfg0.N) (h0 : t.val = 0) :
    sout0_A_0 m c t h0 = k0_pay21 (F := Ideal) (iblk m c 0 t) := by
  unfold sout0_A_0 runA
  frame_out

/-- Case A: the halved output gradient, stored for the caller. -/
theorem outA_11 (c : Dev nD) (t : Fin cfg0.N) (h0 : t.val = 0) :
    out0_A_11 m c t h0 = k0_pay22 (F := Ideal) (iblk m c 0 t) := by
  unfold out0_A_11 runA
  frame_out

/-- Case A: the gain's gradient starts from zero. -/
theorem outA_6 (c : Dev nD) (t : Fin cfg0.N) (h0 : t.val = 0) : out0_A_6 m c t h0 = k0_pay19 (F := Ideal) := by
  unfold out0_A_6 runA
  frame_out

/-- Case B: the gate gradient. -/
theorem outB_8 (c : Dev nD) (t : Fin cfg0.N) (h1 : ¬t.val % 11 = 0) (h2 : ¬t.val % 11 = 10) (p : St Ideal) :
    out0_B_8 m c t h1 h2 p = dgV p.2.2.2.2.2.2.1 (iblk m c 3 t) (iblk m c 5 t) := by
  unfold out0_B_8 runB
  frame_out
  rw [(Memref.isWhole_whole cc0_scratch0).read_unread _]
  exact dgL_eq _ _ _

/-- Case B: the up gradient. -/
theorem outB_9 (c : Dev nD) (t : Fin cfg0.N) (h1 : ¬t.val % 11 = 0) (h2 : ¬t.val % 11 = 10) (p : St Ideal) :
    out0_B_9 m c t h1 h2 p = duV p.2.2.2.2.2.2.1 (iblk m c 3 t) (iblk m c 5 t) := by
  unfold out0_B_9 runB
  frame_out
  rw [(Memref.isWhole_whole cc0_scratch0).read_unread _]
  exact duL_eq _ _ _

/-- Case B: the hidden values. -/
theorem outB_10 (c : Dev nD) (t : Fin cfg0.N) (h1 : ¬t.val % 11 = 0) (h2 : ¬t.val % 11 = 10) (p : St Ideal) :
    out0_B_10 m c t h1 h2 p = hhV (iblk m c 3 t) := by
  unfold out0_B_10 runB
  frame_out
  exact hhL_eq _

/-- Case B: the accumulator. -/
theorem soutB_1 (c : Dev nD) (t : Fin cfg0.N) (h1 : ¬t.val % 11 = 0) (h2 : ¬t.val % 11 = 10) (p : St Ideal) :
    sout0_B_1 m c t h1 h2 p = accV p.2.2.2.2.2.2.1 (iblk m c 3 t) (iblk m c 5 t) (iblk m c 4 t) p.2.2.2.2.2.2.2 := by
  unfold sout0_B_1 runB
  frame_out
  rw [(Memref.isWhole_whole cc0_scratch0).read_unread _, (Memref.isWhole_whole cc0_scratch1).read_unread _]
  exact accL_eq _ _ _ _ _ []

/-- Case C: the gate gradient. -/
theorem outC_8 (c : Dev nD) (t : Fin cfg0.N) (h2 : t.val % 11 = 10) (p : St Ideal) :
    out0_C_8 m c t h2 p = dgV p.2.2.2.2.2.2.1 (iblk m c 3 t) (iblk m c 5 t) := by
  unfold out0_C_8 runC
  frame_out
  rw [(Memref.isWhole_whole cc0_scratch0).read_unread _]
  exact dgL_eq _ _ _

/-- Case C: the up gradient. -/
theorem outC_9 (c : Dev nD) (t : Fin cfg0.N) (h2 : t.val % 11 = 10) (p : St Ideal) :
    out0_C_9 m c t h2 p = duV p.2.2.2.2.2.2.1 (iblk m c 3 t) (iblk m c 5 t) := by
  unfold out0_C_9 runC
  frame_out
  rw [(Memref.isWhole_whole cc0_scratch0).read_unread _]
  exact duL_eq _ _ _

/-- Case C: the hidden values. -/
theorem outC_10 (c : Dev nD) (t : Fin cfg0.N) (h2 : t.val % 11 = 10) (p : St Ideal) :
    out0_C_10 m c t h2 p = hhV (iblk m c 3 t) := by
  unfold out0_C_10 runC
  frame_out
  exact hhL_eq _

/-- Case C: the accumulator. -/
theorem soutC_1 (c : Dev nD) (t : Fin cfg0.N) (h2 : t.val % 11 = 10) (p : St Ideal) :
    sout0_C_1 m c t h2 p = accV p.2.2.2.2.2.2.1 (iblk m c 3 t) (iblk m c 5 t) (iblk m c 4 t) p.2.2.2.2.2.2.2 := by
  unfold sout0_C_1 runC
  frame_out
  rw [(Memref.isWhole_whole cc0_scratch0).read_unread _, (Memref.isWhole_whole cc0_scratch1).read_unread _]
  exact accL_eq _ _ _ _ _ []

/-- Case C: the gain's gradient. -/
theorem outC_6 (c : Dev nD) (t : Fin cfg0.N) (h2 : t.val % 11 = 10) (p : St Ideal) :
    out0_C_6 m c t h2 p = dgainV (iblk m c 1 t) (accV p.2.2.2.2.2.2.1 (iblk m c 3 t) (iblk m c 5 t) (iblk m c 4 t) p.2.2.2.2.2.2.2) p.1 := by
  unfold out0_C_6 runC
  frame_out
  rw [(Memref.isWhole_whole cc0_scratch0).read_unread _, (Memref.isWhole_whole cc0_scratch1).read_unread _]
  exact dgainX_eq _ _ _ _ _ _ _

/-- Case C: the input's gradient. -/
theorem outC_7 (c : Dev nD) (t : Fin cfg0.N) (h2 : t.val % 11 = 10) (p : St Ideal) :
    out0_C_7 m c t h2 p = dxV (iblk m c 1 t) (iblk m c 2 t) (iblk m c 0 t) (accV p.2.2.2.2.2.2.1 (iblk m c 3 t) (iblk m c 5 t) (iblk m c 4 t) p.2.2.2.2.2.2.2) := by
  unfold out0_C_7 runC
  frame_out
  rw [(Memref.isWhole_whole cc0_scratch0).read_unread _, (Memref.isWhole_whole cc0_scratch1).read_unread _]
  exact dxL_eq _ _ _ _ _ _ _ _

/-- Case D: the gate gradient. -/
theorem outD_8 (c : Dev nD) (t : Fin cfg0.N) (h0 : ¬t.val = 0) (h1 : t.val % 11 = 0) :
    out0_D_8 m c t h0 h1 = dgV (k0_pay21 (F := Ideal) (iblk m c 0 t)) (iblk m c 3 t) (iblk m c 5 t) := by
  unfold out0_D_8 runD
  frame_out
  exact dgF_canon _ _ _

/-- Case D: the up gradient. -/
theorem outD_9 (c : Dev nD) (t : Fin cfg0.N) (h0 : ¬t.val = 0) (h1 : t.val % 11 = 0) :
    out0_D_9 m c t h0 h1 = duV (k0_pay21 (F := Ideal) (iblk m c 0 t)) (iblk m c 3 t) (iblk m c 5 t) := by
  unfold out0_D_9 runD
  frame_out
  exact duF_canon _ _ _

/-- Case D: the hidden values. -/
theorem outD_10 (c : Dev nD) (t : Fin cfg0.N) (h0 : ¬t.val = 0) (h1 : t.val % 11 = 0) :
    out0_D_10 m c t h0 h1 = hhV (iblk m c 3 t) := by
  unfold out0_D_10 runD
  frame_out
  exact hhL_eq _

/-- Case D: the accumulator. -/
theorem soutD_1 (c : Dev nD) (t : Fin cfg0.N) (h0 : ¬t.val = 0) (h1 : t.val % 11 = 0) :
    sout0_D_1 m c t h0 h1 = accV (k0_pay21 (F := Ideal) (iblk m c 0 t)) (iblk m c 3 t) (iblk m c 5 t) (iblk m c 4 t) (k0_pay23 (F := Ideal)) := by
  unfold sout0_D_1 runD
  frame_out
  exact accF_canon _ _ _ _ _ [⟨Rect.unit (s := S1024x1024) ![0, 0] S1024x1024.size inb_S1024x1024_S1024x1024_0_0, k0_pay23 (F := Ideal)⟩]

/-- Case D: the halved output gradient, kept for the later tiles. -/
theorem soutD_0 (c : Dev nD) (t : Fin cfg0.N) (h0 : ¬t.val = 0) (h1 : t.val % 11 = 0) :
    sout0_D_0 m c t h0 h1 = k0_pay21 (F := Ideal) (iblk m c 0 t) := by
  unfold sout0_D_0 runD
  frame_out

/-- Case D: the halved output gradient, stored for the caller. -/
theorem outD_11 (c : Dev nD) (t : Fin cfg0.N) (h0 : ¬t.val = 0) (h1 : t.val % 11 = 0) :
    out0_D_11 m c t h0 h1 = k0_pay22 (F := Ideal) (iblk m c 0 t) := by
  unfold out0_D_11 runD
  frame_out

end Cert.FfnBwdIdeal.Value

end
-- ==== Proof.FfnBlocks.lean ====
module

public import proofs.«01_k».proof.Proof.FfnHost
public import proofs.«01_k».proof.Proof.FfnModel
public import proofs.«01_k».proof.Proof.FfnPointValue

@[expose] public section

set_option maxRecDepth 16384

noncomputable section

/-! The blocks that the feed-forward backward kernel reads at a grid point, as the model's matrices. -/
namespace Cert.FfnBwdIdeal.Value

open Idealize.ShloMosaic Idealize.ShloMosaic.TcCoe Idealize.SL.Sem
open Idealize.ShloMosaic.Pipeline (Dat)
open Cert.FfnBwdIdeal Cert.FfnBwdIdeal.Gen Cert.FfnModel
variable (m : (ℓ : Loc nD τ sig) → Buf (Elt Ideal) ℓ)

/-- The arguments as matrices. -/
def mats (c : Dev nD) : Mats where
  dy n d := (show FVec Ideal S8192x1024 .f32 from m ((c : Thread nD τ).loc main_arg0)) (ix2 n d)
  x n d := (show FVec Ideal S8192x1024 .f32 from m ((c : Thread nD τ).loc main_arg1)) (ix2 n d)
  gn d := (show FVec Ideal S1x1024 .f32 from m ((c : Thread nD τ).loc main_arg2)) (ix2 0 d)
  wg d f := (show FVec Ideal S1024x2816 .f32 from m ((c : Thread nD τ).loc main_arg3)) (ix2 d f)
  wu d f := (show FVec Ideal S1024x2816 .f32 from m ((c : Thread nD τ).loc main_arg4)) (ix2 d f)
  wd f d := (show FVec Ideal S2816x1024 .f32 from m ((c : Thread nD τ).loc main_arg5)) (ix2 f d)

/-- The number of grid points. -/
theorem lt88 (t : Fin cfg0.N) : t.val < 88 := t.isLt

/-- The row of the whole array that a block's row is. -/
def row (t : Fin cfg0.N) (r : Fin 1024) : Fin 8192 := ⟨1024 * (t.val / 11) + r.val, by have := lt88 t; omega⟩

/-- The column of the hidden width that a tile's column is. -/
def col (t : Fin cfg0.N) (k : Fin 256) : Fin 2816 := ⟨t.val % 11 * 256 + k.val, by omega⟩

/-- Where the blocks of each window lie at every grid point. -/
theorem idx : ∀ t : Fin cfg0.N, win0_0.index t = ![t.val / 11, 0] ∧ win0_1.index t = ![t.val / 11, 0]
    ∧ win0_2.index t = ![0, 0] ∧ win0_3.index t = ![t.val / 11, t.val % 11] ∧ win0_4.index t = ![t.val % 11, 0]
    ∧ win0_5.index t = ![t.val % 11, 0] ∧ win0_6.index t = ![0, 0] ∧ win0_7.index t = ![t.val / 11, 0]
    ∧ win0_8.index t = ![t.val / 11, t.val % 11] ∧ win0_9.index t = ![t.val / 11, t.val % 11]
    ∧ win0_10.index t = ![t.val / 11, t.val % 11] ∧ win0_11.index t = ![t.val / 11, 0] :=
  (by decide +kernel : ∀ t : Fin grid0.N, _)

/-- The block of the output gradient. -/
theorem dy_blk (c : Dev nD) (t : Fin cfg0.N) (r : Fin 1024) (d : Fin 1024) :
    (show FVec Ideal S1024x1024 .f32 from iblk m c 0 t) (ix2 r d) = (mats m c).dy (row t r) d := by
  unfold mats row
  blk_point [iblk, V, idx t]

/-- The block of the input. -/
theorem x_blk (c : Dev nD) (t : Fin cfg0.N) (r : Fin 1024) (d : Fin 1024) :
    (show FVec Ideal S1024x1024 .f32 from iblk m c 1 t) (ix2 r d) = (mats m c).x (row t r) d := by
  unfold mats row
  blk_point [iblk, V, idx t]

/-- The gain. -/
theorem gn_blk (c : Dev nD) (t : Fin cfg0.N) (d : Fin 1024) :
    (show FVec Ideal S1x1024 .f32 from iblk m c 2 t) (ix2 0 d) = (mats m c).gn d := by
  unfold mats
  blk_point [iblk, V, idx t]

/-- The block of the saved products. -/
theorem gu_blk (c : Dev nD) (t : Fin cfg0.N) (r : Fin 1024) (q : Fin 512) :
    (show FVec Ideal S1024x512 .bf16 from iblk m c 3 t) (ix2 r q)
      = guA (m ((c : Thread nD τ).loc main_arg1)) (m ((c : Thread nD τ).loc main_arg2))
      (wguA (m ((c : Thread nD τ).loc main_arg3)) (m ((c : Thread nD τ).loc main_arg4)))
        (ix2 (row t r) ⟨512 * (t.val % 11) + q.val, by omega⟩) := by
  rw [← V_gu]
  unfold row
  blk_point [iblk, idx t]

/-- The block of the interleaved weights. -/
theorem wgu_blk (c : Dev nD) (t : Fin cfg0.N) (q : Fin 512) (d : Fin 1024) :
    (show FVec Ideal S512x1024 .bf16 from iblk m c 4 t) (ix2 q d)
      = wguA (m ((c : Thread nD τ).loc main_arg3)) (m ((c : Thread nD τ).loc main_arg4))
        (ix2 ⟨512 * (t.val % 11) + q.val, by omega⟩ d) := by
  rw [← V_wgu]
  blk_point [iblk, idx t]

/-- The block of the down weight. -/
theorem wd_blk (c : Dev nD) (t : Fin cfg0.N) (k : Fin 256) (d : Fin 1024) :
    (show FVec Ideal S256x1024 .bf16 from iblk m c 5 t) (ix2 k d) = (mats m c).wd (col t k) d := by
  have e : (mats m c).wd (col t k) d = (show FVec Ideal S2816x1024 .bf16 from V m c main_v26) (ix2 (col t k) d) := by
    rw [V_wd]; rfl
  rw [e]
  unfold col
  blk_point [iblk, idx t]

/-- The gate weight in the interleaved block. -/
theorem wg_blk (c : Dev nD) (t : Fin cfg0.N) (k : Fin 256) (d : Fin 1024) :
    (show FVec Ideal S512x1024 .bf16 from iblk m c 4 t) (ix2 ⟨k.val, by omega⟩ d) = (mats m c).wg d (col t k) := by
  rw [wgu_blk]
  exact wgu_gate _ _ ⟨t.val % 11, by omega⟩ k d

/-- The up weight in the interleaved block. -/
theorem wu_blk (c : Dev nD) (t : Fin cfg0.N) (k : Fin 256) (d : Fin 1024) :
    (show FVec Ideal S512x1024 .bf16 from iblk m c 4 t) (ix2 ⟨256 + k.val, by omega⟩ d) = (mats m c).wu d (col t k) := by
  rw [wgu_blk]
  exact wgu_up _ _ ⟨t.val % 11, by omega⟩ k d

/-- The gate product in the block of the saved products. -/
theorem g_blk (c : Dev nD) (t : Fin cfg0.N) (r : Fin 1024) (k : Fin 256) :
    gB (iblk m c 3 t) r k = (mats m c).gate (row t r) (col t k) := by
  unfold gB
  refine (gu_blk m c t r ⟨k.val, by omega⟩).trans ?_
  rw [gu_at]
  unfold Mats.gate
  refine Finset.sum_congr rfl fun d _ => ?_
  rw [norm_at]
  exact congrArg _ (wgu_gate _ _ ⟨t.val % 11, by omega⟩ k d)

/-- The up product in the block of the saved products. -/
theorem u_blk (c : Dev nD) (t : Fin cfg0.N) (r : Fin 1024) (k : Fin 256) :
    uB (iblk m c 3 t) r k = (mats m c).up (row t r) (col t k) := by
  unfold uB
  refine (gu_blk m c t r ⟨256 + k.val, by omega⟩).trans ?_
  rw [gu_at]
  unfold Mats.up
  refine Finset.sum_congr rfl fun d _ => ?_
  rw [norm_at]
  exact congrArg _ (wgu_up _ _ ⟨t.val % 11, by omega⟩ k d)

end Cert.FfnBwdIdeal.Value

end
-- ==== Proof.FfnArrays.lean ====
module

public import proofs.«01_k».proof.Proof.FfnBlocks

@[expose] public section

set_option maxRecDepth 16384

noncomputable section

/-! What the feed-forward backward kernel holds after every grid point, and the arrays it leaves. -/
namespace Cert.FfnBwdIdeal.Value

open Idealize.ShloMosaic Idealize.ShloMosaic.TcCoe Idealize.SL.Sem
open Idealize.ShloMosaic.Pipeline (Dat)
open Cert.FfnBwdIdeal Cert.FfnBwdIdeal.Gen Cert.FfnModel
variable (m : (ℓ : Loc nD τ sig) → Buf (Elt Ideal) ℓ)

attribute [local irreducible] outsAt0 out0_A_6 out0_A_8 out0_A_9 out0_A_10 out0_A_11 sout0_A_0 sout0_A_1 out0_B_8 out0_B_9
  out0_B_10 sout0_B_1 out0_C_6 out0_C_7 out0_C_8 out0_C_9 out0_C_10 sout0_C_1 out0_D_8 out0_D_9 out0_D_10 out0_D_11
  sout0_D_0 sout0_D_1 iblk

/-- Half of the output gradient's block. -/
def hB (c : Dev nD) (t : Fin cfg0.N) : FVec Ideal S1024x1024 .bf16 := fun y => (mats m c).halfDy (row t (y 0)) (y 1)

/-- The block kept for the later tiles. -/
theorem half21 (c : Dev nD) (t : Fin cfg0.N) : k0_pay21 (F := Ideal) (iblk m c 0 t) = hB m c t := by
  funext y
  obtain ⟨r, d, rfl⟩ : ∃ (r : Fin 1024) (d : Fin 1024), y = ix2 r d := ⟨y 0, y 1, by blk_ext⟩
  refine (pay21_at _ _).trans ?_
  exact congrArg _ (dy_blk m c t r d)

/-- The block stored for the caller. -/
theorem half22 (c : Dev nD) (t : Fin cfg0.N) : k0_pay22 (F := Ideal) (iblk m c 0 t) = hB m c t := by
  funext y
  obtain ⟨r, d, rfl⟩ : ∃ (r : Fin 1024) (d : Fin 1024), y = ix2 r d := ⟨y 0, y 1, by blk_ext⟩
  refine (pay22_at _ _).trans ?_
  exact congrArg _ (dy_blk m c t r d)

/-- The point before. -/
abbrev before (t : Fin cfg0.N) : Fin cfg0.N := ⟨t.val - 1, Nat.lt_of_le_of_lt (Nat.sub_le _ _) t.isLt⟩

/-- Within a row block the half gradient's block stays. -/
theorem hB_before (c : Dev nD) (t : Fin cfg0.N) (h : ¬t.val % 11 = 0) : hB m c (before t) = hB m c t := by
  have e : ∀ r, row (before t) r = row t r := fun r => Fin.ext (by
    show 1024 * ((t.val - 1) / 11) + r.val = 1024 * (t.val / 11) + r.val
    omega)
  unfold hB
  funext y
  exact congrArg (fun z => (mats m c).halfDy z (y 1)) (e (y 0))

/-- Scratch and output window both hold half of the output gradient after every point. -/
theorem half_held (c : Dev nD) : ∀ (n : ℕ) (t : Fin cfg0.N), t.val = n →
    (outsAt0 m c t.val t.isLt).2.2.2.2.2.2.1 = hB m c t ∧ (outsAt0 m c t.val t.isLt).2.2.2.2.2.1 = hB m c t := by
  intro n
  induction n with
  | zero =>
    intro t ht
    rw [outsAt0_A m c t ht]
    dsimp only [stA]
    exact ⟨(soutA_0 m c t ht).trans (half21 m c t), (outA_11 m c t ht).trans (half22 m c t)⟩
  | succ n ih =>
    intro t ht
    by_cases h1 : t.val % 11 = 0
    · have h0 : ¬t.val = 0 := by omega
      rw [outsAt0_D m c t h0 h1]
      dsimp only [stD]
      exact ⟨(soutD_0 m c t h0 h1).trans (half21 m c t), (outD_11 m c t h0 h1).trans (half22 m c t)⟩
    · have hp := ih (before t) (by show t.val - 1 = n; omega)
      rw [hB_before m c t h1] at hp
      by_cases h2 : t.val % 11 = 10
      · rw [outsAt0_C m c t h2]
        dsimp only [stC]
        exact hp
      · rw [outsAt0_B m c t h1 h2]
        dsimp only [stB]
        exact hp

/-- What the scratch holds before a tile that is not the first. -/
theorem half_prev (c : Dev nD) (t : Fin cfg0.N) (h : ¬t.val % 11 = 0) : (prev m c t).2.2.2.2.2.2.1 = hB m c t :=
  (half_held m c _ (before t) rfl).1.trans (hB_before m c t h)

/-- The gate gradient after every point. -/
theorem dg_held (c : Dev nD) (t : Fin cfg0.N) : (outsAt0 m c t.val t.isLt).2.2.1 = dgV (hB m c t) (iblk m c 3 t) (iblk m c 5 t) := by
  by_cases h1 : t.val % 11 = 0
  · by_cases h0 : t.val = 0
    · rw [outsAt0_A m c t h0]
      dsimp only [stA]
      exact (outA_8 m c t h0).trans (by rw [half21])
    · rw [outsAt0_D m c t h0 h1]
      dsimp only [stD]
      exact (outD_8 m c t h0 h1).trans (by rw [half21])
  · by_cases h2 : t.val % 11 = 10
    · rw [outsAt0_C m c t h2]
      dsimp only [stC]
      exact (outC_8 m c t h2 _).trans (by rw [half_prev m c t h1])
    · rw [outsAt0_B m c t h1 h2]
      dsimp only [stB]
      exact (outB_8 m c t h1 h2 _).trans (by rw [half_prev m c t h1])

/-- The up gradient after every point. -/
theorem du_held (c : Dev nD) (t : Fin cfg0.N) : (outsAt0 m c t.val t.isLt).2.2.2.1 = duV (hB m c t) (iblk m c 3 t) (iblk m c 5 t) := by
  by_cases h1 : t.val % 11 = 0
  · by_cases h0 : t.val = 0
    · rw [outsAt0_A m c t h0]
      dsimp only [stA]
      exact (outA_9 m c t h0).trans (by rw [half21])
    · rw [outsAt0_D m c t h0 h1]
      dsimp only [stD]
      exact (outD_9 m c t h0 h1).trans (by rw [half21])
  · by_cases h2 : t.val % 11 = 10
    · rw [outsAt0_C m c t h2]
      dsimp only [stC]
      exact (outC_9 m c t h2 _).trans (by rw [half_prev m c t h1])
    · rw [outsAt0_B m c t h1 h2]
      dsimp only [stB]
      exact (outB_9 m c t h1 h2 _).trans (by rw [half_prev m c t h1])

/-- The hidden values after every point. -/
theorem hh_held (c : Dev nD) (t : Fin cfg0.N) : (outsAt0 m c t.val t.isLt).2.2.2.2.1 = hhV (iblk m c 3 t) := by
  by_cases h1 : t.val % 11 = 0
  · by_cases h0 : t.val = 0
    · rw [outsAt0_A m c t h0]
      dsimp only [stA]
      exact (outA_10 m c t h0).trans rfl
    · rw [outsAt0_D m c t h0 h1]
      dsimp only [stD]
      exact (outD_10 m c t h0 h1).trans rfl
  · by_cases h2 : t.val % 11 = 10
    · rw [outsAt0_C m c t h2]
      dsimp only [stC]
      exact (outC_10 m c t h2 _).trans rfl
    · rw [outsAt0_B m c t h1 h2]
      dsimp only [stB]
      exact (outB_10 m c t h1 h2 _).trans rfl

/-- The hidden gradient of a tile. -/
theorem dh_tile (c : Dev nD) (t : Fin cfg0.N) (r : Fin 1024) (k : Fin 256) :
    dhB (hB m c t) (iblk m c 5 t) r k = (mats m c).dh (row t r) (col t k) := by
  unfold dhB Mats.dh
  exact Finset.sum_congr rfl fun d _ => congrArg _ (wd_blk m c t k d)

/-- The gate gradient of a tile. -/
theorem dg_tile (c : Dev nD) (t : Fin cfg0.N) (r : Fin 1024) (k : Fin 256) :
    dgV (hB m c t) (iblk m c 3 t) (iblk m c 5 t) (ix2 r k) = (mats m c).dgM (row t r) (col t k) := by
  show dgate (dhB (hB m c t) (iblk m c 5 t) r k) (gB (iblk m c 3 t) r k) (uB (iblk m c 3 t) r k) = _
  rw [dh_tile, g_blk, u_blk]
  rfl

/-- The up gradient of a tile. -/
theorem du_tile (c : Dev nD) (t : Fin cfg0.N) (r : Fin 1024) (k : Fin 256) :
    duV (hB m c t) (iblk m c 3 t) (iblk m c 5 t) (ix2 r k) = (mats m c).duM (row t r) (col t k) := by
  show dup (dhB (hB m c t) (iblk m c 5 t) r k) (gB (iblk m c 3 t) r k) = _
  rw [dh_tile, g_blk]
  rfl

/-- The hidden values of a tile. -/
theorem hh_tile (c : Dev nD) (t : Fin cfg0.N) (r : Fin 1024) (k : Fin 256) :
    hhV (iblk m c 3 t) (ix2 r k) = (mats m c).hhM (row t r) (col t k) := by
  show hid (gB (iblk m c 3 t) r k) (uB (iblk m c 3 t) r k) = _
  rw [g_blk, u_blk]
  rfl

/-- What a tile adds to the normed input's gradient. -/
def term (c : Dev nD) (t : Fin cfg0.N) (r d : Fin 1024) : EReal :=
  ∑ k : Fin 256, (mats m c).dgM (row t r) (col t k) * (mats m c).wg d (col t k)
    + ∑ k : Fin 256, (mats m c).duM (row t r) (col t k) * (mats m c).wu d (col t k)

/-- The accumulator with a tile added. -/
theorem acc_tile (c : Dev nD) (t : Fin cfg0.N) (acc : FVec Ideal S1024x1024 .f32) (r d : Fin 1024) :
    accV (hB m c t) (iblk m c 3 t) (iblk m c 5 t) (iblk m c 4 t) acc (ix2 r d) = acc (ix2 r d) + term m c t r d := by
  show acc (ix2 r d) + ∑ q : Fin (256 + 256), catV (hB m c t) (iblk m c 3 t) (iblk m c 5 t) (ix2 r q)
    * (show FVec Ideal S512x1024 .bf16 from iblk m c 4 t) (ix2 q d) = _
  refine congrArg _ ?_
  rw [Fin.sum_univ_add]
  unfold term
  refine congrArg₂ (· + ·) (Finset.sum_congr rfl fun k _ => ?_) (Finset.sum_congr rfl fun k _ => ?_)
  · refine congrArg₂ (· * ·) ?_ (wg_blk m c t k d)
    rw [← dg_tile]
    exact dif_pos k.isLt
  · refine congrArg₂ (· * ·) ?_ (wu_blk m c t k d)
    rw [← du_tile]
    refine (dif_neg (show ¬256 + k.val < 256 by omega)).trans ?_
    refine congrArg (fun z => duV (hB m c t) (iblk m c 3 t) (iblk m c 5 t) (ix2 r z)) (Fin.ext ?_)
    show 256 + k.val - 256 = k.val
    omega

/-- The accumulator after a row block's first tile. -/
theorem acc_first (c : Dev nD) (t : Fin cfg0.N) (h1 : t.val % 11 = 0) (r d : Fin 1024) :
    (outsAt0 m c t.val t.isLt).2.2.2.2.2.2.2 (ix2 r d) = 0 + term m c t r d := by
  by_cases h0 : t.val = 0
  · rw [outsAt0_A m c t h0]
    dsimp only [stA]
    refine (congrFun (soutA_1 m c t h0) _).trans ?_
    rw [half21, acc_tile, pay23_at]
  · rw [outsAt0_D m c t h0 h1]
    dsimp only [stD]
    refine (congrFun (soutD_1 m c t h0 h1) _).trans ?_
    rw [half21, acc_tile, pay23_at]

/-- The accumulator after a later tile. -/
theorem acc_next (c : Dev nD) (t : Fin cfg0.N) (h1 : ¬t.val % 11 = 0) (r d : Fin 1024) :
    (outsAt0 m c t.val t.isLt).2.2.2.2.2.2.2 (ix2 r d) = (prev m c t).2.2.2.2.2.2.2 (ix2 r d) + term m c t r d := by
  by_cases h2 : t.val % 11 = 10
  · rw [outsAt0_C m c t h2]
    dsimp only [stC]
    refine (congrFun (soutC_1 m c t h2 _) _).trans ?_
    rw [half_prev m c t h1, acc_tile]
  · rw [outsAt0_B m c t h1 h2]
    dsimp only [stB]
    refine (congrFun (soutB_1 m c t h1 h2 _) _).trans ?_
    rw [half_prev m c t h1, acc_tile]

/-- The accumulator at the end of a row block is the normed input's gradient. -/
theorem acc_last (c : Dev nD) (t : Fin cfg0.N) (h : t.val % 11 = 10) (r d : Fin 1024) :
    (outsAt0 m c t.val t.isLt).2.2.2.2.2.2.2 (ix2 r d) = (mats m c).dn (row t r) d := by
  have e := Pipeline.eq_sum_fin_of_reset_step_apply_of_flush (M := EReal) (ι := Fin 1024 × Fin 1024) (N := cfg0.N)
    (fun n h i => (outsAt0 m c n h).2.2.2.2.2.2.2 (ix2 i.1 i.2)) 11 (fun _ => 0) (fun p i => term m c p i.1 i.2)
    (fun p hp i => acc_first m c p hp i.1 i.2) (fun p hp i => acc_next m c p hp i.1 i.2) t h (r, d)
  refine e.trans ?_
  rw [zero_add]
  unfold term Mats.dn
  rw [Finset.sum_add_distrib, add_comm, Fin.sum_univ_tiles 11 256 rfl, Fin.sum_univ_tiles 11 256 rfl]
  have hr : ∀ s : Fin 11, row ⟨11 * (t.val / 11) + s.val, Pipeline.run_point_lt_of_flush t h s⟩ r = row t r := fun s => Fin.ext (by
    show 1024 * ((11 * (t.val / 11) + s.val) / 11) + r.val = 1024 * (t.val / 11) + r.val
    omega)
  have hc : ∀ (s : Fin 11) (k : Fin 256), col ⟨11 * (t.val / 11) + s.val, Pipeline.run_point_lt_of_flush t h s⟩ k
      = ⟨s.val * 256 + k.val, by omega⟩ := fun s k => Fin.ext (by
    show (11 * (t.val / 11) + s.val) % 11 * 256 + k.val = s.val * 256 + k.val
    omega)
  refine congrArg₂ (· + ·) (Finset.sum_congr rfl fun s _ => Finset.sum_congr rfl fun k _ => ?_)
    (Finset.sum_congr rfl fun s _ => Finset.sum_congr rfl fun k _ => ?_)
  · simp only [hr, hc]
  · simp only [hr, hc]

/-- The input's gradient at the end of a row block. -/
theorem dx_held (c : Dev nD) (t : Fin cfg0.N) (h : t.val % 11 = 10) (r d : Fin 1024) :
    (outsAt0 m c t.val t.isLt).2.1 (ix2 r d) = (mats m c).dxM (row t r) d := by
  have ha : accV (prev m c t).2.2.2.2.2.2.1 (iblk m c 3 t) (iblk m c 5 t) (iblk m c 4 t) (prev m c t).2.2.2.2.2.2.2
      = (outsAt0 m c t.val t.isLt).2.2.2.2.2.2.2 := by
    rw [outsAt0_C m c t h]
    dsimp only [stC]
    exact (soutC_1 m c t h _).symm
  have e : (outsAt0 m c t.val t.isLt).2.1 = dxV (iblk m c 1 t) (iblk m c 2 t) (iblk m c 0 t)
      (outsAt0 m c t.val t.isLt).2.2.2.2.2.2.2 := by
    rw [← ha, outsAt0_C m c t h]
    dsimp only [stC]
    exact outC_7 m c t h _
  rw [e]
  unfold Mats.dxM
  refine congrArg₂ (· + ·) (dy_blk m c t r d) ?_
  refine congrFun (congr (congr (congrArg rmsK (funext fun k => ?_)) (funext fun k => ?_)) (funext fun k => ?_)) d
  · exact acc_last m c t h r k
  · exact x_blk m c t r k
  · exact gn_blk m c t k

/-- A row's part of the gain's gradient. -/
def gainTerm (c : Dev nD) (d : Fin 1024) (n : Fin 8192) : EReal :=
  (mats m c).dn n d * ((mats m c).x n d * (mats m c).inv n)

/-- A row block's part of the gain's gradient. -/
def gainBlock (c : Dev nD) (d : Fin 1024) (b : ℕ) : EReal :=
  if h : b < 8 then ∑ r : Fin 1024, gainTerm m c d ⟨b * 1024 + r.val, by omega⟩ else 0

/-- The gain's gradient with a block's part added, at a column. -/
theorem dgainV_at (x A : FVec Ideal S1024x1024 .f32) (g0 : FVec Ideal S1x1024 .f32) (d : Fin 1024) :
    dgainV x A g0 (ix2 0 d) = g0 (ix2 0 d) + ∑ r : Fin 1024, A (ix2 r d) * (x (ix2 r d) * invK fun k => x (ix2 r k)) := rfl

/-- The gain's gradient at the end of a row block. -/
theorem gain_last (c : Dev nD) (t : Fin cfg0.N) (h : t.val % 11 = 10) (d : Fin 1024) :
    (outsAt0 m c t.val t.isLt).1 (ix2 0 d) = (prev m c t).1 (ix2 0 d) + gainBlock m c d (t.val / 11) := by
  have ha : accV (prev m c t).2.2.2.2.2.2.1 (iblk m c 3 t) (iblk m c 5 t) (iblk m c 4 t) (prev m c t).2.2.2.2.2.2.2
      = (outsAt0 m c t.val t.isLt).2.2.2.2.2.2.2 := by
    rw [outsAt0_C m c t h]
    dsimp only [stC]
    exact (soutC_1 m c t h _).symm
  have e : (outsAt0 m c t.val t.isLt).1 = dgainV (iblk m c 1 t)
      (outsAt0 m c t.val t.isLt).2.2.2.2.2.2.2 (prev m c t).1 := by
    rw [← ha, outsAt0_C m c t h]
    dsimp only [stC]
    exact outC_6 m c t h _
  rw [e, dgainV_at]
  refine congrArg _ ?_
  unfold gainBlock
  have h8 : t.val / 11 < 8 := by have := lt88 t; omega
  rw [dif_pos h8]
  refine Finset.sum_congr rfl fun r _ => ?_
  have hr : (⟨t.val / 11 * 1024 + r.val, by omega⟩ : Fin 8192) = row t r := Fin.ext (by
    show t.val / 11 * 1024 + r.val = 1024 * (t.val / 11) + r.val
    omega)
  rw [hr]
  unfold gainTerm
  refine congrArg₂ (· * ·) (acc_last m c t h r d) (congrArg₂ (· * ·) (x_blk m c t r d) ?_)
  exact congrArg invK (funext fun k => x_blk m c t r k)

/-- The gain's gradient after every point: the row blocks that are done. -/
theorem gain_held (c : Dev nD) (d : Fin 1024) : ∀ (n : ℕ) (t : Fin cfg0.N), t.val = n →
    (outsAt0 m c t.val t.isLt).1 (ix2 0 d) = ∑ b ∈ Finset.range ((n + 1) / 11), gainBlock m c d b := by
  intro n
  induction n with
  | zero =>
    intro t ht
    rw [outsAt0_A m c t ht]
    dsimp only [stA]
    refine (congrFun (outA_6 m c t ht) _).trans ((pay19_at _).trans ?_)
    simp
  | succ n ih =>
    intro t ht
    have hp := ih (before t) (by show t.val - 1 = n; omega)
    by_cases h2 : t.val % 11 = 10
    · rw [gain_last m c t h2 d]
      have e : (n + 1 + 1) / 11 = (n + 1) / 11 + 1 := by omega
      rw [e, Finset.sum_range_succ]
      refine congrArg₂ (· + ·) hp (congrArg _ ?_)
      omega
    · have e : (n + 1 + 1) / 11 = (n + 1) / 11 := by omega
      rw [e]
      by_cases h1 : t.val % 11 = 0
      · rw [outsAt0_D m c t (by omega) h1]
        dsimp only [stD]
        exact hp
      · rw [outsAt0_B m c t h1 h2]
        dsimp only [stB]
        exact hp

/-- The gain's gradient after the last point. -/
theorem gain_final (c : Dev nD) (t : Fin cfg0.N) (h : t.val = 87) (d : Fin 1024) :
    (outsAt0 m c t.val t.isLt).1 (ix2 0 d) = (mats m c).dgainM d := by
  rw [gain_held m c d 87 t h]
  show ∑ b ∈ Finset.range 8, gainBlock m c d b = ∑ n, gainTerm m c d n
  rw [Finset.sum_range, Fin.sum_univ_tiles 8 1024 rfl]
  exact Finset.sum_congr rfl fun b _ => dif_pos b.isLt

/-- The input's gradient as an array. -/
theorem final_dx (c : Dev nD) : (dats m 0 c).arrAt 7 (cfgs 0).N
    = (show FVec Ideal S8192x1024 .f32 from fun y => (mats m c).dxM (y 0) (y 1)) := by
  refine (dats m 0 c).arrAt_eq_of_covers 7 _ (by decide +kernel) fun t hf y => ?_
  have h10 : t.val % 11 = 10 := (flush0_7 t).mp hf
  blk_simp
  obtain ⟨r, d, rfl⟩ : ∃ (r : Fin 1024) (d : Fin 1024), y = ix2 r d := ⟨y 0, y 1, by blk_ext⟩
  have e : (win0_7.blk t).view.emb (ix2 r d) = ix2 (row t r) (d) := by
    funext a; refine Fin.ext ?_; revert a; refine Fin.forall_fin_two.mpr ⟨?_, ?_⟩
    · blk_simp [idx t]; show t.val / 11 * 1024 + r.val = 1024 * (t.val / 11) + r.val; omega
    · blk_simp [idx t] <;> try rfl
  rw [after0_7, e]
  exact dx_held m c t h10 r d

/-- The gate gradient as an array. -/
theorem final_dg (c : Dev nD) : (dats m 0 c).arrAt 8 (cfgs 0).N
    = (show FVec Ideal S8192x2816 .bf16 from fun y => (mats m c).dgM (y 0) (y 1)) := by
  refine (dats m 0 c).arrAt_eq_of_covers 8 _ (by decide +kernel) fun t hf y => ?_
  blk_simp
  obtain ⟨r, d, rfl⟩ : ∃ (r : Fin 1024) (d : Fin 256), y = ix2 r d := ⟨y 0, y 1, by blk_ext⟩
  have e : (win0_8.blk t).view.emb (ix2 r d) = ix2 (row t r) (col t d) := by
    funext a; refine Fin.ext ?_; revert a; refine Fin.forall_fin_two.mpr ⟨?_, ?_⟩
    · blk_simp [idx t]; show t.val / 11 * 1024 + r.val = 1024 * (t.val / 11) + r.val; omega
    · blk_simp [idx t] <;> try rfl
  rw [after0_8, e]
  exact (congrFun (dg_held m c t) _).trans (dg_tile m c t r d)

/-- The up gradient as an array. -/
theorem final_du (c : Dev nD) : (dats m 0 c).arrAt 9 (cfgs 0).N
    = (show FVec Ideal S8192x2816 .bf16 from fun y => (mats m c).duM (y 0) (y 1)) := by
  refine (dats m 0 c).arrAt_eq_of_covers 9 _ (by decide +kernel) fun t hf y => ?_
  blk_simp
  obtain ⟨r, d, rfl⟩ : ∃ (r : Fin 1024) (d : Fin 256), y = ix2 r d := ⟨y 0, y 1, by blk_ext⟩
  have e : (win0_9.blk t).view.emb (ix2 r d) = ix2 (row t r) (col t d) := by
    funext a; refine Fin.ext ?_; revert a; refine Fin.forall_fin_two.mpr ⟨?_, ?_⟩
    · blk_simp [idx t]; show t.val / 11 * 1024 + r.val = 1024 * (t.val / 11) + r.val; omega
    · blk_simp [idx t] <;> try rfl
  rw [after0_9, e]
  exact (congrFun (du_held m c t) _).trans (du_tile m c t r d)

/-- The hidden values as an array. -/
theorem final_hh (c : Dev nD) : (dats m 0 c).arrAt 10 (cfgs 0).N
    = (show FVec Ideal S8192x2816 .bf16 from fun y => (mats m c).hhM (y 0) (y 1)) := by
  refine (dats m 0 c).arrAt_eq_of_covers 10 _ (by decide +kernel) fun t hf y => ?_
  blk_simp
  obtain ⟨r, d, rfl⟩ : ∃ (r : Fin 1024) (d : Fin 256), y = ix2 r d := ⟨y 0, y 1, by blk_ext⟩
  have e : (win0_10.blk t).view.emb (ix2 r d) = ix2 (row t r) (col t d) := by
    funext a; refine Fin.ext ?_; revert a; refine Fin.forall_fin_two.mpr ⟨?_, ?_⟩
    · blk_simp [idx t]; show t.val / 11 * 1024 + r.val = 1024 * (t.val / 11) + r.val; omega
    · blk_simp [idx t] <;> try rfl
  rw [after0_10, e]
  exact (congrFun (hh_held m c t) _).trans (hh_tile m c t r d)

/-- Half of the output gradient as an array. -/
theorem final_half (c : Dev nD) : (dats m 0 c).arrAt 11 (cfgs 0).N
    = (show FVec Ideal S8192x1024 .bf16 from fun y => (mats m c).halfDy (y 0) (y 1)) := by
  refine (dats m 0 c).arrAt_eq_of_covers 11 _ (by decide +kernel) fun t hf y => ?_
  have h10 : t.val % 11 = 10 := (flush0_11 t).mp hf
  blk_simp
  obtain ⟨r, d, rfl⟩ : ∃ (r : Fin 1024) (d : Fin 1024), y = ix2 r d := ⟨y 0, y 1, by blk_ext⟩
  have e : (win0_11.blk t).view.emb (ix2 r d) = ix2 (row t r) (d) := by
    funext a; refine Fin.ext ?_; revert a; refine Fin.forall_fin_two.mpr ⟨?_, ?_⟩
    · blk_simp [idx t]; show t.val / 11 * 1024 + r.val = 1024 * (t.val / 11) + r.val; omega
    · blk_simp [idx t] <;> try rfl
  rw [after0_11, e]
  exact congrFun (half_held m c _ t rfl).2 (ix2 r d)

/-- The gain's gradient as an array. -/
theorem final_dgain (c : Dev nD) : (dats m 0 c).arrAt 6 (cfgs 0).N
    = (show FVec Ideal S1x1024 .f32 from fun y => (mats m c).dgainM (y 1)) := by
  refine (dats m 0 c).arrAt_eq_of_covers 6 _ (by decide +kernel) fun t hf y => ?_
  have h87 : t.val % 88 = 87 := (flush0_6 t).mp hf
  have h88 := lt88 t
  blk_simp
  obtain ⟨k, d, rfl⟩ : ∃ (k : Fin 1) (d : Fin 1024), y = ix2 k d := ⟨y 0, y 1, by blk_ext⟩
  have e : (win0_6.blk t).view.emb (ix2 k d) = ix2 k d := by
    funext a; refine Fin.ext ?_; revert a; refine Fin.forall_fin_two.mpr ⟨?_, ?_⟩
    · blk_simp [idx t] <;> try omega
    · blk_simp [idx t] <;> try omega
  obtain rfl : k = 0 := Subsingleton.elim _ _
  rw [after0_6, e]
  exact gain_final m c t (by omega) d

end Cert.FfnBwdIdeal.Value

end
-- ==== Proof.FfnRefStage.lean ====
module

public import proofs.«01_k».proof.Proof.Gen.FfnRefIdeal.Run
public import Idealize.ShloMosaic.Lib.Pipeline.ValueKit

@[expose] public section

set_option maxRecDepth 16384

noncomputable section

/-! The reference's operations, named where they mean something. -/
namespace Cert.FfnRefIdeal.Stage

open Idealize.ShloMosaic Idealize.ShloMosaic.TcCoe Idealize.SL.Sem
open Cert.FfnRefIdeal Cert.FfnRefIdeal.Gen

/-- The reference's arguments. -/
structure Args where
  a0 : FVec Ideal S8192x1024 .f32
  a1 : FVec Ideal S8192x1024 .f32
  a2 : FVec Ideal S1x1024 .f32
  a3 : FVec Ideal S1024x2816 .f32
  a4 : FVec Ideal S1024x2816 .f32
  a5 : FVec Ideal S2816x1024 .f32

variable (A : Args)

/-- Mean square of a row of the input. -/
def ms : FVec Ideal S8192x1 .f32 :=
  Host.divf (broadcastInDim S8192x1 ![0] bcast_S8192_S8192x1_0 (Host.reduceAdd (mulf A.a1 A.a1) ((constant S_ .f32 0x00000000#32)) reducesTo_S8192x1024_S8192_d1 h_S_)) (broadcastInDim S8192x1 ![] bcast_S_S8192x1 ((constant S_ .f32 0x44800000#32)))

/-- Mean square plus the small constant. -/
def msEps : FVec Ideal S8192x1 .f32 :=
  addf (ms A) (broadcastInDim S8192x1 ![] bcast_S_S8192x1 ((constant S_ .f32 0x358637BD#32)))

/-- Inverse root mean square of a row. -/
def inv : FVec Ideal S8192x1 .f32 :=
  Host.rsqrt (msEps A)

/-- Derivative of the inverse root. -/
def dinv : FVec Ideal S8192x1 .f32 :=
  mulf (broadcastInDim S8192x1 ![] bcast_S_S8192x1 ((constant S_ .f32 0xBF000000#32))) (Host.divf (inv A) (msEps A))

/-- Row over its root mean square. -/
def xhat : FVec Ideal S8192x1024 .f32 :=
  mulf A.a1 (broadcastInDim S8192x1024 ![0, 1] bcast_S8192x1_S8192x1024_0_1 (inv A))

/-- Normalised input, with the gain. -/
def norm : FVec Ideal S8192x1024 .f32 :=
  mulf (xhat A) (broadcastInDim S8192x1024 ![0, 1] bcast_S1x1024_S8192x1024_0_1 A.a2)

/-- Gate product. -/
def gate : FVec Ideal S8192x2816 .f32 :=
  Host.dotGeneral dot_S8192x1024_S1024x2816_S8192x2816_1_0_0_1_n_n none (norm A) A.a3

/-- Up product. -/
def up : FVec Ideal S8192x2816 .f32 :=
  Host.dotGeneral dot_S8192x1024_S1024x2816_S8192x2816_1_0_0_1_n_n none (norm A) A.a4

/-- Logistic function of the gate. -/
def sigm : FVec Ideal S8192x2816 .f32 :=
  Host.divf ((broadcastInDim S8192x2816 ![] bcast_S_S8192x2816) (constant S_ .f32 0x3F800000#32)) (addf ((broadcastInDim S8192x2816 ![] bcast_S_S8192x2816) (constant S_ .f32 0x3F800000#32)) (Host.exp (Host.negf (gate A))))

/-- Derivative of the logistic function. -/
def dsig : FVec Ideal S8192x2816 .f32 :=
  mulf (sigm A) (subf ((broadcastInDim S8192x2816 ![] bcast_S_S8192x2816) (constant S_ .f32 0x3F800000#32)) (sigm A))

/-- Gate times its logistic function. -/
def silu : FVec Ideal S8192x2816 .f32 :=
  mulf (gate A) (sigm A)

/-- Hidden activations. -/
def hidden : FVec Ideal S8192x2816 .f32 :=
  mulf (silu A) (up A)

/-- Half of the cotangent. -/
def half : FVec Ideal S8192x1024 .f32 :=
  mulf (broadcastInDim S8192x1024 ![] bcast_S_S8192x1024 ((constant S_ .f32 0x3F000000#32))) (shapeCast S8192x1024 A.a0 shapeCasts_S8192x1024_S8192x1024)

/-- Cotangent of the hidden activations. -/
def dh : FVec Ideal S8192x2816 .f32 :=
  Host.dotGeneral dot_S8192x1024_S2816x1024_S8192x2816_1_1_0_0_n_n none (half A) A.a5

/-- Cotangent of the up product. -/
def dup : FVec Ideal S8192x2816 .f32 :=
  mulf (silu A) (dh A)

/-- Cotangent of the gated part. -/
def dsilu : FVec Ideal S8192x2816 .f32 :=
  mulf (dh A) (up A)

/-- Cotangent of the gate product. -/
def dgate : FVec Ideal S8192x2816 .f32 :=
  addf (mulf (dsilu A) (sigm A)) (mulf (mulf (gate A) (dsilu A)) (dsig A))

/-- Cotangent of the normalised input. -/
def dnorm : FVec Ideal S8192x1024 .f32 :=
  addf (Host.dotGeneral dot_S8192x2816_S1024x2816_S8192x1024_1_1_0_0_n_n none (dup A) A.a4) (Host.dotGeneral dot_S8192x2816_S1024x2816_S8192x1024_1_1_0_0_n_n none (dgate A) A.a3)

/-- Gradient of the gain. -/
def dgain : FVec Ideal S1x1024 .f32 :=
  shapeCast S1x1024 (Host.reduceAdd (mulf (xhat A) (dnorm A)) ((constant S_ .f32 0x00000000#32)) reducesTo_S8192x1024_S1024_d0 h_S_) shapeCasts_S1024_S1x1024

/-- Cotangent of the row over its root mean square. -/
def dxhat : FVec Ideal S8192x1024 .f32 :=
  mulf (dnorm A) (broadcastInDim S8192x1024 ![0, 1] bcast_S1x1024_S8192x1024_0_1 A.a2)

/-- Sum of the input against its cotangent. -/
def ssum : FVec Ideal S8192x1 .f32 :=
  shapeCast S8192x1 (Host.reduceAdd (mulf A.a1 (dxhat A)) ((constant S_ .f32 0x00000000#32)) reducesTo_S8192x1024_S8192_d1 h_S_) shapeCasts_S8192_S8192x1

/-- Part of the cotangent that passes the inverse root by. -/
def dx1 : FVec Ideal S8192x1024 .f32 :=
  mulf (dxhat A) (broadcastInDim S8192x1024 ![0, 1] bcast_S8192x1_S8192x1024_0_1 (inv A))

/-- Cotangent of the mean square. -/
def dms : FVec Ideal S8192x1024 .f32 :=
  broadcastInDim S8192x1024 ![0] bcast_S8192_S8192x1024_0 (Host.reduceAdd (Host.divf (mulf (ssum A) (dinv A)) (broadcastInDim S8192x1 ![] bcast_S_S8192x1 ((constant S_ .f32 0x44800000#32)))) ((constant S_ .f32 0x00000000#32)) reducesTo_S8192x1_S8192_d1 h_S_)

/-- Cotangent of the input through the norm. -/
def dxn : FVec Ideal S8192x1024 .f32 :=
  addf (addf (dx1 A) (mulf A.a1 (dms A))) (mulf (dms A) A.a1)

/-- Cotangent of the input. -/
def dx : FVec Ideal S8192x1024 .f32 :=
  addf A.a0 (dxn A)

/-- Cotangent of the gate product, as returned. -/
def dgateB : FVec Ideal S8192x2816 .bf16 :=
  truncf .bf16 (dgate A) bitsLt_bf16_f32

/-- Cotangent of the up product, as returned. -/
def dupB : FVec Ideal S8192x2816 .bf16 :=
  truncf .bf16 (dup A) bitsLt_bf16_f32

/-- Hidden activations, as returned. -/
def hiddenB : FVec Ideal S8192x2816 .bf16 :=
  truncf .bf16 (hidden A) bitsLt_bf16_f32

/-- Half of the cotangent, as returned. -/
def halfB : FVec Ideal S8192x1024 .bf16 :=
  truncf .bf16 (mulf (broadcastInDim S8192x1024 ![] bcast_S_S8192x1024 ((constant S_ .f32 0x3F000000#32))) A.a0) bitsLt_bf16_f32

/-- The arguments a run finds on a device. -/
abbrev args (m : (ℓ : Loc nD τ sig) → Buf (Elt Ideal) ℓ) (c : Dev nD) : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)

set_option maxHeartbeats 4000000 in
/-- The run's result 0, by its stage. -/
theorem res_dgain (m : (ℓ : Loc nD τ sig) → Buf (Elt Ideal) ℓ) (c : Dev nD) :
    Value.res_out0 m c = dgain (args m c) := rfl

set_option maxHeartbeats 4000000 in
/-- The run's result 1, by its stage. -/
theorem res_dx (m : (ℓ : Loc nD τ sig) → Buf (Elt Ideal) ℓ) (c : Dev nD) :
    Value.res_out1 m c = dx (args m c) := rfl

set_option maxHeartbeats 4000000 in
/-- The run's result 2, by its stage. -/
theorem res_dgateB (m : (ℓ : Loc nD τ sig) → Buf (Elt Ideal) ℓ) (c : Dev nD) :
    Value.res_out2 m c = dgateB (args m c) := rfl

end Cert.FfnRefIdeal.Stage

end
-- ==== Proof.FfnRefValue.lean ====
module

public import proofs.«01_k».proof.Proof.FfnRefStage
public import proofs.«01_k».proof.Proof.FfnModel

@[expose] public section

set_option maxRecDepth 16384

noncomputable section

/-! The reference's stages, entry by entry, are the model's matrices. -/
namespace Cert.FfnRefIdeal.Stage

open Idealize.ShloMosaic Idealize.ShloMosaic.TcCoe Idealize.SL.Sem
open Cert.FfnRefIdeal Cert.FfnRefIdeal.Gen Cert.FfnModel
open Cert.FfnBwdIdeal.Value (invK rmsK sg)

variable (A : Args)

/-- The arguments as matrices. -/
abbrev mats : Mats where
  dy n d := A.a0 (ix2 n d)
  x n d := A.a1 (ix2 n d)
  gn d := A.a2 (ix2 0 d)
  wg d f := A.a3 (ix2 d f)
  wu d f := A.a4 (ix2 d f)
  wd f d := A.a5 (ix2 f d)

theorem msEps_at (n : Fin 8192) (i : Fin 1) : msEps A (ix2 n i) =
    Ideal.div (∑ k, A.a1 (ix2 n k) * A.a1 (ix2 n k)) (Ideal.ofBits .f32 0x44800000#32) + Ideal.ofBits .f32 0x358637BD#32 := by
  pointwise [msEps, ms]

theorem inv_at (n : Fin 8192) (i : Fin 1) : inv A (ix2 n i) = (mats A).inv n := by
  show Ideal.rsqrt (msEps A (ix2 n i)) = _
  rw [msEps_at]
  rfl

theorem xhat_at (n : Fin 8192) (d : Fin 1024) : xhat A (ix2 n d) = A.a1 (ix2 n d) * (mats A).inv n := by
  pointwise [xhat, inv_at]

theorem norm_at (n : Fin 8192) (d : Fin 1024) : norm A (ix2 n d) = (mats A).norm n d := by
  pointwise [norm, xhat_at, Mats.norm]

theorem gate_at (n : Fin 8192) (f : Fin 2816) : gate A (ix2 n f) = (mats A).gate n f := by
  pointwise [gate, norm_at, Mats.gate]

theorem up_at (n : Fin 8192) (f : Fin 2816) : up A (ix2 n f) = (mats A).up n f := by
  pointwise [up, norm_at, Mats.up]

theorem half_at (n : Fin 8192) (d : Fin 1024) : half A (ix2 n d) = (mats A).halfDy n d := by
  pointwise [half, Mats.halfDy]

theorem dh_at (n : Fin 8192) (f : Fin 2816) : dh A (ix2 n f) = (mats A).dh n f := by
  pointwise [dh, half_at, Mats.dh]

theorem sig_at (h : (mats A).Real) (n : Fin 8192) (f : Fin 2816) : sigm A (ix2 n f) = sg ((mats A).gate n f) := by
  obtain ⟨r, hr⟩ := h.gate n f
  rw [hr, ← logistic_coe, ← hr]
  pointwise [sigm, gate_at]

theorem dsig_at (h : (mats A).Real) (n : Fin 8192) (f : Fin 2816) :
    dsig A (ix2 n f) = sg ((mats A).gate n f) * (1 - sg ((mats A).gate n f)) := by
  rw [← sig_at A h]
  pointwise [dsig]

theorem silu_at (h : (mats A).Real) (n : Fin 8192) (f : Fin 2816) :
    silu A (ix2 n f) = (mats A).gate n f * sg ((mats A).gate n f) := by
  rw [← sig_at A h]
  pointwise [silu, gate_at]

theorem hidden_at (h : (mats A).Real) (n : Fin 8192) (f : Fin 2816) : hidden A (ix2 n f) = (mats A).hhM n f := by
  show silu A (ix2 n f) * up A (ix2 n f) = _
  rw [silu_at A h, up_at]
  rfl

theorem dup_at (h : (mats A).Real) (n : Fin 8192) (f : Fin 2816) : dup A (ix2 n f) = (mats A).duM n f := by
  show silu A (ix2 n f) * dh A (ix2 n f) = _
  rw [silu_at A h, dh_at, mul_comm]
  rfl

theorem dgate_at (h : (mats A).Real) (n : Fin 8192) (f : Fin 2816) : dgate A (ix2 n f) = (mats A).dgM n f := by
  show dh A (ix2 n f) * up A (ix2 n f) * sigm A (ix2 n f)
    + gate A (ix2 n f) * (dh A (ix2 n f) * up A (ix2 n f)) * dsig A (ix2 n f) = _
  rw [sig_at A h, dsig_at A h, dh_at, up_at, gate_at]
  unfold Mats.dgM
  obtain ⟨a, ha⟩ := h.dh n f
  obtain ⟨b, hb⟩ := h.gate n f
  obtain ⟨u, hu⟩ := h.up n f
  rw [ha, hb, hu]
  exact dgate_coe a b u

theorem dnorm_at (h : (mats A).Real) (n : Fin 8192) (d : Fin 1024) : dnorm A (ix2 n d) = (mats A).dn n d := by
  pointwise [dnorm, dup_at A h, dgate_at A h, Mats.dn]

theorem dgain_at (h : (mats A).Real) (i : Fin 1) (d : Fin 1024) : dgain A (ix2 i d) = (mats A).dgainM d := by
  pointwise [dgain, xhat_at, dnorm_at A h, Mats.dgainM]
  exact Finset.sum_congr rfl fun n _ => mul_comm _ _

theorem dxhat_at (h : (mats A).Real) (n : Fin 8192) (d : Fin 1024) :
    dxhat A (ix2 n d) = (mats A).dn n d * A.a2 (ix2 0 d) := by
  pointwise [dxhat, dnorm_at A h]

theorem dinv_at (n : Fin 8192) (i : Fin 1) : dinv A (ix2 n i) =
    Ideal.ofBits .f32 0xBF000000#32 * Ideal.div ((mats A).inv n) (msEps A (ix2 n i)) := by
  rw [← inv_at A n i]
  pointwise [dinv]

theorem ssum_at (h : (mats A).Real) (n : Fin 8192) (i : Fin 1) :
    ssum A (ix2 n i) = ∑ k, A.a1 (ix2 n k) * ((mats A).dn n k * A.a2 (ix2 0 k)) := by
  pointwise [ssum, dxhat_at A h]

theorem dms_at (h : (mats A).Real) (n : Fin 8192) (d : Fin 1024) : dms A (ix2 n d) =
    Ideal.div ((∑ k, A.a1 (ix2 n k) * ((mats A).dn n k * A.a2 (ix2 0 k)))
      * (Ideal.ofBits .f32 0xBF000000#32 * Ideal.div ((mats A).inv n) (msEps A (ix2 n 0))))
      (Ideal.ofBits .f32 0x44800000#32) := by
  rw [← ssum_at A h n 0, ← dinv_at]
  pointwise [dms]
  exact Fin.sum_univ_one _

theorem dx_at (h : (mats A).Real) (n : Fin 8192) (d : Fin 1024) : dx A (ix2 n d) = (mats A).dxM n d := by
  show A.a0 (ix2 n d) + (dx1 A (ix2 n d) + A.a1 (ix2 n d) * dms A (ix2 n d) + dms A (ix2 n d) * A.a1 (ix2 n d)) = _
  have e : dx1 A (ix2 n d) = (mats A).dn n d * A.a2 (ix2 0 d) * (mats A).inv n := by
    pointwise [dx1, dxhat_at A h, inv_at]
  rw [e, Reals.rms_backward (fun k => A.a1 (ix2 n k)) (fun k => (mats A).dn n k * A.a2 (ix2 0 k)) d
    (W := 1024) (e := Reals.eps) (by norm_num) Reals.eps_pos ((mats A).inv n) (msEps A (ix2 n 0)) (dms A (ix2 n d))
    (by rw [msEps_at, Reals.c1024, Reals.ceps]) (by rw [← inv_at A n 0]; rfl)
    (by rw [dms_at A h, Reals.neg_half, Reals.c1024])]
  unfold Mats.dxM rmsK
  rw [Reals.c1024]
  rfl

end Cert.FfnRefIdeal.Stage

end
-- ==== Proof.Ffn.lean ====
module

public import proofs.«01_k».proof.Defs
public import proofs.«01_k».proof.Proof.Gen.FfnBwd
public import proofs.«01_k».proof.Proof.FfnArrays
public import proofs.«01_k».proof.Proof.FfnRefValue
public import proofs.«01_k».proof.Proof.Gen.Pre_finite_ffn
public import Idealize.ShloMosaic.Lib.ReduceAll

@[expose] public section

set_option maxRecDepth 16384

noncomputable section

/-! The feed-forward group's backward pass: the kernel against the reference, on real arguments. -/
namespace Cert.Ffn

open Idealize.ShloMosaic Idealize.ShloMosaic.TcCoe Idealize.SL.Sem

/-- The pattern of infinity. -/
theorem cinf : Ideal.ofBits .f32 0x7F800000#32 = (⊤ : EReal) := by
  simp [Ideal.ofBits, Ideal.ieee]

/-- A number whose absolute value is below infinity is real. -/
theorem real_of_abs_lt {x : EReal} (h : Ideal.cmp .olt (max x (-x)) (Ideal.ofBits .f32 0x7F800000#32) = 1#1) :
    ∃ r : ℝ, x = r := by
  rw [cinf] at h
  induction x with
  | bot => simp [Ideal.cmp] at h
  | top => simp [Ideal.cmp] at h
  | coe r => exact ⟨r, rfl⟩

/-- The precondition makes every argument real. -/
theorem real_args (m : (ℓ : Loc Cert.FfnBwdIdeal.nD Cert.FfnBwdIdeal.τ Cert.FfnBwdIdeal.sig) → Buf (Elt Ideal) ℓ)
    (h : Cert.Pre_FfnBwdIdeal_finite_ffn m) (c : Dev Cert.FfnBwdIdeal.nD) : (Cert.FfnBwdIdeal.Value.mats m c).Real := by
  have h0 := congrFun (h c) (fun a => a.elim0)
  obtain ⟨e0, h0⟩ := IntOp.andi_eq_one.1 h0
  obtain ⟨e1, h0⟩ := IntOp.andi_eq_one.1 h0
  obtain ⟨e2, h0⟩ := IntOp.andi_eq_one.1 h0
  obtain ⟨e3, h0⟩ := IntOp.andi_eq_one.1 h0
  obtain ⟨e4, e5⟩ := IntOp.andi_eq_one.1 h0
  haveI : Subsingleton Cert.Pre_finite_ffn.S_.Idx := ⟨fun a b => funext fun i => i.elim0⟩
  exact ⟨fun n d => real_of_abs_lt (Host.reduce_andi_all _ _ _ _ _ e0 (ix2 n d)),
    fun n d => real_of_abs_lt (Host.reduce_andi_all _ _ _ _ _ e1 (ix2 n d)),
    fun d => real_of_abs_lt (Host.reduce_andi_all _ _ _ _ _ e2 (ix2 0 d)),
    fun d f => real_of_abs_lt (Host.reduce_andi_all _ _ _ _ _ e3 (ix2 d f)),
    fun d f => real_of_abs_lt (Host.reduce_andi_all _ _ _ _ _ e4 (ix2 d f)),
    fun f d => real_of_abs_lt (Host.reduce_andi_all _ _ _ _ _ e5 (ix2 f d))⟩

/-- A two-axis array from its entries. -/
theorem ext2 {a b : ℕ} {α : Type} (f g : (⟨2, ![a, b]⟩ : Shape).Idx → α) (h : ∀ i j, f (ix2 i j) = g (ix2 i j)) : f = g :=
  funext fun y => by
    have e : y = ix2 (y 0) (y 1) := by blk_ext
    rw [e]
    exact h _ _

/-- Equal arguments are equal matrices. -/
theorem mats_eq (m : (ℓ : Loc Cert.FfnBwdIdeal.nD Cert.FfnBwdIdeal.τ Cert.FfnBwdIdeal.sig) → Buf (Elt Ideal) ℓ)
    (m' : (ℓ : Loc Cert.FfnRefIdeal.nD Cert.FfnRefIdeal.τ Cert.FfnRefIdeal.sig) → Buf (Elt Ideal) ℓ) (c : Dev Cert.FfnBwdIdeal.nD)
    (h0 : m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0))
    (h1 : m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1))
    (h2 : m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2))
    (h3 : m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3))
    (h4 : m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4))
    (h5 : m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)) :
    FfnRefIdeal.Stage.mats (FfnRefIdeal.Stage.args m' c) = FfnBwdIdeal.Value.mats m c := by
  unfold FfnBwdIdeal.Value.mats
  show FfnModel.Mats.mk _ _ _ _ _ _ = FfnModel.Mats.mk _ _ _ _ _ _
  refine (FfnModel.Mats.mk.injEq _ _ _ _ _ _ _ _ _ _ _ _).mpr ⟨?_, ?_, ?_, ?_, ?_, ?_⟩
  · exact funext fun n => funext fun d => congrFun h0 (ix2 n d)
  · exact funext fun n => funext fun d => congrFun h1 (ix2 n d)
  · exact funext fun d => congrFun h2 (ix2 0 d)
  · exact funext fun d => funext fun f => congrFun h3 (ix2 d f)
  · exact funext fun d => funext fun f => congrFun h4 (ix2 d f)
  · exact funext fun f => funext fun d => congrFun h5 (ix2 f d)

/-- All six results: the same arrays from the kernel and from the reference. -/
theorem algebraic : Cert.algebraic_FfnBwdIdeal_FfnRefIdeal_pre_finite_ffn := by
  pair_intro
  · run_from Cert.FfnBwdIdeal.Gen.run_blocks m g
  · refine θ_run_mono (Cert.FfnRefIdeal.Value.run m' g') fun r hr c => ?_
    have ha : FfnRefIdeal.Stage.mats (FfnRefIdeal.Stage.args m' c) = FfnBwdIdeal.Value.mats m c := by
      obtain ⟨h0, h1, h2, h3, h4, h5⟩ := hagree c
      exact mats_eq m m' c h0 h1 h2 h3 h4 h5
    have hR : (FfnRefIdeal.Stage.mats (FfnRefIdeal.Stage.args m' c)).Real := by
      rw [ha]
      exact real_args m (by assumption) c
    obtain ⟨e0, e1, e2, e3, e4, e5, hr⟩ := hr c
    refine ⟨e0.trans ((FfnRefIdeal.Stage.res_dgain m' c).trans (Eq.trans ?_ (FfnBwdIdeal.Value.final_dgain m c).symm)),
      e1.trans ((FfnRefIdeal.Stage.res_dx m' c).trans (Eq.trans ?_ (FfnBwdIdeal.Value.final_dx m c).symm)),
      e2.trans ((FfnRefIdeal.Stage.res_dgateB m' c).trans (Eq.trans ?_ (FfnBwdIdeal.Value.final_dg m c).symm)),
      e3.trans (Eq.trans (b := FfnRefIdeal.Stage.dupB (FfnRefIdeal.Stage.args m' c)) rfl (Eq.trans ?_ (FfnBwdIdeal.Value.final_du m c).symm)),
      e4.trans (Eq.trans (b := FfnRefIdeal.Stage.hiddenB (FfnRefIdeal.Stage.args m' c)) rfl (Eq.trans ?_ (FfnBwdIdeal.Value.final_hh m c).symm)),
      e5.trans (Eq.trans (b := FfnRefIdeal.Stage.halfB (FfnRefIdeal.Stage.args m' c)) rfl (Eq.trans ?_ (FfnBwdIdeal.Value.final_half m c).symm)), hr⟩
    · rw [← ha]; exact ext2 _ _ fun i j => FfnRefIdeal.Stage.dgain_at _ hR i j
    · rw [← ha]; exact ext2 _ _ fun i j => FfnRefIdeal.Stage.dx_at _ hR i j
    · rw [← ha]; exact ext2 _ _ fun i j => FfnRefIdeal.Stage.dgate_at _ hR i j
    · rw [← ha]; exact ext2 _ _ fun i j => FfnRefIdeal.Stage.dup_at _ hR i j
    · rw [← ha]; exact ext2 _ _ fun i j => FfnRefIdeal.Stage.hidden_at _ hR i j
    · rw [← ha]; exact ext2 _ _ fun i j => rfl

/-- The kernel's body table is the same in both printings. -/
theorem bodies_eq {F : FTy → Type} [FloatOps F] [Cert.FfnBwd.Facts] [Cert.FfnBwdIdeal.Facts] :
    Cert.FfnBwd.defs₀ (F := F) = Cert.FfnBwdIdeal.defs₀ (F := F) := by
  unfold Cert.FfnBwd.defs₀ Cert.FfnBwdIdeal.defs₀
  refine congrArg _ (funext fun l => funext fun a => ?_)
  fin_cases l
  rfl

/-- So are its bodies with the pipeline's. -/
theorem defs_eq {F : FTy → Type} [FloatOps F] [Cert.FfnBwd.Facts] [Cert.FfnBwdIdeal.Facts] :
    Cert.FfnBwd.defs (F := F) = Cert.FfnBwdIdeal.defs (F := F) :=
  congrArg (Pipeline.defs (Cert.FfnBwdIdeal.pcfgs (F := F))) bodies_eq

set_option maxHeartbeats 2000000 in
/-- And its main program. -/
theorem main_eq {F : FTy → Type} [FloatOps F] [Cert.FfnBwd.Facts] [Cert.FfnBwdIdeal.Facts] :
    Cert.FfnBwd.main (F := F) = Cert.FfnBwdIdeal.main (F := F) := rfl

/-- The kernel as compiled ends, at rest, with its arguments unchanged: the run over any floats, read at its own. -/
theorem frame : Cert.quiescent_FfnBwd := fun m ρ _ => by
  have h := Cert.FfnBwdIdeal.Gen.frame m ρ
  rw [← defs_eq, ← main_eq] at h
  exact h

/-- The same of the ideal program. -/
theorem frame_ideal : Cert.quiescent_FfnBwdIdeal := fun m ρ _ => Cert.FfnBwdIdeal.Gen.frame m ρ

/-- The same of the ideal program on real arguments. -/
theorem frame_ideal_pre : Cert.quiescent_FfnBwdIdeal_pre_finite_ffn := fun m ρ _ => Cert.FfnBwdIdeal.Gen.frame m ρ

/-- The same of the reference. -/
theorem frame_reference : Cert.quiescent_FfnRefIdeal := fun m ρ _ =>
  (θ_run Cert.FfnRefIdeal.defs _ _).mono (fun r h => ⟨fun c => (h c).2.2.2.2.2.2, sem_eq_zero_of_no_sems (by decide) r.2⟩)
    (Cert.FfnRefIdeal.Value.run m ρ)

/-- The same of the reference on real arguments. -/
theorem frame_reference_pre : Cert.quiescent_FfnRefIdeal_pre_finite_ffn := fun m ρ _ =>
  (θ_run Cert.FfnRefIdeal.defs _ _).mono (fun r h => ⟨fun c => (h c).2.2.2.2.2.2, sem_eq_zero_of_no_sems (by decide) r.2⟩)
    (Cert.FfnRefIdeal.Value.run m ρ)

end Cert.Ffn

end
-- ==== Proof.AdamModel.lean ====
module

public import Idealize.ShloMosaic.Lib.Pipeline.ValueKit
public import Idealize.ShloMosaic.Lib.ReduceAll

@[expose] public section

noncomputable section

/-! One step of the optimiser for one weight, over the extended reals. -/
namespace Cert.AdamModel

open Idealize.ShloMosaic

/-- A constant of the update, as both programs write it. -/
abbrev K (b : BitVec 32) : EReal := Ideal.ofBits .f32 b

/-- The first moment after the step, from the gradient and the moment before. -/
def newM (g m : EReal) : EReal := K 0x3F666666#32 * m + K 0x3DCCCCCD#32 * g

/-- The second moment after the step. -/
def newV (g v : EReal) : EReal := K 0x3F7FBE77#32 * v + K 0x3A83126F#32 * (g * g)

/-- The change of the weight: the corrected moments' quotient and the weight's decay, times the rate. -/
def delta (g w m v : EReal) : EReal :=
  K 0xBA83126F#32 * (Ideal.div (Ideal.div (newM g m) (K 0x3F26BD02#32))
    (Ideal.sqrt (Ideal.div (newV g v) (K 0x3C231ACC#32)) + K 0x322BCC77#32) + K 0x3C23D70A#32 * w)

end Cert.AdamModel

end
-- ==== Proof.AdamGateValue.lean ====
module

public import proofs.«01_k».proof.Proof.Gen.AdamGateIdeal.Value
public import proofs.«01_k».proof.Proof.Gen.AdamGateRefIdeal.Run
public import proofs.«01_k».proof.Proof.AdamModel
public import Idealize.ShloMosaic.Lib.Pipeline.ValueKit

@[expose] public section

set_option maxRecDepth 16384

noncomputable section

/-! The optimiser's step for a feed-forward block's gate or up weight: the kernel's arrays are the reference's. -/
namespace Cert.AdamGateIdeal.Value

open Idealize.ShloMosaic Idealize.ShloMosaic.TcCoe Idealize.SL.Sem
open Idealize.ShloMosaic.Pipeline (Dat)
open Cert.AdamGateIdeal Cert.AdamGateIdeal.Gen

variable (m : (ℓ : Loc nD τ sig) → Buf (Elt Ideal) ℓ)

/-- The gradient of a block: the eight devices' shares added up. -/
theorem grad_block (x0 : Vec Ideal S8x176x1024 .bf16) (x1 x2 x3 : Vec Ideal S176x1024 .f32) (j : S176x1024.Idx) :
    k0_pay10 x0 x1 x2 x3 j = ∑ d : Fin 8, x0 (ix3 d (j 0) (j 1)) := by
  rw [Fin.sum_univ_eight]
  pointwise [k0_pay10, k0_pay2]

/-- The first moment of a block, as the body reads it. -/
theorem moment_block (x0 : Vec Ideal S8x176x1024 .bf16) (x1 x2 x3 : Vec Ideal S176x1024 .f32) (j : S176x1024.Idx) :
    k0_pay11 x0 x1 x2 x3 j = x2 j := by
  pointwise [k0_pay11, k0_pay3]

/-- Where the blocks of each window lie at every grid point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

/-- The gradient block that the body stores. -/
theorem out_grad (x0 : Vec Ideal S8x176x1024 .bf16) (x1 x2 x3 : Vec Ideal S176x1024 .f32) (j : S176x1024.Idx) :
    out0_4 x0 x1 x2 x3 j = ∑ d : Fin 8, x0 (ix3 d (j 0) (j 1)) := by
  unfold out0_4; frame_out; pointwise [k0_pay6, grad_block]

/-- The first moment's block that the body stores. -/
theorem out_moment (x0 : Vec Ideal S8x176x1024 .bf16) (x1 x2 x3 : Vec Ideal S176x1024 .f32) (j : S176x1024.Idx) :
    out0_6 x0 x1 x2 x3 j = AdamModel.newM (∑ d : Fin 8, x0 (ix3 d (j 0) (j 1))) (x2 j) := by
  unfold out0_6; frame_out; pointwise [k0_pay7, k0_pay4, grad_block, moment_block, AdamModel.newM]

/-- The second moment's block that the body stores. -/
theorem out_second (x0 : Vec Ideal S8x176x1024 .bf16) (x1 x2 x3 : Vec Ideal S176x1024 .f32) (j : S176x1024.Idx) :
    out0_7 x0 x1 x2 x3 j = AdamModel.newV (∑ d : Fin 8, x0 (ix3 d (j 0) (j 1))) (x3 j) := by
  unfold out0_7; frame_out; pointwise [k0_pay8, k0_pay5, grad_block, AdamModel.newV]

/-- The block of the weight's change that the body stores. -/
theorem out_delta (x0 : Vec Ideal S8x176x1024 .bf16) (x1 x2 x3 : Vec Ideal S176x1024 .f32) (j : S176x1024.Idx) :
    out0_5 x0 x1 x2 x3 j = AdamModel.delta (∑ d : Fin 8, x0 (ix3 d (j 0) (j 1))) (x1 j) (x2 j) (x3 j) := by
  unfold out0_5; frame_out
  pointwise [k0_pay1, k0_pay9, k0_pay4, k0_pay5, grad_block, moment_block, AdamModel.delta, AdamModel.newM, AdamModel.newV]

/-- The arrays that the kernel leaves, from one weight's entries of the arguments. -/
abbrev update (f : EReal → EReal → EReal → EReal → EReal) (P : FVec Ideal S8x352x1024 .bf16) (w μ ν : FVec Ideal S1024x352 .f32) :
    FVec Ideal S352x1024 .f32 := fun j =>
  f (∑ d : Fin 8, P (ix3 d (j 0) (j 1))) (w (ix2 (j 1) (j 0))) (μ (ix2 (j 1) (j 0))) (ν (ix2 (j 1) (j 0)))

/-- What the host leaves for the weight: its transpose. -/
theorem V_w (c : Dev nD) : V m c main_v0 = transpose S352x1024 [1, 0] (show FVec Ideal S1024x352 .f32 from m ((c : Thread nD τ).loc main_arg1)) transposes_S1024x352_S352x1024_1_0 := by
  unfold V; after_results_simp

/-- What the host leaves for the first moment: its transpose. -/
theorem V_m (c : Dev nD) : V m c main_v1 = transpose S352x1024 [1, 0] (show FVec Ideal S1024x352 .f32 from m ((c : Thread nD τ).loc main_arg2)) transposes_S1024x352_S352x1024_1_0 := by
  unfold V; after_results_simp

/-- What the host leaves for the second moment: its transpose. -/
theorem V_v (c : Dev nD) : V m c main_v2 = transpose S352x1024 [1, 0] (show FVec Ideal S1024x352 .f32 from m ((c : Thread nD τ).loc main_arg3)) transposes_S1024x352_S352x1024_1_0 := by
  unfold V; after_results_simp

/-- What the host leaves for the gradient's shares: the argument. -/
theorem V_p (c : Dev nD) : V m c main_arg0 = m ((c : Thread nD τ).loc main_arg0) := by
  unfold V; after_results_simp

/-- A block of the gradient's shares. -/
theorem blk_p (c : Dev nD) (t : Fin cfg0.N) (d : Fin 8) (i : Fin 176) (k : Fin 1024) (h : 176 * t.val + i.val < 352) :
    (show FVec Ideal S8x176x1024 .bf16 from iblk m c 0 t) (ix3 d i k)
      = (show FVec Ideal S8x352x1024 .bf16 from m ((c : Thread nD τ).loc main_arg0)) (ix3 d ⟨176 * t.val + i.val, h⟩ k) := by
  rw [← V_p m c]; blk_point [iblk, idx t]

/-- A block of the weight. -/
theorem blk_w (c : Dev nD) (t : Fin cfg0.N) (i : Fin 176) (k : Fin 1024) (h : 176 * t.val + i.val < 352) :
    (show FVec Ideal S176x1024 .f32 from iblk m c 1 t) (ix2 i k)
      = (show FVec Ideal S1024x352 .f32 from m ((c : Thread nD τ).loc main_arg1)) (ix2 k ⟨176 * t.val + i.val, h⟩) := by
  trans (show FVec Ideal S352x1024 .f32 from V m c main_v0) (ix2 ⟨176 * t.val + i.val, h⟩ k)
  · blk_point [iblk, idx t]
  · rw [V_w]; pointwise []

/-- A block of the first moment. -/
theorem blk_m (c : Dev nD) (t : Fin cfg0.N) (i : Fin 176) (k : Fin 1024) (h : 176 * t.val + i.val < 352) :
    (show FVec Ideal S176x1024 .f32 from iblk m c 2 t) (ix2 i k)
      = (show FVec Ideal S1024x352 .f32 from m ((c : Thread nD τ).loc main_arg2)) (ix2 k ⟨176 * t.val + i.val, h⟩) := by
  trans (show FVec Ideal S352x1024 .f32 from V m c main_v1) (ix2 ⟨176 * t.val + i.val, h⟩ k)
  · blk_point [iblk, idx t]
  · rw [V_m]; pointwise []

/-- A block of the second moment. -/
theorem blk_v (c : Dev nD) (t : Fin cfg0.N) (i : Fin 176) (k : Fin 1024) (h : 176 * t.val + i.val < 352) :
    (show FVec Ideal S176x1024 .f32 from iblk m c 3 t) (ix2 i k)
      = (show FVec Ideal S1024x352 .f32 from m ((c : Thread nD τ).loc main_arg3)) (ix2 k ⟨176 * t.val + i.val, h⟩) := by
  trans (show FVec Ideal S352x1024 .f32 from V m c main_v2) (ix2 ⟨176 * t.val + i.val, h⟩ k)
  · blk_point [iblk, idx t]
  · rw [V_v]; pointwise []

/-- The arguments of one device. -/
abbrev updated (f : EReal → EReal → EReal → EReal → EReal) (c : Dev nD) : FVec Ideal S352x1024 .f32 :=
  update f (m ((c : Thread nD τ).loc main_arg0)) (m ((c : Thread nD τ).loc main_arg1)) (m ((c : Thread nD τ).loc main_arg2))
    (m ((c : Thread nD τ).loc main_arg3))

/-- A row of the block at a point is a row of the array. -/
theorem row_lt (t : Fin cfg0.N) (i : Fin 176) : 176 * t.val + i.val < 352 := by
  have : t.val < 2 := Nat.lt_of_lt_of_eq t.isLt N_0
  omega

/-- What a function of a block's entries is at a row of the block. -/
theorem block_update (f : EReal → EReal → EReal → EReal → EReal) (c : Dev nD) (t : Fin cfg0.N) (i : Fin 176) (k : Fin 1024) :
    f (∑ d : Fin 8, (show FVec Ideal S8x176x1024 .bf16 from iblk m c 0 t) (ix3 d i k))
        ((show FVec Ideal S176x1024 .f32 from iblk m c 1 t) (ix2 i k)) ((show FVec Ideal S176x1024 .f32 from iblk m c 2 t) (ix2 i k))
        ((show FVec Ideal S176x1024 .f32 from iblk m c 3 t) (ix2 i k))
      = updated m f c (ix2 ⟨176 * t.val + i.val, row_lt t i⟩ k) :=
  congr (congr (congrArg₂ f (Finset.sum_congr rfl fun d _ => blk_p m c t d i k (row_lt t i)) (blk_w m c t i k (row_lt t i)))
    (blk_m m c t i k (row_lt t i))) (blk_v m c t i k (row_lt t i))

/-- The gradient that the kernel leaves. -/
theorem final_grad (c : Dev nD) : (dats m 0 c).arrAt 4 (cfgs 0).N = updated m (fun g _ _ _ => g) c := by
  refine (dats m 0 c).arrAt_eq_of_covers 4 _ (by decide +kernel) fun t hf y => ?_
  blk_simp
  obtain ⟨i, k, rfl⟩ : ∃ (i : Fin 176) (k : Fin 1024), y = ix2 i k := ⟨y 0, y 1, by blk_ext⟩
  have e : (win0_4.blk t).view.emb (ix2 i k) = ix2 ⟨176 * t.val + i.val, row_lt t i⟩ k := by
    funext a; refine Fin.ext ?_; revert a; refine Fin.forall_fin_two.mpr ⟨?_, ?_⟩
    · blk_simp [idx t]; show t.val * 176 + i.val = 176 * t.val + i.val; omega
    · blk_simp [idx t] <;> try rfl
  rw [after0_4, e]
  exact (out_grad _ _ _ _ (ix2 i k)).trans (block_update m (fun g _ _ _ => g) c t i k)

/-- The change of the weights that the kernel leaves. -/
theorem final_delta (c : Dev nD) : (dats m 0 c).arrAt 5 (cfgs 0).N = updated m (AdamModel.delta) c := by
  refine (dats m 0 c).arrAt_eq_of_covers 5 _ (by decide +kernel) fun t hf y => ?_
  blk_simp
  obtain ⟨i, k, rfl⟩ : ∃ (i : Fin 176) (k : Fin 1024), y = ix2 i k := ⟨y 0, y 1, by blk_ext⟩
  have e : (win0_5.blk t).view.emb (ix2 i k) = ix2 ⟨176 * t.val + i.val, row_lt t i⟩ k := by
    funext a; refine Fin.ext ?_; revert a; refine Fin.forall_fin_two.mpr ⟨?_, ?_⟩
    · blk_simp [idx t]; show t.val * 176 + i.val = 176 * t.val + i.val; omega
    · blk_simp [idx t] <;> try rfl
  rw [after0_5, e]
  exact (out_delta _ _ _ _ (ix2 i k)).trans (block_update m (AdamModel.delta) c t i k)

/-- The first moment that the kernel leaves. -/
theorem final_moment (c : Dev nD) : (dats m 0 c).arrAt 6 (cfgs 0).N = updated m (fun g _ μ _ => AdamModel.newM g μ) c := by
  refine (dats m 0 c).arrAt_eq_of_covers 6 _ (by decide +kernel) fun t hf y => ?_
  blk_simp
  obtain ⟨i, k, rfl⟩ : ∃ (i : Fin 176) (k : Fin 1024), y = ix2 i k := ⟨y 0, y 1, by blk_ext⟩
  have e : (win0_6.blk t).view.emb (ix2 i k) = ix2 ⟨176 * t.val + i.val, row_lt t i⟩ k := by
    funext a; refine Fin.ext ?_; revert a; refine Fin.forall_fin_two.mpr ⟨?_, ?_⟩
    · blk_simp [idx t]; show t.val * 176 + i.val = 176 * t.val + i.val; omega
    · blk_simp [idx t] <;> try rfl
  rw [after0_6, e]
  exact (out_moment _ _ _ _ (ix2 i k)).trans (block_update m (fun g _ μ _ => AdamModel.newM g μ) c t i k)

/-- The second moment that the kernel leaves. -/
theorem final_second (c : Dev nD) : (dats m 0 c).arrAt 7 (cfgs 0).N = updated m (fun g _ _ ν => AdamModel.newV g ν) c := by
  refine (dats m 0 c).arrAt_eq_of_covers 7 _ (by decide +kernel) fun t hf y => ?_
  blk_simp
  obtain ⟨i, k, rfl⟩ : ∃ (i : Fin 176) (k : Fin 1024), y = ix2 i k := ⟨y 0, y 1, by blk_ext⟩
  have e : (win0_7.blk t).view.emb (ix2 i k) = ix2 ⟨176 * t.val + i.val, row_lt t i⟩ k := by
    funext a; refine Fin.ext ?_; revert a; refine Fin.forall_fin_two.mpr ⟨?_, ?_⟩
    · blk_simp [idx t]; show t.val * 176 + i.val = 176 * t.val + i.val; omega
    · blk_simp [idx t] <;> try rfl
  rw [after0_7, e]
  exact (out_second _ _ _ _ (ix2 i k)).trans (block_update m (fun g _ _ ν => AdamModel.newV g ν) c t i k)

end Cert.AdamGateIdeal.Value

end
-- ==== Proof.AdamDownValue.lean ====
module

public import proofs.«01_k».proof.Proof.Gen.AdamDownIdeal.Value
public import proofs.«01_k».proof.Proof.Gen.AdamDownRefIdeal.Run
public import proofs.«01_k».proof.Proof.AdamModel
public import Idealize.ShloMosaic.Lib.Pipeline.ValueKit

@[expose] public section

set_option maxRecDepth 16384

noncomputable section

/-! The optimiser's step for a feed-forward block's down weight: the kernel's arrays are the reference's. -/
namespace Cert.AdamDownIdeal.Value

open Idealize.ShloMosaic Idealize.ShloMosaic.TcCoe Idealize.SL.Sem
open Idealize.ShloMosaic.Pipeline (Dat)
open Cert.AdamDownIdeal Cert.AdamDownIdeal.Gen

variable (m : (ℓ : Loc nD τ sig) → Buf (Elt Ideal) ℓ)

/-- The gradient of a block: the eight devices' shares added up. -/
theorem grad_block (x0 : Vec Ideal S8x176x1024 .bf16) (x1 x2 x3 : Vec Ideal S176x1024 .f32) (j : S176x1024.Idx) :
    k0_pay9 x0 x1 x2 x3 j = ∑ d : Fin 8, x0 (ix3 d (j 0) (j 1)) := by
  rw [Fin.sum_univ_eight]
  pointwise [k0_pay9, k0_pay2]

/-- Where the blocks of each window lie at every grid point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

/-- The gradient block that the body stores. -/
theorem out_grad (x0 : Vec Ideal S8x176x1024 .bf16) (x1 x2 x3 : Vec Ideal S176x1024 .f32) (j : S176x1024.Idx) :
    out0_4 x0 x1 x2 x3 j = ∑ d : Fin 8, x0 (ix3 d (j 0) (j 1)) := by
  unfold out0_4; frame_out; pointwise [k0_pay5, grad_block]

/-- The first moment's block that the body stores. -/
theorem out_moment (x0 : Vec Ideal S8x176x1024 .bf16) (x1 x2 x3 : Vec Ideal S176x1024 .f32) (j : S176x1024.Idx) :
    out0_6 x0 x1 x2 x3 j = AdamModel.newM (∑ d : Fin 8, x0 (ix3 d (j 0) (j 1))) (x2 j) := by
  unfold out0_6; frame_out; pointwise [k0_pay6, k0_pay3, grad_block, AdamModel.newM]

/-- The second moment's block that the body stores. -/
theorem out_second (x0 : Vec Ideal S8x176x1024 .bf16) (x1 x2 x3 : Vec Ideal S176x1024 .f32) (j : S176x1024.Idx) :
    out0_7 x0 x1 x2 x3 j = AdamModel.newV (∑ d : Fin 8, x0 (ix3 d (j 0) (j 1))) (x3 j) := by
  unfold out0_7; frame_out; pointwise [k0_pay7, k0_pay4, grad_block, AdamModel.newV]

/-- The block of the weight's change that the body stores. -/
theorem out_delta (x0 : Vec Ideal S8x176x1024 .bf16) (x1 x2 x3 : Vec Ideal S176x1024 .f32) (j : S176x1024.Idx) :
    out0_5 x0 x1 x2 x3 j = AdamModel.delta (∑ d : Fin 8, x0 (ix3 d (j 0) (j 1))) (x1 j) (x2 j) (x3 j) := by
  unfold out0_5; frame_out
  pointwise [k0_pay1, k0_pay8, k0_pay3, k0_pay4, grad_block, AdamModel.delta, AdamModel.newM, AdamModel.newV]

/-- The arrays that the kernel leaves, from one weight's entries of the arguments. -/
abbrev update (f : EReal → EReal → EReal → EReal → EReal) (P : FVec Ideal S8x352x1024 .bf16) (w μ ν : FVec Ideal S352x1024 .f32) :
    FVec Ideal S352x1024 .f32 := fun j =>
  f (∑ d : Fin 8, P (ix3 d (j 0) (j 1))) (w j) (μ j) (ν j)

/-- The host leaves the gradient's shares as it was. -/
theorem V_p (c : Dev nD) : V m c main_arg0 = m ((c : Thread nD τ).loc main_arg0) := by
  unfold V; after_results_simp

/-- The host leaves the weight as it was. -/
theorem V_w (c : Dev nD) : V m c main_arg1 = m ((c : Thread nD τ).loc main_arg1) := by
  unfold V; after_results_simp

/-- The host leaves the first moment as it was. -/
theorem V_m (c : Dev nD) : V m c main_arg2 = m ((c : Thread nD τ).loc main_arg2) := by
  unfold V; after_results_simp

/-- The host leaves the second moment as it was. -/
theorem V_v (c : Dev nD) : V m c main_arg3 = m ((c : Thread nD τ).loc main_arg3) := by
  unfold V; after_results_simp

/-- A block of the gradient's shares. -/
theorem blk_p (c : Dev nD) (t : Fin cfg0.N) (d : Fin 8) (i : Fin 176) (k : Fin 1024) (h : 176 * t.val + i.val < 352) :
    (show FVec Ideal S8x176x1024 .bf16 from iblk m c 0 t) (ix3 d i k)
      = (show FVec Ideal S8x352x1024 .bf16 from m ((c : Thread nD τ).loc main_arg0)) (ix3 d ⟨176 * t.val + i.val, h⟩ k) := by
  rw [← V_p m c]; blk_point [iblk, idx t]

/-- A block of the weight. -/
theorem blk_w (c : Dev nD) (t : Fin cfg0.N) (i : Fin 176) (k : Fin 1024) (h : 176 * t.val + i.val < 352) :
    (show FVec Ideal S176x1024 .f32 from iblk m c 1 t) (ix2 i k)
      = (show FVec Ideal S352x1024 .f32 from m ((c : Thread nD τ).loc main_arg1)) (ix2 ⟨176 * t.val + i.val, h⟩ k) := by
  rw [← V_w m c]; blk_point [iblk, idx t]

/-- A block of the first moment. -/
theorem blk_m (c : Dev nD) (t : Fin cfg0.N) (i : Fin 176) (k : Fin 1024) (h : 176 * t.val + i.val < 352) :
    (show FVec Ideal S176x1024 .f32 from iblk m c 2 t) (ix2 i k)
      = (show FVec Ideal S352x1024 .f32 from m ((c : Thread nD τ).loc main_arg2)) (ix2 ⟨176 * t.val + i.val, h⟩ k) := by
  rw [← V_m m c]; blk_point [iblk, idx t]

/-- A block of the second moment. -/
theorem blk_v (c : Dev nD) (t : Fin cfg0.N) (i : Fin 176) (k : Fin 1024) (h : 176 * t.val + i.val < 352) :
    (show FVec Ideal S176x1024 .f32 from iblk m c 3 t) (ix2 i k)
      = (show FVec Ideal S352x1024 .f32 from m ((c : Thread nD τ).loc main_arg3)) (ix2 ⟨176 * t.val + i.val, h⟩ k) := by
  rw [← V_v m c]; blk_point [iblk, idx t]

/-- The arguments of one device. -/
abbrev updated (f : EReal → EReal → EReal → EReal → EReal) (c : Dev nD) : FVec Ideal S352x1024 .f32 :=
  update f (m ((c : Thread nD τ).loc main_arg0)) (m ((c : Thread nD τ).loc main_arg1)) (m ((c : Thread nD τ).loc main_arg2))
    (m ((c : Thread nD τ).loc main_arg3))

/-- A row of the block at a point is a row of the array. -/
theorem row_lt (t : Fin cfg0.N) (i : Fin 176) : 176 * t.val + i.val < 352 := by
  have : t.val < 2 := Nat.lt_of_lt_of_eq t.isLt N_0
  omega

/-- What a function of a block's entries is at a row of the block. -/
theorem block_update (f : EReal → EReal → EReal → EReal → EReal) (c : Dev nD) (t : Fin cfg0.N) (i : Fin 176) (k : Fin 1024) :
    f (∑ d : Fin 8, (show FVec Ideal S8x176x1024 .bf16 from iblk m c 0 t) (ix3 d i k))
        ((show FVec Ideal S176x1024 .f32 from iblk m c 1 t) (ix2 i k)) ((show FVec Ideal S176x1024 .f32 from iblk m c 2 t) (ix2 i k))
        ((show FVec Ideal S176x1024 .f32 from iblk m c 3 t) (ix2 i k))
      = updated m f c (ix2 ⟨176 * t.val + i.val, row_lt t i⟩ k) :=
  congr (congr (congrArg₂ f (Finset.sum_congr rfl fun d _ => blk_p m c t d i k (row_lt t i)) (blk_w m c t i k (row_lt t i)))
    (blk_m m c t i k (row_lt t i))) (blk_v m c t i k (row_lt t i))

/-- The gradient that the kernel leaves. -/
theorem final_grad (c : Dev nD) : (dats m 0 c).arrAt 4 (cfgs 0).N = updated m (fun g _ _ _ => g) c := by
  refine (dats m 0 c).arrAt_eq_of_covers 4 _ (by decide +kernel) fun t hf y => ?_
  blk_simp
  obtain ⟨i, k, rfl⟩ : ∃ (i : Fin 176) (k : Fin 1024), y = ix2 i k := ⟨y 0, y 1, by blk_ext⟩
  have e : (win0_4.blk t).view.emb (ix2 i k) = ix2 ⟨176 * t.val + i.val, row_lt t i⟩ k := by
    funext a; refine Fin.ext ?_; revert a; refine Fin.forall_fin_two.mpr ⟨?_, ?_⟩
    · blk_simp [idx t]; show t.val * 176 + i.val = 176 * t.val + i.val; omega
    · blk_simp [idx t] <;> try rfl
  rw [after0_4, e]
  exact (out_grad _ _ _ _ (ix2 i k)).trans (block_update m (fun g _ _ _ => g) c t i k)

/-- The change of the weights that the kernel leaves. -/
theorem final_delta (c : Dev nD) : (dats m 0 c).arrAt 5 (cfgs 0).N = updated m (AdamModel.delta) c := by
  refine (dats m 0 c).arrAt_eq_of_covers 5 _ (by decide +kernel) fun t hf y => ?_
  blk_simp
  obtain ⟨i, k, rfl⟩ : ∃ (i : Fin 176) (k : Fin 1024), y = ix2 i k := ⟨y 0, y 1, by blk_ext⟩
  have e : (win0_5.blk t).view.emb (ix2 i k) = ix2 ⟨176 * t.val + i.val, row_lt t i⟩ k := by
    funext a; refine Fin.ext ?_; revert a; refine Fin.forall_fin_two.mpr ⟨?_, ?_⟩
    · blk_simp [idx t]; show t.val * 176 + i.val = 176 * t.val + i.val; omega
    · blk_simp [idx t] <;> try rfl
  rw [after0_5, e]
  exact (out_delta _ _ _ _ (ix2 i k)).trans (block_update m (AdamModel.delta) c t i k)

/-- The first moment that the kernel leaves. -/
theorem final_moment (c : Dev nD) : (dats m 0 c).arrAt 6 (cfgs 0).N = updated m (fun g _ μ _ => AdamModel.newM g μ) c := by
  refine (dats m 0 c).arrAt_eq_of_covers 6 _ (by decide +kernel) fun t hf y => ?_
  blk_simp
  obtain ⟨i, k, rfl⟩ : ∃ (i : Fin 176) (k : Fin 1024), y = ix2 i k := ⟨y 0, y 1, by blk_ext⟩
  have e : (win0_6.blk t).view.emb (ix2 i k) = ix2 ⟨176 * t.val + i.val, row_lt t i⟩ k := by
    funext a; refine Fin.ext ?_; revert a; refine Fin.forall_fin_two.mpr ⟨?_, ?_⟩
    · blk_simp [idx t]; show t.val * 176 + i.val = 176 * t.val + i.val; omega
    · blk_simp [idx t] <;> try rfl
  rw [after0_6, e]
  exact (out_moment _ _ _ _ (ix2 i k)).trans (block_update m (fun g _ μ _ => AdamModel.newM g μ) c t i k)

/-- The second moment that the kernel leaves. -/
theorem final_second (c : Dev nD) : (dats m 0 c).arrAt 7 (cfgs 0).N = updated m (fun g _ _ ν => AdamModel.newV g ν) c := by
  refine (dats m 0 c).arrAt_eq_of_covers 7 _ (by decide +kernel) fun t hf y => ?_
  blk_simp
  obtain ⟨i, k, rfl⟩ : ∃ (i : Fin 176) (k : Fin 1024), y = ix2 i k := ⟨y 0, y 1, by blk_ext⟩
  have e : (win0_7.blk t).view.emb (ix2 i k) = ix2 ⟨176 * t.val + i.val, row_lt t i⟩ k := by
    funext a; refine Fin.ext ?_; revert a; refine Fin.forall_fin_two.mpr ⟨?_, ?_⟩
    · blk_simp [idx t]; show t.val * 176 + i.val = 176 * t.val + i.val; omega
    · blk_simp [idx t] <;> try rfl
  rw [after0_7, e]
  exact (out_second _ _ _ _ (ix2 i k)).trans (block_update m (fun g _ _ ν => AdamModel.newV g ν) c t i k)

end Cert.AdamDownIdeal.Value

end
-- ==== Proof.AdamInValue.lean ====
module

public import proofs.«01_k».proof.Proof.Gen.AdamInIdeal.Value
public import proofs.«01_k».proof.Proof.Gen.AdamInRefIdeal.Run
public import proofs.«01_k».proof.Proof.AdamModel
public import Idealize.ShloMosaic.Lib.Pipeline.ValueKit

@[expose] public section

set_option maxRecDepth 16384

noncomputable section

/-! The optimiser's step for the mixer's input weight: the kernel's arrays are the reference's. -/
namespace Cert.AdamInIdeal.Value

open Idealize.ShloMosaic Idealize.ShloMosaic.TcCoe Idealize.SL.Sem
open Idealize.ShloMosaic.Pipeline (Dat)
open Cert.AdamInIdeal Cert.AdamInIdeal.Gen

variable (m : (ℓ : Loc nD τ sig) → Buf (Elt Ideal) ℓ)

/-- The gradient of a block: the eight devices' shares added up. -/
theorem grad_block (x0 : Vec Ideal S8x144x1024 .bf16) (x1 x2 x3 : Vec Ideal S144x1024 .f32) (j : S144x1024.Idx) :
    k0_pay10 x0 x1 x2 x3 j = ∑ d : Fin 8, x0 (ix3 d (j 0) (j 1)) := by
  rw [Fin.sum_univ_eight]
  pointwise [k0_pay10, k0_pay2]

/-- The first moment of a block, as the body reads it. -/
theorem moment_block (x0 : Vec Ideal S8x144x1024 .bf16) (x1 x2 x3 : Vec Ideal S144x1024 .f32) (j : S144x1024.Idx) :
    k0_pay11 x0 x1 x2 x3 j = x2 j := by
  pointwise [k0_pay11, k0_pay3]

/-- Where the blocks of each window lie at every grid point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

/-- The gradient block that the body stores. -/
theorem out_grad (x0 : Vec Ideal S8x144x1024 .bf16) (x1 x2 x3 : Vec Ideal S144x1024 .f32) (j : S144x1024.Idx) :
    out0_4 x0 x1 x2 x3 j = ∑ d : Fin 8, x0 (ix3 d (j 0) (j 1)) := by
  unfold out0_4; frame_out; pointwise [k0_pay6, grad_block]

/-- The first moment's block that the body stores. -/
theorem out_moment (x0 : Vec Ideal S8x144x1024 .bf16) (x1 x2 x3 : Vec Ideal S144x1024 .f32) (j : S144x1024.Idx) :
    out0_6 x0 x1 x2 x3 j = AdamModel.newM (∑ d : Fin 8, x0 (ix3 d (j 0) (j 1))) (x2 j) := by
  unfold out0_6; frame_out; pointwise [k0_pay7, k0_pay4, grad_block, moment_block, AdamModel.newM]

/-- The second moment's block that the body stores. -/
theorem out_second (x0 : Vec Ideal S8x144x1024 .bf16) (x1 x2 x3 : Vec Ideal S144x1024 .f32) (j : S144x1024.Idx) :
    out0_7 x0 x1 x2 x3 j = AdamModel.newV (∑ d : Fin 8, x0 (ix3 d (j 0) (j 1))) (x3 j) := by
  unfold out0_7; frame_out; pointwise [k0_pay8, k0_pay5, grad_block, AdamModel.newV]

/-- The block of the weight's change that the body stores. -/
theorem out_delta (x0 : Vec Ideal S8x144x1024 .bf16) (x1 x2 x3 : Vec Ideal S144x1024 .f32) (j : S144x1024.Idx) :
    out0_5 x0 x1 x2 x3 j = AdamModel.delta (∑ d : Fin 8, x0 (ix3 d (j 0) (j 1))) (x1 j) (x2 j) (x3 j) := by
  unfold out0_5; frame_out
  pointwise [k0_pay1, k0_pay9, k0_pay4, k0_pay5, grad_block, moment_block, AdamModel.delta, AdamModel.newM, AdamModel.newV]

/-- The arrays that the kernel leaves, from one weight's entries of the arguments. -/
abbrev update (f : EReal → EReal → EReal → EReal → EReal) (P : FVec Ideal S8x288x1024 .bf16) (w μ ν : FVec Ideal S1024x288 .f32) :
    FVec Ideal S288x1024 .f32 := fun j =>
  f (∑ d : Fin 8, P (ix3 d (j 0) (j 1))) (w (ix2 (j 1) (j 0))) (μ (ix2 (j 1) (j 0))) (ν (ix2 (j 1) (j 0)))

/-- What the host leaves for the weight: its transpose. -/
theorem V_w (c : Dev nD) : V m c main_v0 = transpose S288x1024 [1, 0] (show FVec Ideal S1024x288 .f32 from m ((c : Thread nD τ).loc main_arg1)) transposes_S1024x288_S288x1024_1_0 := by
  unfold V; after_results_simp

/-- What the host leaves for the first moment: its transpose. -/
theorem V_m (c : Dev nD) : V m c main_v1 = transpose S288x1024 [1, 0] (show FVec Ideal S1024x288 .f32 from m ((c : Thread nD τ).loc main_arg2)) transposes_S1024x288_S288x1024_1_0 := by
  unfold V; after_results_simp

/-- What the host leaves for the second moment: its transpose. -/
theorem V_v (c : Dev nD) : V m c main_v2 = transpose S288x1024 [1, 0] (show FVec Ideal S1024x288 .f32 from m ((c : Thread nD τ).loc main_arg3)) transposes_S1024x288_S288x1024_1_0 := by
  unfold V; after_results_simp

/-- What the host leaves for the gradient's shares: the argument. -/
theorem V_p (c : Dev nD) : V m c main_arg0 = m ((c : Thread nD τ).loc main_arg0) := by
  unfold V; after_results_simp

/-- A block of the gradient's shares. -/
theorem blk_p (c : Dev nD) (t : Fin cfg0.N) (d : Fin 8) (i : Fin 144) (k : Fin 1024) (h : 144 * t.val + i.val < 288) :
    (show FVec Ideal S8x144x1024 .bf16 from iblk m c 0 t) (ix3 d i k)
      = (show FVec Ideal S8x288x1024 .bf16 from m ((c : Thread nD τ).loc main_arg0)) (ix3 d ⟨144 * t.val + i.val, h⟩ k) := by
  rw [← V_p m c]; blk_point [iblk, idx t]

/-- A block of the weight. -/
theorem blk_w (c : Dev nD) (t : Fin cfg0.N) (i : Fin 144) (k : Fin 1024) (h : 144 * t.val + i.val < 288) :
    (show FVec Ideal S144x1024 .f32 from iblk m c 1 t) (ix2 i k)
      = (show FVec Ideal S1024x288 .f32 from m ((c : Thread nD τ).loc main_arg1)) (ix2 k ⟨144 * t.val + i.val, h⟩) := by
  trans (show FVec Ideal S288x1024 .f32 from V m c main_v0) (ix2 ⟨144 * t.val + i.val, h⟩ k)
  · blk_point [iblk, idx t]
  · rw [V_w]; pointwise []

/-- A block of the first moment. -/
theorem blk_m (c : Dev nD) (t : Fin cfg0.N) (i : Fin 144) (k : Fin 1024) (h : 144 * t.val + i.val < 288) :
    (show FVec Ideal S144x1024 .f32 from iblk m c 2 t) (ix2 i k)
      = (show FVec Ideal S1024x288 .f32 from m ((c : Thread nD τ).loc main_arg2)) (ix2 k ⟨144 * t.val + i.val, h⟩) := by
  trans (show FVec Ideal S288x1024 .f32 from V m c main_v1) (ix2 ⟨144 * t.val + i.val, h⟩ k)
  · blk_point [iblk, idx t]
  · rw [V_m]; pointwise []

/-- A block of the second moment. -/
theorem blk_v (c : Dev nD) (t : Fin cfg0.N) (i : Fin 144) (k : Fin 1024) (h : 144 * t.val + i.val < 288) :
    (show FVec Ideal S144x1024 .f32 from iblk m c 3 t) (ix2 i k)
      = (show FVec Ideal S1024x288 .f32 from m ((c : Thread nD τ).loc main_arg3)) (ix2 k ⟨144 * t.val + i.val, h⟩) := by
  trans (show FVec Ideal S288x1024 .f32 from V m c main_v2) (ix2 ⟨144 * t.val + i.val, h⟩ k)
  · blk_point [iblk, idx t]
  · rw [V_v]; pointwise []

/-- The arguments of one device. -/
abbrev updated (f : EReal → EReal → EReal → EReal → EReal) (c : Dev nD) : FVec Ideal S288x1024 .f32 :=
  update f (m ((c : Thread nD τ).loc main_arg0)) (m ((c : Thread nD τ).loc main_arg1)) (m ((c : Thread nD τ).loc main_arg2))
    (m ((c : Thread nD τ).loc main_arg3))

/-- A row of the block at a point is a row of the array. -/
theorem row_lt (t : Fin cfg0.N) (i : Fin 144) : 144 * t.val + i.val < 288 := by
  have : t.val < 2 := Nat.lt_of_lt_of_eq t.isLt N_0
  omega

/-- What a function of a block's entries is at a row of the block. -/
theorem block_update (f : EReal → EReal → EReal → EReal → EReal) (c : Dev nD) (t : Fin cfg0.N) (i : Fin 144) (k : Fin 1024) :
    f (∑ d : Fin 8, (show FVec Ideal S8x144x1024 .bf16 from iblk m c 0 t) (ix3 d i k))
        ((show FVec Ideal S144x1024 .f32 from iblk m c 1 t) (ix2 i k)) ((show FVec Ideal S144x1024 .f32 from iblk m c 2 t) (ix2 i k))
        ((show FVec Ideal S144x1024 .f32 from iblk m c 3 t) (ix2 i k))
      = updated m f c (ix2 ⟨144 * t.val + i.val, row_lt t i⟩ k) :=
  congr (congr (congrArg₂ f (Finset.sum_congr rfl fun d _ => blk_p m c t d i k (row_lt t i)) (blk_w m c t i k (row_lt t i)))
    (blk_m m c t i k (row_lt t i))) (blk_v m c t i k (row_lt t i))

/-- The gradient that the kernel leaves. -/
theorem final_grad (c : Dev nD) : (dats m 0 c).arrAt 4 (cfgs 0).N = updated m (fun g _ _ _ => g) c := by
  refine (dats m 0 c).arrAt_eq_of_covers 4 _ (by decide +kernel) fun t hf y => ?_
  blk_simp
  obtain ⟨i, k, rfl⟩ : ∃ (i : Fin 144) (k : Fin 1024), y = ix2 i k := ⟨y 0, y 1, by blk_ext⟩
  have e : (win0_4.blk t).view.emb (ix2 i k) = ix2 ⟨144 * t.val + i.val, row_lt t i⟩ k := by
    funext a; refine Fin.ext ?_; revert a; refine Fin.forall_fin_two.mpr ⟨?_, ?_⟩
    · blk_simp [idx t]; show t.val * 144 + i.val = 144 * t.val + i.val; omega
    · blk_simp [idx t] <;> try rfl
  rw [after0_4, e]
  exact (out_grad _ _ _ _ (ix2 i k)).trans (block_update m (fun g _ _ _ => g) c t i k)

/-- The change of the weights that the kernel leaves. -/
theorem final_delta (c : Dev nD) : (dats m 0 c).arrAt 5 (cfgs 0).N = updated m (AdamModel.delta) c := by
  refine (dats m 0 c).arrAt_eq_of_covers 5 _ (by decide +kernel) fun t hf y => ?_
  blk_simp
  obtain ⟨i, k, rfl⟩ : ∃ (i : Fin 144) (k : Fin 1024), y = ix2 i k := ⟨y 0, y 1, by blk_ext⟩
  have e : (win0_5.blk t).view.emb (ix2 i k) = ix2 ⟨144 * t.val + i.val, row_lt t i⟩ k := by
    funext a; refine Fin.ext ?_; revert a; refine Fin.forall_fin_two.mpr ⟨?_, ?_⟩
    · blk_simp [idx t]; show t.val * 144 + i.val = 144 * t.val + i.val; omega
    · blk_simp [idx t] <;> try rfl
  rw [after0_5, e]
  exact (out_delta _ _ _ _ (ix2 i k)).trans (block_update m (AdamModel.delta) c t i k)

/-- The first moment that the kernel leaves. -/
theorem final_moment (c : Dev nD) : (dats m 0 c).arrAt 6 (cfgs 0).N = updated m (fun g _ μ _ => AdamModel.newM g μ) c := by
  refine (dats m 0 c).arrAt_eq_of_covers 6 _ (by decide +kernel) fun t hf y => ?_
  blk_simp
  obtain ⟨i, k, rfl⟩ : ∃ (i : Fin 144) (k : Fin 1024), y = ix2 i k := ⟨y 0, y 1, by blk_ext⟩
  have e : (win0_6.blk t).view.emb (ix2 i k) = ix2 ⟨144 * t.val + i.val, row_lt t i⟩ k := by
    funext a; refine Fin.ext ?_; revert a; refine Fin.forall_fin_two.mpr ⟨?_, ?_⟩
    · blk_simp [idx t]; show t.val * 144 + i.val = 144 * t.val + i.val; omega
    · blk_simp [idx t] <;> try rfl
  rw [after0_6, e]
  exact (out_moment _ _ _ _ (ix2 i k)).trans (block_update m (fun g _ μ _ => AdamModel.newM g μ) c t i k)

/-- The second moment that the kernel leaves. -/
theorem final_second (c : Dev nD) : (dats m 0 c).arrAt 7 (cfgs 0).N = updated m (fun g _ _ ν => AdamModel.newV g ν) c := by
  refine (dats m 0 c).arrAt_eq_of_covers 7 _ (by decide +kernel) fun t hf y => ?_
  blk_simp
  obtain ⟨i, k, rfl⟩ : ∃ (i : Fin 144) (k : Fin 1024), y = ix2 i k := ⟨y 0, y 1, by blk_ext⟩
  have e : (win0_7.blk t).view.emb (ix2 i k) = ix2 ⟨144 * t.val + i.val, row_lt t i⟩ k := by
    funext a; refine Fin.ext ?_; revert a; refine Fin.forall_fin_two.mpr ⟨?_, ?_⟩
    · blk_simp [idx t]; show t.val * 144 + i.val = 144 * t.val + i.val; omega
    · blk_simp [idx t] <;> try rfl
  rw [after0_7, e]
  exact (out_second _ _ _ _ (ix2 i k)).trans (block_update m (fun g _ _ ν => AdamModel.newV g ν) c t i k)

end Cert.AdamInIdeal.Value

end
-- ==== Proof.AdamOutValue.lean ====
module

public import proofs.«01_k».proof.Proof.Gen.AdamOutIdeal.Value
public import proofs.«01_k».proof.Proof.Gen.AdamOutRefIdeal.Run
public import proofs.«01_k».proof.Proof.AdamModel
public import Idealize.ShloMosaic.Lib.Pipeline.ValueKit

@[expose] public section

set_option maxRecDepth 16384

noncomputable section

/-! The optimiser's step for the mixer's output weight: the kernel's arrays are the reference's. -/
namespace Cert.AdamOutIdeal.Value

open Idealize.ShloMosaic Idealize.ShloMosaic.TcCoe Idealize.SL.Sem
open Idealize.ShloMosaic.Pipeline (Dat)
open Cert.AdamOutIdeal Cert.AdamOutIdeal.Gen

variable (m : (ℓ : Loc nD τ sig) → Buf (Elt Ideal) ℓ)

/-- The gradient of a block: the eight devices' shares added up. -/
theorem grad_block (x0 : Vec Ideal S8x128x1024 .bf16) (x1 x2 x3 : Vec Ideal S128x1024 .f32) (j : S128x1024.Idx) :
    k0_pay9 x0 x1 x2 x3 j = ∑ d : Fin 8, x0 (ix3 d (j 0) (j 1)) := by
  rw [Fin.sum_univ_eight]
  pointwise [k0_pay9, k0_pay2]

/-- Where the blocks of each window lie at every grid point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := (by decide +kernel : ∀ t : Fin grid0.N, _)

/-- The gradient block that the body stores. -/
theorem out_grad (x0 : Vec Ideal S8x128x1024 .bf16) (x1 x2 x3 : Vec Ideal S128x1024 .f32) (j : S128x1024.Idx) :
    out0_4 x0 x1 x2 x3 j = ∑ d : Fin 8, x0 (ix3 d (j 0) (j 1)) := by
  unfold out0_4; frame_out; pointwise [k0_pay5, grad_block]

/-- The first moment's block that the body stores. -/
theorem out_moment (x0 : Vec Ideal S8x128x1024 .bf16) (x1 x2 x3 : Vec Ideal S128x1024 .f32) (j : S128x1024.Idx) :
    out0_6 x0 x1 x2 x3 j = AdamModel.newM (∑ d : Fin 8, x0 (ix3 d (j 0) (j 1))) (x2 j) := by
  unfold out0_6; frame_out; pointwise [k0_pay6, k0_pay3, grad_block, AdamModel.newM]

/-- The second moment's block that the body stores. -/
theorem out_second (x0 : Vec Ideal S8x128x1024 .bf16) (x1 x2 x3 : Vec Ideal S128x1024 .f32) (j : S128x1024.Idx) :
    out0_7 x0 x1 x2 x3 j = AdamModel.newV (∑ d : Fin 8, x0 (ix3 d (j 0) (j 1))) (x3 j) := by
  unfold out0_7; frame_out; pointwise [k0_pay7, k0_pay4, grad_block, AdamModel.newV]

/-- The block of the weight's change that the body stores. -/
theorem out_delta (x0 : Vec Ideal S8x128x1024 .bf16) (x1 x2 x3 : Vec Ideal S128x1024 .f32) (j : S128x1024.Idx) :
    out0_5 x0 x1 x2 x3 j = AdamModel.delta (∑ d : Fin 8, x0 (ix3 d (j 0) (j 1))) (x1 j) (x2 j) (x3 j) := by
  unfold out0_5; frame_out
  pointwise [k0_pay1, k0_pay8, k0_pay3, k0_pay4, grad_block, AdamModel.delta, AdamModel.newM, AdamModel.newV]

/-- The arrays that the kernel leaves, from one weight's entries of the arguments. -/
abbrev update (f : EReal → EReal → EReal → EReal → EReal) (P : FVec Ideal S8x128x1024 .bf16) (w μ ν : FVec Ideal S128x1024 .f32) :
    FVec Ideal S128x1024 .f32 := fun j =>
  f (∑ d : Fin 8, P (ix3 d (j 0) (j 1))) (w j) (μ j) (ν j)

/-- The host leaves the gradient's shares as it was. -/
theorem V_p (c : Dev nD) : V m c main_arg0 = m ((c : Thread nD τ).loc main_arg0) := by
  unfold V; after_results_simp

/-- The host leaves the weight as it was. -/
theorem V_w (c : Dev nD) : V m c main_arg1 = m ((c : Thread nD τ).loc main_arg1) := by
  unfold V; after_results_simp

/-- The host leaves the first moment as it was. -/
theorem V_m (c : Dev nD) : V m c main_arg2 = m ((c : Thread nD τ).loc main_arg2) := by
  unfold V; after_results_simp

/-- The host leaves the second moment as it was. -/
theorem V_v (c : Dev nD) : V m c main_arg3 = m ((c : Thread nD τ).loc main_arg3) := by
  unfold V; after_results_simp

/-- A block of the gradient's shares. -/
theorem blk_p (c : Dev nD) (t : Fin cfg0.N) (d : Fin 8) (i : Fin 128) (k : Fin 1024) (h : 128 * t.val + i.val < 128) :
    (show FVec Ideal S8x128x1024 .bf16 from iblk m c 0 t) (ix3 d i k)
      = (show FVec Ideal S8x128x1024 .bf16 from m ((c : Thread nD τ).loc main_arg0)) (ix3 d ⟨128 * t.val + i.val, h⟩ k) := by
  rw [← V_p m c]; blk_point [iblk, idx t]

/-- A block of the weight. -/
theorem blk_w (c : Dev nD) (t : Fin cfg0.N) (i : Fin 128) (k : Fin 1024) (h : 128 * t.val + i.val < 128) :
    (show FVec Ideal S128x1024 .f32 from iblk m c 1 t) (ix2 i k)
      = (show FVec Ideal S128x1024 .f32 from m ((c : Thread nD τ).loc main_arg1)) (ix2 ⟨128 * t.val + i.val, h⟩ k) := by
  rw [← V_w m c]; blk_point [iblk, idx t]

/-- A block of the first moment. -/
theorem blk_m (c : Dev nD) (t : Fin cfg0.N) (i : Fin 128) (k : Fin 1024) (h : 128 * t.val + i.val < 128) :
    (show FVec Ideal S128x1024 .f32 from iblk m c 2 t) (ix2 i k)
      = (show FVec Ideal S128x1024 .f32 from m ((c : Thread nD τ).loc main_arg2)) (ix2 ⟨128 * t.val + i.val, h⟩ k) := by
  rw [← V_m m c]; blk_point [iblk, idx t]

/-- A block of the second moment. -/
theorem blk_v (c : Dev nD) (t : Fin cfg0.N) (i : Fin 128) (k : Fin 1024) (h : 128 * t.val + i.val < 128) :
    (show FVec Ideal S128x1024 .f32 from iblk m c 3 t) (ix2 i k)
      = (show FVec Ideal S128x1024 .f32 from m ((c : Thread nD τ).loc main_arg3)) (ix2 ⟨128 * t.val + i.val, h⟩ k) := by
  rw [← V_v m c]; blk_point [iblk, idx t]

/-- The arguments of one device. -/
abbrev updated (f : EReal → EReal → EReal → EReal → EReal) (c : Dev nD) : FVec Ideal S128x1024 .f32 :=
  update f (m ((c : Thread nD τ).loc main_arg0)) (m ((c : Thread nD τ).loc main_arg1)) (m ((c : Thread nD τ).loc main_arg2))
    (m ((c : Thread nD τ).loc main_arg3))

/-- A row of the block at a point is a row of the array. -/
theorem row_lt (t : Fin cfg0.N) (i : Fin 128) : 128 * t.val + i.val < 128 := by
  have : t.val < 1 := Nat.lt_of_lt_of_eq t.isLt N_0
  omega

/-- What a function of a block's entries is at a row of the block. -/
theorem block_update (f : EReal → EReal → EReal → EReal → EReal) (c : Dev nD) (t : Fin cfg0.N) (i : Fin 128) (k : Fin 1024) :
    f (∑ d : Fin 8, (show FVec Ideal S8x128x1024 .bf16 from iblk m c 0 t) (ix3 d i k))
        ((show FVec Ideal S128x1024 .f32 from iblk m c 1 t) (ix2 i k)) ((show FVec Ideal S128x1024 .f32 from iblk m c 2 t) (ix2 i k))
        ((show FVec Ideal S128x1024 .f32 from iblk m c 3 t) (ix2 i k))
      = updated m f c (ix2 ⟨128 * t.val + i.val, row_lt t i⟩ k) :=
  congr (congr (congrArg₂ f (Finset.sum_congr rfl fun d _ => blk_p m c t d i k (row_lt t i)) (blk_w m c t i k (row_lt t i)))
    (blk_m m c t i k (row_lt t i))) (blk_v m c t i k (row_lt t i))

/-- The gradient that the kernel leaves. -/
theorem final_grad (c : Dev nD) : (dats m 0 c).arrAt 4 (cfgs 0).N = updated m (fun g _ _ _ => g) c := by
  refine (dats m 0 c).arrAt_eq_of_covers 4 _ (by decide +kernel) fun t hf y => ?_
  blk_simp
  obtain ⟨i, k, rfl⟩ : ∃ (i : Fin 128) (k : Fin 1024), y = ix2 i k := ⟨y 0, y 1, by blk_ext⟩
  have e : (win0_4.blk t).view.emb (ix2 i k) = ix2 ⟨128 * t.val + i.val, row_lt t i⟩ k := by
    funext a; refine Fin.ext ?_; revert a; refine Fin.forall_fin_two.mpr ⟨?_, ?_⟩
    · blk_simp [idx t]; show i.val = 128 * 0 + i.val; omega
    · blk_simp [idx t] <;> try rfl
  rw [after0_4, e]
  exact (out_grad _ _ _ _ (ix2 i k)).trans (block_update m (fun g _ _ _ => g) c t i k)

/-- The change of the weights that the kernel leaves. -/
theorem final_delta (c : Dev nD) : (dats m 0 c).arrAt 5 (cfgs 0).N = updated m (AdamModel.delta) c := by
  refine (dats m 0 c).arrAt_eq_of_covers 5 _ (by decide +kernel) fun t hf y => ?_
  blk_simp
  obtain ⟨i, k, rfl⟩ : ∃ (i : Fin 128) (k : Fin 1024), y = ix2 i k := ⟨y 0, y 1, by blk_ext⟩
  have e : (win0_5.blk t).view.emb (ix2 i k) = ix2 ⟨128 * t.val + i.val, row_lt t i⟩ k := by
    funext a; refine Fin.ext ?_; revert a; refine Fin.forall_fin_two.mpr ⟨?_, ?_⟩
    · blk_simp [idx t]; show i.val = 128 * 0 + i.val; omega
    · blk_simp [idx t] <;> try rfl
  rw [after0_5, e]
  exact (out_delta _ _ _ _ (ix2 i k)).trans (block_update m (AdamModel.delta) c t i k)

/-- The first moment that the kernel leaves. -/
theorem final_moment (c : Dev nD) : (dats m 0 c).arrAt 6 (cfgs 0).N = updated m (fun g _ μ _ => AdamModel.newM g μ) c := by
  refine (dats m 0 c).arrAt_eq_of_covers 6 _ (by decide +kernel) fun t hf y => ?_
  blk_simp
  obtain ⟨i, k, rfl⟩ : ∃ (i : Fin 128) (k : Fin 1024), y = ix2 i k := ⟨y 0, y 1, by blk_ext⟩
  have e : (win0_6.blk t).view.emb (ix2 i k) = ix2 ⟨128 * t.val + i.val, row_lt t i⟩ k := by
    funext a; refine Fin.ext ?_; revert a; refine Fin.forall_fin_two.mpr ⟨?_, ?_⟩
    · blk_simp [idx t]; show i.val = 128 * 0 + i.val; omega
    · blk_simp [idx t] <;> try rfl
  rw [after0_6, e]
  exact (out_moment _ _ _ _ (ix2 i k)).trans (block_update m (fun g _ μ _ => AdamModel.newM g μ) c t i k)

/-- The second moment that the kernel leaves. -/
theorem final_second (c : Dev nD) : (dats m 0 c).arrAt 7 (cfgs 0).N = updated m (fun g _ _ ν => AdamModel.newV g ν) c := by
  refine (dats m 0 c).arrAt_eq_of_covers 7 _ (by decide +kernel) fun t hf y => ?_
  blk_simp
  obtain ⟨i, k, rfl⟩ : ∃ (i : Fin 128) (k : Fin 1024), y = ix2 i k := ⟨y 0, y 1, by blk_ext⟩
  have e : (win0_7.blk t).view.emb (ix2 i k) = ix2 ⟨128 * t.val + i.val, row_lt t i⟩ k := by
    funext a; refine Fin.ext ?_; revert a; refine Fin.forall_fin_two.mpr ⟨?_, ?_⟩
    · blk_simp [idx t]; show i.val = 128 * 0 + i.val; omega
    · blk_simp [idx t] <;> try rfl
  rw [after0_7, e]
  exact (out_second _ _ _ _ (ix2 i k)).trans (block_update m (fun g _ _ ν => AdamModel.newV g ν) c t i k)

end Cert.AdamOutIdeal.Value

end
-- ==== Proof.Adam.lean ====
module

public import proofs.«01_k».proof.Defs
public import proofs.«01_k».proof.Proof.AdamGateValue
public import proofs.«01_k».proof.Proof.Gen.AdamGate.Frame
public import proofs.«01_k».proof.Proof.AdamDownValue
public import proofs.«01_k».proof.Proof.Gen.AdamDown.Frame
public import proofs.«01_k».proof.Proof.AdamInValue
public import proofs.«01_k».proof.Proof.Gen.AdamIn.Frame
public import proofs.«01_k».proof.Proof.AdamOutValue
public import proofs.«01_k».proof.Proof.Gen.AdamOut.Frame

@[expose] public section

set_option maxRecDepth 16384

noncomputable section

/-! The optimiser's step for the large weights: the kernel against the reference. -/
namespace Cert.Adam

open Idealize.ShloMosaic Idealize.ShloMosaic.TcCoe Idealize.SL.Sem

/-- The optimiser's step for a feed-forward block's gate or up weight: gradient, change and both moments are the same arrays from the kernel and from the
    reference. -/
theorem algebraic_gate : Cert.algebraic_AdamGateIdeal_AdamGateRefIdeal := by
  pair_intro
  · run_from Cert.AdamGateIdeal.Value.run_blocks m g
  · refine θ_run_mono (Cert.AdamGateRefIdeal.Value.run m' g') fun r hr c => ?_
    obtain ⟨h0, h1, h2, h3⟩ := hagree c
    obtain ⟨e0, e1, e2, e3, hr⟩ := hr c
    rw [h0] at e0
    rw [h0, h1, h2, h3] at e1
    rw [h0, h2] at e2
    rw [h0, h3] at e3
    refine ⟨e0.trans ?_, e1.trans ?_, e2.trans ?_, e3.trans ?_, hr⟩
    · rw [Cert.AdamGateIdeal.Value.final_grad m c]
      funext j
      pointwise []
    · rw [Cert.AdamGateIdeal.Value.final_delta m c]
      funext j
      pointwise [AdamModel.delta, AdamModel.newM, AdamModel.newV]
    · rw [Cert.AdamGateIdeal.Value.final_moment m c]
      funext j
      pointwise [AdamModel.newM]
    · rw [Cert.AdamGateIdeal.Value.final_second m c]
      funext j
      pointwise [AdamModel.newV]

/-- The kernel at its own floats runs to its end and leaves its arguments as they were. -/
theorem frame_gate : Cert.quiescent_AdamGate := fun m ρ _ => Cert.AdamGate.Gen.frame m ρ

/-- The same of the ideal program. -/
theorem frame_gate_ideal : Cert.quiescent_AdamGateIdeal := fun m ρ _ => Cert.AdamGateIdeal.Gen.frame m ρ

/-- The same of the reference. -/
theorem frame_gate_reference : Cert.quiescent_AdamGateRefIdeal := fun m ρ _ =>
  (θ_run Cert.AdamGateRefIdeal.defs _ _).mono (fun r h => ⟨fun c => (h c).2.2.2.2, sem_eq_zero_of_no_sems (by decide) r.2⟩)
    (Cert.AdamGateRefIdeal.Value.run m ρ)

/-- The optimiser's step for a feed-forward block's down weight: gradient, change and both moments are the same arrays from the kernel and from the
    reference. -/
theorem algebraic_down : Cert.algebraic_AdamDownIdeal_AdamDownRefIdeal := by
  pair_intro
  · run_from Cert.AdamDownIdeal.Value.run_blocks m g
  · refine θ_run_mono (Cert.AdamDownRefIdeal.Value.run m' g') fun r hr c => ?_
    obtain ⟨h0, h1, h2, h3⟩ := hagree c
    obtain ⟨e0, e1, e2, e3, hr⟩ := hr c
    rw [h0] at e0
    rw [h0, h1, h2, h3] at e1
    rw [h0, h2] at e2
    rw [h0, h3] at e3
    refine ⟨e0.trans ?_, e1.trans ?_, e2.trans ?_, e3.trans ?_, hr⟩
    · rw [Cert.AdamDownIdeal.Value.final_grad m c]
      funext j
      pointwise []
    · rw [Cert.AdamDownIdeal.Value.final_delta m c]
      funext j
      pointwise [AdamModel.delta, AdamModel.newM, AdamModel.newV]
    · rw [Cert.AdamDownIdeal.Value.final_moment m c]
      funext j
      pointwise [AdamModel.newM]
    · rw [Cert.AdamDownIdeal.Value.final_second m c]
      funext j
      pointwise [AdamModel.newV]

/-- The kernel at its own floats runs to its end and leaves its arguments as they were. -/
theorem frame_down : Cert.quiescent_AdamDown := fun m ρ _ => Cert.AdamDown.Gen.frame m ρ

/-- The same of the ideal program. -/
theorem frame_down_ideal : Cert.quiescent_AdamDownIdeal := fun m ρ _ => Cert.AdamDownIdeal.Gen.frame m ρ

/-- The same of the reference. -/
theorem frame_down_reference : Cert.quiescent_AdamDownRefIdeal := fun m ρ _ =>
  (θ_run Cert.AdamDownRefIdeal.defs _ _).mono (fun r h => ⟨fun c => (h c).2.2.2.2, sem_eq_zero_of_no_sems (by decide) r.2⟩)
    (Cert.AdamDownRefIdeal.Value.run m ρ)

/-- The optimiser's step for the mixer's input weight: gradient, change and both moments are the same arrays from the kernel and from the
    reference. -/
theorem algebraic_in : Cert.algebraic_AdamInIdeal_AdamInRefIdeal := by
  pair_intro
  · run_from Cert.AdamInIdeal.Value.run_blocks m g
  · refine θ_run_mono (Cert.AdamInRefIdeal.Value.run m' g') fun r hr c => ?_
    obtain ⟨h0, h1, h2, h3⟩ := hagree c
    obtain ⟨e0, e1, e2, e3, hr⟩ := hr c
    rw [h0] at e0
    rw [h0, h1, h2, h3] at e1
    rw [h0, h2] at e2
    rw [h0, h3] at e3
    refine ⟨e0.trans ?_, e1.trans ?_, e2.trans ?_, e3.trans ?_, hr⟩
    · rw [Cert.AdamInIdeal.Value.final_grad m c]
      funext j
      pointwise []
    · rw [Cert.AdamInIdeal.Value.final_delta m c]
      funext j
      pointwise [AdamModel.delta, AdamModel.newM, AdamModel.newV]
    · rw [Cert.AdamInIdeal.Value.final_moment m c]
      funext j
      pointwise [AdamModel.newM]
    · rw [Cert.AdamInIdeal.Value.final_second m c]
      funext j
      pointwise [AdamModel.newV]

/-- The kernel at its own floats runs to its end and leaves its arguments as they were. -/
theorem frame_in : Cert.quiescent_AdamIn := fun m ρ _ => Cert.AdamIn.Gen.frame m ρ

/-- The same of the ideal program. -/
theorem frame_in_ideal : Cert.quiescent_AdamInIdeal := fun m ρ _ => Cert.AdamInIdeal.Gen.frame m ρ

/-- The same of the reference. -/
theorem frame_in_reference : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run m ρ)

/-- The optimiser's step for the mixer's output weight: gradient, change and both moments are the same arrays from the kernel and from the
    reference. -/
theorem algebraic_out : Cert.algebraic_AdamOutIdeal_AdamOutRefIdeal := by
  pair_intro
  · run_from Cert.AdamOutIdeal.Value.run_blocks m g
  · refine θ_run_mono (Cert.AdamOutRefIdeal.Value.run m' g') fun r hr c => ?_
    obtain ⟨h0, h1, h2, h3⟩ := hagree c
    obtain ⟨e0, e1, e2, e3, hr⟩ := hr c
    rw [h0] at e0
    rw [h0, h1, h2, h3] at e1
    rw [h0, h2] at e2
    rw [h0, h3] at e3
    refine ⟨e0.trans ?_, e1.trans ?_, e2.trans ?_, e3.trans ?_, hr⟩
    · rw [Cert.AdamOutIdeal.Value.final_grad m c]
      funext j
      pointwise []
    · rw [Cert.AdamOutIdeal.Value.final_delta m c]
      funext j
      pointwise [AdamModel.delta, AdamModel.newM, AdamModel.newV]
    · rw [Cert.AdamOutIdeal.Value.final_moment m c]
      funext j
      pointwise [AdamModel.newM]
    · rw [Cert.AdamOutIdeal.Value.final_second m c]
      funext j
      pointwise [AdamModel.newV]

/-- The kernel at its own floats runs to its end and leaves its arguments as they were. -/
theorem frame_out : Cert.quiescent_AdamOut := fun m ρ _ => Cert.AdamOut.Gen.frame m ρ

/-- The same of the ideal program. -/
theorem frame_out_ideal : Cert.quiescent_AdamOutIdeal := fun m ρ _ => Cert.AdamOutIdeal.Gen.frame m ρ

/-- The same of the reference. -/
theorem frame_out_reference : Cert.quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run m ρ)

end Cert.Adam

end
-- ==== Proof.FwdPoints.lean ====
/- The feed-forward forward kernel (over the reals): which branches its body takes at which points,
   which windows are idle where, and the buffers it works on. -/
module

public import proofs.«01_k».proof.Proof.Gen.FfnFwdIdeal.Frame
public import proofs.«01_k».proof.Proof.Gen.FfnFwdIdeal.Skeleton
public import proofs.«01_k».proof.Proof.Gen.FfnFwdIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.FfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first hidden tile of a row block: the condition of one of the body's two branches. -/
abbrev cond0_0 (i : grid0.Coords) : Prop := k0_cond1 i = 1#1
/-- That branch is taken exactly at the points divisible by 11. -/
theorem hcond0_0 : ∀ t : Fin cfg0.N, cond0_0 (grid0.coords t) ↔ t.val % 11 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_0, k0_cond1, e0, e1]
    word_cmp
   : ∀ t : Fin grid0.N, cond0_0 (grid0.coords t) ↔ t.val % 11 = 0)

/-- The last hidden tile of a row block: the condition of one of the body's two branches. -/
abbrev cond0_1 (i : grid0.Coords) : Prop := k0_cond2 i = 1#1
/-- That branch is taken exactly at the points that leave 10 when divided by 11. -/
theorem hcond0_1 : ∀ t : Fin cfg0.N, cond0_1 (grid0.coords t) ↔ t.val % 11 = 10 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_1, k0_cond2, e0, e1]
    word_cmp
   : ∀ t : Fin grid0.N, cond0_1 (grid0.coords t) ↔ t.val % 11 = 10)

/-- Window 0 is live at every point. -/
theorem liveAt0_0 : ∀ t : Fin cfg0.N, cfg0.idle 0 (grid0.coords t) = false := fun _ => rfl
/-- Window 1 is live at every point. -/
theorem liveAt0_1 : ∀ t : Fin cfg0.N, cfg0.idle 1 (grid0.coords t) = false := fun _ => rfl
/-- Window 2 is live at every point. -/
theorem liveAt0_2 : ∀ t : Fin cfg0.N, cfg0.idle 2 (grid0.coords t) = false := fun _ => rfl
/-- Window 3 is live at every point. -/
theorem liveAt0_3 : ∀ t : Fin cfg0.N, cfg0.idle 3 (grid0.coords t) = false := fun _ => rfl
/-- Window 6 is live at every point. -/
theorem liveAt0_6 : ∀ t : Fin cfg0.N, cfg0.idle 6 (grid0.coords t) = false := fun _ => rfl
/-- Nothing is stored into window 4 at the points of case A. -/
theorem idleAt0_4_A : ∀ t : Fin cfg0.N, cond0_0 (grid0.coords t) → ¬cond0_1 (grid0.coords t) → cfg0.idle 4 (grid0.coords t) = true := by decide +kernel
/-- Window 4 is not written back at the points of case A. -/
theorem noFlush0_4_A : ∀ t : Fin cfg0.N, cond0_0 (grid0.coords t) → ¬cond0_1 (grid0.coords t) → (cfg0.win 4).flush t = false := by decide +kernel
/-- Nothing is stored into window 4 at the points of case B. -/
theorem idleAt0_4_B : ∀ t : Fin cfg0.N, ¬cond0_0 (grid0.coords t) → ¬cond0_1 (grid0.coords t) → cfg0.idle 4 (grid0.coords t) = true := by decide +kernel
/-- Window 4 is not written back at the points of case B. -/
theorem noFlush0_4_B : ∀ t : Fin cfg0.N, ¬cond0_0 (grid0.coords t) → ¬cond0_1 (grid0.coords t) → (cfg0.win 4).flush t = false := by decide +kernel
/-- Window 4 is live at the points of case C. -/
theorem liveAt0_4_C : ∀ t : Fin cfg0.N, ¬cond0_0 (grid0.coords t) → cond0_1 (grid0.coords t) → cfg0.idle 4 (grid0.coords t) = false := by decide +kernel
/-- Whether window 5's buffer has received nothing since its last write-back, position by position, as a bit table. -/
def freshTab0_5 : ℕ → Bool
  | 0 => true
  | n + 1 => (0x8010020040080100200400 : ℕ).testBit n
/-- The table of window 5 follows the pipeline's own step. -/
theorem freshTab0_5_step : ∀ t : Fin cfg0.N,
    freshTab0_5 (t.val + 1) = ((cfg0.win 5).flush t || (cfg0.idle 5 (cfg0.grid.coords t) && freshTab0_5 t.val)) := by decide +kernel
/-- The table of window 5 is the pipeline's own notion. -/
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- Window 5 is live at the points of case A. -/
theorem liveAt0_5_A : ∀ t : Fin cfg0.N, cond0_0 (grid0.coords t) → ¬cond0_1 (grid0.coords t) → cfg0.idle 5 (grid0.coords t) = false := by decide +kernel
/-- Nothing is stored into window 5 at the points of case B. -/
theorem idleAt0_5_B : ∀ t : Fin cfg0.N, ¬cond0_0 (grid0.coords t) → ¬cond0_1 (grid0.coords t) → cfg0.idle 5 (grid0.coords t) = true := by decide +kernel
/-- Window 5 is not written back at the points of case B. -/
theorem noFlush0_5_B : ∀ t : Fin cfg0.N, ¬cond0_0 (grid0.coords t) → ¬cond0_1 (grid0.coords t) → (cfg0.win 5).flush t = false := by decide +kernel
/-- Nothing is stored into window 5 at the points of case C. -/
theorem idleAt0_5_C : ∀ t : Fin cfg0.N, ¬cond0_0 (grid0.coords t) → cond0_1 (grid0.coords t) → cfg0.idle 5 (grid0.coords t) = true := by decide +kernel
/-- Window 5 is written back at the points of case C. -/
theorem flushAt0_5_C : ∀ t : Fin cfg0.N, ¬cond0_0 (grid0.coords t) → cond0_1 (grid0.coords t) → (cfg0.win 5).flush t = true := by decide +kernel
/-- At the points of case C window 5 holds what an earlier point stored. -/
theorem notFresh0_5_C : ∀ t : Fin cfg0.N, ¬cond0_0 (grid0.coords t) → cond0_1 (grid0.coords t) → cfg0.fresh 5 t.val = false := by
  intro t; rw [fresh0_5_eq t]; revert t; decide +kernel

/-- A buffer of output window 4, through which its contents are read. -/
abbrev VO0_4 : View sig .tc .vmem S1024x1024 .f32 := (Memref.whole cc0_stg4_0 : Memref sig .tc .vmem S1024x1024 .f32).view
/-- A buffer of output window 5, through which its contents are read. -/
abbrev VO0_5 : View sig .tc .vmem S1024x1024 .bf16 := (Memref.whole cc0_stg5_0 : Memref sig .tc .vmem S1024x1024 .bf16).view
/-- A buffer of output window 6, through which its contents are read. -/
abbrev VO0_6 : View sig .tc .vmem S1024x512 .bf16 := (Memref.whole cc0_stg6_0 : Memref sig .tc .vmem S1024x512 .bf16).view
/-- The buffer window 0 uses at a point. -/
abbrev ms0_0 (t : Fin cfg0.N) : Memref sig .tc .vmem S1024x1024 .f32 := win0_0.stage (cfg0.slots t 0)
/-- The buffer of window 0 is a whole one. -/
abbrev hs0_0 (t : Fin cfg0.N) : (ms0_0 t).IsWhole := hstage0_0 ((cfg0.slots t 0).cast nbuf0_0)
/-- The buffer window 1 uses at a point. -/
abbrev ms0_1 (t : Fin cfg0.N) : Memref sig .tc .vmem S1x1024 .f32 := win0_1.stage (cfg0.slots t 1)
/-- The buffer of window 1 is a whole one. -/
abbrev hs0_1 (t : Fin cfg0.N) : (ms0_1 t).IsWhole := hstage0_1 ((cfg0.slots t 1).cast nbuf0_1)
/-- The buffer window 2 uses at a point. -/
abbrev ms0_2 (t : Fin cfg0.N) : Memref sig .tc .vmem S512x1024 .bf16 := win0_2.stage (cfg0.slots t 2)
/-- The buffer of window 2 is a whole one. -/
abbrev hs0_2 (t : Fin cfg0.N) : (ms0_2 t).IsWhole := hstage0_2 ((cfg0.slots t 2).cast nbuf0_2)
/-- The buffer window 3 uses at a point. -/
abbrev ms0_3 (t : Fin cfg0.N) : Memref sig .tc .vmem S256x1024 .bf16 := win0_3.stage (cfg0.slots t 3)
/-- The buffer of window 3 is a whole one. -/
abbrev hs0_3 (t : Fin cfg0.N) : (ms0_3 t).IsWhole := hstage0_3 ((cfg0.slots t 3).cast nbuf0_3)
/-- The buffer window 4 uses at a point. -/
abbrev ms0_4 (t : Fin cfg0.N) : Memref sig .tc .vmem S1024x1024 .f32 := win0_4.stage (cfg0.slots t 4)
/-- The buffer of window 4 is a whole one. -/
abbrev hs0_4 (t : Fin cfg0.N) : (ms0_4 t).IsWhole := hstage0_4 ((cfg0.slots t 4).cast nbuf0_4)
/-- The buffer window 5 uses at a point. -/
abbrev ms0_5 (t : Fin cfg0.N) : Memref sig .tc .vmem S1024x1024 .bf16 := win0_5.stage (cfg0.slots t 5)
/-- The buffer of window 5 is a whole one. -/
abbrev hs0_5 (t : Fin cfg0.N) : (ms0_5 t).IsWhole := hstage0_5 ((cfg0.slots t 5).cast nbuf0_5)
/-- The buffer window 6 uses at a point. -/
abbrev ms0_6 (t : Fin cfg0.N) : Memref sig .tc .vmem S1024x512 .bf16 := win0_6.stage (cfg0.slots t 6)
/-- The buffer of window 6 is a whole one. -/
abbrev hs0_6 (t : Fin cfg0.N) : (ms0_6 t).IsWhole := hstage0_6 ((cfg0.slots t 6).cast nbuf0_6)
/-- The scratch that holds the normed rows. -/
abbrev scM0_0 : Memref sig .tc .vmem S1024x1024 .bf16 := Memref.whole cc0_scratch0
/-- The scratch that accumulates the block's output over the hidden tiles. -/
abbrev scM0_1 : Memref sig .tc .vmem S1024x1024 .f32 := Memref.whole cc0_scratch1
/-- The normed rows' scratch as a view. -/
abbrev VS0_0 : View sig .tc .vmem S1024x1024 .bf16 := scM0_0.view
/-- The accumulator as a view. -/
abbrev VS0_1 : View sig .tc .vmem S1024x1024 .f32 := scM0_1.view

/-- Before the first point the two scratch buffers hold anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The branches taken at the first tile of a row block. -/
theorem condsA (t : Fin cfg0.N) (h0 : t.val % 11 = 0) :
    cond0_0 (grid0.coords t) ∧ ¬cond0_1 (grid0.coords t) :=
  ⟨(hcond0_0 t).mpr h0, fun h => by have := (hcond0_1 t).mp h; omega⟩

/-- The branches taken at a middle tile. -/
theorem condsB (t : Fin cfg0.N) (h1 : ¬t.val % 11 = 0) (h2 : ¬t.val % 11 = 10) :
    ¬cond0_0 (grid0.coords t) ∧ ¬cond0_1 (grid0.coords t) :=
  ⟨fun h => h1 ((hcond0_0 t).mp h), fun h => h2 ((hcond0_1 t).mp h)⟩

/-- The branches taken at the last tile of a row block. -/
theorem condsC (t : Fin cfg0.N) (h2 : t.val % 11 = 10) :
    ¬cond0_0 (grid0.coords t) ∧ cond0_1 (grid0.coords t) :=
  ⟨fun h => by have := (hcond0_0 t).mp h; omega, (hcond0_1 t).mpr h2⟩

end Cert.FfnFwdIdeal.Gen

end
-- ==== Proof.FwdRunA.lean ====
/- The feed-forward forward kernel (over the reals): one run of its body at the first hidden tile of a row block: the rows are normed. -/
module

public import proofs.«01_k».proof.Proof.FwdPoints

@[expose] public section

set_option maxRecDepth 16384

noncomputable section

namespace Cert.FfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first hidden tile of a row block: the rows are normed. From the inputs' buffers at `x0 … x3` (and, where it reads them, the carried buffers at `xo·`, `xs·`)
    it ends with every buffer it stores into at the pieces named by the lists, and the rest as it was. -/
noncomputable def kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S256x1024 .bf16) (harg5 : arg5.IsWhole) (arg7 : Memref sig .tc .vmem S1024x1024 .f32) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x1024 .bf16) (harg10 : arg10.IsWhole) (arg11 : Memref sig .tc .vmem S1024x1024 .f32) (harg11 : arg11.IsWhole) (hc0 : cond0_0 i) (hc1 : ¬cond0_1 i)
    (x0 : Vec F S1024x1024 .f32) (x1 : Vec F S1x1024 .f32) (x2 : Vec F S512x1024 .bf16) (x3 : Vec F S256x1024 .bf16) :
    Σ' (L4 : List (View.Piece (Elt F) S1024x1024 .f32)), Σ' (L5 : List (View.Piece (Elt F) S1024x1024 .bf16)), Σ' (L6 : List (View.Piece (Elt F) S1024x512 .bf16)), Σ' (LS0 : List (View.Piece (Elt F) S1024x1024 .bf16)), { LS1 : List (View.Piece (Elt F) S1024x1024 .f32) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xi4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_ffn_fwd i arg2 harg2 arg3 harg3 arg4 harg4 arg5 harg5 (Memref.whole main_v10) (Memref.isWhole_whole _) arg7 harg7 arg8 harg8 arg9 harg9 arg10 harg10 arg11 harg11) K } := by
  refine ⟨[], ?_, ?_, ?_, ?_, fun xi4 E K => ?run⟩
  case run =>
    simp only [cc0_ffn_fwd_eq_skeleton]; unfold cc0_ffn_fwd_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg7.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg7.read_unread _
      iexact H4
    isplitl [H5]; · iexists _; iexact H5
    isplitl [H6]; · iexists _; iexact H6
    isplitl [HS0]; · iexists _; iexact HS0
    iexists _; iexact HS1

end Cert.FfnFwdIdeal.Gen

end
-- ==== Proof.FwdRunB.lean ====
/- The feed-forward forward kernel (over the reals): one run of its body at a middle hidden tile: no branch is taken. -/
module

public import proofs.«01_k».proof.Proof.FwdRunA

@[expose] public section

set_option maxRecDepth 16384

noncomputable section

namespace Cert.FfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a middle hidden tile: no branch is taken. From the inputs' buffers at `x0 … x3` (and, where it reads them, the carried buffers at `xo·`, `xs·`)
    it ends with every buffer it stores into at the pieces named by the lists, and the rest as it was. -/
noncomputable def kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S256x1024 .bf16) (harg5 : arg5.IsWhole) (arg7 : Memref sig .tc .vmem S1024x1024 .f32) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x1024 .bf16) (harg10 : arg10.IsWhole) (arg11 : Memref sig .tc .vmem S1024x1024 .f32) (harg11 : arg11.IsWhole) (hc0 : ¬cond0_0 i) (hc1 : ¬cond0_1 i)
    (x0 : Vec F S1024x1024 .f32) (x1 : Vec F S1x1024 .f32) (x2 : Vec F S512x1024 .bf16) (x3 : Vec F S256x1024 .bf16) (xs0 : Vec F S1024x1024 .bf16) (xs1 : Vec F S1024x1024 .f32) :
    Σ' (L4 : List (View.Piece (Elt F) S1024x1024 .f32)), Σ' (L5 : List (View.Piece (Elt F) S1024x1024 .bf16)), Σ' (L6 : List (View.Piece (Elt F) S1024x512 .bf16)), Σ' (LS0 : List (View.Piece (Elt F) S1024x1024 .bf16)), { LS1 : List (View.Piece (Elt F) S1024x1024 .f32) //
      ∀ (xi4 : Vec F S1024x1024 .f32) (xi5 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xi4 ∗ owns (c : Thread nD τ) arg8 fullShare xi5 ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xi4 ∗ owns (c : Thread nD τ) arg8 fullShare xi5 ∗ (∃ f, arg9.view.loc (c : Thread nD τ) ↦[arg9.view.set]{fullShare} arg9.view.writes (Elt F) f L6) ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0_ffn_fwd i arg2 harg2 arg3 harg3 arg4 harg4 arg5 harg5 (Memref.whole main_v10) (Memref.isWhole_whole _) arg7 harg7 arg8 harg8 arg9 harg9 arg10 harg10 arg11 harg11) K } := by
  refine ⟨[], [], ?_, [], ?_, fun xi4 xi5 E K => ?run⟩
  case run =>
    simp only [cc0_ffn_fwd_eq_skeleton]; unfold cc0_ffn_fwd_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf4; obtain rfl := harg8.eq_unread hf5; obtain rfl := harg10.eq_unread hfs0; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _; isplitr; · ipureintro; exact harg10.read_unread _
      iexact HS0
    iexists _; iexact HS1

end Cert.FfnFwdIdeal.Gen

end
-- ==== Proof.FwdRunC.lean ====
/- The feed-forward forward kernel (over the reals): one run of its body at the last hidden tile of a row block: the residual is added. -/
module

public import proofs.«01_k».proof.Proof.FwdRunB

@[expose] public section

set_option maxRecDepth 16384

noncomputable section

namespace Cert.FfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last hidden tile of a row block: the residual is added. From the inputs' buffers at `x0 … x3` (and, where it reads them, the carried buffers at `xo·`, `xs·`)
    it ends with every buffer it stores into at the pieces named by the lists, and the rest as it was. -/
noncomputable def kernelRun0_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S256x1024 .bf16) (harg5 : arg5.IsWhole) (arg7 : Memref sig .tc .vmem S1024x1024 .f32) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x1024 .bf16) (harg10 : arg10.IsWhole) (arg11 : Memref sig .tc .vmem S1024x1024 .f32) (harg11 : arg11.IsWhole) (hc0 : ¬cond0_0 i) (hc1 : cond0_1 i)
    (x0 : Vec F S1024x1024 .f32) (x1 : Vec F S1x1024 .f32) (x2 : Vec F S512x1024 .bf16) (x3 : Vec F S256x1024 .bf16) (xo5 : Vec F S1024x1024 .bf16) (xs0 : Vec F S1024x1024 .bf16) (xs1 : Vec F S1024x1024 .f32) :
    Σ' (L4 : List (View.Piece (Elt F) S1024x1024 .f32)), Σ' (L5 : List (View.Piece (Elt F) S1024x1024 .bf16)), Σ' (L6 : List (View.Piece (Elt F) S1024x512 .bf16)), Σ' (LS0 : List (View.Piece (Elt F) S1024x1024 .bf16)), { LS1 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ owns (c : Thread nD τ) arg8 fullShare xo5 ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L4) ∗ owns (c : Thread nD τ) arg8 fullShare xo5 ∗ (∃ f, arg9.view.loc (c : Thread nD τ) ↦[arg9.view.set]{fullShare} arg9.view.writes (Elt F) f L6) ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0_ffn_fwd i arg2 harg2 arg3 harg3 arg4 harg4 arg5 harg5 (Memref.whole main_v10) (Memref.isWhole_whole _) arg7 harg7 arg8 harg8 arg9 harg9 arg10 harg10 arg11 harg11) K } := by
  refine ⟨?_, [], ?_, [], ?_, fun E K => ?run⟩
  case run =>
    simp only [cc0_ffn_fwd_eq_skeleton]; unfold cc0_ffn_fwd_skel
    simp only [k0_part2_eq_skeleton, k0_part3_eq_skeleton, k0_part4_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hf5; obtain rfl := harg10.eq_unread hfs0; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg8.read_unread _
      iexact H5
    isplitl [H6]; · iexists _; iexact H6
    isplitl [HS0]
    · iexists _; isplitr; · ipureintro; exact harg10.read_unread _
      iexact HS0
    iexists _; iexact HS1

end Cert.FfnFwdIdeal.Gen

end
-- ==== Proof.FwdFrame.lean ====
/- The feed-forward forward kernel (over the reals): what its buffers hold point by point, the pipeline's proof data,
   and the frame. -/
module

public import proofs.«01_k».proof.Proof.FwdRunC
public import Idealize.ShloMosaic.Lib.Claim

@[expose] public section

set_option maxRecDepth 16384

noncomputable section

namespace Cert.FfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the three output buffers and the two carried scratch buffers hold. -/
abbrev St (F : FTy → Type) [FloatOps F] : Type :=
  Vec F S1024x1024 .f32 × Vec F S1024x1024 .bf16 × Vec F S1024x512 .bf16 × Vec F S1024x1024 .bf16 × Vec F S1024x1024 .f32

/-- The body's run at a point of case A, on that point's buffers and input blocks. -/
abbrev runA (c : Dev nD) (t : Fin cfg0.N) (h0 : t.val % 11 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (condsA t h0).1 (condsA t h0).2 (iblk m c 0 t) (iblk m c 1 t) (iblk m c 2 t) (iblk m c 3 t)

/-- The pieces case A stores for the normed rows fill its buffer. -/
theorem cover0_A_5 (c : Dev nD) (t : Fin cfg0.N) (h0 : t.val % 11 = 0) (y : S1024x1024.Idx) :
    ∃ pc ∈ (runA m c t h0).2.1, y ∈ pc.1.set :=
  View.cover_of_tiledL (runA m c t h0).2.1 S1024x1024.size (by sl_kernel_rfl) y

/-- What case A leaves as the normed rows. -/
def out0_A_5 (c : Dev nD) (t : Fin cfg0.N) (h0 : t.val % 11 = 0) : Vec F S1024x1024 .bf16 :=
  VO0_5.read (Elt F) (VO0_5.writes (Elt F) VO0_5.junk (runA m c t h0).2.1)

/-- The pieces case A stores for the gate and up products fill its buffer. -/
theorem cover0_A_6 (c : Dev nD) (t : Fin cfg0.N) (h0 : t.val % 11 = 0) (y : S1024x512.Idx) :
    ∃ pc ∈ (runA m c t h0).2.2.1, y ∈ pc.1.set :=
  View.cover_of_tiledL (runA m c t h0).2.2.1 S256x512.size (by sl_kernel_rfl) y

/-- What case A leaves as the gate and up products. -/
def out0_A_6 (c : Dev nD) (t : Fin cfg0.N) (h0 : t.val % 11 = 0) : Vec F S1024x512 .bf16 :=
  VO0_6.read (Elt F) (VO0_6.writes (Elt F) VO0_6.junk (runA m c t h0).2.2.1)

/-- The pieces case A stores for the normed rows' scratch fill its buffer. -/
theorem scover0_A_0 (c : Dev nD) (t : Fin cfg0.N) (h0 : t.val % 11 = 0) (y : S1024x1024.Idx) :
    ∃ pc ∈ (runA m c t h0).2.2.2.1, y ∈ pc.1.set :=
  View.cover_of_tiledL (runA m c t h0).2.2.2.1 S1024x1024.size (by sl_kernel_rfl) y

/-- What case A leaves as the normed rows' scratch. -/
def sout0_A_0 (c : Dev nD) (t : Fin cfg0.N) (h0 : t.val % 11 = 0) : Vec F S1024x1024 .bf16 :=
  VS0_0.read (Elt F) (VS0_0.writes (Elt F) VS0_0.junk (runA m c t h0).2.2.2.1)

/-- The pieces case A stores for the accumulator fill its buffer. -/
theorem scover0_A_1 (c : Dev nD) (t : Fin cfg0.N) (h0 : t.val % 11 = 0) (y : S1024x1024.Idx) :
    ∃ pc ∈ (runA m c t h0).2.2.2.2.1, y ∈ pc.1.set :=
  View.cover_of_wholeMem (runA m c t h0).2.2.2.2.1 (by sl_whole_mem) y

/-- What case A leaves as the accumulator. -/
def sout0_A_1 (c : Dev nD) (t : Fin cfg0.N) (h0 : t.val % 11 = 0) : Vec F S1024x1024 .f32 :=
  VS0_1.read (Elt F) (VS0_1.writes (Elt F) VS0_1.junk (runA m c t h0).2.2.2.2.1)

/-- Everything the buffers hold after a point of case A. -/
abbrev stA (c : Dev nD) (t : Fin cfg0.N) (h0 : t.val % 11 = 0) : St F :=
  (VO0_4.read (Elt F) VO0_4.junk, out0_A_5 m c t h0, out0_A_6 m c t h0, sout0_A_0 m c t h0, sout0_A_1 m c t h0)

/-- The body's run at a point of case B, on that point's buffers and input blocks. -/
abbrev runB (c : Dev nD) (t : Fin cfg0.N) (h1 : ¬t.val % 11 = 0) (h2 : ¬t.val % 11 = 10) (p : St F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (condsB t h1 h2).1 (condsB t h1 h2).2 (iblk m c 0 t) (iblk m c 1 t) (iblk m c 2 t) (iblk m c 3 t) p.2.2.2.1 p.2.2.2.2

/-- The pieces case B stores for the gate and up products fill its buffer. -/
theorem cover0_B_6 (c : Dev nD) (t : Fin cfg0.N) (h1 : ¬t.val % 11 = 0) (h2 : ¬t.val % 11 = 10) (p : St F) (y : S1024x512.Idx) :
    ∃ pc ∈ (runB m c t h1 h2 p).2.2.1, y ∈ pc.1.set :=
  View.cover_of_tiledL (runB m c t h1 h2 p).2.2.1 S256x512.size (by sl_kernel_rfl) y

/-- What case B leaves as the gate and up products. -/
def out0_B_6 (c : Dev nD) (t : Fin cfg0.N) (h1 : ¬t.val % 11 = 0) (h2 : ¬t.val % 11 = 10) (p : St F) : Vec F S1024x512 .bf16 :=
  VO0_6.read (Elt F) (VO0_6.writes (Elt F) VO0_6.junk (runB m c t h1 h2 p).2.2.1)

/-- The pieces case B stores for the accumulator fill its buffer. -/
theorem scover0_B_1 (c : Dev nD) (t : Fin cfg0.N) (h1 : ¬t.val % 11 = 0) (h2 : ¬t.val % 11 = 10) (p : St F) (y : S1024x1024.Idx) :
    ∃ pc ∈ (runB m c t h1 h2 p).2.2.2.2.1, y ∈ pc.1.set :=
  View.cover_of_tiledL (runB m c t h1 h2 p).2.2.2.2.1 S256x1024.size (by sl_kernel_rfl) y

/-- What case B leaves as the accumulator. -/
def sout0_B_1 (c : Dev nD) (t : Fin cfg0.N) (h1 : ¬t.val % 11 = 0) (h2 : ¬t.val % 11 = 10) (p : St F) : Vec F S1024x1024 .f32 :=
  VS0_1.read (Elt F) (VS0_1.writes (Elt F) VS0_1.junk (runB m c t h1 h2 p).2.2.2.2.1)

/-- Everything the buffers hold after a point of case B, over what they held before. -/
abbrev stB (c : Dev nD) (t : Fin cfg0.N) (h1 : ¬t.val % 11 = 0) (h2 : ¬t.val % 11 = 10) (p : St F) : St F :=
  (VO0_4.read (Elt F) VO0_4.junk, p.2.1, out0_B_6 m c t h1 h2 p, p.2.2.2.1, sout0_B_1 m c t h1 h2 p)

/-- The body's run at a point of case C, on that point's buffers and input blocks. -/
abbrev runC (c : Dev nD) (t : Fin cfg0.N) (h2 : t.val % 11 = 10) (p : St F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (condsC t h2).1 (condsC t h2).2 (iblk m c 0 t) (iblk m c 1 t) (iblk m c 2 t) (iblk m c 3 t) p.2.1 p.2.2.2.1 p.2.2.2.2

/-- The pieces case C stores for the block's output fill its buffer. -/
theorem cover0_C_4 (c : Dev nD) (t : Fin cfg0.N) (h2 : t.val % 11 = 10) (p : St F) (y : S1024x1024.Idx) :
    ∃ pc ∈ (runC m c t h2 p).1, y ∈ pc.1.set :=
  View.cover_of_tiledL (runC m c t h2 p).1 S256x1024.size (by sl_kernel_rfl) y

/-- What case C leaves as the block's output. -/
def out0_C_4 (c : Dev nD) (t : Fin cfg0.N) (h2 : t.val % 11 = 10) (p : St F) : Vec F S1024x1024 .f32 :=
  VO0_4.read (Elt F) (VO0_4.writes (Elt F) VO0_4.junk (runC m c t h2 p).1)

/-- The pieces case C stores for the gate and up products fill its buffer. -/
theorem cover0_C_6 (c : Dev nD) (t : Fin cfg0.N) (h2 : t.val % 11 = 10) (p : St F) (y : S1024x512.Idx) :
    ∃ pc ∈ (runC m c t h2 p).2.2.1, y ∈ pc.1.set :=
  View.cover_of_tiledL (runC m c t h2 p).2.2.1 S256x512.size (by sl_kernel_rfl) y

/-- What case C leaves as the gate and up products. -/
def out0_C_6 (c : Dev nD) (t : Fin cfg0.N) (h2 : t.val % 11 = 10) (p : St F) : Vec F S1024x512 .bf16 :=
  VO0_6.read (Elt F) (VO0_6.writes (Elt F) VO0_6.junk (runC m c t h2 p).2.2.1)

/-- The pieces case C stores for the accumulator fill its buffer. -/
theorem scover0_C_1 (c : Dev nD) (t : Fin cfg0.N) (h2 : t.val % 11 = 10) (p : St F) (y : S1024x1024.Idx) :
    ∃ pc ∈ (runC m c t h2 p).2.2.2.2.1, y ∈ pc.1.set :=
  View.cover_of_tiledL (runC m c t h2 p).2.2.2.2.1 S256x1024.size (by sl_kernel_rfl) y

/-- What case C leaves as the accumulator. -/
def sout0_C_1 (c : Dev nD) (t : Fin cfg0.N) (h2 : t.val % 11 = 10) (p : St F) : Vec F S1024x1024 .f32 :=
  VS0_1.read (Elt F) (VS0_1.writes (Elt F) VS0_1.junk (runC m c t h2 p).2.2.2.2.1)

/-- Everything the buffers hold after a point of case C, over what they held before. -/
abbrev stC (c : Dev nD) (t : Fin cfg0.N) (h2 : t.val % 11 = 10) (p : St F) : St F :=
  (out0_C_4 m c t h2 p, p.2.1, out0_C_6 m c t h2 p, p.2.2.2.1, sout0_C_1 m c t h2 p)

/-- What the buffers hold after each point: the case the position selects, over what the point before left. -/
def outsAt0 (c : Dev nD) : (n : ℕ) → n < cfg0.N → St F
  | 0, hn => stA m c ⟨0, hn⟩ rfl
  | n + 1, hn =>
    if h1 : (n + 1) % 11 = 0 then stA m c ⟨n + 1, hn⟩ h1
    else if h2 : (n + 1) % 11 = 10 then stC m c ⟨n + 1, hn⟩ h2 (outsAt0 c n (Nat.lt_of_succ_lt hn))
    else stB m c ⟨n + 1, hn⟩ h1 h2 (outsAt0 c n (Nat.lt_of_succ_lt hn))

/-- What the buffers held before a point that is not the first. -/
abbrev prev (c : Dev nD) (t : Fin cfg0.N) : St F := outsAt0 m c (t.val - 1) (Nat.lt_of_le_of_lt (Nat.sub_le _ _) t.isLt)

/-- After the first tile of a row block. -/
theorem outsAt0_A (c : Dev nD) (t : Fin cfg0.N) (h0 : t.val % 11 = 0) : outsAt0 m c t.val t.isLt = stA m c t h0 := by
  obtain ⟨n, hn⟩ := t
  cases n with
  | zero => rfl
  | succ n => exact (dif_pos h0).trans rfl

/-- After a middle tile. -/
theorem outsAt0_B (c : Dev nD) (t : Fin cfg0.N) (h1 : ¬t.val % 11 = 0) (h2 : ¬t.val % 11 = 10) :
    outsAt0 m c t.val t.isLt = stB m c t h1 h2 (prev m c t) := by
  obtain ⟨n, hn⟩ := t
  cases n with
  | zero => exact absurd (Nat.zero_mod _) h1
  | succ n => exact (dif_neg h1).trans ((dif_neg h2).trans rfl)

/-- After the last tile of a row block. -/
theorem outsAt0_C (c : Dev nD) (t : Fin cfg0.N) (h2 : t.val % 11 = 10) :
    outsAt0 m c t.val t.isLt = stC m c t h2 (prev m c t) := by
  obtain ⟨n, hn⟩ := t
  cases n with
  | zero => exact absurd ((Nat.zero_mod 11).symm.trans h2) (by decide)
  | succ n => exact (dif_neg (by have : (n + 1) % 11 = 10 := h2; omega)).trans ((dif_pos h2).trans rfl)

/-- What is held before position `n`: at the start the scratch buffers at anything, later the two carried ones at what the
    point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r))

/-- Before the first point. -/
theorem PhiS_zero (c : Dev nD) (n : ℕ) (h : n ≤ cfg0.N) (hz : n = 0) : PhiS m c n h = Pipeline.ΦA spec0 c := by
  subst hz; rfl

/-- Just after a point. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r)) := by
  cases n with
  | zero => exact absurd rfl hz
  | succ n => rfl

/-- The proof data of the pipeline: each input's buffer at its block, the outputs' at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

/-- The arrays are those the launch finds. -/
theorem A_eq (c : Dev nD) (w : Fin cfg0.W) : (dats m 0 c).A w = V m c (Pipeline.arrRef spec0 w) := by
  dsimp only [dats]

/-- What is held at the start of a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Window 0 after a point. -/
theorem after0_0 (c : Dev nD) (t : Fin cfg0.N) : (dats m 0 c).after 0 t = iblk m c 0 t := by dsimp only [dats]
/-- Window 1 after a point. -/
theorem after0_1 (c : Dev nD) (t : Fin cfg0.N) : (dats m 0 c).after 1 t = iblk m c 1 t := by dsimp only [dats]
/-- Window 2 after a point. -/
theorem after0_2 (c : Dev nD) (t : Fin cfg0.N) : (dats m 0 c).after 2 t = iblk m c 2 t := by dsimp only [dats]
/-- Window 3 after a point. -/
theorem after0_3 (c : Dev nD) (t : Fin cfg0.N) : (dats m 0 c).after 3 t = iblk m c 3 t := by dsimp only [dats]
/-- Window 4 after a point. -/
theorem after0_4 (c : Dev nD) (t : Fin cfg0.N) : (dats m 0 c).after 4 t = (outsAt0 m c t.val t.isLt).1 := by dsimp only [dats]
/-- Window 5 after a point. -/
theorem after0_5 (c : Dev nD) (t : Fin cfg0.N) : (dats m 0 c).after 5 t = (outsAt0 m c t.val t.isLt).2.1 := by dsimp only [dats]
/-- Window 6 after a point. -/
theorem after0_6 (c : Dev nD) (t : Fin cfg0.N) : (dats m 0 c).after 6 t = (outsAt0 m c t.val t.isLt).2.2.1 := by dsimp only [dats]

/-- Input window 0 before a point: its block. -/
theorem before0_0 (c : Dev nD) (t : Fin cfg0.N) (d) : (dats m 0 c).before 0 t d = iblk m c 0 t :=
  before0_0_of m (dats m 0 c) (A_eq m c 0) (after0_0 m c) t d
/-- Input window 1 before a point: its block. -/
theorem before0_1 (c : Dev nD) (t : Fin cfg0.N) (d) : (dats m 0 c).before 1 t d = iblk m c 1 t :=
  before0_1_of m (dats m 0 c) (A_eq m c 1) (after0_1 m c) t d
/-- Input window 2 before a point: its block. -/
theorem before0_2 (c : Dev nD) (t : Fin cfg0.N) (d) : (dats m 0 c).before 2 t d = iblk m c 2 t :=
  before0_2_of m (dats m 0 c) (A_eq m c 2) (after0_2 m c) t d
/-- Input window 3 before a point: its block. -/
theorem before0_3 (c : Dev nD) (t : Fin cfg0.N) (d) : (dats m 0 c).before 3 t d = iblk m c 3 t :=
  before0_3_of m (dats m 0 c) (A_eq m c 3) (after0_3 m c) t d

/-- Where window 5 is idle it keeps what the point before left. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t h0 hi _
  rw [after0_5, after0_5]
  by_cases h1 : t.val % 11 = 0
  · rw [liveAt0_5_A t (condsA t h1).1 (condsA t h1).2] at hi; exact absurd hi Bool.false_ne_true
  · by_cases h2 : t.val % 11 = 10
    · rw [outsAt0_C m c t h2]
    · rw [outsAt0_B m c t h1 h2]

/-- At the last tile of a row block window 5 holds what the point before left. -/
theorem before0_5_C (c : Dev nD) (t : Fin cfg0.N) (h2 : t.val % 11 = 10) (d) :
    (dats m 0 c).before 5 t d = (prev m c t).2.1 := by
  rw [Dat.before_out_traj _ 5 rfl (fun _ _ => rfl) (hcarry0_5 m c) t.val t rfl d,
    if_neg (by rw [notFresh0_5_C t (condsC t h2).1 (condsC t h2).2]; exact Bool.false_ne_true)]
  dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A live window leaves its buffer at its contents after the point. -/
theorem leaves_live (c : Dev nD) (t : Fin cfg0.N) (w : Fin cfg0.W) (h : cfg0.idle w (grid0.coords t) = false) :
    (dats m 0 c).leavesExact w t
      = owns (c : Thread nD τ) ((cfg0.win w).stage (cfg0.slots t w)) fullShare ((dats m 0 c).after w t) := by
  unfold Dat.leavesExact
  rw [h]

set_option maxHeartbeats 4800000 in
/-- The body at a point of case A does what the pipeline asks of it. -/
theorem sound_A (c : Dev nD) (t : Fin cfg0.N) (h0 : t.val % 11 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_live m c t 0 (liveAt0_0 t), after0_0]
  rw [leaves_live m c t 1 (liveAt0_1 t), after0_1]
  rw [leaves_live m c t 2 (liveAt0_2 t), after0_2]
  rw [leaves_live m c t 3 (liveAt0_3 t), after0_3]
  rw [leaves_live m c t 6 (liveAt0_6 t), after0_6]
  rw [Dat.leavesExact_idle (dats m 0 c) 4 t (idleAt0_4_A t (condsA t h0).1 (condsA t h0).2) (noFlush0_4_A t (condsA t h0).1 (condsA t h0).2)]
  rw [leaves_live m c t 5 (liveAt0_5_A t (condsA t h0).1 (condsA t h0).2), after0_5]
  by_cases hz : t.val = 0
  · rw [PhiS_castSucc m c t, PhiS_zero m c _ _ hz, PhiA0_eq]
    rw [outsAt0_A m c t h0]
    try dsimp only
    unfold out0_A_5 out0_A_6 sout0_A_0 sout0_A_1
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((runA m c t h0).2.2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%e5, H5⟩, ⟨%e6, H6⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 m c t h0)
        unfold owns; iexists _; isplitr
        swap; · iexact HS1
        ipureintro; exact View.read_writes_of_cover _ _ _ _ _ (scover0_A_1 m c t h0)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]
    · unfold owns; iexists _; isplitr
      swap; · iexact H5
      ipureintro; exact View.read_writes_of_cover _ _ _ _ _ (cover0_A_5 m c t h0)
    unfold owns; iexists _; isplitr
    swap; · iexact H6
    ipureintro; exact View.read_writes_of_cover _ _ _ _ _ (cover0_A_6 m c t h0)
  · rw [PhiS_castSucc m c t, PhiS_pos m c _ _ hz]
    rw [outsAt0_A m c t h0]
    try dsimp only
    unfold out0_A_5 out0_A_6 sout0_A_0 sout0_A_1
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((runA m c t h0).2.2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexists _; iexact HS0
    isplitl [HS1]; · iexists _; iexact HS1
    iintro ⟨H0, H1, H2, H3, H4, ⟨%e5, H5⟩, ⟨%e6, H6⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 m c t h0)
        unfold owns; iexists _; isplitr
        swap; · iexact HS1
        ipureintro; exact View.read_writes_of_cover _ _ _ _ _ (scover0_A_1 m c t h0)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]
    · unfold owns; iexists _; isplitr
      swap; · iexact H5
      ipureintro; exact View.read_writes_of_cover _ _ _ _ _ (cover0_A_5 m c t h0)
    unfold owns; iexists _; isplitr
    swap; · iexact H6
    ipureintro; exact View.read_writes_of_cover _ _ _ _ _ (cover0_A_6 m c t h0)

set_option maxHeartbeats 4800000 in
/-- The body at a point of case B does what the pipeline asks of it. -/
theorem sound_B (c : Dev nD) (t : Fin cfg0.N) (h1 : ¬t.val % 11 = 0) (h2 : ¬t.val % 11 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_live m c t 0 (liveAt0_0 t), after0_0]
  rw [leaves_live m c t 1 (liveAt0_1 t), after0_1]
  rw [leaves_live m c t 2 (liveAt0_2 t), after0_2]
  rw [leaves_live m c t 3 (liveAt0_3 t), after0_3]
  rw [leaves_live m c t 6 (liveAt0_6 t), after0_6]
  rw [Dat.leavesExact_idle (dats m 0 c) 4 t (idleAt0_4_B t (condsB t h1 h2).1 (condsB t h1 h2).2) (noFlush0_4_B t (condsB t h1 h2).1 (condsB t h1 h2).2)]
  rw [Dat.leavesExact_idle (dats m 0 c) 5 t (idleAt0_5_B t (condsB t h1 h2).1 (condsB t h1 h2).2) (noFlush0_5_B t (condsB t h1 h2).1 (condsB t h1 h2).2)]
  rw [PhiS_castSucc m c t, PhiS_pos m c _ _ (by omega)]
  rw [outsAt0_B m c t h1 h2]
  try dsimp only
  unfold out0_B_6 sout0_B_1
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((runB m c t h1 h2 (prev m c t)).2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, HS0, ⟨%es1, HS1⟩⟩
  isplitl [HS0 HS1 Hg]
  · isplitl [HS0 HS1]
    · isplitl [HS0]
      · iexact HS0
      unfold owns; iexists _; isplitr
      swap; · iexact HS1
      ipureintro; exact View.read_writes_of_cover _ _ _ _ _ (scover0_B_1 m c t h1 h2 (prev m c t))
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  unfold owns; iexists _; isplitr
  swap; · iexact H6
  ipureintro; exact View.read_writes_of_cover _ _ _ _ _ (cover0_B_6 m c t h1 h2 (prev m c t))

set_option maxHeartbeats 4800000 in
/-- The body at a point of case C does what the pipeline asks of it. -/
theorem sound_C (c : Dev nD) (t : Fin cfg0.N) (h2 : t.val % 11 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_live m c t 0 (liveAt0_0 t), after0_0]
  rw [leaves_live m c t 1 (liveAt0_1 t), after0_1]
  rw [leaves_live m c t 2 (liveAt0_2 t), after0_2]
  rw [leaves_live m c t 3 (liveAt0_3 t), after0_3]
  rw [leaves_live m c t 6 (liveAt0_6 t), after0_6]
  rw [leaves_live m c t 4 (liveAt0_4_C t (condsC t h2).1 (condsC t h2).2), after0_4]
  rw [show (dats m 0 c).leavesExact 5 t = owns (c : Thread nD τ) (ms0_5 t) fullShare ((dats m 0 c).after 5 t) from by
    unfold Dat.leavesExact; rw [idleAt0_5_C t (condsC t h2).1 (condsC t h2).2, flushAt0_5_C t (condsC t h2).1 (condsC t h2).2], after0_5]
  rw [PhiS_castSucc m c t, PhiS_pos m c _ _ (by omega)]
  rw [outsAt0_C m c t h2]
  simp only [before0_5_C m c t h2]
  try dsimp only
  unfold out0_C_4 out0_C_6 sout0_C_1
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((runC m c t h2 (prev m c t)).2.2.2.2.2 Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  isplitl [HS0]; · iexact HS0
  isplitl [HS1]; · iexact HS1
  iintro ⟨H0, H1, H2, H3, ⟨%e4, H4⟩, H5, ⟨%e6, H6⟩, HS0, ⟨%es1, HS1⟩⟩
  isplitl [HS0 HS1 Hg]
  · isplitl [HS0 HS1]
    · isplitl [HS0]
      · iexact HS0
      unfold owns; iexists _; isplitr
      swap; · iexact HS1
      ipureintro; exact View.read_writes_of_cover _ _ _ _ _ (scover0_C_1 m c t h2 (prev m c t))
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_C_4 m c t h2 (prev m c t))
  isplitl [H5]; · iexact H5
  unfold owns; iexists _; isplitr
  swap; · iexact H6
  ipureintro; exact View.read_writes_of_cover _ _ _ _ _ (cover0_C_6 m c t h2 (prev m c t))

/-- The body at any point does what the pipeline asks of it. -/
theorem sound_body (c : Dev nD) (t : Fin cfg0.N) :
    bodyPre m c t ⊢ wp frame (wpE (defs₀ (F := F)) Variants.none c none) Set.univ (bodyAt0 t) (fun _ => bodyPost m c t) := by
  by_cases h1 : t.val % 11 = 0
  · exact sound_A m c t h1
  by_cases h2 : t.val % 11 = 10
  · exact sound_C m c t h2
  · exact sound_B m c t h1 h2

/-- The pipeline calls the body at a point's buffers. -/
theorem defs₀_row (t : Fin cfg0.N) :
    defs₀ (F := F) .tc cfg0.body (cfg0.bodyArgs t (cfg0.slots t)) = bodyAt0 t := by
  unfold defs₀; rw [Defs.onTc_tc]

/-- The pipeline's demand on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what is held before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After any point the scratch contents may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 88 := N_0; omega)

set_option backward.isDefEq.respectTransparency.types false in
/-- Every run of the program ends, with the arrays the proof data name and all semaphores at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame of the program: every run ends, arguments unchanged, semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- Every run ends with each result array at what the pipeline writes back, and the arguments as they were. -/
theorem run_blocks : θ_run defs (onTc (τ := τ) (main (F := F))) ⟨m, fun _ => 0, ρ⟩ fun r => ∀ c : Dev nD,
      r.2.mem ((c : Thread nD τ).loc main_v12_0) = (dats m 0 c).arrAt 4 cfg0.N
      ∧ r.2.mem ((c : Thread nD τ).loc main_v12_1) = (dats m 0 c).arrAt 5 cfg0.N
      ∧ r.2.mem ((c : Thread nD τ).loc main_v12_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 4,
      (h c).1 5,
      (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.FfnFwdIdeal.Gen

end
-- ==== Proof.FwdBlock.lean ====
module

public import proofs.«01_k».proof.Proof.FwdPoints
public import proofs.«01_k».proof.Proof.FfnTail

@[expose] public section

set_option maxRecDepth 16384

noncomputable section

/-! What the feed-forward forward body computes from one point's blocks: the gate and up products of one tile of hidden
units at 1024 rows, and what that tile adds to the block's output. The body works on four groups of 256 rows; here each
group's stores are found to be parts of one array. -/
namespace Cert.FfnFwdIdeal.Value

open Idealize.ShloMosaic Idealize.ShloMosaic.TcCoe Idealize.SL.Sem
open Cert.FfnFwdIdeal Cert.FfnFwdIdeal.Gen
open Cert.FfnBwdIdeal.Value (sg hid invK)

/-- The normed rows, as kept for the later tiles. -/
theorem pay8_at (x : FVec Ideal S1024x1024 .f32) (gn : FVec Ideal S1x1024 .f32) (r d : Fin 1024) :
    k0_pay8 (F := Ideal) x gn (ix2 r d) = x (ix2 r d) * (invK fun k => x (ix2 r k)) * gn (ix2 0 d) := by
  unfold invK
  pointwise [k0_pay8, k0_pay7]

/-- The same, as stored for the caller. -/
theorem pay9_at (x : FVec Ideal S1024x1024 .f32) (gn : FVec Ideal S1x1024 .f32) (r d : Fin 1024) :
    k0_pay9 (F := Ideal) x gn (ix2 r d) = x (ix2 r d) * (invK fun k => x (ix2 r k)) * gn (ix2 0 d) := by
  unfold invK
  pointwise [k0_pay9, k0_pay7]

/-- The accumulator starts from zero. -/
theorem pay10_at (x : S1024x1024.Idx) : k0_pay10 (F := Ideal) x = 0 := by
  pointwise [k0_pay10]

/-- Row group 0: the gate and up products are products over the 1024 features. -/
theorem mul0_at (o : FVec Ideal S256x1024 .bf16) (W : FVec Ideal S512x1024 .bf16) (x : S256x512.Idx) :
    k0_pay11 (F := Ideal) o W x = ∑ d : Fin 1024, o (ix2 (x 0) d) * W (ix2 (x 1) d) := by
  pointwise [k0_pay11]

/-- Row group 0: they are stored as they are. -/
theorem gu0_at (o : FVec Ideal S256x1024 .bf16) (W : FVec Ideal S512x1024 .bf16) (x : S256x512.Idx) :
    k0_pay15 (F := Ideal) o W x = ∑ d : Fin 1024, o (ix2 (x 0) d) * W (ix2 (x 1) d) := by
  pointwise [k0_pay15, k0_pay11]

/-- Row group 0: the hidden values. -/
theorem h0_at (o : FVec Ideal S256x1024 .bf16) (W : FVec Ideal S512x1024 .bf16) (r k : Fin 256) :
    (k0_pay19 (F := Ideal) (k0_pay16 (F := Ideal) o W) (k0_pay17 (F := Ideal) o W) (k0_pay18 (F := Ideal) o W)) (ix2 r k)
      = hid (∑ d : Fin 1024, o (ix2 r d) * W (ix2 ⟨k, by omega⟩ d)) (∑ d : Fin 1024, o (ix2 r d) * W (ix2 ⟨256 + k, by omega⟩ d)) := by
  unfold hid sg
  pointwise [k0_pay19, k0_pay16, k0_pay17, k0_pay18, k0_pay11]
  try rfl

/-- Row group 0: what the tile adds to the accumulator. -/
theorem acc0_at (h : FVec Ideal S256x256 .bf16) (a : FVec Ideal S256x1024 .f32) (D : FVec Ideal S256x1024 .bf16) (x : S256x1024.Idx) :
    k0_pay28 (F := Ideal) h a D x = a x + ∑ k : Fin 256, h (ix2 (x 0) k) * D (ix2 k (x 1)) := by
  pointwise [k0_pay28]

/-- Row group 1: the gate and up products are products over the 1024 features. -/
theorem mul1_at (o : FVec Ideal S256x1024 .bf16) (W : FVec Ideal S512x1024 .bf16) (x : S256x512.Idx) :
    k0_pay12 (F := Ideal) o W x = ∑ d : Fin 1024, o (ix2 (x 0) d) * W (ix2 (x 1) d) := by
  pointwise [k0_pay12]

/-- Row group 1: they are stored as they are. -/
theorem gu1_at (o : FVec Ideal S256x1024 .bf16) (W : FVec Ideal S512x1024 .bf16) (x : S256x512.Idx) :
    k0_pay20 (F := Ideal) (k0_pay12 (F := Ideal) o W) x = ∑ d : Fin 1024, o (ix2 (x 0) d) * W (ix2 (x 1) d) := by
  pointwise [k0_pay20, k0_pay12]

/-- Row group 1: the hidden values. -/
theorem h1_at (o : FVec Ideal S256x1024 .bf16) (W : FVec Ideal S512x1024 .bf16) (r k : Fin 256) :
    (k0_pay21 (F := Ideal) (k0_pay12 (F := Ideal) o W)) (ix2 r k)
      = hid (∑ d : Fin 1024, o (ix2 r d) * W (ix2 ⟨k, by omega⟩ d)) (∑ d : Fin 1024, o (ix2 r d) * W (ix2 ⟨256 + k, by omega⟩ d)) := by
  unfold hid sg
  pointwise [k0_pay21, k0_pay12]
  try rfl

/-- Row group 1: what the tile adds to the accumulator. -/
theorem acc1_at (h : FVec Ideal S256x256 .bf16) (a : FVec Ideal S256x1024 .f32) (D : FVec Ideal S256x1024 .bf16) (x : S256x1024.Idx) :
    k0_pay29 (F := Ideal) h a D x = a x + ∑ k : Fin 256, h (ix2 (x 0) k) * D (ix2 k (x 1)) := by
  pointwise [k0_pay29]

/-- Row group 2: the gate and up products are products over the 1024 features. -/
theorem mul2_at (o : FVec Ideal S256x1024 .bf16) (W : FVec Ideal S512x1024 .bf16) (x : S256x512.Idx) :
    k0_pay13 (F := Ideal) o W x = ∑ d : Fin 1024, o (ix2 (x 0) d) * W (ix2 (x 1) d) := by
  pointwise [k0_pay13]

/-- Row group 2: they are stored as they are. -/
theorem gu2_at (o : FVec Ideal S256x1024 .bf16) (W : FVec Ideal S512x1024 .bf16) (x : S256x512.Idx) :
    k0_pay22 (F := Ideal) (k0_pay13 (F := Ideal) o W) x = ∑ d : Fin 1024, o (ix2 (x 0) d) * W (ix2 (x 1) d) := by
  pointwise [k0_pay22, k0_pay13]

/-- Row group 2: the hidden values. -/
theorem h2_at (o : FVec Ideal S256x1024 .bf16) (W : FVec Ideal S512x1024 .bf16) (r k : Fin 256) :
    (k0_pay23 (F := Ideal) (k0_pay13 (F := Ideal) o W)) (ix2 r k)
      = hid (∑ d : Fin 1024, o (ix2 r d) * W (ix2 ⟨k, by omega⟩ d)) (∑ d : Fin 1024, o (ix2 r d) * W (ix2 ⟨256 + k, by omega⟩ d)) := by
  unfold hid sg
  pointwise [k0_pay23, k0_pay13]
  try rfl

/-- Row group 2: what the tile adds to the accumulator. -/
theorem acc2_at (h : FVec Ideal S256x256 .bf16) (a : FVec Ideal S256x1024 .f32) (D : FVec Ideal S256x1024 .bf16) (x : S256x1024.Idx) :
    k0_pay30 (F := Ideal) h a D x = a x + ∑ k : Fin 256, h (ix2 (x 0) k) * D (ix2 k (x 1)) := by
  pointwise [k0_pay30]

/-- Row group 3: the gate and up products are products over the 1024 features. -/
theorem mul3_at (o : FVec Ideal S256x1024 .bf16) (W : FVec Ideal S512x1024 .bf16) (x : S256x512.Idx) :
    k0_pay14 (F := Ideal) o W x = ∑ d : Fin 1024, o (ix2 (x 0) d) * W (ix2 (x 1) d) := by
  pointwise [k0_pay14]

/-- Row group 3: they are stored as they are. -/
theorem gu3_at (o : FVec Ideal S256x1024 .bf16) (W : FVec Ideal S512x1024 .bf16) (x : S256x512.Idx) :
    k0_pay24 (F := Ideal) (k0_pay14 (F := Ideal) o W) x = ∑ d : Fin 1024, o (ix2 (x 0) d) * W (ix2 (x 1) d) := by
  pointwise [k0_pay24, k0_pay14]

/-- Row group 3: the hidden values. -/
theorem h3_at (o : FVec Ideal S256x1024 .bf16) (W : FVec Ideal S512x1024 .bf16) (r k : Fin 256) :
    (k0_pay27 (F := Ideal) (k0_pay25 (F := Ideal) (k0_pay14 (F := Ideal) o W)) (k0_pay26 (F := Ideal) (k0_pay14 (F := Ideal) o W)) (Scalar.ofBits .f32 0x3F000000#32)) (ix2 r k)
      = hid (∑ d : Fin 1024, o (ix2 r d) * W (ix2 ⟨k, by omega⟩ d)) (∑ d : Fin 1024, o (ix2 r d) * W (ix2 ⟨256 + k, by omega⟩ d)) := by
  unfold hid sg
  pointwise [k0_pay27, k0_pay25, k0_pay26, k0_pay14]
  try rfl

/-- Row group 3: what the tile adds to the accumulator. -/
theorem acc3_at (h : FVec Ideal S256x256 .bf16) (a : FVec Ideal S256x1024 .f32) (D : FVec Ideal S256x1024 .bf16) (x : S256x1024.Idx) :
    k0_pay1 (F := Ideal) h a D x = a x + ∑ k : Fin 256, h (ix2 (x 0) k) * D (ix2 k (x 1)) := by
  pointwise [k0_pay1]

variable (o : FVec Ideal S1024x1024 .bf16) (W : FVec Ideal S512x1024 .bf16) (D : FVec Ideal S256x1024 .bf16)
  (acc x : FVec Ideal S1024x1024 .f32)

/-- A gate (or up) value of the tile. -/
def guB (r : Fin 1024) (k : Fin 512) : EReal := ∑ d : Fin 1024, o (ix2 r d) * W (ix2 k d)

/-- The tile's gate and up values side by side. -/
def guV : FVec Ideal S1024x512 .bf16 := fun y => guB o W (y 0) (y 1)

/-- A hidden value of the tile. -/
def hB (r : Fin 1024) (k : Fin 256) : EReal := hid (guB o W r ⟨k, by omega⟩) (guB o W r ⟨256 + k, by omega⟩)

/-- The accumulator after the tile. -/
def accV : FVec Ideal S1024x1024 .f32 := fun y => acc y + ∑ k : Fin 256, hB o W (y 0) k * D (ix2 k (y 1))

/-- The block's output from the finished accumulator. -/
def xoV : FVec Ideal S1024x1024 .f32 := fun y => x y + Ideal.ofBits .f32 0x3F000000#32 * acc y

/-- A row group's rows of the products. -/
theorem gu_piece (off : ℕ) (i1 : ∀ a, ![off, 0] a + ![256, 1024] a ≤ S1024x1024.size a) (s : Fin 256) (r : Fin 1024)
    (hr : (r : ℕ) = off + s) (k : Fin 512) :
    (∑ d : Fin 1024, View.ld (Val := Elt Ideal) (e' := .bf16) o (Rect.unit ![off, 0] ![256, 1024] i1) (ix2 s d) * W (ix2 k d)) = guB o W r k := by
  refine Finset.sum_congr rfl fun d _ => congrArg (· * _) ?_
  exact View.ld_unit_apply_of (Val := Elt Ideal) (e := .bf16) o ![off, 0] ![256, 1024] i1 (ix2 s d) (ix2 r d)
    (Fin.forall_fin_two.mpr ⟨hr, (Nat.zero_add _).symm⟩)

/-- A row group's part of the products. -/
theorem guV_piece (off : ℕ) (i1 : ∀ a, ![off, 0] a + ![256, 1024] a ≤ S1024x1024.size a) (z : S256x512.Idx) (y : S1024x512.Idx)
    (h0 : (y 0 : ℕ) = off + z 0) (h1 : (y 1 : ℕ) = 0 + z 1) :
    (∑ d : Fin 1024, View.ld (Val := Elt Ideal) (e' := .bf16) o (Rect.unit ![off, 0] ![256, 1024] i1) (ix2 (z 0) d) * W (ix2 (z 1) d)) = guV o W y := by
  have e : z 1 = y 1 := Fin.ext (h1.trans (Nat.zero_add _)).symm
  exact (gu_piece o W off i1 (z 0) (y 0) h0 (z 1)).trans (congrArg (guB o W (y 0)) e)

/-- A row group's part of the accumulator after the tile. -/
theorem acc_piece (off : ℕ) (i1 : ∀ a, ![off, 0] a + ![256, 1024] a ≤ S1024x1024.size a) (h : Fin 256 → Fin 256 → EReal)
    (hh : ∀ s k, h s k = hid (∑ d : Fin 1024, View.ld (Val := Elt Ideal) (e' := .bf16) o (Rect.unit ![off, 0] ![256, 1024] i1) (ix2 s d) * W (ix2 ⟨k, by omega⟩ d))
      (∑ d : Fin 1024, View.ld (Val := Elt Ideal) (e' := .bf16) o (Rect.unit ![off, 0] ![256, 1024] i1) (ix2 s d) * W (ix2 ⟨256 + k, by omega⟩ d)))
    (z : S256x1024.Idx) (y : S1024x1024.Idx) (h0 : (y 0 : ℕ) = off + z 0) (h1 : (y 1 : ℕ) = 0 + z 1) :
    View.ld (Val := Elt Ideal) (e' := .f32) acc (Rect.unit ![off, 0] ![256, 1024] i1) z + ∑ k : Fin 256, h (z 0) k * D (ix2 k (z 1))
      = accV o W D acc y := by
  have e : z 1 = y 1 := Fin.ext (h1.trans (Nat.zero_add _)).symm
  refine congrArg₂ (· + ·) (View.ld_unit_apply_of (Val := Elt Ideal) (e := .f32) acc _ _ i1 z y (Fin.forall_fin_two.mpr ⟨h0, h1⟩)) ?_
  refine Finset.sum_congr rfl fun k _ => congrArg₂ (· * ·) ?_ (congrArg (fun q => D (ix2 k q)) e)
  exact (hh (z 0) k).trans (congrArg₂ hid (gu_piece o W off i1 (z 0) (y 0) h0 _) (gu_piece o W off i1 (z 0) (y 0) h0 _))

/-- The four stores of the products, last first. -/
abbrev guL : List (View.Piece (Elt Ideal) S1024x512 .bf16) :=
    [⟨Rect.unit (s := S1024x512) ![768, 0] S256x512.size inb_S1024x512_S256x512_768_0, k0_pay24 (F := Ideal) (k0_pay14 (F := Ideal) (View.ld (Val := Elt Ideal) (e' := .bf16) o (Rect.unit ![768, 0] ![256, 1024] inb_S1024x1024_S256x1024_768_0)) W)⟩,
     ⟨Rect.unit (s := S1024x512) ![512, 0] S256x512.size inb_S1024x512_S256x512_512_0, k0_pay22 (F := Ideal) (k0_pay13 (F := Ideal) (View.ld (Val := Elt Ideal) (e' := .bf16) o (Rect.unit ![512, 0] ![256, 1024] inb_S1024x1024_S256x1024_512_0)) W)⟩,
     ⟨Rect.unit (s := S1024x512) ![256, 0] S256x512.size inb_S1024x512_S256x512_256_0, k0_pay20 (F := Ideal) (k0_pay12 (F := Ideal) (View.ld (Val := Elt Ideal) (e' := .bf16) o (Rect.unit ![256, 0] ![256, 1024] inb_S1024x1024_S256x1024_256_0)) W)⟩,
     ⟨Rect.unit (s := S1024x512) ![0, 0] S256x512.size inb_S1024x512_S256x512_0_0, k0_pay15 (F := Ideal) (View.ld (Val := Elt Ideal) (e' := .bf16) o (Rect.unit ![0, 0] ![256, 1024] inb_S1024x1024_S256x1024_0_0)) W⟩]

/-- Together they are the tile's products. -/
theorem guL_eq : View.canon (guL o W) = guV o W := by
  funext y
  have h : View.PiecesOf (guV o W) (guL o W) :=
    ⟨fun (z : S256x512.Idx) => (gu3_at _ _ z).trans (guV_piece o W 768 _ z _ (Rect.idx_unit_val (s := S1024x512) ![768, 0] S256x512.size inb_S1024x512_S256x512_768_0 z 0) (Rect.idx_unit_val (s := S1024x512) ![768, 0] S256x512.size inb_S1024x512_S256x512_768_0 z 1)),
     fun (z : S256x512.Idx) => (gu2_at _ _ z).trans (guV_piece o W 512 _ z _ (Rect.idx_unit_val (s := S1024x512) ![512, 0] S256x512.size inb_S1024x512_S256x512_512_0 z 0) (Rect.idx_unit_val (s := S1024x512) ![512, 0] S256x512.size inb_S1024x512_S256x512_512_0 z 1)),
     fun (z : S256x512.Idx) => (gu1_at _ _ z).trans (guV_piece o W 256 _ z _ (Rect.idx_unit_val (s := S1024x512) ![256, 0] S256x512.size inb_S1024x512_S256x512_256_0 z 0) (Rect.idx_unit_val (s := S1024x512) ![256, 0] S256x512.size inb_S1024x512_S256x512_256_0 z 1)),
     fun (z : S256x512.Idx) => (gu0_at _ _ z).trans (guV_piece o W 0 _ z _ (Rect.idx_unit_val (s := S1024x512) ![0, 0] S256x512.size inb_S1024x512_S256x512_0_0 z 0) (Rect.idx_unit_val (s := S1024x512) ![0, 0] S256x512.size inb_S1024x512_S256x512_0_0 z 1)), trivial⟩
  exact View.canon_apply_of_pieces _ _ h.mem y (View.cover_of_tiledL (guL o W) S256x512.size (by sl_kernel_rfl) y)

/-- The four stores of the accumulator, last first. -/
abbrev accL : List (View.Piece (Elt Ideal) S1024x1024 .f32) :=
    [⟨Rect.unit (s := S1024x1024) ![768, 0] S256x1024.size inb_S1024x1024_S256x1024_768_0, k0_pay1 (F := Ideal) (k0_pay27 (F := Ideal) (k0_pay25 (F := Ideal) (k0_pay14 (F := Ideal) (View.ld (Val := Elt Ideal) (e' := .bf16) o (Rect.unit ![768, 0] ![256, 1024] inb_S1024x1024_S256x1024_768_0)) W)) (k0_pay26 (F := Ideal) (k0_pay14 (F := Ideal) (View.ld (Val := Elt Ideal) (e' := .bf16) o (Rect.unit ![768, 0] ![256, 1024] inb_S1024x1024_S256x1024_768_0)) W)) (Scalar.ofBits .f32 0x3F000000#32)) (View.ld (Val := Elt Ideal) (e' := .f32) acc (Rect.unit ![768, 0] ![256, 1024] inb_S1024x1024_S256x1024_768_0)) D⟩,
     ⟨Rect.unit (s := S1024x1024) ![512, 0] S256x1024.size inb_S1024x1024_S256x1024_512_0, k0_pay30 (F := Ideal) (k0_pay23 (F := Ideal) (k0_pay13 (F := Ideal) (View.ld (Val := Elt Ideal) (e' := .bf16) o (Rect.unit ![512, 0] ![256, 1024] inb_S1024x1024_S256x1024_512_0)) W)) (View.ld (Val := Elt Ideal) (e' := .f32) acc (Rect.unit ![512, 0] ![256, 1024] inb_S1024x1024_S256x1024_512_0)) D⟩,
     ⟨Rect.unit (s := S1024x1024) ![256, 0] S256x1024.size inb_S1024x1024_S256x1024_256_0, k0_pay29 (F := Ideal) (k0_pay21 (F := Ideal) (k0_pay12 (F := Ideal) (View.ld (Val := Elt Ideal) (e' := .bf16) o (Rect.unit ![256, 0] ![256, 1024] inb_S1024x1024_S256x1024_256_0)) W)) (View.ld (Val := Elt Ideal) (e' := .f32) acc (Rect.unit ![256, 0] ![256, 1024] inb_S1024x1024_S256x1024_256_0)) D⟩,
     ⟨Rect.unit (s := S1024x1024) ![0, 0] S256x1024.size inb_S1024x1024_S256x1024_0_0, k0_pay28 (F := Ideal) (k0_pay19 (F := Ideal) (k0_pay16 (F := Ideal) (View.ld (Val := Elt Ideal) (e' := .bf16) o (Rect.unit ![0, 0] ![256, 1024] inb_S1024x1024_S256x1024_0_0)) W) (k0_pay17 (F := Ideal) (View.ld (Val := Elt Ideal) (e' := .bf16) o (Rect.unit ![0, 0] ![256, 1024] inb_S1024x1024_S256x1024_0_0)) W) (k0_pay18 (F := Ideal) (View.ld (Val := Elt Ideal) (e' := .bf16) o (Rect.unit ![0, 0] ![256, 1024] inb_S1024x1024_S256x1024_0_0)) W)) (View.ld (Val := Elt Ideal) (e' := .f32) acc (Rect.unit ![0, 0] ![256, 1024] inb_S1024x1024_S256x1024_0_0)) D⟩]

/-- Each is a part of the accumulator after the tile. -/
theorem accL_of : View.PiecesOf (accV o W D acc) (accL o W D acc) :=
    ⟨fun (z : S256x1024.Idx) => (acc3_at _ _ _ z).trans (acc_piece o W D acc 768 _ (fun s k => (k0_pay27 (F := Ideal) (k0_pay25 (F := Ideal) (k0_pay14 (F := Ideal) (View.ld (Val := Elt Ideal) (e' := .bf16) o (Rect.unit ![768, 0] ![256, 1024] inb_S1024x1024_S256x1024_768_0)) W)) (k0_pay26 (F := Ideal) (k0_pay14 (F := Ideal) (View.ld (Val := Elt Ideal) (e' := .bf16) o (Rect.unit ![768, 0] ![256, 1024] inb_S1024x1024_S256x1024_768_0)) W)) (Scalar.ofBits .f32 0x3F000000#32)) (ix2 s k)) (fun s k => h3_at _ _ s k) z _ (Rect.idx_unit_val (s := S1024x1024) ![768, 0] S256x1024.size inb_S1024x1024_S256x1024_768_0 z 0) (Rect.idx_unit_val (s := S1024x1024) ![768, 0] S256x1024.size inb_S1024x1024_S256x1024_768_0 z 1)),
     fun (z : S256x1024.Idx) => (acc2_at _ _ _ z).trans (acc_piece o W D acc 512 _ (fun s k => (k0_pay23 (F := Ideal) (k0_pay13 (F := Ideal) (View.ld (Val := Elt Ideal) (e' := .bf16) o (Rect.unit ![512, 0] ![256, 1024] inb_S1024x1024_S256x1024_512_0)) W)) (ix2 s k)) (fun s k => h2_at _ _ s k) z _ (Rect.idx_unit_val (s := S1024x1024) ![512, 0] S256x1024.size inb_S1024x1024_S256x1024_512_0 z 0) (Rect.idx_unit_val (s := S1024x1024) ![512, 0] S256x1024.size inb_S1024x1024_S256x1024_512_0 z 1)),
     fun (z : S256x1024.Idx) => (acc1_at _ _ _ z).trans (acc_piece o W D acc 256 _ (fun s k => (k0_pay21 (F := Ideal) (k0_pay12 (F := Ideal) (View.ld (Val := Elt Ideal) (e' := .bf16) o (Rect.unit ![256, 0] ![256, 1024] inb_S1024x1024_S256x1024_256_0)) W)) (ix2 s k)) (fun s k => h1_at _ _ s k) z _ (Rect.idx_unit_val (s := S1024x1024) ![256, 0] S256x1024.size inb_S1024x1024_S256x1024_256_0 z 0) (Rect.idx_unit_val (s := S1024x1024) ![256, 0] S256x1024.size inb_S1024x1024_S256x1024_256_0 z 1)),
     fun (z : S256x1024.Idx) => (acc0_at _ _ _ z).trans (acc_piece o W D acc 0 _ (fun s k => (k0_pay19 (F := Ideal) (k0_pay16 (F := Ideal) (View.ld (Val := Elt Ideal) (e' := .bf16) o (Rect.unit ![0, 0] ![256, 1024] inb_S1024x1024_S256x1024_0_0)) W) (k0_pay17 (F := Ideal) (View.ld (Val := Elt Ideal) (e' := .bf16) o (Rect.unit ![0, 0] ![256, 1024] inb_S1024x1024_S256x1024_0_0)) W) (k0_pay18 (F := Ideal) (View.ld (Val := Elt Ideal) (e' := .bf16) o (Rect.unit ![0, 0] ![256, 1024] inb_S1024x1024_S256x1024_0_0)) W)) (ix2 s k)) (fun s k => h0_at _ _ s k) z _ (Rect.idx_unit_val (s := S1024x1024) ![0, 0] S256x1024.size inb_S1024x1024_S256x1024_0_0 z 0) (Rect.idx_unit_val (s := S1024x1024) ![0, 0] S256x1024.size inb_S1024x1024_S256x1024_0_0 z 1)), trivial⟩

/-- Together, over whatever was stored before, they are the accumulator after the tile. -/
theorem accL_eq (L : List (View.Piece (Elt Ideal) S1024x1024 .f32)) :
    View.canon (accL o W D acc ++ L) = accV o W D acc := by
  funext y
  exact View.canon_append_of_piecesOf _ L _ (accL_of o W D acc) y (View.cover_of_tiledL (accL o W D acc) S256x1024.size (by sl_kernel_rfl) y)

/-- A load from the accumulator's buffer reads the accumulator after the tile. -/
theorem accL_read (r : Rect S1024x1024) :
    View.readCov (Val := Elt Ideal) (s := S1024x1024) (e := .f32) (View.whole cc0_scratch1) (accL o W D acc) r.toLoadRect
      = View.ld (Val := Elt Ideal) (e' := .f32) (accV o W D acc) r := by
  rw [View.readCov_eq_canon_ld _ _ _ (fun y => View.cover_of_tiledL (accL o W D acc) S256x1024.size (by sl_kernel_rfl) y)]
  exact congrArg (fun v => View.ld v r) (accL_eq o W D acc [])

/-- Row group 0: the residual and half the accumulator. -/
theorem xo0_at (x a : FVec Ideal S256x1024 .f32) (z : S256x1024.Idx) :
    k0_pay3 (F := Ideal) x a z = x z + Ideal.ofBits .f32 0x3F000000#32 * a z := by
  pointwise [k0_pay3]

/-- Row group 1: the residual and half the accumulator. -/
theorem xo1_at (x a : FVec Ideal S256x1024 .f32) (z : S256x1024.Idx) :
    k0_pay4 (F := Ideal) x a z = x z + Ideal.ofBits .f32 0x3F000000#32 * a z := by
  pointwise [k0_pay4]

/-- Row group 2: the residual and half the accumulator. -/
theorem xo2_at (x a : FVec Ideal S256x1024 .f32) (z : S256x1024.Idx) :
    k0_pay5 (F := Ideal) x a z = x z + Ideal.ofBits .f32 0x3F000000#32 * a z := by
  pointwise [k0_pay5]

/-- Row group 3: the residual and half the accumulator. -/
theorem xo3_at (x a : FVec Ideal S256x1024 .f32) (z : S256x1024.Idx) :
    k0_pay2 (F := Ideal) (k0_pay6 (F := Ideal) x a) z = x z + Ideal.ofBits .f32 0x3F000000#32 * a z := by
  pointwise [k0_pay2, k0_pay6]

/-- A row group's part of the output. -/
theorem xo_piece (A : FVec Ideal S1024x1024 .f32) (off : ℕ) (i1 : ∀ a, ![off, 0] a + ![256, 1024] a ≤ S1024x1024.size a)
    (z : S256x1024.Idx) (y : S1024x1024.Idx) (h0 : (y 0 : ℕ) = off + z 0) (h1 : (y 1 : ℕ) = 0 + z 1) :
    View.ld (Val := Elt Ideal) (e' := .f32) x (Rect.unit ![off, 0] ![256, 1024] i1) z
      + Ideal.ofBits .f32 0x3F000000#32 * View.ld (Val := Elt Ideal) (e' := .f32) A (Rect.unit ![off, 0] ![256, 1024] i1) z = xoV A x y :=
  congrArg₂ (· + ·) (View.ld_unit_apply_of (Val := Elt Ideal) (e := .f32) x _ _ i1 z y (Fin.forall_fin_two.mpr ⟨h0, h1⟩))
    (congrArg _ (View.ld_unit_apply_of (Val := Elt Ideal) (e := .f32) A _ _ i1 z y (Fin.forall_fin_two.mpr ⟨h0, h1⟩)))

/-- The four stores of the output, last first. -/
abbrev xoL : List (View.Piece (Elt Ideal) S1024x1024 .f32) :=
    [⟨Rect.unit (s := S1024x1024) ![768, 0] S256x1024.size inb_S1024x1024_S256x1024_768_0, k0_pay2 (F := Ideal) (k0_pay6 (F := Ideal) (View.ld (Val := Elt Ideal) (e' := .f32) x (Rect.unit ![768, 0] ![256, 1024] inb_S1024x1024_S256x1024_768_0)) (View.readCov (Val := Elt Ideal) (s := S1024x1024) (e := .f32) (View.whole cc0_scratch1) (accL o W D acc) (Rect.unit (s := S1024x1024) ![768, 0] S256x1024.size inb_S1024x1024_S256x1024_768_0).toLoadRect))⟩,
     ⟨Rect.unit (s := S1024x1024) ![512, 0] S256x1024.size inb_S1024x1024_S256x1024_512_0, k0_pay5 (F := Ideal) (View.ld (Val := Elt Ideal) (e' := .f32) x (Rect.unit ![512, 0] ![256, 1024] inb_S1024x1024_S256x1024_512_0)) (View.readCov (Val := Elt Ideal) (s := S1024x1024) (e := .f32) (View.whole cc0_scratch1) (accL o W D acc) (Rect.unit (s := S1024x1024) ![512, 0] S256x1024.size inb_S1024x1024_S256x1024_512_0).toLoadRect)⟩,
     ⟨Rect.unit (s := S1024x1024) ![256, 0] S256x1024.size inb_S1024x1024_S256x1024_256_0, k0_pay4 (F := Ideal) (View.ld (Val := Elt Ideal) (e' := .f32) x (Rect.unit ![256, 0] ![256, 1024] inb_S1024x1024_S256x1024_256_0)) (View.readCov (Val := Elt Ideal) (s := S1024x1024) (e := .f32) (View.whole cc0_scratch1) (accL o W D acc) (Rect.unit (s := S1024x1024) ![256, 0] S256x1024.size inb_S1024x1024_S256x1024_256_0).toLoadRect)⟩,
     ⟨Rect.unit (s := S1024x1024) ![0, 0] S256x1024.size inb_S1024x1024_S256x1024_0_0, k0_pay3 (F := Ideal) (View.ld (Val := Elt Ideal) (e' := .f32) x (Rect.unit ![0, 0] ![256, 1024] inb_S1024x1024_S256x1024_0_0)) (View.readCov (Val := Elt Ideal) (s := S1024x1024) (e := .f32) (View.whole cc0_scratch1) (accL o W D acc) (Rect.unit (s := S1024x1024) ![0, 0] S256x1024.size inb_S1024x1024_S256x1024_0_0).toLoadRect)⟩]

/-- Together they are the block's output. -/
theorem xoL_eq : View.canon (xoL o W D acc x) = xoV (accV o W D acc) x := by
  funext y
  have h : View.PiecesOf (xoV (accV o W D acc) x) (xoL o W D acc x) :=
    ⟨fun (z : S256x1024.Idx) => (congrFun (congrArg (fun a => k0_pay2 (F := Ideal) (k0_pay6 (F := Ideal) (View.ld (Val := Elt Ideal) (e' := .f32) x (Rect.unit ![768, 0] ![256, 1024] inb_S1024x1024_S256x1024_768_0)) a)) (accL_read o W D acc _)) z).trans ((xo3_at _ _ z).trans (xo_piece x (accV o W D acc) 768 _ z _ (Rect.idx_unit_val (s := S1024x1024) ![768, 0] S256x1024.size inb_S1024x1024_S256x1024_768_0 z 0) (Rect.idx_unit_val (s := S1024x1024) ![768, 0] S256x1024.size inb_S1024x1024_S256x1024_768_0 z 1))),
     fun (z : S256x1024.Idx) => (congrFun (congrArg (fun a => k0_pay5 (F := Ideal) (View.ld (Val := Elt Ideal) (e' := .f32) x (Rect.unit ![512, 0] ![256, 1024] inb_S1024x1024_S256x1024_512_0)) a) (accL_read o W D acc _)) z).trans ((xo2_at _ _ z).trans (xo_piece x (accV o W D acc) 512 _ z _ (Rect.idx_unit_val (s := S1024x1024) ![512, 0] S256x1024.size inb_S1024x1024_S256x1024_512_0 z 0) (Rect.idx_unit_val (s := S1024x1024) ![512, 0] S256x1024.size inb_S1024x1024_S256x1024_512_0 z 1))),
     fun (z : S256x1024.Idx) => (congrFun (congrArg (fun a => k0_pay4 (F := Ideal) (View.ld (Val := Elt Ideal) (e' := .f32) x (Rect.unit ![256, 0] ![256, 1024] inb_S1024x1024_S256x1024_256_0)) a) (accL_read o W D acc _)) z).trans ((xo1_at _ _ z).trans (xo_piece x (accV o W D acc) 256 _ z _ (Rect.idx_unit_val (s := S1024x1024) ![256, 0] S256x1024.size inb_S1024x1024_S256x1024_256_0 z 0) (Rect.idx_unit_val (s := S1024x1024) ![256, 0] S256x1024.size inb_S1024x1024_S256x1024_256_0 z 1))),
     fun (z : S256x1024.Idx) => (congrFun (congrArg (fun a => k0_pay3 (F := Ideal) (View.ld (Val := Elt Ideal) (e' := .f32) x (Rect.unit ![0, 0] ![256, 1024] inb_S1024x1024_S256x1024_0_0)) a) (accL_read o W D acc _)) z).trans ((xo0_at _ _ z).trans (xo_piece x (accV o W D acc) 0 _ z _ (Rect.idx_unit_val (s := S1024x1024) ![0, 0] S256x1024.size inb_S1024x1024_S256x1024_0_0 z 0) (Rect.idx_unit_val (s := S1024x1024) ![0, 0] S256x1024.size inb_S1024x1024_S256x1024_0_0 z 1))), trivial⟩
  exact View.canon_apply_of_pieces _ _ h.mem y (View.cover_of_tiledL (xoL o W D acc x) S256x1024.size (by sl_kernel_rfl) y)

end Cert.FfnFwdIdeal.Value

end
-- ==== Proof.FwdFirst.lean ====
module

public import proofs.«01_k».proof.Proof.FwdBlock

@[expose] public section

set_option maxRecDepth 16384

noncomputable section

/-! The stores of the feed-forward forward body at the first tile of a row block, where what it loads is what it has stored
at the same point: the normed rows and the zero accumulator, each over a whole buffer. -/
namespace Cert.FfnFwdIdeal.Value

open Idealize.ShloMosaic Idealize.ShloMosaic.TcCoe Idealize.SL.Sem
open Cert.FfnFwdIdeal Cert.FfnFwdIdeal.Gen

/-- A load after a fill of the whole buffer reads the fill (the normed rows). -/
theorem fill0 (Z : FVec Ideal S1024x1024 .bf16) (r : Rect S1024x1024) :
    View.readCov (Val := Elt Ideal) (s := S1024x1024) (e := .bf16) (View.whole cc0_scratch0) [⟨Rect.unit (s := S1024x1024) ![0, 0] S1024x1024.size inb_S1024x1024_S1024x1024_0_0, Z⟩] (Rect.toLoadRect r)
      = View.ld (Val := Elt Ideal) (e' := .bf16) Z r := by
  rw [View.readCov_eq_canon_ld _ _ _ (fun y => View.cover_of_tiledL (Val := Elt Ideal) (s := S1024x1024) (e := .bf16) [⟨Rect.unit (s := S1024x1024) ![0, 0] S1024x1024.size inb_S1024x1024_S1024x1024_0_0, Z⟩] S1024x1024.size (by sl_kernel_rfl) y),
    View.canon_cons_unit_lit _ _ _ (by decide)]

/-- A load after a fill of the whole buffer reads the fill (the accumulator). -/
theorem fill1 (Z : FVec Ideal S1024x1024 .f32) (r : Rect S1024x1024) :
    View.readCov (Val := Elt Ideal) (s := S1024x1024) (e := .f32) (View.whole cc0_scratch1) [⟨Rect.unit (s := S1024x1024) ![0, 0] S1024x1024.size inb_S1024x1024_S1024x1024_0_0, Z⟩] (Rect.toLoadRect r)
      = View.ld (Val := Elt Ideal) (e' := .f32) Z r := by
  rw [View.readCov_eq_canon_ld _ _ _ (fun y => View.cover_of_tiledL (Val := Elt Ideal) (s := S1024x1024) (e := .f32) [⟨Rect.unit (s := S1024x1024) ![0, 0] S1024x1024.size inb_S1024x1024_S1024x1024_0_0, Z⟩] S1024x1024.size (by sl_kernel_rfl) y),
    View.canon_cons_unit_lit _ _ _ (by decide)]

/-- Row group 1 of the accumulator, after the fill and the stores of the groups before it. -/
theorem skip1 (acc : FVec Ideal S1024x1024 .f32) (w0 : FVec Ideal S256x1024 .f32) :
    View.readCov (Val := Elt Ideal) (s := S1024x1024) (e := .f32) (View.whole cc0_scratch1) [⟨(Rect.unit (s := S1024x1024) ![0, 0] S256x1024.size inb_S1024x1024_S256x1024_0_0), w0⟩, ⟨Rect.unit (s := S1024x1024) ![0, 0] S1024x1024.size inb_S1024x1024_S1024x1024_0_0, acc⟩] (Rect.toLoadRect (Rect.unit (s := S1024x1024) ![256, 0] S256x1024.size inb_S1024x1024_S256x1024_256_0))
      = View.ld (Val := Elt Ideal) (e' := .f32) acc (Rect.unit (s := S1024x1024) ![256, 0] S256x1024.size inb_S1024x1024_S256x1024_256_0) := by
  rw [View.readCov_skip _ _ _ _ _ (by decide), fill1]

/-- Row group 2 of the accumulator, after the fill and the stores of the groups before it. -/
theorem skip2 (acc : FVec Ideal S1024x1024 .f32) (w0 w1 : FVec Ideal S256x1024 .f32) :
    View.readCov (Val := Elt Ideal) (s := S1024x1024) (e := .f32) (View.whole cc0_scratch1) [⟨(Rect.unit (s := S1024x1024) ![256, 0] S256x1024.size inb_S1024x1024_S256x1024_256_0), w1⟩, ⟨(Rect.unit (s := S1024x1024) ![0, 0] S256x1024.size inb_S1024x1024_S256x1024_0_0), w0⟩, ⟨Rect.unit (s := S1024x1024) ![0, 0] S1024x1024.size inb_S1024x1024_S1024x1024_0_0, acc⟩] (Rect.toLoadRect (Rect.unit (s := S1024x1024) ![512, 0] S256x1024.size inb_S1024x1024_S256x1024_512_0))
      = View.ld (Val := Elt Ideal) (e' := .f32) acc (Rect.unit (s := S1024x1024) ![512, 0] S256x1024.size inb_S1024x1024_S256x1024_512_0) := by
  rw [View.readCov_skip _ _ _ _ _ (by decide), View.readCov_skip _ _ _ _ _ (by decide), fill1]

/-- Row group 3 of the accumulator, after the fill and the stores of the groups before it. -/
theorem skip3 (acc : FVec Ideal S1024x1024 .f32) (w0 w1 w2 : FVec Ideal S256x1024 .f32) :
    View.readCov (Val := Elt Ideal) (s := S1024x1024) (e := .f32) (View.whole cc0_scratch1) [⟨(Rect.unit (s := S1024x1024) ![512, 0] S256x1024.size inb_S1024x1024_S256x1024_512_0), w2⟩, ⟨(Rect.unit (s := S1024x1024) ![256, 0] S256x1024.size inb_S1024x1024_S256x1024_256_0), w1⟩, ⟨(Rect.unit (s := S1024x1024) ![0, 0] S256x1024.size inb_S1024x1024_S256x1024_0_0), w0⟩, ⟨Rect.unit (s := S1024x1024) ![0, 0] S1024x1024.size inb_S1024x1024_S1024x1024_0_0, acc⟩] (Rect.toLoadRect (Rect.unit (s := S1024x1024) ![768, 0] S256x1024.size inb_S1024x1024_S256x1024_768_0))
      = View.ld (Val := Elt Ideal) (e' := .f32) acc (Rect.unit (s := S1024x1024) ![768, 0] S256x1024.size inb_S1024x1024_S256x1024_768_0) := by
  rw [View.readCov_skip _ _ _ _ _ (by decide), View.readCov_skip _ _ _ _ _ (by decide), View.readCov_skip _ _ _ _ _ (by decide), fill1]

variable (o : FVec Ideal S1024x1024 .bf16) (W : FVec Ideal S512x1024 .bf16) (D : FVec Ideal S256x1024 .bf16)
  (acc : FVec Ideal S1024x1024 .f32)

/-- The stores of `guL`, with the loads of the normed rows as the body makes them here. -/
abbrev guF : List (View.Piece (Elt Ideal) S1024x512 .bf16) :=
    [⟨Rect.unit (s := S1024x512) ![768, 0] S256x512.size inb_S1024x512_S256x512_768_0, k0_pay24 (F := Ideal) (k0_pay14 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![768, 0] S256x1024.size inb_S1024x1024_S256x1024_768_0))) W)⟩,
     ⟨Rect.unit (s := S1024x512) ![512, 0] S256x512.size inb_S1024x512_S256x512_512_0, k0_pay22 (F := Ideal) (k0_pay13 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![512, 0] S256x1024.size inb_S1024x1024_S256x1024_512_0))) W)⟩,
     ⟨Rect.unit (s := S1024x512) ![256, 0] S256x512.size inb_S1024x512_S256x512_256_0, k0_pay20 (F := Ideal) (k0_pay12 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![256, 0] S256x1024.size inb_S1024x1024_S256x1024_256_0))) W)⟩,
     ⟨Rect.unit (s := S1024x512) ![0, 0] S256x512.size inb_S1024x512_S256x512_0_0, k0_pay15 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![0, 0] S256x1024.size inb_S1024x1024_S256x1024_0_0))) W⟩]

/-- They are the same stores. -/
theorem guF_eq : guF o W = guL o W := by
  unfold guF
  rw [fill0, fill0, fill0, fill0]

/-- Row group 0's store of the accumulator. -/
abbrev accF0 : FVec Ideal S256x1024 .f32 :=
    k0_pay28 (F := Ideal) (k0_pay19 (F := Ideal) (k0_pay16 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![0, 0] S256x1024.size inb_S1024x1024_S256x1024_0_0))) W) (k0_pay17 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![0, 0] S256x1024.size inb_S1024x1024_S256x1024_0_0))) W) (k0_pay18 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![0, 0] S256x1024.size inb_S1024x1024_S256x1024_0_0))) W)) (View.readCov (Val := Elt Ideal) (s := S1024x1024) (e := .f32) (View.whole cc0_scratch1) [⟨Rect.unit (s := S1024x1024) ![0, 0] S1024x1024.size inb_S1024x1024_S1024x1024_0_0, acc⟩] (Rect.toLoadRect (Rect.unit (s := S1024x1024) ![0, 0] S256x1024.size inb_S1024x1024_S256x1024_0_0))) D

/-- It is the same store as at the later tiles. -/
theorem accF0_eq : accF0 o W D acc = k0_pay28 (F := Ideal) (k0_pay19 (F := Ideal) (k0_pay16 (F := Ideal) (View.ld (Val := Elt Ideal) (e' := .bf16) o (Rect.unit ![0, 0] ![256, 1024] inb_S1024x1024_S256x1024_0_0)) W) (k0_pay17 (F := Ideal) (View.ld (Val := Elt Ideal) (e' := .bf16) o (Rect.unit ![0, 0] ![256, 1024] inb_S1024x1024_S256x1024_0_0)) W) (k0_pay18 (F := Ideal) (View.ld (Val := Elt Ideal) (e' := .bf16) o (Rect.unit ![0, 0] ![256, 1024] inb_S1024x1024_S256x1024_0_0)) W)) (View.ld (Val := Elt Ideal) (e' := .f32) acc (Rect.unit ![0, 0] ![256, 1024] inb_S1024x1024_S256x1024_0_0)) D := by
  unfold accF0
  rw [fill0, fill1]

/-- Row group 1's store of the accumulator. -/
abbrev accF1 : FVec Ideal S256x1024 .f32 :=
    k0_pay29 (F := Ideal) (k0_pay21 (F := Ideal) (k0_pay12 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![256, 0] S256x1024.size inb_S1024x1024_S256x1024_256_0))) W)) (View.readCov (Val := Elt Ideal) (s := S1024x1024) (e := .f32) (View.whole cc0_scratch1) [⟨(Rect.unit (s := S1024x1024) ![0, 0] S256x1024.size inb_S1024x1024_S256x1024_0_0), accF0 o W D acc⟩, ⟨Rect.unit (s := S1024x1024) ![0, 0] S1024x1024.size inb_S1024x1024_S1024x1024_0_0, acc⟩] (Rect.toLoadRect (Rect.unit (s := S1024x1024) ![256, 0] S256x1024.size inb_S1024x1024_S256x1024_256_0))) D

/-- It is the same store as at the later tiles. -/
theorem accF1_eq : accF1 o W D acc = k0_pay29 (F := Ideal) (k0_pay21 (F := Ideal) (k0_pay12 (F := Ideal) (View.ld (Val := Elt Ideal) (e' := .bf16) o (Rect.unit ![256, 0] ![256, 1024] inb_S1024x1024_S256x1024_256_0)) W)) (View.ld (Val := Elt Ideal) (e' := .f32) acc (Rect.unit ![256, 0] ![256, 1024] inb_S1024x1024_S256x1024_256_0)) D := by
  unfold accF1
  rw [fill0, skip1]

/-- Row group 2's store of the accumulator. -/
abbrev accF2 : FVec Ideal S256x1024 .f32 :=
    k0_pay30 (F := Ideal) (k0_pay23 (F := Ideal) (k0_pay13 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![512, 0] S256x1024.size inb_S1024x1024_S256x1024_512_0))) W)) (View.readCov (Val := Elt Ideal) (s := S1024x1024) (e := .f32) (View.whole cc0_scratch1) [⟨(Rect.unit (s := S1024x1024) ![256, 0] S256x1024.size inb_S1024x1024_S256x1024_256_0), accF1 o W D acc⟩, ⟨(Rect.unit (s := S1024x1024) ![0, 0] S256x1024.size inb_S1024x1024_S256x1024_0_0), accF0 o W D acc⟩, ⟨Rect.unit (s := S1024x1024) ![0, 0] S1024x1024.size inb_S1024x1024_S1024x1024_0_0, acc⟩] (Rect.toLoadRect (Rect.unit (s := S1024x1024) ![512, 0] S256x1024.size inb_S1024x1024_S256x1024_512_0))) D

/-- It is the same store as at the later tiles. -/
theorem accF2_eq : accF2 o W D acc = k0_pay30 (F := Ideal) (k0_pay23 (F := Ideal) (k0_pay13 (F := Ideal) (View.ld (Val := Elt Ideal) (e' := .bf16) o (Rect.unit ![512, 0] ![256, 1024] inb_S1024x1024_S256x1024_512_0)) W)) (View.ld (Val := Elt Ideal) (e' := .f32) acc (Rect.unit ![512, 0] ![256, 1024] inb_S1024x1024_S256x1024_512_0)) D := by
  unfold accF2
  rw [fill0, skip2]

/-- Row group 3's store of the accumulator. -/
abbrev accF3 : FVec Ideal S256x1024 .f32 :=
    k0_pay1 (F := Ideal) (k0_pay27 (F := Ideal) (k0_pay25 (F := Ideal) (k0_pay14 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![768, 0] S256x1024.size inb_S1024x1024_S256x1024_768_0))) W)) (k0_pay26 (F := Ideal) (k0_pay14 (F := Ideal) (View.readCov (Val := Elt Ideal) (s := S1024x1024) (e := .bf16) (View.whole cc0_scratch0) [⟨Rect.unit (s := S1024x1024) ![0, 0] S1024x1024.size inb_S1024x1024_S1024x1024_0_0, o⟩] (Rect.toLoadRect (Rect.unit (s := S1024x1024) ![768, 0] S256x1024.size inb_S1024x1024_S256x1024_768_0))) W)) (Scalar.ofBits .f32 0x3F000000#32)) (View.readCov (Val := Elt Ideal) (s := S1024x1024) (e := .f32) (View.whole cc0_scratch1) [⟨(Rect.unit (s := S1024x1024) ![512, 0] S256x1024.size inb_S1024x1024_S256x1024_512_0), accF2 o W D acc⟩, ⟨(Rect.unit (s := S1024x1024) ![256, 0] S256x1024.size inb_S1024x1024_S256x1024_256_0), accF1 o W D acc⟩, ⟨(Rect.unit (s := S1024x1024) ![0, 0] S256x1024.size inb_S1024x1024_S256x1024_0_0), accF0 o W D acc⟩, ⟨Rect.unit (s := S1024x1024) ![0, 0] S1024x1024.size inb_S1024x1024_S1024x1024_0_0, acc⟩] (Rect.toLoadRect (Rect.unit (s := S1024x1024) ![768, 0] S256x1024.size inb_S1024x1024_S256x1024_768_0))) D

/-- It is the same store as at the later tiles. -/
theorem accF3_eq : accF3 o W D acc = k0_pay1 (F := Ideal) (k0_pay27 (F := Ideal) (k0_pay25 (F := Ideal) (k0_pay14 (F := Ideal) (View.ld (Val := Elt Ideal) (e' := .bf16) o (Rect.unit ![768, 0] ![256, 1024] inb_S1024x1024_S256x1024_768_0)) W)) (k0_pay26 (F := Ideal) (k0_pay14 (F := Ideal) (View.ld (Val := Elt Ideal) (e' := .bf16) o (Rect.unit ![768, 0] ![256, 1024] inb_S1024x1024_S256x1024_768_0)) W)) (Scalar.ofBits .f32 0x3F000000#32)) (View.ld (Val := Elt Ideal) (e' := .f32) acc (Rect.unit ![768, 0] ![256, 1024] inb_S1024x1024_S256x1024_768_0)) D := by
  unfold accF3
  rw [fill0, skip3]

/-- The four stores of the accumulator, last first. -/
abbrev accF : List (View.Piece (Elt Ideal) S1024x1024 .f32) := [⟨(Rect.unit (s := S1024x1024) ![768, 0] S256x1024.size inb_S1024x1024_S256x1024_768_0), accF3 o W D acc⟩, ⟨(Rect.unit (s := S1024x1024) ![512, 0] S256x1024.size inb_S1024x1024_S256x1024_512_0), accF2 o W D acc⟩, ⟨(Rect.unit (s := S1024x1024) ![256, 0] S256x1024.size inb_S1024x1024_S256x1024_256_0), accF1 o W D acc⟩, ⟨(Rect.unit (s := S1024x1024) ![0, 0] S256x1024.size inb_S1024x1024_S256x1024_0_0), accF0 o W D acc⟩]

/-- They are the same stores. -/
theorem accF_eq : accF o W D acc = accL o W D acc := by
  unfold accF
  rw [accF0_eq, accF1_eq, accF2_eq, accF3_eq]

/-- The products at the first tile. -/
theorem guF_canon : View.canon (guF o W) = guV o W := (congrArg View.canon (guF_eq o W)).trans (guL_eq o W)

/-- The accumulator after the first tile. -/
theorem accF_canon (L : List (View.Piece (Elt Ideal) S1024x1024 .f32)) : View.canon (accF o W D acc ++ L) = accV o W D acc :=
  (congrArg (fun K => View.canon (K ++ L)) (accF_eq o W D acc)).trans (accL_eq o W D acc L)

end Cert.FfnFwdIdeal.Value

end
-- ==== Proof.FwdPointValue.lean ====
module

public import proofs.«01_k».proof.Proof.FwdFrame
public import proofs.«01_k».proof.Proof.FwdFirst

@[expose] public section

set_option maxRecDepth 16384

noncomputable section

/-! What each point of the feed-forward forward kernel leaves in its buffers, as arrays. -/
namespace Cert.FfnFwdIdeal.Value

open Idealize.ShloMosaic Idealize.ShloMosaic.TcCoe Idealize.SL.Sem
open Cert.FfnFwdIdeal Cert.FfnFwdIdeal.Gen

variable (m : (ℓ : Loc nD τ sig) → Buf (Elt Ideal) ℓ)

/-- Case A: the normed rows, stored for the caller. -/
theorem outA_5 (c : Dev nD) (t : Fin cfg0.N) (h0 : t.val % 11 = 0) :
    out0_A_5 m c t h0 = k0_pay9 (F := Ideal) (iblk m c 0 t) (iblk m c 1 t) := by
  unfold out0_A_5 runA
  frame_out

/-- Case A: the normed rows, kept for the later tiles. -/
theorem soutA_0 (c : Dev nD) (t : Fin cfg0.N) (h0 : t.val % 11 = 0) :
    sout0_A_0 m c t h0 = k0_pay8 (F := Ideal) (iblk m c 0 t) (iblk m c 1 t) := by
  unfold sout0_A_0 runA
  frame_out

/-- Case A: the gate and up products. -/
theorem outA_6 (c : Dev nD) (t : Fin cfg0.N) (h0 : t.val % 11 = 0) :
    out0_A_6 m c t h0 = guV (k0_pay8 (F := Ideal) (iblk m c 0 t) (iblk m c 1 t)) (iblk m c 2 t) := by
  unfold out0_A_6 runA
  frame_out
  exact guF_canon _ _

/-- Case A: the accumulator. -/
theorem soutA_1 (c : Dev nD) (t : Fin cfg0.N) (h0 : t.val % 11 = 0) :
    sout0_A_1 m c t h0 = accV (k0_pay8 (F := Ideal) (iblk m c 0 t) (iblk m c 1 t)) (iblk m c 2 t) (iblk m c 3 t) (k0_pay10 (F := Ideal)) := by
  unfold sout0_A_1 runA
  frame_out
  exact accF_canon _ _ _ _ [⟨Rect.unit (s := S1024x1024) ![0, 0] S1024x1024.size inb_S1024x1024_S1024x1024_0_0, k0_pay10 (F := Ideal)⟩]

/-- Case B: the gate and up products. -/
theorem outB_6 (c : Dev nD) (t : Fin cfg0.N) (h1 : ¬t.val % 11 = 0) (h2 : ¬t.val % 11 = 10) (p : St Ideal) :
    out0_B_6 m c t h1 h2 p = guV p.2.2.2.1 (iblk m c 2 t) := by
  unfold out0_B_6 runB
  frame_out
  rw [(Memref.isWhole_whole cc0_scratch0).read_unread _]
  exact guL_eq _ _

/-- Case B: the accumulator. -/
theorem soutB_1 (c : Dev nD) (t : Fin cfg0.N) (h1 : ¬t.val % 11 = 0) (h2 : ¬t.val % 11 = 10) (p : St Ideal) :
    sout0_B_1 m c t h1 h2 p = accV p.2.2.2.1 (iblk m c 2 t) (iblk m c 3 t) p.2.2.2.2 := by
  unfold sout0_B_1 runB
  frame_out
  rw [(Memref.isWhole_whole cc0_scratch0).read_unread _, (Memref.isWhole_whole cc0_scratch1).read_unread _]
  exact accL_eq _ _ _ _ []

/-- Case C: the gate and up products. -/
theorem outC_6 (c : Dev nD) (t : Fin cfg0.N) (h2 : t.val % 11 = 10) (p : St Ideal) :
    out0_C_6 m c t h2 p = guV p.2.2.2.1 (iblk m c 2 t) := by
  unfold out0_C_6 runC
  frame_out
  rw [(Memref.isWhole_whole cc0_scratch0).read_unread _]
  exact guL_eq _ _

/-- Case C: the accumulator. -/
theorem soutC_1 (c : Dev nD) (t : Fin cfg0.N) (h2 : t.val % 11 = 10) (p : St Ideal) :
    sout0_C_1 m c t h2 p = accV p.2.2.2.1 (iblk m c 2 t) (iblk m c 3 t) p.2.2.2.2 := by
  unfold sout0_C_1 runC
  frame_out
  rw [(Memref.isWhole_whole cc0_scratch0).read_unread _, (Memref.isWhole_whole cc0_scratch1).read_unread _]
  exact accL_eq _ _ _ _ []

/-- Case C: the block's output. -/
theorem outC_4 (c : Dev nD) (t : Fin cfg0.N) (h2 : t.val % 11 = 10) (p : St Ideal) :
    out0_C_4 m c t h2 p = xoV (accV p.2.2.2.1 (iblk m c 2 t) (iblk m c 3 t) p.2.2.2.2) (iblk m c 0 t) := by
  unfold out0_C_4 runC
  frame_out
  rw [(Memref.isWhole_whole cc0_scratch0).read_unread _, (Memref.isWhole_whole cc0_scratch1).read_unread _]
  exact xoL_eq _ _ _ _ _

end Cert.FfnFwdIdeal.Value

end
-- ==== Proof.FwdModel.lean ====
module

public import proofs.«01_k».proof.Proof.FfnModel

@[expose] public section

set_option maxRecDepth 16384

noncomputable section

/-! The feed-forward forward pass over plain matrices. -/
namespace Cert.FfnModel

open Idealize.ShloMosaic
open Cert.FfnBwdIdeal.Value (sg hid)

namespace Mats

variable (M : Mats)

/-- The output: the input and half of the hidden values' product with the down weight. -/
def outM (n : Fin 8192) (d : Fin 1024) : EReal :=
  M.x n d + Ideal.ofBits .f32 0x3F000000#32 * ∑ f, M.hhM n f * M.wd f d

/-- The gate and up products, 256 columns of the one beside 256 columns of the other. -/
def guM (n : Fin 8192) (q : Fin 5632) : EReal :=
  if h : q.val % 512 < 256 then M.gate n ⟨q.val / 512 * 256 + q.val % 512, by omega⟩
  else M.up n ⟨q.val / 512 * 256 + (q.val % 512 - 256), by omega⟩

/-- A gate column. -/
theorem guM_gate (n : Fin 8192) (j : Fin 11) (k : Fin 256) :
    M.guM n ⟨512 * j.val + k.val, by omega⟩ = M.gate n ⟨j.val * 256 + k.val, by omega⟩ := by
  unfold guM
  rw [dif_pos (show (512 * j.val + k.val) % 512 < 256 by omega)]
  refine congrArg (M.gate n) (Fin.ext ?_)
  show (512 * j.val + k.val) / 512 * 256 + (512 * j.val + k.val) % 512 = j.val * 256 + k.val
  omega

/-- An up column. -/
theorem guM_up (n : Fin 8192) (j : Fin 11) (k : Fin 256) :
    M.guM n ⟨512 * j.val + (256 + k.val), by omega⟩ = M.up n ⟨j.val * 256 + k.val, by omega⟩ := by
  unfold guM
  rw [dif_neg (show ¬(512 * j.val + (256 + k.val)) % 512 < 256 by omega)]
  refine congrArg (M.up n) (Fin.ext ?_)
  show (512 * j.val + (256 + k.val)) / 512 * 256 + ((512 * j.val + (256 + k.val)) % 512 - 256) = j.val * 256 + k.val
  omega

end Mats

/-- The logistic function as a quotient, of every extended real. -/
theorem logistic_all (x : EReal) : Ideal.div 1 (1 + Ideal.exp (-x)) = sg x := by
  have hh : (0 : ℝ) < 1 / 2 := by norm_num
  induction x with
  | coe r => exact logistic_coe r
  | bot =>
    unfold sg
    rw [Reals.half, EReal.coe_mul_bot_of_pos hh, Ideal.tanh_bot, EReal.neg_bot, Ideal.exp_top]
    rw [show (1 : EReal) + ⊤ = ⊤ from rfl]
    simp [Ideal.div]
    norm_cast
    norm_num
  | top =>
    unfold sg
    rw [Reals.half, EReal.coe_mul_top_of_pos hh, Ideal.tanh_top, EReal.neg_top, Ideal.exp_bot, add_zero]
    rw [show (1 : EReal) = ((1 : ℝ) : EReal) from rfl, Ideal.div_coe one_ne_zero]
    norm_cast
    norm_num

end Cert.FfnModel

end
-- ==== Proof.FwdHost.lean ====
module

public import proofs.«01_k».proof.Proof.FwdPointValue
public import proofs.«01_k».proof.Proof.FfnHost
public import proofs.«01_k».proof.Proof.FwdModel

@[expose] public section

set_option maxRecDepth 16384

noncomputable section

/-! The blocks that the feed-forward forward kernel reads at a grid point, as the model's matrices. -/
namespace Cert.FfnFwdIdeal.Value

open Idealize.ShloMosaic Idealize.ShloMosaic.TcCoe Idealize.SL Idealize.SL.Sem
open Idealize.ShloMosaic.Pipeline (Dat)
open Cert.FfnFwdIdeal Cert.FfnFwdIdeal.Gen Cert.FfnModel
open Cert.FfnBwdIdeal.Value (wguA wgu_gate wgu_up sg hid invK)
variable (m : (ℓ : Loc nD τ sig) → Buf (Elt Ideal) ℓ)

/-- What the host leaves for the interleaved weights. -/
theorem V_wgu (c : Dev nD) : V m c main_v9 =
    wguA (m ((c : Thread nD τ).loc main_arg2)) (m ((c : Thread nD τ).loc main_arg3)) := by
  unfold V
  after_results_simp
  rfl

/-- What the host leaves for the narrowed down weight. -/
theorem V_wd (c : Dev nD) : V m c main_v11 =
    truncf (F := Ideal) .bf16 (show FVec Ideal S2816x1024 .f32 from m ((c : Thread nD τ).loc main_arg4))
      bitsLt_bf16_f32 := by
  unfold V
  after_results_simp

/-- The arguments as matrices; the forward pass has no output gradient. -/
def mats (c : Dev nD) : Mats where
  dy _ _ := 0
  x n d := (show FVec Ideal S8192x1024 .f32 from m ((c : Thread nD τ).loc main_arg0)) (ix2 n d)
  gn d := (show FVec Ideal S1x1024 .f32 from m ((c : Thread nD τ).loc main_arg1)) (ix2 0 d)
  wg d f := (show FVec Ideal S1024x2816 .f32 from m ((c : Thread nD τ).loc main_arg2)) (ix2 d f)
  wu d f := (show FVec Ideal S1024x2816 .f32 from m ((c : Thread nD τ).loc main_arg3)) (ix2 d f)
  wd f d := (show FVec Ideal S2816x1024 .f32 from m ((c : Thread nD τ).loc main_arg4)) (ix2 f d)

/-- The number of grid points. -/
theorem lt88 (t : Fin cfg0.N) : t.val < 88 := t.isLt

/-- The row of the whole array that a block's row is. -/
def row (t : Fin cfg0.N) (r : Fin 1024) : Fin 8192 := ⟨1024 * (t.val / 11) + r.val, by have := lt88 t; omega⟩

/-- The column of the hidden width that a tile's column is. -/
def col (t : Fin cfg0.N) (k : Fin 256) : Fin 2816 := ⟨t.val % 11 * 256 + k.val, by omega⟩

/-- Where the blocks of each window lie at every grid point. -/
theorem idx : ∀ t : Fin cfg0.N, win0_0.index t = ![t.val / 11, 0] ∧ win0_1.index t = ![0, 0]
    ∧ win0_2.index t = ![t.val % 11, 0] ∧ win0_3.index t = ![t.val % 11, 0] ∧ win0_4.index t = ![t.val / 11, 0]
    ∧ win0_5.index t = ![t.val / 11, 0] ∧ win0_6.index t = ![t.val / 11, t.val % 11] :=
  (by decide +kernel : ∀ t : Fin grid0.N, _)

/-- The block of the input. -/
theorem x_blk (c : Dev nD) (t : Fin cfg0.N) (r : Fin 1024) (d : Fin 1024) :
    (show FVec Ideal S1024x1024 .f32 from iblk m c 0 t) (ix2 r d) = (mats m c).x (row t r) d := by
  unfold mats row
  blk_point [iblk, V, idx t]

/-- The gain. -/
theorem gn_blk (c : Dev nD) (t : Fin cfg0.N) (d : Fin 1024) :
    (show FVec Ideal S1x1024 .f32 from iblk m c 1 t) (ix2 0 d) = (mats m c).gn d := by
  unfold mats
  blk_point [iblk, V, idx t]

/-- The block of the interleaved weights. -/
theorem wgu_blk (c : Dev nD) (t : Fin cfg0.N) (q : Fin 512) (d : Fin 1024) :
    (show FVec Ideal S512x1024 .bf16 from iblk m c 2 t) (ix2 q d)
      = wguA (m ((c : Thread nD τ).loc main_arg2)) (m ((c : Thread nD τ).loc main_arg3))
        (ix2 ⟨512 * (t.val % 11) + q.val, by omega⟩ d) := by
  rw [← V_wgu]
  blk_point [iblk, idx t]

/-- The block of the down weight. -/
theorem wd_blk (c : Dev nD) (t : Fin cfg0.N) (k : Fin 256) (d : Fin 1024) :
    (show FVec Ideal S256x1024 .bf16 from iblk m c 3 t) (ix2 k d) = (mats m c).wd (col t k) d := by
  have e : (mats m c).wd (col t k) d = (show FVec Ideal S2816x1024 .bf16 from V m c main_v11) (ix2 (col t k) d) := by
    rw [V_wd]; rfl
  rw [e]
  unfold col
  blk_point [iblk, idx t]

/-- The gate weight in the interleaved block. -/
theorem wg_blk (c : Dev nD) (t : Fin cfg0.N) (k : Fin 256) (d : Fin 1024) :
    (show FVec Ideal S512x1024 .bf16 from iblk m c 2 t) (ix2 ⟨k.val, by omega⟩ d) = (mats m c).wg d (col t k) := by
  rw [wgu_blk]
  exact wgu_gate _ _ ⟨t.val % 11, by omega⟩ k d

/-- The up weight in the interleaved block. -/
theorem wu_blk (c : Dev nD) (t : Fin cfg0.N) (k : Fin 256) (d : Fin 1024) :
    (show FVec Ideal S512x1024 .bf16 from iblk m c 2 t) (ix2 ⟨256 + k.val, by omega⟩ d) = (mats m c).wu d (col t k) := by
  rw [wgu_blk]
  exact wgu_up _ _ ⟨t.val % 11, by omega⟩ k d

/-- The normed rows of a row block. -/
def nB (c : Dev nD) (t : Fin cfg0.N) : FVec Ideal S1024x1024 .bf16 := fun y => (mats m c).norm (row t (y 0)) (y 1)

/-- The normed rows kept for the later tiles. -/
theorem norm8 (c : Dev nD) (t : Fin cfg0.N) : k0_pay8 (F := Ideal) (iblk m c 0 t) (iblk m c 1 t) = nB m c t := by
  funext y
  obtain ⟨r, d, rfl⟩ : ∃ (r : Fin 1024) (d : Fin 1024), y = ix2 r d := ⟨y 0, y 1, by blk_ext⟩
  refine (pay8_at _ _ _ _).trans ?_
  exact congrArg₂ (· * ·) (congrArg₂ (· * ·) (x_blk m c t r d) (congrArg invK (funext fun k => x_blk m c t r k)))
    (gn_blk m c t d)

/-- The normed rows stored for the caller. -/
theorem norm9 (c : Dev nD) (t : Fin cfg0.N) : k0_pay9 (F := Ideal) (iblk m c 0 t) (iblk m c 1 t) = nB m c t := by
  funext y
  obtain ⟨r, d, rfl⟩ : ∃ (r : Fin 1024) (d : Fin 1024), y = ix2 r d := ⟨y 0, y 1, by blk_ext⟩
  refine (pay9_at _ _ _ _).trans ?_
  exact congrArg₂ (· * ·) (congrArg₂ (· * ·) (x_blk m c t r d) (congrArg invK (funext fun k => x_blk m c t r k)))
    (gn_blk m c t d)

/-- The gate product of a tile. -/
theorem g_tile (c : Dev nD) (t : Fin cfg0.N) (r : Fin 1024) (k : Fin 256) :
    guB (nB m c t) (iblk m c 2 t) r ⟨k.val, by omega⟩ = (mats m c).gate (row t r) (col t k) := by
  unfold guB Mats.gate
  exact Finset.sum_congr rfl fun d _ => congrArg _ (wg_blk m c t k d)

/-- The up product of a tile. -/
theorem u_tile (c : Dev nD) (t : Fin cfg0.N) (r : Fin 1024) (k : Fin 256) :
    guB (nB m c t) (iblk m c 2 t) r ⟨256 + k.val, by omega⟩ = (mats m c).up (row t r) (col t k) := by
  unfold guB Mats.up
  exact Finset.sum_congr rfl fun d _ => congrArg _ (wu_blk m c t k d)

/-- The hidden values of a tile. -/
theorem hh_tile (c : Dev nD) (t : Fin cfg0.N) (r : Fin 1024) (k : Fin 256) :
    hB (nB m c t) (iblk m c 2 t) r k = (mats m c).hhM (row t r) (col t k) := by
  unfold hB
  rw [g_tile, u_tile]
  rfl

/-- Both products of a tile, in their interleaved columns. -/
theorem gu_tile (c : Dev nD) (t : Fin cfg0.N) (r : Fin 1024) (q : Fin 512) :
    guV (nB m c t) (iblk m c 2 t) (ix2 r q) = (mats m c).guM (row t r) ⟨512 * (t.val % 11) + q.val, by omega⟩ := by
  show guB (nB m c t) (iblk m c 2 t) r q = _
  by_cases h : q.val < 256
  · exact (g_tile m c t r ⟨q.val, h⟩).trans ((mats m c).guM_gate (row t r) ⟨t.val % 11, by omega⟩ ⟨q.val, h⟩).symm
  · have hq : q = ⟨256 + (q.val - 256), by omega⟩ := Fin.ext (by show q.val = 256 + (q.val - 256); omega)
    have hu := (u_tile m c t r ⟨q.val - 256, by omega⟩).trans
      ((mats m c).guM_up (row t r) ⟨t.val % 11, by omega⟩ ⟨q.val - 256, by omega⟩).symm
    have he : (⟨512 * (t.val % 11) + q.val, by omega⟩ : Fin 5632)
        = ⟨512 * (t.val % 11) + (256 + (q.val - 256)), by omega⟩ := Fin.ext (by
      show 512 * (t.val % 11) + q.val = 512 * (t.val % 11) + (256 + (q.val - 256)); omega)
    rw [he, ← hu]
    exact congrArg (guB (nB m c t) (iblk m c 2 t) r) hq

end Cert.FfnFwdIdeal.Value

end
-- ==== Proof.FwdArrays.lean ====
module

public import proofs.«01_k».proof.Proof.FwdHost

@[expose] public section

set_option maxRecDepth 16384

noncomputable section

/-! What the feed-forward forward kernel holds after every grid point, and the arrays it leaves. -/
namespace Cert.FfnFwdIdeal.Value

open Idealize.ShloMosaic Idealize.ShloMosaic.TcCoe Idealize.SL.Sem
open Idealize.ShloMosaic.Pipeline (Dat)
open Cert.FfnFwdIdeal Cert.FfnFwdIdeal.Gen Cert.FfnModel
variable (m : (ℓ : Loc nD τ sig) → Buf (Elt Ideal) ℓ)

attribute [local irreducible] outsAt0 out0_A_5 out0_A_6 sout0_A_0 sout0_A_1 out0_B_6 sout0_B_1 out0_C_4 out0_C_6 sout0_C_1
  iblk

/-- The point before. -/
abbrev before (t : Fin cfg0.N) : Fin cfg0.N := ⟨t.val - 1, Nat.lt_of_le_of_lt (Nat.sub_le _ _) t.isLt⟩

/-- Within a row block the normed rows stay. -/
theorem nB_before (c : Dev nD) (t : Fin cfg0.N) (h : ¬t.val % 11 = 0) : nB m c (before t) = nB m c t := by
  have e : ∀ r, row (before t) r = row t r := fun r => Fin.ext (by
    show 1024 * ((t.val - 1) / 11) + r.val = 1024 * (t.val / 11) + r.val
    omega)
  unfold nB
  funext y
  exact congrArg (fun z => (mats m c).norm z (y 1)) (e (y 0))

/-- Scratch and output window both hold the row block's normed rows after every point. -/
theorem norm_held (c : Dev nD) : ∀ (n : ℕ) (t : Fin cfg0.N), t.val = n →
    (outsAt0 m c t.val t.isLt).2.2.2.1 = nB m c t ∧ (outsAt0 m c t.val t.isLt).2.1 = nB m c t := by
  intro n
  induction n with
  | zero =>
    intro t ht
    have h0 : t.val % 11 = 0 := by omega
    rw [outsAt0_A m c t h0]
    dsimp only [stA]
    exact ⟨(soutA_0 m c t h0).trans (norm8 m c t), (outA_5 m c t h0).trans (norm9 m c t)⟩
  | succ n ih =>
    intro t ht
    by_cases h1 : t.val % 11 = 0
    · rw [outsAt0_A m c t h1]
      dsimp only [stA]
      exact ⟨(soutA_0 m c t h1).trans (norm8 m c t), (outA_5 m c t h1).trans (norm9 m c t)⟩
    · have hp := ih (before t) (by show t.val - 1 = n; omega)
      rw [nB_before m c t h1] at hp
      by_cases h2 : t.val % 11 = 10
      · rw [outsAt0_C m c t h2]
        dsimp only [stC]
        exact hp
      · rw [outsAt0_B m c t h1 h2]
        dsimp only [stB]
        exact hp

/-- What the scratch holds before a tile that is not the first. -/
theorem norm_prev (c : Dev nD) (t : Fin cfg0.N) (h : ¬t.val % 11 = 0) : (prev m c t).2.2.2.1 = nB m c t :=
  (norm_held m c _ (before t) rfl).1.trans (nB_before m c t h)

/-- The gate and up products after every point. -/
theorem gu_held (c : Dev nD) (t : Fin cfg0.N) : (outsAt0 m c t.val t.isLt).2.2.1 = guV (nB m c t) (iblk m c 2 t) := by
  by_cases h1 : t.val % 11 = 0
  · rw [outsAt0_A m c t h1]
    dsimp only [stA]
    exact (outA_6 m c t h1).trans (by rw [norm8])
  · by_cases h2 : t.val % 11 = 10
    · rw [outsAt0_C m c t h2]
      dsimp only [stC]
      exact (outC_6 m c t h2 _).trans (by rw [norm_prev m c t h1])
    · rw [outsAt0_B m c t h1 h2]
      dsimp only [stB]
      exact (outB_6 m c t h1 h2 _).trans (by rw [norm_prev m c t h1])

/-- What a tile adds to the product with the down weight. -/
def term (c : Dev nD) (t : Fin cfg0.N) (r d : Fin 1024) : EReal :=
  ∑ k : Fin 256, (mats m c).hhM (row t r) (col t k) * (mats m c).wd (col t k) d

/-- The accumulator with a tile added. -/
theorem acc_tile (c : Dev nD) (t : Fin cfg0.N) (acc : FVec Ideal S1024x1024 .f32) (r d : Fin 1024) :
    accV (nB m c t) (iblk m c 2 t) (iblk m c 3 t) acc (ix2 r d) = acc (ix2 r d) + term m c t r d := by
  show acc (ix2 r d) + ∑ k : Fin 256, hB (nB m c t) (iblk m c 2 t) r k
    * (show FVec Ideal S256x1024 .bf16 from iblk m c 3 t) (ix2 k d) = _
  exact congrArg _ (Finset.sum_congr rfl fun k _ => congrArg₂ (· * ·) (hh_tile m c t r k) (wd_blk m c t k d))

/-- The accumulator after a row block's first tile. -/
theorem acc_first (c : Dev nD) (t : Fin cfg0.N) (h1 : t.val % 11 = 0) (r d : Fin 1024) :
    (outsAt0 m c t.val t.isLt).2.2.2.2 (ix2 r d) = 0 + term m c t r d := by
  rw [outsAt0_A m c t h1]
  dsimp only [stA]
  refine (congrFun (soutA_1 m c t h1) _).trans ?_
  rw [norm8, acc_tile, pay10_at]

/-- The accumulator after a later tile. -/
theorem acc_next (c : Dev nD) (t : Fin cfg0.N) (h1 : ¬t.val % 11 = 0) (r d : Fin 1024) :
    (outsAt0 m c t.val t.isLt).2.2.2.2 (ix2 r d) = (prev m c t).2.2.2.2 (ix2 r d) + term m c t r d := by
  by_cases h2 : t.val % 11 = 10
  · rw [outsAt0_C m c t h2]
    dsimp only [stC]
    refine (congrFun (soutC_1 m c t h2 _) _).trans ?_
    rw [norm_prev m c t h1, acc_tile]
  · rw [outsAt0_B m c t h1 h2]
    dsimp only [stB]
    refine (congrFun (soutB_1 m c t h1 h2 _) _).trans ?_
    rw [norm_prev m c t h1, acc_tile]

/-- The accumulator at the end of a row block is the whole product with the down weight. -/
theorem acc_last (c : Dev nD) (t : Fin cfg0.N) (h : t.val % 11 = 10) (r d : Fin 1024) :
    (outsAt0 m c t.val t.isLt).2.2.2.2 (ix2 r d) = ∑ f, (mats m c).hhM (row t r) f * (mats m c).wd f d := by
  have e := Pipeline.eq_sum_fin_of_reset_step_apply_of_flush (M := EReal) (ι := Fin 1024 × Fin 1024) (N := cfg0.N)
    (fun n h i => (outsAt0 m c n h).2.2.2.2 (ix2 i.1 i.2)) 11 (fun _ => 0) (fun p i => term m c p i.1 i.2)
    (fun p hp i => acc_first m c p hp i.1 i.2) (fun p hp i => acc_next m c p hp i.1 i.2) t h (r, d)
  refine e.trans ?_
  rw [zero_add]
  unfold term
  rw [Fin.sum_univ_tiles 11 256 rfl]
  have hr : ∀ s : Fin 11, row ⟨11 * (t.val / 11) + s.val, Pipeline.run_point_lt_of_flush t h s⟩ r = row t r := fun s => Fin.ext (by
    show 1024 * ((11 * (t.val / 11) + s.val) / 11) + r.val = 1024 * (t.val / 11) + r.val
    omega)
  have hc : ∀ (s : Fin 11) (k : Fin 256), col ⟨11 * (t.val / 11) + s.val, Pipeline.run_point_lt_of_flush t h s⟩ k
      = ⟨s.val * 256 + k.val, by omega⟩ := fun s k => Fin.ext (by
    show (11 * (t.val / 11) + s.val) % 11 * 256 + k.val = s.val * 256 + k.val
    omega)
  refine Finset.sum_congr rfl fun s _ => Finset.sum_congr rfl fun k _ => ?_
  simp only [hr, hc]

/-- The output at the end of a row block. -/
theorem out_held (c : Dev nD) (t : Fin cfg0.N) (h : t.val % 11 = 10) (r d : Fin 1024) :
    (outsAt0 m c t.val t.isLt).1 (ix2 r d) = (mats m c).outM (row t r) d := by
  have ha : accV (prev m c t).2.2.2.1 (iblk m c 2 t) (iblk m c 3 t) (prev m c t).2.2.2.2
      = (outsAt0 m c t.val t.isLt).2.2.2.2 := by
    rw [outsAt0_C m c t h]
    dsimp only [stC]
    exact (soutC_1 m c t h _).symm
  have e : (outsAt0 m c t.val t.isLt).1 = xoV (outsAt0 m c t.val t.isLt).2.2.2.2 (iblk m c 0 t) := by
    rw [← ha, outsAt0_C m c t h]
    dsimp only [stC]
    exact outC_4 m c t h _
  rw [e]
  unfold Mats.outM
  exact congrArg₂ (· + ·) (x_blk m c t r d) (congrArg _ (acc_last m c t h r d))

/-- The output as an array. -/
theorem final_out (c : Dev nD) : (dats m 0 c).arrAt 4 (cfgs 0).N
    = (show FVec Ideal S8192x1024 .f32 from fun y => (mats m c).outM (y 0) (y 1)) := by
  refine (dats m 0 c).arrAt_eq_of_covers 4 _ (by decide +kernel) fun t hf y => ?_
  have h10 : t.val % 11 = 10 := (flush0_4 t).mp hf
  blk_simp
  obtain ⟨r, d, rfl⟩ : ∃ (r : Fin 1024) (d : Fin 1024), y = ix2 r d := ⟨y 0, y 1, by blk_ext⟩
  have e : (win0_4.blk t).view.emb (ix2 r d) = ix2 (row t r) d := by
    funext a; refine Fin.ext ?_; revert a; refine Fin.forall_fin_two.mpr ⟨?_, ?_⟩
    · blk_simp [idx t]; show t.val / 11 * 1024 + r.val = 1024 * (t.val / 11) + r.val; omega
    · blk_simp [idx t] <;> try rfl
  rw [after0_4, e]
  exact out_held m c t h10 r d

/-- The normed input as an array. -/
theorem final_norm (c : Dev nD) : (dats m 0 c).arrAt 5 (cfgs 0).N
    = (show FVec Ideal S8192x1024 .bf16 from fun y => (mats m c).norm (y 0) (y 1)) := by
  refine (dats m 0 c).arrAt_eq_of_covers 5 _ (by decide +kernel) fun t hf y => ?_
  have h10 : t.val % 11 = 10 := (flush0_5 t).mp hf
  blk_simp
  obtain ⟨r, d, rfl⟩ : ∃ (r : Fin 1024) (d : Fin 1024), y = ix2 r d := ⟨y 0, y 1, by blk_ext⟩
  have e : (win0_5.blk t).view.emb (ix2 r d) = ix2 (row t r) d := by
    funext a; refine Fin.ext ?_; revert a; refine Fin.forall_fin_two.mpr ⟨?_, ?_⟩
    · blk_simp [idx t]; show t.val / 11 * 1024 + r.val = 1024 * (t.val / 11) + r.val; omega
    · blk_simp [idx t] <;> try rfl
  rw [after0_5, e]
  exact congrFun (norm_held m c _ t rfl).2 (ix2 r d)

/-- The gate and up products as an array. -/
theorem final_gu (c : Dev nD) : (dats m 0 c).arrAt 6 (cfgs 0).N
    = (show FVec Ideal S8192x5632 .bf16 from fun y => (mats m c).guM (y 0) (y 1)) := by
  refine (dats m 0 c).arrAt_eq_of_covers 6 _ (by decide +kernel) fun t hf y => ?_
  blk_simp
  obtain ⟨r, d, rfl⟩ : ∃ (r : Fin 1024) (d : Fin 512), y = ix2 r d := ⟨y 0, y 1, by blk_ext⟩
  have e : (win0_6.blk t).view.emb (ix2 r d) = ix2 (row t r) ⟨512 * (t.val % 11) + d.val, by omega⟩ := by
    funext a; refine Fin.ext ?_; revert a; refine Fin.forall_fin_two.mpr ⟨?_, ?_⟩
    · blk_simp [idx t]; show t.val / 11 * 1024 + r.val = 1024 * (t.val / 11) + r.val; omega
    · blk_simp [idx t]; show t.val % 11 * 512 + d.val = 512 * (t.val % 11) + d.val; omega
  rw [after0_6, e]
  exact (congrFun (gu_held m c t) _).trans (gu_tile m c t r d)

end Cert.FfnFwdIdeal.Value

end
-- ==== Proof.FwdRefValue.lean ====
module

public import proofs.«01_k».proof.Proof.Gen.FwdRefIdeal.Run
public import proofs.«01_k».proof.Proof.FwdModel

@[expose] public section

set_option maxRecDepth 16384

noncomputable section

/-! The forward reference's operations, named where they mean something, and their entries as the model's matrices. -/
namespace Cert.FwdRefIdeal.Stage

open Idealize.ShloMosaic Idealize.ShloMosaic.TcCoe Idealize.SL.Sem
open Cert.FwdRefIdeal Cert.FwdRefIdeal.Gen Cert.FfnModel
open Cert.FfnBwdIdeal.Value (invK sg)

/-- The reference's arguments. -/
structure Args where
  a0 : FVec Ideal S8192x1024 .f32
  a1 : FVec Ideal S1x1024 .f32
  a2 : FVec Ideal S1024x2816 .f32
  a3 : FVec Ideal S1024x2816 .f32
  a4 : FVec Ideal S2816x1024 .f32

variable (A : Args)

/-- Mean square of a row plus the small constant. -/
def msEps : FVec Ideal S8192x1 .f32 :=
  addf (Host.divf (broadcastInDim S8192x1 ![0] bcast_S8192_S8192x1_0 (Host.reduceAdd (mulf A.a0 A.a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- Normed input, with the gain. -/
def norm : FVec Ideal S8192x1024 .f32 :=
  mulf (mulf A.a0 (broadcastInDim S8192x1024 ![0, 1] bcast_S8192x1_S8192x1024_0_1 (Host.rsqrt (msEps A)))) (broadcastInDim S8192x1024 ![0, 1] bcast_S1x1024_S8192x1024_0_1 A.a1)

/-- Gate product. -/
def gate : FVec Ideal S8192x2816 .f32 :=
  Host.dotGeneral dot_S8192x1024_S1024x2816_S8192x2816_1_0_0_1_n_n none (norm A) A.a2

/-- Up product. -/
def up : FVec Ideal S8192x2816 .f32 :=
  Host.dotGeneral dot_S8192x1024_S1024x2816_S8192x2816_1_0_0_1_n_n none (norm A) A.a3

/-- Logistic function of the gate. -/
def sigm : FVec Ideal S8192x2816 .f32 :=
  Host.divf ((broadcastInDim S8192x2816 ![] bcast_S_S8192x2816) (constant S_ .f32 0x3F800000#32)) (addf ((broadcastInDim S8192x2816 ![] bcast_S_S8192x2816) (constant S_ .f32 0x3F800000#32)) (Host.exp (Host.negf (gate A))))

/-- Hidden values. -/
def hidden : FVec Ideal S8192x2816 .f32 :=
  mulf (mulf (gate A) (sigm A)) (up A)

/-- Product with the down weight. -/
def down : FVec Ideal S8192x1024 .f32 :=
  Host.dotGeneral dot_S8192x2816_S2816x1024_S8192x1024_1_0_0_1_n_n none (hidden A) A.a4

/-- The output. -/
def out : FVec Ideal S8192x1024 .f32 :=
  addf A.a0 (mulf (broadcastInDim S8192x1024 ![] bcast_S_S8192x1024 (constant S_ .f32 0x3F000000#32)) (down A))

/-- The normed input, as returned. -/
def normB : FVec Ideal S8192x1024 .bf16 :=
  truncf .bf16 (norm A) bitsLt_bf16_f32

/-- One product, cut into groups of 256 columns. -/
def tiles (p : FVec Ideal S8192x2816 .f32) : FVec Ideal S8192x11x1x256 .f32 :=
  broadcastInDim S8192x11x1x256 ![0, 1, 3] bcast_S8192x11x256_S8192x11x1x256_0_1_3
    (shapeCast S8192x11x256 p shapeCasts_S8192x2816_S8192x11x256)

/-- Two products, their column groups interleaved. -/
def inter (p q : FVec Ideal S8192x2816 .f32) : FVec Ideal S8192x5632 .bf16 :=
  truncf .bf16 (shapeCast S8192x5632 (concatenate S8192x11x2x256 2 [⟨S8192x11x1x256, tiles p⟩, ⟨S8192x11x1x256, tiles q⟩]
    concatenates_S8192x11x1x256_S8192x11x1x256_S8192x11x2x256_d2) shapeCasts_S8192x11x2x256_S8192x5632) bitsLt_bf16_f32

theorem tiles_at (p : FVec Ideal S8192x2816 .f32) (n : Fin 8192) (j : Fin 11) (k : Fin 256) :
    tiles p (ix4 n j 0 k) = p (ix2 n ⟨j * 256 + k, by omega⟩) := by
  pointwise [tiles]

/-- A column of the first product. -/
theorem inter_gate (p q : FVec Ideal S8192x2816 .f32) (n : Fin 8192) (j : Fin 11) (k : Fin 256) :
    inter p q (ix2 n ⟨512 * j + k, by omega⟩) = p (ix2 n ⟨j * 256 + k, by omega⟩) := by
  rw [← tiles_at p]
  pointwise [inter]
  have h : (512 * j.val + k.val) / 256 % 2 = 0 := by omega
  simp only [h]
  rfl

/-- A column of the second product. -/
theorem inter_up (p q : FVec Ideal S8192x2816 .f32) (n : Fin 8192) (j : Fin 11) (k : Fin 256) :
    inter p q (ix2 n ⟨512 * j + (256 + k), by omega⟩) = q (ix2 n ⟨j * 256 + k, by omega⟩) := by
  rw [← tiles_at q]
  pointwise [inter]
  have h : ¬ (512 * j.val + (256 + k.val)) / 256 % 2 < 1 := by omega
  rw [dif_neg h]
  congr 1
  refine congrFun (congrArg (ix4 n j) (Fin.ext ?_)) k
  show (512 * j.val + (256 + k.val)) / 256 % 2 - 1 = 0
  omega

/-- The arguments as matrices; the forward pass has no output gradient. -/
abbrev mats : Mats where
  dy _ _ := 0
  x n d := A.a0 (ix2 n d)
  gn d := A.a1 (ix2 0 d)
  wg d f := A.a2 (ix2 d f)
  wu d f := A.a3 (ix2 d f)
  wd f d := A.a4 (ix2 f d)

theorem msEps_at (n : Fin 8192) (i : Fin 1) : msEps A (ix2 n i) =
    Ideal.div (∑ k, A.a0 (ix2 n k) * A.a0 (ix2 n k)) (Ideal.ofBits .f32 0x44800000#32) + Ideal.ofBits .f32 0x358637BD#32 := by
  pointwise [msEps]

theorem inv_at (n : Fin 8192) (i : Fin 1) : Host.rsqrt (msEps A) (ix2 n i) = (mats A).inv n := by
  show Ideal.rsqrt (msEps A (ix2 n i)) = _
  rw [msEps_at]
  rfl

theorem norm_at (n : Fin 8192) (d : Fin 1024) : norm A (ix2 n d) = (mats A).norm n d := by
  pointwise [norm, inv_at, Mats.norm]

theorem gate_at (n : Fin 8192) (f : Fin 2816) : gate A (ix2 n f) = (mats A).gate n f := by
  pointwise [gate, norm_at, Mats.gate]

theorem up_at (n : Fin 8192) (f : Fin 2816) : up A (ix2 n f) = (mats A).up n f := by
  pointwise [up, norm_at, Mats.up]

theorem sig_at (n : Fin 8192) (f : Fin 2816) : sigm A (ix2 n f) = sg ((mats A).gate n f) := by
  rw [← logistic_all]
  pointwise [sigm, gate_at]

theorem hidden_at (n : Fin 8192) (f : Fin 2816) : hidden A (ix2 n f) = (mats A).hhM n f := by
  show gate A (ix2 n f) * sigm A (ix2 n f) * up A (ix2 n f) = _
  rw [sig_at, gate_at, up_at]
  rfl

theorem down_at (n : Fin 8192) (d : Fin 1024) : down A (ix2 n d) = ∑ f, (mats A).hhM n f * A.a4 (ix2 f d) := by
  pointwise [down, hidden_at]

theorem out_at (n : Fin 8192) (d : Fin 1024) : out A (ix2 n d) = (mats A).outM n d := by
  pointwise [out, down_at, Mats.outM]

/-- Every column is a gate column or an up column. -/
theorem column (q : Fin 5632) : (∃ (j : Fin 11) (k : Fin 256), q = ⟨512 * j.val + k.val, by omega⟩)
    ∨ ∃ (j : Fin 11) (k : Fin 256), q = ⟨512 * j.val + (256 + k.val), by omega⟩ := by
  by_cases h : q.val % 512 < 256
  · exact Or.inl ⟨⟨q.val / 512, by omega⟩, ⟨q.val % 512, h⟩, Fin.ext (by
      show q.val = 512 * (q.val / 512) + q.val % 512; omega)⟩
  · exact Or.inr ⟨⟨q.val / 512, by omega⟩, ⟨q.val % 512 - 256, by omega⟩, Fin.ext (by
      show q.val = 512 * (q.val / 512) + (256 + (q.val % 512 - 256)); omega)⟩

theorem inter_at (n : Fin 8192) (q : Fin 5632) : inter (gate A) (up A) (ix2 n q) = (mats A).guM n q := by
  rcases column q with ⟨j, k, h⟩ | ⟨j, k, h⟩
  · rw [h, inter_gate, Mats.guM_gate, gate_at]
  · rw [h, inter_up, Mats.guM_up, up_at]

/-- The arguments a run finds on a device. -/
abbrev args (m : (ℓ : Loc nD τ sig) → Buf (Elt Ideal) ℓ) (c : Dev nD) : Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)

end Cert.FwdRefIdeal.Stage

end
-- ==== Proof.Fwd.lean ====
module

public import proofs.«01_k».proof.Defs
public import proofs.«01_k».proof.Proof.Gen.FfnFwd
public import proofs.«01_k».proof.Proof.FwdArrays
public import proofs.«01_k».proof.Proof.FwdRefValue

@[expose] public section

set_option maxRecDepth 16384

noncomputable section

/-! The feed-forward group's forward pass: the kernel against the reference. -/
namespace Cert.Fwd

open Idealize.ShloMosaic Idealize.ShloMosaic.TcCoe Idealize.SL.Sem

/-- A two-axis array from its entries. -/
theorem ext2 {a b : ℕ} {α : Type} (f g : (⟨2, ![a, b]⟩ : Shape).Idx → α) (h : ∀ i j, f (ix2 i j) = g (ix2 i j)) : f = g :=
  funext fun y => by
    have e : y = ix2 (y 0) (y 1) := by blk_ext
    rw [e]
    exact h _ _

/-- Equal arguments are equal matrices. -/
theorem mats_eq (m : (ℓ : Loc Cert.FfnFwdIdeal.nD Cert.FfnFwdIdeal.τ Cert.FfnFwdIdeal.sig) → Buf (Elt Ideal) ℓ)
    (m' : (ℓ : Loc Cert.FwdRefIdeal.nD Cert.FwdRefIdeal.τ Cert.FwdRefIdeal.sig) → Buf (Elt Ideal) ℓ) (c : Dev Cert.FfnFwdIdeal.nD)
    (h0 : m' ((c.tc : Thread Cert.FwdRefIdeal.nD Cert.FwdRefIdeal.τ).loc Cert.FwdRefIdeal.main_arg0) = m ((c.tc : Thread Cert.FfnFwdIdeal.nD Cert.FfnFwdIdeal.τ).loc Cert.FfnFwdIdeal.main_arg0))
    (h1 : m' ((c.tc : Thread Cert.FwdRefIdeal.nD Cert.FwdRefIdeal.τ).loc Cert.FwdRefIdeal.main_arg1) = m ((c.tc : Thread Cert.FfnFwdIdeal.nD Cert.FfnFwdIdeal.τ).loc Cert.FfnFwdIdeal.main_arg1))
    (h2 : m' ((c.tc : Thread Cert.FwdRefIdeal.nD Cert.FwdRefIdeal.τ).loc Cert.FwdRefIdeal.main_arg2) = m ((c.tc : Thread Cert.FfnFwdIdeal.nD Cert.FfnFwdIdeal.τ).loc Cert.FfnFwdIdeal.main_arg2))
    (h3 : m' ((c.tc : Thread Cert.FwdRefIdeal.nD Cert.FwdRefIdeal.τ).loc Cert.FwdRefIdeal.main_arg3) = m ((c.tc : Thread Cert.FfnFwdIdeal.nD Cert.FfnFwdIdeal.τ).loc Cert.FfnFwdIdeal.main_arg3))
    (h4 : m' ((c.tc : Thread Cert.FwdRefIdeal.nD Cert.FwdRefIdeal.τ).loc Cert.FwdRefIdeal.main_arg4) = m ((c.tc : Thread Cert.FfnFwdIdeal.nD Cert.FfnFwdIdeal.τ).loc Cert.FfnFwdIdeal.main_arg4)) :
    FwdRefIdeal.Stage.mats (FwdRefIdeal.Stage.args m' c) = FfnFwdIdeal.Value.mats m c := by
  unfold FfnFwdIdeal.Value.mats
  show FfnModel.Mats.mk _ _ _ _ _ _ = FfnModel.Mats.mk _ _ _ _ _ _
  refine (FfnModel.Mats.mk.injEq _ _ _ _ _ _ _ _ _ _ _ _).mpr ⟨rfl, ?_, ?_, ?_, ?_, ?_⟩
  · exact funext fun n => funext fun d => congrFun h0 (ix2 n d)
  · exact funext fun d => congrFun h1 (ix2 0 d)
  · exact funext fun d => funext fun f => congrFun h2 (ix2 d f)
  · exact funext fun d => funext fun f => congrFun h3 (ix2 d f)
  · exact funext fun f => funext fun d => congrFun h4 (ix2 f d)

/-- All three results: the same arrays from the kernel and from the reference. -/
theorem algebraic : Cert.algebraic_FfnFwdIdeal_FwdRefIdeal := by
  pair_intro
  · run_from Cert.FfnFwdIdeal.Gen.run_blocks m g
  · refine θ_run_mono (Cert.FwdRefIdeal.Value.run m' g') fun r hr c => ?_
    have ha : FwdRefIdeal.Stage.mats (FwdRefIdeal.Stage.args m' c) = FfnFwdIdeal.Value.mats m c := by
      obtain ⟨h0, h1, h2, h3, h4⟩ := hagree c
      exact mats_eq m m' c h0 h1 h2 h3 h4
    obtain ⟨e0, e1, e2, hr⟩ := hr c
    refine ⟨e0.trans (Eq.trans (b := FwdRefIdeal.Stage.out (FwdRefIdeal.Stage.args m' c)) rfl
        (Eq.trans ?_ (FfnFwdIdeal.Value.final_out m c).symm)),
      e1.trans (Eq.trans (b := FwdRefIdeal.Stage.normB (FwdRefIdeal.Stage.args m' c)) rfl
        (Eq.trans ?_ (FfnFwdIdeal.Value.final_norm m c).symm)),
      e2.trans (Eq.trans (b := FwdRefIdeal.Stage.inter (FwdRefIdeal.Stage.gate (FwdRefIdeal.Stage.args m' c))
        (FwdRefIdeal.Stage.up (FwdRefIdeal.Stage.args m' c))) rfl (Eq.trans ?_ (FfnFwdIdeal.Value.final_gu m c).symm)), hr⟩
    · rw [← ha]; exact ext2 _ _ fun i j => FwdRefIdeal.Stage.out_at _ i j
    · rw [← ha]; exact ext2 _ _ fun i j => FwdRefIdeal.Stage.norm_at _ i j
    · rw [← ha]; exact ext2 _ _ fun i j => FwdRefIdeal.Stage.inter_at _ i j

/-- The kernel's body table is the same in both printings. -/
theorem bodies_eq {F : FTy → Type} [FloatOps F] [Cert.FfnFwd.Facts] [Cert.FfnFwdIdeal.Facts] :
    Cert.FfnFwd.defs₀ (F := F) = Cert.FfnFwdIdeal.defs₀ (F := F) := by
  unfold Cert.FfnFwd.defs₀ Cert.FfnFwdIdeal.defs₀
  refine congrArg _ (funext fun l => funext fun a => ?_)
  fin_cases l
  rfl

/-- So are its bodies with the pipeline's. -/
theorem defs_eq {F : FTy → Type} [FloatOps F] [Cert.FfnFwd.Facts] [Cert.FfnFwdIdeal.Facts] :
    Cert.FfnFwd.defs (F := F) = Cert.FfnFwdIdeal.defs (F := F) :=
  congrArg (Pipeline.defs (Cert.FfnFwdIdeal.pcfgs (F := F))) bodies_eq

/-- And its main program. -/
theorem main_eq {F : FTy → Type} [FloatOps F] [Cert.FfnFwd.Facts] [Cert.FfnFwdIdeal.Facts] :
    Cert.FfnFwd.main (F := F) = Cert.FfnFwdIdeal.main (F := F) := rfl

/-- The kernel as compiled ends, at rest, with its arguments unchanged: the run over any floats, read at its own. -/
theorem frame : Cert.quiescent_FfnFwd := fun m ρ _ => by
  have h := Cert.FfnFwdIdeal.Gen.frame m ρ
  rw [← defs_eq, ← main_eq] at h
  exact h

/-- The same of the ideal program. -/
theorem frame_ideal : Cert.quiescent_FfnFwdIdeal := fun m ρ _ => Cert.FfnFwdIdeal.Gen.frame m ρ

/-- The same of the reference. -/
theorem frame_reference : Cert.quiescent_FwdRefIdeal := fun m ρ _ =>
  (θ_run Cert.FwdRefIdeal.defs _ _).mono (fun r h => ⟨fun c => (h c).2.2.2, sem_eq_zero_of_no_sems (by decide) r.2⟩)
    (Cert.FwdRefIdeal.Value.run m ρ)

end Cert.Fwd

end
-- ==== Proof.MixInValue.lean ====
module

public import proofs.«01_k».proof.Proof.Gen.MixInIdeal.Value
public import Idealize.ShloMosaic.Lib.Pipeline.ValueKit

@[expose] public section

set_option maxRecDepth 16384

noncomputable section

/-! The mixer's projections: what the kernel's arrays hold, from its arguments. -/
namespace Cert.MixInIdeal.Value

open Idealize.ShloMosaic Idealize.ShloMosaic.TcCoe Idealize.SL.Sem
open Idealize.ShloMosaic.Pipeline (Dat)
open Cert.MixInIdeal Cert.MixInIdeal.Gen

/-- One entry of a normed row: the entry, over the root of the row's mean square and a small constant, times the gain. -/
def nrm (r : Fin 1024 → EReal) (g : Fin 1024 → EReal) (d : Fin 1024) : EReal :=
  r d * Ideal.rsqrt (Ideal.div (∑ k, r k * r k) (Ideal.ofBits .f32 0x44800000#32) + Ideal.ofBits .f32 0x358637BD#32) * g d

variable (m : (ℓ : Loc nD τ sig) → Buf (Elt Ideal) ℓ)

/-- The normed block that the body computes. -/
theorem norm_block (x0 : FVec Ideal S1024x1024 .f32) (x1 : FVec Ideal S1x1024 .f32) (i d : Fin 1024) :
    k0_pay6 (F := Ideal) x0 x1 (ix2 i d) = nrm (fun k => x0 (ix2 i k)) (fun k => x1 (ix2 0 k)) d := by
  pointwise [k0_pay6, nrm]

/-- Where the blocks of each window lie at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The normed block that the body stores. -/
theorem out_norm (x0 : FVec Ideal S1024x1024 .f32) (x1 : FVec Ideal S1x1024 .f32) (x2 : FVec Ideal S2304x1024 .bf16) (i d : Fin 1024) :
    out0_3 (F := Ideal) x0 x1 x2 (ix2 i d) = nrm (fun k => x0 (ix2 i k)) (fun k => x1 (ix2 0 k)) d := by
  unfold out0_3; frame_out; pointwise [k0_pay7, norm_block]

/-- The block of the columns from 0 on that the body stores. -/
theorem out_4 (x0 : FVec Ideal S1024x1024 .f32) (x1 : FVec Ideal S1x1024 .f32) (x2 : FVec Ideal S2304x1024 .bf16)
    (i : Fin 1024) (k : Fin 512) : out0_4 (F := Ideal) x0 x1 x2 (ix2 i k)
      = ∑ d, nrm (fun k => x0 (ix2 i k)) (fun k => x1 (ix2 0 k)) d * x2 (ix2 ⟨0 + k.val, by omega⟩ d) := by
  unfold out0_4; frame_out; pointwise [k0_pay8, norm_block]

/-- The block of the columns from 512 on that the body stores. -/
theorem out_5 (x0 : FVec Ideal S1024x1024 .f32) (x1 : FVec Ideal S1x1024 .f32) (x2 : FVec Ideal S2304x1024 .bf16)
    (i : Fin 1024) (k : Fin 128) : out0_5 (F := Ideal) x0 x1 x2 (ix2 i k)
      = ∑ d, nrm (fun k => x0 (ix2 i k)) (fun k => x1 (ix2 0 k)) d * x2 (ix2 ⟨512 + k.val, by omega⟩ d) := by
  unfold out0_5 k0_pay11; frame_out; pointwise [k0_pay4, k0_pay3, norm_block]

/-- The block of the columns from 640 on that the body stores. -/
theorem out_6 (x0 : FVec Ideal S1024x1024 .f32) (x1 : FVec Ideal S1x1024 .f32) (x2 : FVec Ideal S2304x1024 .bf16)
    (i : Fin 1024) (k : Fin 128) : out0_6 (F := Ideal) x0 x1 x2 (ix2 i k)
      = ∑ d, nrm (fun k => x0 (ix2 i k)) (fun k => x1 (ix2 0 k)) d * x2 (ix2 ⟨640 + k.val, by omega⟩ d) := by
  unfold out0_6 k0_pay11; frame_out; pointwise [k0_pay5, k0_pay3, norm_block]
  exact Finset.sum_congr rfl fun d _ => congrArg (fun z => _ * x2 (ix2 z d)) (Fin.ext (by show 512 + (128 + k.val) = 640 + k.val; omega))

/-- The block of the columns from 768 on that the body stores. -/
theorem out_7 (x0 : FVec Ideal S1024x1024 .f32) (x1 : FVec Ideal S1x1024 .f32) (x2 : FVec Ideal S2304x1024 .bf16)
    (i : Fin 1024) (k : Fin 512) : out0_7 (F := Ideal) x0 x1 x2 (ix2 i k)
      = ∑ d, nrm (fun k => x0 (ix2 i k)) (fun k => x1 (ix2 0 k)) d * x2 (ix2 ⟨768 + k.val, by omega⟩ d) := by
  unfold out0_7; frame_out; pointwise [k0_pay9, norm_block]

/-- The block of the columns from 1280 on that the body stores. -/
theorem out_8 (x0 : FVec Ideal S1024x1024 .f32) (x1 : FVec Ideal S1x1024 .f32) (x2 : FVec Ideal S2304x1024 .bf16)
    (i : Fin 1024) (k : Fin 512) : out0_8 (F := Ideal) x0 x1 x2 (ix2 i k)
      = ∑ d, nrm (fun k => x0 (ix2 i k)) (fun k => x1 (ix2 0 k)) d * x2 (ix2 ⟨1280 + k.val, by omega⟩ d) := by
  unfold out0_8 k0_pay11; frame_out; pointwise [k0_pay1, k0_pay10, norm_block]

/-- The block of the columns from 1792 on that the body stores. -/
theorem out_9 (x0 : FVec Ideal S1024x1024 .f32) (x1 : FVec Ideal S1x1024 .f32) (x2 : FVec Ideal S2304x1024 .bf16)
    (i : Fin 1024) (k : Fin 512) : out0_9 (F := Ideal) x0 x1 x2 (ix2 i k)
      = ∑ d, nrm (fun k => x0 (ix2 i k)) (fun k => x1 (ix2 0 k)) d * x2 (ix2 ⟨1792 + k.val, by omega⟩ d) := by
  unfold out0_9 k0_pay11; frame_out; pointwise [k0_pay2, norm_block]

/-- The host hands over the weight transposed. -/
theorem V_w (c : Dev nD) (z : Fin 2304) (d : Fin 1024) : (show FVec Ideal S2304x1024 .bf16 from V m c main_v1) (ix2 z d)
    = (show FVec Ideal S1024x2304 .f32 from m ((c : Thread nD τ).loc main_arg2)) (ix2 d z) := by
  have e : V m c main_v1 = truncf .bf16 (transpose S2304x1024 [1, 0] (show FVec Ideal S1024x2304 .f32 from m ((c : Thread nD τ).loc main_arg2))
      transposes_S1024x2304_S2304x1024_1_0) bitsLt_bf16_f32 := by
    unfold V; after_results_simp
  rw [e]
  pointwise []

/-- A row of the block at a point is a row of the array. -/
theorem row_lt (t : Fin cfg0.N) (i : Fin 1024) : 1024 * t.val + i.val < 8192 := by
  have : t.val < 8 := Nat.lt_of_lt_of_eq t.isLt N_0
  omega

/-- A block of the input. -/
theorem blk_x (c : Dev nD) (t : Fin cfg0.N) (i d : Fin 1024) : (show FVec Ideal S1024x1024 .f32 from iblk m c 0 t) (ix2 i d)
    = (show FVec Ideal S8192x1024 .f32 from m ((c : Thread nD τ).loc main_arg0)) (ix2 ⟨1024 * t.val + i.val, row_lt t i⟩ d) := by
  rw [← V_main_arg0 m c]; blk_point [iblk, idx t]

/-- The gain's block. -/
theorem blk_g (c : Dev nD) (t : Fin cfg0.N) (d : Fin 1024) : (show FVec Ideal S1x1024 .f32 from iblk m c 1 t) (ix2 0 d)
    = (show FVec Ideal S1x1024 .f32 from m ((c : Thread nD τ).loc main_arg1)) (ix2 0 d) := by
  rw [← V_main_arg1 m c]; blk_point [iblk, idx t]

/-- The weight's block. -/
theorem blk_w (c : Dev nD) (t : Fin cfg0.N) (z : Fin 2304) (d : Fin 1024) : (show FVec Ideal S2304x1024 .bf16 from iblk m c 2 t) (ix2 z d)
    = (show FVec Ideal S1024x2304 .f32 from m ((c : Thread nD τ).loc main_arg2)) (ix2 d z) := by
  rw [← V_w m c]; blk_point [iblk, idx t]

/-- A normed entry, from arrays. -/
def normed (X : FVec Ideal S8192x1024 .f32) (G : FVec Ideal S1x1024 .f32) (n : Fin 8192) (d : Fin 1024) : EReal :=
  nrm (fun k => X (ix2 n k)) (fun k => G (ix2 0 k)) d

/-- A projected entry, from arrays. -/
def proj (X : FVec Ideal S8192x1024 .f32) (G : FVec Ideal S1x1024 .f32) (W : FVec Ideal S1024x2304 .f32) (n : Fin 8192) (z : Fin 2304) : EReal :=
  ∑ d, normed X G n d * W (ix2 d z)

/-- A normed entry, from a device's arguments. -/
abbrev hn (c : Dev nD) : Fin 8192 → Fin 1024 → EReal := normed (m ((c : Thread nD τ).loc main_arg0)) (m ((c : Thread nD τ).loc main_arg1))

/-- A projected entry, from a device's arguments. -/
abbrev pr (c : Dev nD) : Fin 8192 → Fin 2304 → EReal := proj (m ((c : Thread nD τ).loc main_arg0)) (m ((c : Thread nD τ).loc main_arg1))
  (m ((c : Thread nD τ).loc main_arg2))

/-- A block's normed entry is the array's. -/
theorem normed_block (c : Dev nD) (t : Fin cfg0.N) (i d : Fin 1024) :
    nrm (fun k => (show FVec Ideal S1024x1024 .f32 from iblk m c 0 t) (ix2 i k)) (fun k => (show FVec Ideal S1x1024 .f32 from iblk m c 1 t) (ix2 0 k)) d
      = hn m c ⟨1024 * t.val + i.val, row_lt t i⟩ d :=
  congrArg₂ (fun r g => nrm r g d) (funext fun k => blk_x m c t i k) (funext fun k => blk_g m c t k)

/-- An array from its entries. -/
def whole (f : Fin 8192 → Fin 1024 → EReal) : FVec Ideal S8192x1024 .bf16 := fun y => f (y 0) (y 1)

/-- 512 columns of a product. -/
def cols512 (o : ℕ) (h : o + 512 ≤ 2304) (f : Fin 8192 → Fin 2304 → EReal) : FVec Ideal S8192x512 .bf16 := fun y =>
  f (y 0) ⟨o + (y 1).val, by have h : (y 1).val < 512 := (y 1).isLt; omega⟩

/-- 128 columns of a product. -/
def cols128 (o : ℕ) (h : o + 128 ≤ 2304) (f : Fin 8192 → Fin 2304 → EReal) : FVec Ideal S8192x128 .bf16 := fun y =>
  f (y 0) ⟨o + (y 1).val, by have h : (y 1).val < 128 := (y 1).isLt; omega⟩

/-- The normed rows that the kernel leaves. -/
theorem final_norm (c : Dev nD) : (dats m 0 c).arrAt 3 (cfgs 0).N = whole (hn m c) := by
  refine (dats m 0 c).arrAt_eq_of_covers 3 _ (by decide +kernel) fun t hf y => ?_
  blk_simp
  obtain ⟨i, k, rfl⟩ : ∃ (i : Fin 1024) (k : Fin 1024), y = ix2 i k := ⟨y 0, y 1, by blk_ext⟩
  have e : (win0_3.blk t).view.emb (ix2 i k) = ix2 ⟨1024 * t.val + i.val, row_lt t i⟩ k := by
    funext a; refine Fin.ext ?_; revert a; refine Fin.forall_fin_two.mpr ⟨?_, ?_⟩
    · blk_simp [idx t]; show t.val * 1024 + i.val = 1024 * t.val + i.val; omega
    · blk_simp [idx t] <;> try rfl
  rw [after0_3, e]
  exact (out_norm _ _ _ i k).trans (normed_block m c t i k)

/-- The columns from 0 on that the kernel leaves. -/
theorem final_4 (c : Dev nD) : (dats m 0 c).arrAt 4 (cfgs 0).N
    = cols512 0 (by omega) (pr m c) := by
  refine (dats m 0 c).arrAt_eq_of_covers 4 _ (by decide +kernel) fun t hf y => ?_
  blk_simp
  obtain ⟨i, k, rfl⟩ : ∃ (i : Fin 1024) (k : Fin 512), y = ix2 i k := ⟨y 0, y 1, by blk_ext⟩
  have e : (win0_4.blk t).view.emb (ix2 i k) = ix2 ⟨1024 * t.val + i.val, row_lt t i⟩ k := by
    funext a; refine Fin.ext ?_; revert a; refine Fin.forall_fin_two.mpr ⟨?_, ?_⟩
    · blk_simp [idx t]; show t.val * 1024 + i.val = 1024 * t.val + i.val; omega
    · blk_simp [idx t] <;> try rfl
  rw [after0_4, e]
  exact (out_4 _ _ _ i k).trans (Finset.sum_congr rfl fun d _ => congrArg₂ (· * ·) (normed_block m c t i d) (blk_w m c t _ d))

/-- The columns from 512 on that the kernel leaves. -/
theorem final_5 (c : Dev nD) : (dats m 0 c).arrAt 5 (cfgs 0).N
    = cols128 512 (by omega) (pr m c) := by
  refine (dats m 0 c).arrAt_eq_of_covers 5 _ (by decide +kernel) fun t hf y => ?_
  blk_simp
  obtain ⟨i, k, rfl⟩ : ∃ (i : Fin 1024) (k : Fin 128), y = ix2 i k := ⟨y 0, y 1, by blk_ext⟩
  have e : (win0_5.blk t).view.emb (ix2 i k) = ix2 ⟨1024 * t.val + i.val, row_lt t i⟩ k := by
    funext a; refine Fin.ext ?_; revert a; refine Fin.forall_fin_two.mpr ⟨?_, ?_⟩
    · blk_simp [idx t]; show t.val * 1024 + i.val = 1024 * t.val + i.val; omega
    · blk_simp [idx t] <;> try rfl
  rw [after0_5, e]
  exact (out_5 _ _ _ i k).trans (Finset.sum_congr rfl fun d _ => congrArg₂ (· * ·) (normed_block m c t i d) (blk_w m c t _ d))

/-- The columns from 640 on that the kernel leaves. -/
theorem final_6 (c : Dev nD) : (dats m 0 c).arrAt 6 (cfgs 0).N
    = cols128 640 (by omega) (pr m c) := by
  refine (dats m 0 c).arrAt_eq_of_covers 6 _ (by decide +kernel) fun t hf y => ?_
  blk_simp
  obtain ⟨i, k, rfl⟩ : ∃ (i : Fin 1024) (k : Fin 128), y = ix2 i k := ⟨y 0, y 1, by blk_ext⟩
  have e : (win0_6.blk t).view.emb (ix2 i k) = ix2 ⟨1024 * t.val + i.val, row_lt t i⟩ k := by
    funext a; refine Fin.ext ?_; revert a; refine Fin.forall_fin_two.mpr ⟨?_, ?_⟩
    · blk_simp [idx t]; show t.val * 1024 + i.val = 1024 * t.val + i.val; omega
    · blk_simp [idx t] <;> try rfl
  rw [after0_6, e]
  exact (out_6 _ _ _ i k).trans (Finset.sum_congr rfl fun d _ => congrArg₂ (· * ·) (normed_block m c t i d) (blk_w m c t _ d))

/-- The columns from 768 on that the kernel leaves. -/
theorem final_7 (c : Dev nD) : (dats m 0 c).arrAt 7 (cfgs 0).N
    = cols512 768 (by omega) (pr m c) := by
  refine (dats m 0 c).arrAt_eq_of_covers 7 _ (by decide +kernel) fun t hf y => ?_
  blk_simp
  obtain ⟨i, k, rfl⟩ : ∃ (i : Fin 1024) (k : Fin 512), y = ix2 i k := ⟨y 0, y 1, by blk_ext⟩
  have e : (win0_7.blk t).view.emb (ix2 i k) = ix2 ⟨1024 * t.val + i.val, row_lt t i⟩ k := by
    funext a; refine Fin.ext ?_; revert a; refine Fin.forall_fin_two.mpr ⟨?_, ?_⟩
    · blk_simp [idx t]; show t.val * 1024 + i.val = 1024 * t.val + i.val; omega
    · blk_simp [idx t] <;> try rfl
  rw [after0_7, e]
  exact (out_7 _ _ _ i k).trans (Finset.sum_congr rfl fun d _ => congrArg₂ (· * ·) (normed_block m c t i d) (blk_w m c t _ d))

/-- The columns from 1280 on that the kernel leaves. -/
theorem final_8 (c : Dev nD) : (dats m 0 c).arrAt 8 (cfgs 0).N
    = cols512 1280 (by omega) (pr m c) := by
  refine (dats m 0 c).arrAt_eq_of_covers 8 _ (by decide +kernel) fun t hf y => ?_
  blk_simp
  obtain ⟨i, k, rfl⟩ : ∃ (i : Fin 1024) (k : Fin 512), y = ix2 i k := ⟨y 0, y 1, by blk_ext⟩
  have e : (win0_8.blk t).view.emb (ix2 i k) = ix2 ⟨1024 * t.val + i.val, row_lt t i⟩ k := by
    funext a; refine Fin.ext ?_; revert a; refine Fin.forall_fin_two.mpr ⟨?_, ?_⟩
    · blk_simp [idx t]; show t.val * 1024 + i.val = 1024 * t.val + i.val; omega
    · blk_simp [idx t] <;> try rfl
  rw [after0_8, e]
  exact (out_8 _ _ _ i k).trans (Finset.sum_congr rfl fun d _ => congrArg₂ (· * ·) (normed_block m c t i d) (blk_w m c t _ d))

/-- The columns from 1792 on that the kernel leaves. -/
theorem final_9 (c : Dev nD) : (dats m 0 c).arrAt 9 (cfgs 0).N
    = cols512 1792 (by omega) (pr m c) := by
  refine (dats m 0 c).arrAt_eq_of_covers 9 _ (by decide +kernel) fun t hf y => ?_
  blk_simp
  obtain ⟨i, k, rfl⟩ : ∃ (i : Fin 1024) (k : Fin 512), y = ix2 i k := ⟨y 0, y 1, by blk_ext⟩
  have e : (win0_9.blk t).view.emb (ix2 i k) = ix2 ⟨1024 * t.val + i.val, row_lt t i⟩ k := by
    funext a; refine Fin.ext ?_; revert a; refine Fin.forall_fin_two.mpr ⟨?_, ?_⟩
    · blk_simp [idx t]; show t.val * 1024 + i.val = 1024 * t.val + i.val; omega
    · blk_simp [idx t] <;> try rfl
  rw [after0_9, e]
  exact (out_9 _ _ _ i k).trans (Finset.sum_congr rfl fun d _ => congrArg₂ (· * ·) (normed_block m c t i d) (blk_w m c t _ d))

end Cert.MixInIdeal.Value

end
-- ==== Proof.MixIn.lean ====
module

public import proofs.«01_k».proof.Defs
public import proofs.«01_k».proof.Proof.MixInValue
public import proofs.«01_k».proof.Proof.Gen.MixIn.Frame
public import proofs.«01_k».proof.Proof.Gen.MixInRefIdeal.Run

@[expose] public section

set_option maxRecDepth 16384

noncomputable section

/-! The mixer's projections: the kernel against the reference. -/
namespace Cert.MixIn.Claims

open Idealize.ShloMosaic Idealize.ShloMosaic.TcCoe Idealize.SL.Sem
open Cert.MixInIdeal.Value (whole cols512 cols128 normed proj nrm)

/-- The normed rows and the six groups of columns of their product with the weight are the same arrays from the kernel
    and from the reference. -/
theorem algebraic : Cert.algebraic_MixInIdeal_MixInRefIdeal := by
  pair_intro
  · run_from Cert.MixInIdeal.Value.run_blocks m g
  · refine θ_run_mono (Cert.MixInRefIdeal.Value.run m' g') fun r hr c => ?_
    obtain ⟨h0, h1, h2⟩ := hagree c
    obtain ⟨e0, e1, e2, e3, e4, e5, e6, hr⟩ := hr c
    rw [h0, h1] at e0
    rw [h0, h1, h2] at e1 e2 e3 e4 e5 e6
    refine ⟨e0.trans ?_, e1.trans ?_, e2.trans ?_, e3.trans ?_, e4.trans ?_, e5.trans ?_, e6.trans ?_, hr⟩
    · rw [Cert.MixInIdeal.Value.final_norm m c]
      funext j
      pointwise [whole, normed, nrm]
    · rw [Cert.MixInIdeal.Value.final_4 m c]
      funext j
      pointwise [cols512, proj, normed, nrm]
    · rw [Cert.MixInIdeal.Value.final_5 m c]
      funext j
      pointwise [cols128, proj, normed, nrm]
    · rw [Cert.MixInIdeal.Value.final_6 m c]
      funext j
      pointwise [cols128, proj, normed, nrm]
    · rw [Cert.MixInIdeal.Value.final_7 m c]
      funext j
      pointwise [cols512, proj, normed, nrm]
    · rw [Cert.MixInIdeal.Value.final_8 m c]
      funext j
      pointwise [cols512, proj, normed, nrm]
    · rw [Cert.MixInIdeal.Value.final_9 m c]
      funext j
      pointwise [cols512, proj, normed, nrm]

/-- The kernel at its own floats runs to its end and leaves its arguments as they were. -/
theorem frame : Cert.quiescent_MixIn := fun m ρ _ => Cert.MixIn.Gen.frame m ρ

/-- The same of the ideal program. -/
theorem frame_ideal : Cert.quiescent_MixInIdeal := fun m ρ _ => Cert.MixInIdeal.Gen.frame m ρ

/-- The same of the reference. -/
theorem frame_reference : Cert.quiescent_MixInRefIdeal := fun m ρ _ =>
  (θ_run Cert.MixInRefIdeal.defs _ _).mono (fun r h => ⟨fun c => (h c).2.2.2.2.2.2.2, sem_eq_zero_of_no_sems (by decide) r.2⟩)
    (Cert.MixInRefIdeal.Value.run m ρ)

end Cert.MixIn.Claims

end
-- ==== Proof.RowPieces.lean ====
module

public import Idealize.ShloMosaic.Lib.Pipeline.ReadBack
public import Idealize.ShloMosaic.Lib.Pipeline.ValueKit

@[expose] public section

set_option maxRecDepth 16384

noncomputable section

/-! Groups of whole rows, or of whole columns, that a body stores into a matrix, and reads of them. -/
namespace Cert.Rows

open Idealize.ShloMosaic Idealize.ShloMosaic.TcCoe

variable {M W o n : ℕ} {e : EltTy}

/-- An index inside the last stored group of rows reads what was stored, at the row within the group. -/
theorem hit (inb : ∀ a, (![o, 0] : Fin 2 → ℕ) a + (![n, W] : Fin 2 → ℕ) a ≤ (⟨2, ![M, W]⟩ : Shape).size a)
    (q : (⟨2, ![n, W]⟩ : Shape).Idx → Elt Ideal e) (L : List (View.Piece (Elt Ideal) (⟨2, ![M, W]⟩ : Shape) e))
    (j0 : Fin M) (j1 : Fin W) (k : Fin n) (h : j0.val = o + k.val) :
    View.canon (Val := Elt Ideal) (s := ⟨2, ![M, W]⟩) (e := e) (⟨Rect.unit ![o, 0] ![n, W] inb, q⟩ :: L) (ix2 j0 j1)
      = q (ix2 k j1) := by
  have hj : (ix2 j0 j1 : (⟨2, ![M, W]⟩ : Shape).Idx)
      = (Rect.unit (s := ⟨2, ![M, W]⟩) ![o, 0] ![n, W] inb).emb (ix2 k j1) := by
    funext a
    fin_cases a
    · exact Fin.ext (by show j0.val = o + 1 * k.val; omega)
    · exact Fin.ext (by show j1.val = 0 + 1 * j1.val; omega)
  rw [hj]
  exact View.canon_cons_emb _ _ _ _

/-- An index outside the last stored group of rows reads what the stores before it left. -/
theorem miss (inb : ∀ a, (![o, 0] : Fin 2 → ℕ) a + (![n, W] : Fin 2 → ℕ) a ≤ (⟨2, ![M, W]⟩ : Shape).size a)
    (q : (⟨2, ![n, W]⟩ : Shape).Idx → Elt Ideal e) (L : List (View.Piece (Elt Ideal) (⟨2, ![M, W]⟩ : Shape) e))
    (j0 : Fin M) (j1 : Fin W) (h : j0.val < o ∨ o + n ≤ j0.val) :
    View.canon (Val := Elt Ideal) (s := ⟨2, ![M, W]⟩) (e := e) (⟨Rect.unit ![o, 0] ![n, W] inb, q⟩ :: L) (ix2 j0 j1)
      = View.canon (Val := Elt Ideal) (s := ⟨2, ![M, W]⟩) (e := e) L (ix2 j0 j1) := by
  refine View.canon_cons_of_not_mem _ _ fun hm => ?_
  obtain ⟨h1, h2⟩ := (Rect.mem_set_unit (s := ⟨2, ![M, W]⟩) (inb := inb) (i := ix2 j0 j1)).mp hm (0 : Fin 2)
  change o ≤ j0.val at h1
  change j0.val < o + n at h2
  omega

/-- A load of a group of rows reads the matrix at the rows of the group. -/
theorem load (inb : ∀ a, (![o, 0] : Fin 2 → ℕ) a + (![n, W] : Fin 2 → ℕ) a ≤ (⟨2, ![M, W]⟩ : Shape).size a)
    (x : (⟨2, ![M, W]⟩ : Shape).Idx → Elt Ideal e) (j0 : Fin M) (j1 : Fin W) (k : Fin n) (h : j0.val = o + k.val) :
    View.ld (Val := Elt Ideal) (e' := e) x (Rect.unit (s := ⟨2, ![M, W]⟩) ![o, 0] ![n, W] inb) (ix2 k j1) = x (ix2 j0 j1) := by
  refine congrArg x ?_
  funext a
  fin_cases a
  · exact Fin.ext (by show o + 1 * k.val = j0.val; omega)
  · exact Fin.ext (by show 0 + 1 * j1.val = j1.val; omega)

/-- A load of the whole matrix after stores reads what the stores left. -/
theorem reread {sig : RefSig} {κ : Kind} {sp : Space} (v : View sig κ sp (⟨2, ![M, W]⟩ : Shape) e)
    (inb : ∀ a, (![0, 0] : Fin 2 → ℕ) a + (![M, W] : Fin 2 → ℕ) a ≤ (⟨2, ![M, W]⟩ : Shape).size a)
    (L : List (View.Piece (Elt Ideal) (⟨2, ![M, W]⟩ : Shape) e)) (j0 : Fin M) (j1 : Fin W) :
    v.readCov (Val := Elt Ideal) L (Rect.unit (s := ⟨2, ![M, W]⟩) ![0, 0] ![M, W] inb).toLoadRect (ix2 j0 j1)
      = View.canon (Val := Elt Ideal) (s := ⟨2, ![M, W]⟩) (e := e) L (ix2 j0 j1) := by
  rw [View.readCov_eq_canon']
  refine congrArg (View.canon L) ?_
  funext a
  fin_cases a
  · exact Fin.ext (by show 0 + 1 * j0.val = j0.val; omega)
  · exact Fin.ext (by show 0 + 1 * j1.val = j1.val; omega)

/-- An index inside the last stored group of columns reads what was stored, at the column within the group. -/
theorem colHit (inb : ∀ a, (![0, o] : Fin 2 → ℕ) a + (![M, n] : Fin 2 → ℕ) a ≤ (⟨2, ![M, W]⟩ : Shape).size a)
    (q : (⟨2, ![M, n]⟩ : Shape).Idx → Elt Ideal e) (L : List (View.Piece (Elt Ideal) (⟨2, ![M, W]⟩ : Shape) e))
    (j0 : Fin M) (j1 : Fin W) (k : Fin n) (h : j1.val = o + k.val) :
    View.canon (Val := Elt Ideal) (s := ⟨2, ![M, W]⟩) (e := e) (⟨Rect.unit ![0, o] ![M, n] inb, q⟩ :: L) (ix2 j0 j1)
      = q (ix2 j0 k) := by
  have hj : (ix2 j0 j1 : (⟨2, ![M, W]⟩ : Shape).Idx)
      = (Rect.unit (s := ⟨2, ![M, W]⟩) ![0, o] ![M, n] inb).emb (ix2 j0 k) := by
    funext a
    fin_cases a
    · exact Fin.ext (by show j0.val = 0 + 1 * j0.val; omega)
    · exact Fin.ext (by show j1.val = o + 1 * k.val; omega)
  rw [hj]
  exact View.canon_cons_emb _ _ _ _

/-- An index before the last stored group of columns reads what the stores before it left. -/
theorem colMiss (inb : ∀ a, (![0, o] : Fin 2 → ℕ) a + (![M, n] : Fin 2 → ℕ) a ≤ (⟨2, ![M, W]⟩ : Shape).size a)
    (q : (⟨2, ![M, n]⟩ : Shape).Idx → Elt Ideal e) (L : List (View.Piece (Elt Ideal) (⟨2, ![M, W]⟩ : Shape) e))
    (j0 : Fin M) (j1 : Fin W) (h : j1.val < o) :
    View.canon (Val := Elt Ideal) (s := ⟨2, ![M, W]⟩) (e := e) (⟨Rect.unit ![0, o] ![M, n] inb, q⟩ :: L) (ix2 j0 j1)
      = View.canon (Val := Elt Ideal) (s := ⟨2, ![M, W]⟩) (e := e) L (ix2 j0 j1) := by
  refine View.canon_cons_of_not_mem _ _ fun hm => ?_
  obtain ⟨h1, h2⟩ := (Rect.mem_set_unit (s := ⟨2, ![M, W]⟩) (inb := inb) (i := ix2 j0 j1)).mp hm (1 : Fin 2)
  change o ≤ j1.val at h1
  omega

end Cert.Rows

end
-- ==== Proof.MixGradValue.lean ====
module

public import proofs.«01_k».proof.Proof.Gen.MixGradIdeal.Value
public import proofs.«01_k».proof.Proof.RowPieces
public import Idealize.ShloMosaic.Lib.Pipeline.ValueKit

@[expose] public section

set_option maxRecDepth 16384

noncomputable section

/-! The gradient of the mixer's projection weight: what the kernel's array holds, from its arguments. -/
namespace Cert.MixGradIdeal.Value

open Idealize.ShloMosaic Idealize.ShloMosaic.TcCoe Idealize.SL.Sem
open Idealize.ShloMosaic.Pipeline (Dat)
open Cert.MixGradIdeal Cert.MixGradIdeal.Gen

variable (m : (ℓ : Loc nD τ sig) → Buf (Elt Ideal) ℓ)

/-- Two rows of 128 entries, one after the other. -/
def two (k v : Fin 128 → EReal) (z : Fin 256) : EReal :=
  if h : z.val < 128 then k ⟨z.val, h⟩ else v ⟨z.val - 128, by omega⟩

/-- Six rows one after the other: the entry at a place. -/
def six (q : Fin 512 → EReal) (k v : Fin 128 → EReal) (u b c : Fin 512 → EReal) (z : Fin 2304) : EReal :=
  if h : z.val < 512 then q ⟨z.val, h⟩
  else if h2 : z.val < 768 then two k v ⟨z.val - 512, by omega⟩
  else if h3 : z.val < 1280 then u ⟨z.val - 768, by omega⟩
  else if h4 : z.val < 1792 then b ⟨z.val - 1280, by omega⟩
  else c ⟨z.val - 1792, by omega⟩

/-- Equal rows give equal entries. -/
theorem six_congr {q q' : Fin 512 → EReal} {k k' v v' : Fin 128 → EReal} {u u' b b' c c' : Fin 512 → EReal} (z : Fin 2304)
    (hq : ∀ i, q i = q' i) (hk : ∀ i, k i = k' i) (hv : ∀ i, v i = v' i) (hu : ∀ i, u i = u' i) (hb : ∀ i, b i = b' i)
    (hc : ∀ i, c i = c' i) : six q k v u b c z = six q' k' v' u' b' c' z := by
  rw [funext hq, funext hk, funext hv, funext hu, funext hb, funext hc]

/-- Store `k0_pay9`: what was there plus a product over the block's rows. -/
theorem pay9_apply (acc : FVec Ideal S512x1024 .f32) (hn : FVec Ideal S1024x1024 .bf16) (a : FVec Ideal S1024x512 .bf16) (i : Fin 512) (j : Fin 1024) :
    k0_pay9 (F := Ideal) hn acc a (ix2 i j) = acc (ix2 i j) + ∑ k : Fin 1024, a (ix2 k i) * hn (ix2 k j) := by
  pointwise [k0_pay9]

/-- Store `k0_pay8`: what was there plus a product over the block's rows. -/
theorem pay8_apply (acc : FVec Ideal S256x1024 .f32) (hn : FVec Ideal S1024x1024 .bf16) (a : FVec Ideal S1024x256 .bf16) (i : Fin 256) (j : Fin 1024) :
    k0_pay8 (F := Ideal) hn acc a (ix2 i j) = acc (ix2 i j) + ∑ k : Fin 1024, a (ix2 k i) * hn (ix2 k j) := by
  pointwise [k0_pay8]

/-- Store `k0_pay1`: what was there plus a product over the block's rows. -/
theorem pay1_apply (acc : FVec Ideal S512x1024 .f32) (hn : FVec Ideal S1024x1024 .bf16) (a : FVec Ideal S1024x512 .bf16) (i : Fin 512) (j : Fin 1024) :
    k0_pay1 (F := Ideal) hn acc a (ix2 i j) = acc (ix2 i j) + ∑ k : Fin 1024, a (ix2 k i) * hn (ix2 k j) := by
  pointwise [k0_pay1]

/-- Store `k0_pay2`: what was there plus a product over the block's rows. -/
theorem pay2_apply (acc : FVec Ideal S512x1024 .f32) (hn : FVec Ideal S1024x1024 .bf16) (a : FVec Ideal S1024x512 .bf16) (i : Fin 512) (j : Fin 1024) :
    k0_pay2 (F := Ideal) hn acc a (ix2 i j) = acc (ix2 i j) + ∑ k : Fin 1024, a (ix2 k i) * hn (ix2 k j) := by
  pointwise [k0_pay2]

/-- Store `k0_pay3`: what was there plus a product over the block's rows. -/
theorem pay3_apply (acc : FVec Ideal S512x1024 .f32) (hn : FVec Ideal S1024x1024 .bf16) (a : FVec Ideal S1024x512 .bf16) (i : Fin 512) (j : Fin 1024) :
    k0_pay3 (F := Ideal) hn acc a (ix2 i j) = acc (ix2 i j) + ∑ k : Fin 1024, a (ix2 k i) * hn (ix2 k j) := by
  pointwise [k0_pay3]

/-- What one point adds to the accumulator. -/
def part (c : Dev nD) (p : Fin cfg0.N) (z : Fin 2304) (d : Fin 1024) : EReal :=
  ∑ n : Fin 1024, six (fun i => (show FVec Ideal S1024x512 .bf16 from iblk m c 1 p) (ix2 n i)) (fun i => (show FVec Ideal S1024x128 .bf16 from iblk m c 2 p) (ix2 n i))
      (fun i => (show FVec Ideal S1024x128 .bf16 from iblk m c 3 p) (ix2 n i)) (fun i => (show FVec Ideal S1024x512 .bf16 from iblk m c 4 p) (ix2 n i))
      (fun i => (show FVec Ideal S1024x512 .bf16 from iblk m c 5 p) (ix2 n i)) (fun i => (show FVec Ideal S1024x512 .bf16 from iblk m c 6 p) (ix2 n i)) z
    * (show FVec Ideal S1024x1024 .bf16 from iblk m c 0 p) (ix2 n d)

/-- The stage of the two narrow blocks, read back. -/
theorem stage_apply (K V : FVec Ideal S1024x128 .bf16) (n : Fin 1024) (i : Fin 256) :
    View.readCov (Val := Elt Ideal) (s := S1024x256) (e := .bf16) (View.whole cc0_scratch1)
        [⟨Rect.unit ![0, 128] ![1024, 128] inb_S1024x256_S1024x128_0_128, k0_pay7 (F := Ideal) V⟩,
          ⟨Rect.unit ![0, 0] ![1024, 128] inb_S1024x256_S1024x128_0_0, k0_pay6 (F := Ideal) K⟩]
        (Rect.unit (s := S1024x256) ![0, 0] ![1024, 256] inb_S1024x256_S1024x256_0_0).toLoadRect (ix2 n i)
      = two (fun i => K (ix2 n i)) (fun i => V (ix2 n i)) i := by
  refine (Rows.reread (M := 1024) (W := 256) _ _ _ n i).trans ?_
  by_cases h : i.val < 128
  · refine (Rows.colMiss (M := 1024) (W := 256) _ _ _ n i h).trans ?_
    refine (Rows.colHit (M := 1024) (W := 256) _ _ _ n i (⟨i.val, h⟩ : Fin 128) (Nat.zero_add _).symm).trans ?_
    refine Eq.trans ?_ (dif_pos h).symm
    pointwise [k0_pay6]
  · refine (Rows.colHit (M := 1024) (W := 256) _ _ _ n i (⟨i.val - 128, by omega⟩ : Fin 128) (by show i.val = 128 + (i.val - 128); omega)).trans ?_
    refine Eq.trans ?_ (dif_neg h).symm
    pointwise [k0_pay7]

/-- What a point leaves in the accumulator: what was there plus the product of the block's rows. -/
theorem pieces (acc : FVec Ideal S2304x1024 .f32) (c : Dev nD) (p : Fin cfg0.N) (L : List (View.Piece (Elt Ideal) S2304x1024 .f32))
    (l9 l1 l2 l3 : FVec Ideal S512x1024 .f32) (l8 : FVec Ideal S256x1024 .f32) (kv : FVec Ideal S1024x256 .bf16)
    (h9 : l9 = View.ld (Val := Elt Ideal) (e' := .f32) acc (Rect.unit ![0, 0] ![512, 1024] inb_S2304x1024_S512x1024_0_0))
    (h8 : l8 = View.ld (Val := Elt Ideal) (e' := .f32) acc (Rect.unit ![512, 0] ![256, 1024] inb_S2304x1024_S256x1024_512_0))
    (h1 : l1 = View.ld (Val := Elt Ideal) (e' := .f32) acc (Rect.unit ![768, 0] ![512, 1024] inb_S2304x1024_S512x1024_768_0))
    (h2 : l2 = View.ld (Val := Elt Ideal) (e' := .f32) acc (Rect.unit ![1280, 0] ![512, 1024] inb_S2304x1024_S512x1024_1280_0))
    (h3 : l3 = View.ld (Val := Elt Ideal) (e' := .f32) acc (Rect.unit ![1792, 0] ![512, 1024] inb_S2304x1024_S512x1024_1792_0))
    (hkv : ∀ (n : Fin 1024) (i : Fin 256), kv (ix2 n i) = two (fun i => (show FVec Ideal S1024x128 .bf16 from iblk m c 2 p) (ix2 n i))
      (fun i => (show FVec Ideal S1024x128 .bf16 from iblk m c 3 p) (ix2 n i)) i) (z : Fin 2304) (d : Fin 1024) :
    View.canon (Val := Elt Ideal) (s := S2304x1024) (e := .f32)
      (⟨Rect.unit ![1792, 0] ![512, 1024] inb_S2304x1024_S512x1024_1792_0, k0_pay3 (F := Ideal) (iblk m c 0 p) l3 (iblk m c 6 p)⟩
        :: ⟨Rect.unit ![1280, 0] ![512, 1024] inb_S2304x1024_S512x1024_1280_0, k0_pay2 (F := Ideal) (iblk m c 0 p) l2 (iblk m c 5 p)⟩
        :: ⟨Rect.unit ![768, 0] ![512, 1024] inb_S2304x1024_S512x1024_768_0, k0_pay1 (F := Ideal) (iblk m c 0 p) l1 (iblk m c 4 p)⟩
        :: ⟨Rect.unit ![0, 0] ![512, 1024] inb_S2304x1024_S512x1024_0_0, k0_pay9 (F := Ideal) (iblk m c 0 p) l9 (iblk m c 1 p)⟩
        :: ⟨Rect.unit ![512, 0] ![256, 1024] inb_S2304x1024_S256x1024_512_0, k0_pay8 (F := Ideal) (iblk m c 0 p) l8 kv⟩ :: L) (ix2 z d)
      = acc (ix2 z d) + part m c p z d := by
  unfold part six
  by_cases g1 : z.val < 512
  · refine (Rows.miss (M := 2304) (W := 1024) _ _ _ z d (Or.inl (by omega))).trans ?_
    refine (Rows.miss (M := 2304) (W := 1024) _ _ _ z d (Or.inl (by omega))).trans ?_
    refine (Rows.miss (M := 2304) (W := 1024) _ _ _ z d (Or.inl (by omega))).trans ?_
    refine (Rows.hit (M := 2304) (W := 1024) _ _ _ z d (⟨z.val, g1⟩ : Fin 512) (Nat.zero_add _).symm).trans ?_
    rw [pay9_apply, h9]
    refine congrArg₂ (fun a b : EReal => a + b) (Rows.load (M := 2304) (W := 1024) (n := 512) (e := .f32) _ acc z d (⟨z.val, g1⟩ : Fin 512) (Nat.zero_add _).symm) ?_
    refine Finset.sum_congr rfl fun n _ => congrArg (fun a : EReal => a * _) ?_
    refine Eq.trans ?_ (dif_pos g1).symm
    rfl
  by_cases g2 : z.val < 768
  · refine (Rows.miss (M := 2304) (W := 1024) _ _ _ z d (Or.inl (by omega))).trans ?_
    refine (Rows.miss (M := 2304) (W := 1024) _ _ _ z d (Or.inl (by omega))).trans ?_
    refine (Rows.miss (M := 2304) (W := 1024) _ _ _ z d (Or.inl (by omega))).trans ?_
    refine (Rows.miss (M := 2304) (W := 1024) _ _ _ z d (Or.inr (by omega))).trans ?_
    refine (Rows.hit (M := 2304) (W := 1024) _ _ _ z d (⟨z.val - 512, by omega⟩ : Fin 256) (by show z.val = 512 + (z.val - 512); omega)).trans ?_
    rw [pay8_apply, h8]
    refine congrArg₂ (fun a b : EReal => a + b) (Rows.load (M := 2304) (W := 1024) (n := 256) (e := .f32) _ acc z d (⟨z.val - 512, by omega⟩ : Fin 256) (by show z.val = 512 + (z.val - 512); omega)) ?_
    refine Finset.sum_congr rfl fun n _ => congrArg (fun a : EReal => a * _) ?_
    exact (hkv n _).trans ((dif_neg g1).trans (dif_pos g2)).symm
  by_cases g3 : z.val < 1280
  · refine (Rows.miss (M := 2304) (W := 1024) _ _ _ z d (Or.inl (by omega))).trans ?_
    refine (Rows.miss (M := 2304) (W := 1024) _ _ _ z d (Or.inl (by omega))).trans ?_
    refine (Rows.hit (M := 2304) (W := 1024) _ _ _ z d (⟨z.val - 768, by omega⟩ : Fin 512) (by show z.val = 768 + (z.val - 768); omega)).trans ?_
    rw [pay1_apply, h1]
    refine congrArg₂ (fun a b : EReal => a + b) (Rows.load (M := 2304) (W := 1024) (n := 512) (e := .f32) _ acc z d (⟨z.val - 768, by omega⟩ : Fin 512) (by show z.val = 768 + (z.val - 768); omega)) ?_
    refine Finset.sum_congr rfl fun n _ => congrArg (fun a : EReal => a * _) ?_
    exact ((dif_neg g1).trans ((dif_neg g2).trans (dif_pos g3))).symm
  by_cases g4 : z.val < 1792
  · refine (Rows.miss (M := 2304) (W := 1024) _ _ _ z d (Or.inl (by omega))).trans ?_
    refine (Rows.hit (M := 2304) (W := 1024) _ _ _ z d (⟨z.val - 1280, by omega⟩ : Fin 512) (by show z.val = 1280 + (z.val - 1280); omega)).trans ?_
    rw [pay2_apply, h2]
    refine congrArg₂ (fun a b : EReal => a + b) (Rows.load (M := 2304) (W := 1024) (n := 512) (e := .f32) _ acc z d (⟨z.val - 1280, by omega⟩ : Fin 512) (by show z.val = 1280 + (z.val - 1280); omega)) ?_
    refine Finset.sum_congr rfl fun n _ => congrArg (fun a : EReal => a * _) ?_
    exact ((dif_neg g1).trans ((dif_neg g2).trans ((dif_neg g3).trans (dif_pos g4)))).symm
  · refine (Rows.hit (M := 2304) (W := 1024) _ _ _ z d (⟨z.val - 1792, by omega⟩ : Fin 512) (by show z.val = 1792 + (z.val - 1792); omega)).trans ?_
    rw [pay3_apply, h3]
    refine congrArg₂ (fun a b : EReal => a + b) (Rows.load (M := 2304) (W := 1024) (n := 512) (e := .f32) _ acc z d (⟨z.val - 1792, by omega⟩ : Fin 512) (by show z.val = 1792 + (z.val - 1792); omega)) ?_
    refine Finset.sum_congr rfl fun n _ => congrArg (fun a : EReal => a * _) ?_
    exact ((dif_neg g1).trans ((dif_neg g2).trans ((dif_neg g3).trans (dif_neg g4)))).symm

/-- A point after the first adds its block's product to what the point before it left. -/
theorem later (c : Dev nD) (p : Fin cfg0.N) (hp : ¬ p.val % 8 = 0) (z : Fin 2304) (d : Fin 1024) :
    (outsAt0 m c p.val p.isLt).2 (ix2 z d) = (outsAt0 m c (p.val - 1) (by omega)).2 (ix2 z d) + part m c p z d := by
  by_cases h3 : p.val % 8 = 7
  · rw [outsAt0_C m c p hp h3]; frame_out
    rw [(Memref.isWhole_whole cc0_scratch0).read_unread]
    exact pieces m _ c p _ _ _ _ _ _ _ rfl rfl rfl rfl rfl (fun n i => stage_apply _ _ n i) z d
  · rw [outsAt0_B m c p hp h3]; frame_out
    rw [(Memref.isWhole_whole cc0_scratch0).read_unread]
    exact pieces m _ c p _ _ _ _ _ _ _ rfl rfl rfl rfl rfl (fun n i => stage_apply _ _ n i) z d

/-- The first point adds its block's product to zero. -/
theorem first (c : Dev nD) (p : Fin cfg0.N) (hp : p.val % 8 = 0) (z : Fin 2304) (d : Fin 1024) :
    (outsAt0 m c p.val p.isLt).2 (ix2 z d) = 0 + part m c p z d := by
  rw [outsAt0_A m c p hp (by omega)]; frame_out
  refine (pieces m k0_pay5 c p _ _ _ _ _ _ _ ?_ ?_ ?_ ?_ ?_ (fun n i => stage_apply _ _ n i) z d).trans ?_
  · exact (View.readCov_skip _ _ _ _ _ (by decide)).trans (View.readCov_fill _ _ _ _ _ (by decide))
  · exact View.readCov_fill _ _ _ _ _ (by decide)
  · exact (View.readCov_skip _ _ _ _ _ (by decide)).trans ((View.readCov_skip _ _ _ _ _ (by decide)).trans (View.readCov_fill _ _ _ _ _ (by decide)))
  · exact (View.readCov_skip _ _ _ _ _ (by decide)).trans ((View.readCov_skip _ _ _ _ _ (by decide)).trans ((View.readCov_skip _ _ _ _ _ (by decide)).trans
      (View.readCov_fill _ _ _ _ _ (by decide))))
  · exact (View.readCov_skip _ _ _ _ _ (by decide)).trans ((View.readCov_skip _ _ _ _ _ (by decide)).trans ((View.readCov_skip _ _ _ _ _ (by decide)).trans
      ((View.readCov_skip _ _ _ _ _ (by decide)).trans (View.readCov_fill _ _ _ _ _ (by decide)))))
  · refine congrArg (fun a : EReal => a + _) ?_
    pointwise [k0_pay5]

/-- Where the blocks of each window lie at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] :=
  (by decide +kernel : ∀ t : Fin grid0.N, _)

/-- A row of a block is a row of the array. -/
theorem row_lt (t : Fin cfg0.N) (i : Fin 1024) : 1024 * t.val + i.val < 8192 := by
  have h : t.val < 8 := t.isLt
  omega

/-- A block of the normed rows. -/
theorem blk_0 (c : Dev nD) (t : Fin cfg0.N) (i : Fin 1024) (d : Fin 1024) : (show FVec Ideal S1024x1024 .bf16 from iblk m c 0 t) (ix2 i d)
    = (show FVec Ideal S8192x1024 .bf16 from m ((c : Thread nD τ).loc main_arg6)) (ix2 ⟨1024 * t.val + i.val, row_lt t i⟩ d) := by
  rw [← V_main_arg6 m c]; blk_point [iblk, idx t]

/-- A block of the queries' gradient. -/
theorem blk_1 (c : Dev nD) (t : Fin cfg0.N) (i : Fin 1024) (d : Fin 512) : (show FVec Ideal S1024x512 .bf16 from iblk m c 1 t) (ix2 i d)
    = (show FVec Ideal S8192x512 .bf16 from m ((c : Thread nD τ).loc main_arg0)) (ix2 ⟨1024 * t.val + i.val, row_lt t i⟩ d) := by
  rw [← V_main_arg0 m c]; blk_point [iblk, idx t]

/-- A block of the keys' gradient. -/
theorem blk_2 (c : Dev nD) (t : Fin cfg0.N) (i : Fin 1024) (d : Fin 128) : (show FVec Ideal S1024x128 .bf16 from iblk m c 2 t) (ix2 i d)
    = (show FVec Ideal S8192x128 .bf16 from m ((c : Thread nD τ).loc main_arg1)) (ix2 ⟨1024 * t.val + i.val, row_lt t i⟩ d) := by
  rw [← V_main_arg1 m c]; blk_point [iblk, idx t]

/-- A block of the values' gradient. -/
theorem blk_3 (c : Dev nD) (t : Fin cfg0.N) (i : Fin 1024) (d : Fin 128) : (show FVec Ideal S1024x128 .bf16 from iblk m c 3 t) (ix2 i d)
    = (show FVec Ideal S8192x128 .bf16 from m ((c : Thread nD τ).loc main_arg2)) (ix2 ⟨1024 * t.val + i.val, row_lt t i⟩ d) := by
  rw [← V_main_arg2 m c]; blk_point [iblk, idx t]

/-- A block of the convolution's input's gradient. -/
theorem blk_4 (c : Dev nD) (t : Fin cfg0.N) (i : Fin 1024) (d : Fin 512) : (show FVec Ideal S1024x512 .bf16 from iblk m c 4 t) (ix2 i d)
    = (show FVec Ideal S8192x512 .bf16 from m ((c : Thread nD τ).loc main_arg3)) (ix2 ⟨1024 * t.val + i.val, row_lt t i⟩ d) := by
  rw [← V_main_arg3 m c]; blk_point [iblk, idx t]

/-- A block of the first gate's gradient. -/
theorem blk_5 (c : Dev nD) (t : Fin cfg0.N) (i : Fin 1024) (d : Fin 512) : (show FVec Ideal S1024x512 .bf16 from iblk m c 5 t) (ix2 i d)
    = (show FVec Ideal S8192x512 .bf16 from m ((c : Thread nD τ).loc main_arg4)) (ix2 ⟨1024 * t.val + i.val, row_lt t i⟩ d) := by
  rw [← V_main_arg4 m c]; blk_point [iblk, idx t]

/-- A block of the second gate's gradient. -/
theorem blk_6 (c : Dev nD) (t : Fin cfg0.N) (i : Fin 1024) (d : Fin 512) : (show FVec Ideal S1024x512 .bf16 from iblk m c 6 t) (ix2 i d)
    = (show FVec Ideal S8192x512 .bf16 from m ((c : Thread nD τ).loc main_arg5)) (ix2 ⟨1024 * t.val + i.val, row_lt t i⟩ d) := by
  rw [← V_main_arg5 m c]; blk_point [iblk, idx t]

/-- The weight's gradient, from arrays. -/
def dw (Q : FVec Ideal S8192x512 .bf16) (K W : FVec Ideal S8192x128 .bf16) (U B C : FVec Ideal S8192x512 .bf16) (H : FVec Ideal S8192x1024 .bf16) :
    FVec Ideal S2304x1024 .bf16 := fun y =>
  ∑ n : Fin 8192, six (fun i => Q (ix2 n i)) (fun i => K (ix2 n i)) (fun i => W (ix2 n i)) (fun i => U (ix2 n i)) (fun i => B (ix2 n i))
    (fun i => C (ix2 n i)) (y 0) * H (ix2 n (y 1))

/-- The cast of the accumulator. -/
theorem pay4_apply (a : FVec Ideal S2304x1024 .f32) (j : S2304x1024.Idx) : k0_pay4 (F := Ideal) a j = a j := by
  pointwise [k0_pay4]

/-- The last point stores the accumulator, cast. -/
theorem out_dw (c : Dev nD) (t : Fin cfg0.N) (h : t.val % 8 = 7) (z : Fin 2304) (d : Fin 1024) :
    (outsAt0 m c t.val t.isLt).1 (ix2 z d) = (outsAt0 m c t.val t.isLt).2 (ix2 z d) := by
  rw [outsAt0_C m c t (by omega) h]; frame_out
  refine (pay4_apply _ _).trans ?_
  exact Rows.reread (M := 2304) (W := 1024) _ _ _ z d

/-- What the last point has accumulated: the products of all eight blocks. -/
theorem acc_eq (c : Dev nD) (t : Fin cfg0.N) (h : t.val % 8 = 7) (z : Fin 2304) (d : Fin 1024) :
    (outsAt0 m c t.val t.isLt).2 (ix2 z d) = 0 + ∑ s : Fin 8, part m c ⟨8 * (t.val / 8) + s.val, Pipeline.run_point_lt_of_flush t h s⟩ z d :=
  Pipeline.eq_sum_fin_of_reset_step_apply_of_flush (M := EReal) (fun n h (j : Fin 2304 × Fin 1024) => (outsAt0 m c n h).2 (ix2 j.1 j.2)) 8 (fun _ => 0)
    (fun p j => part m c p j.1 j.2) (fun p hp i => first m c p hp i.1 i.2) (fun p hp i => later m c p hp i.1 i.2) t h (z, d)

/-- The weight's gradient that the kernel leaves. -/
theorem final (c : Dev nD) : (dats m 0 c).arrAt 7 (cfgs 0).N
    = dw (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 7 _ (by decide +kernel) fun t hf y => ?_
  have h3 : t.val % 8 = 7 := (flush0_7 t).mp hf
  blk_simp
  obtain ⟨i, k, rfl⟩ : ∃ (i : Fin 2304) (k : Fin 1024), y = ix2 i k := ⟨y 0, y 1, by blk_ext⟩
  have e : (win0_7.blk t).view.emb (ix2 i k) = ix2 i k := by
    funext a; refine Fin.ext ?_; revert a; refine Fin.forall_fin_two.mpr ⟨?_, ?_⟩
    · blk_simp [idx t] <;> try rfl
    · blk_simp [idx t] <;> try rfl
  rw [after0_7, e, out_dw m c t h3, acc_eq m c t h3, zero_add]
  unfold part dw
  refine Fin.sum_mul_add_congr fun s n hl => ?_
  have hp : 8 * (t.val / 8) + s.val = s.val := by have := t.isLt; change t.val < 8 at this; omega
  have hr : (⟨1024 * (8 * (t.val / 8) + s.val) + n.val, row_lt ⟨8 * (t.val / 8) + s.val, Pipeline.run_point_lt_of_flush t h3 s⟩ n⟩ : Fin 8192)
      = ⟨s.val * 1024 + n.val, hl⟩ := Fin.ext (by show 1024 * (8 * (t.val / 8) + s.val) + n.val = s.val * 1024 + n.val; rw [hp]; omega)
  rw [← hr]
  exact congrArg₂ (fun a b : EReal => a * b) (six_congr i (blk_1 m c _ n) (blk_2 m c _ n) (blk_3 m c _ n) (blk_4 m c _ n) (blk_5 m c _ n) (blk_6 m c _ n))
    (blk_0 m c _ n k)

end Cert.MixGradIdeal.Value

end
-- ==== Proof.MixGrad.lean ====
module

public import proofs.«01_k».proof.Defs
public import proofs.«01_k».proof.Proof.MixGradValue
public import proofs.«01_k».proof.Proof.Gen.MixGrad.Frame
public import proofs.«01_k».proof.Proof.Gen.MixGradRefIdeal.Run

@[expose] public section

set_option maxRecDepth 16384

noncomputable section

/-! The gradient of the mixer's projection weight: the kernel against the reference. -/
namespace Cert.MixGrad.Claims

open Idealize.ShloMosaic Idealize.ShloMosaic.TcCoe Idealize.SL.Sem
open Cert.MixGradIdeal.Value (dw six two)

/-- The entry of six rows put one after the other, found by taking off the lengths of the rows before it. -/
theorem chain (q : Fin 512 → EReal) (k v : Fin 128 → EReal) (u b c : Fin 512 → EReal) (z : Fin 2304) :
    (if h : z.val < 512 then q ⟨z.val, h⟩
      else if h2 : z.val - 512 < 128 then k ⟨z.val - 512, h2⟩
      else if h3 : z.val - 512 - 128 < 128 then v ⟨z.val - 512 - 128, h3⟩
      else if h4 : z.val - 512 - 128 - 128 < 512 then u ⟨z.val - 512 - 128 - 128, h4⟩
      else if h5 : z.val - 512 - 128 - 128 - 512 < 512 then b ⟨z.val - 512 - 128 - 128 - 512, h5⟩
      else c ⟨z.val - 512 - 128 - 128 - 512 - 512, by omega⟩) = six q k v u b c z := by
  unfold six two
  simp only [Nat.sub_sub, Nat.reduceAdd]
  split_ifs <;> first
    | rfl
    | (exfalso; omega)

/-- The gradient of the weight is the same array from the kernel and from the reference. -/
theorem algebraic : Cert.algebraic_MixGradIdeal_MixGradRefIdeal := by
  pair_intro
  · run_from Cert.MixGradIdeal.Value.run_blocks m g
  · refine θ_run_mono (Cert.MixGradRefIdeal.Value.run m' g') fun r hr c => ?_
    obtain ⟨h0, h1, h2, h3, h4, h5, h6, h7⟩ := hagree c
    obtain ⟨e0, hr⟩ := hr c
    rw [h0, h1, h2, h3, h4, h5, h6] at e0
    refine ⟨e0.trans ?_, hr⟩
    rw [Cert.MixGradIdeal.Value.final m c]
    funext j
    pointwise [dw]
    refine Finset.sum_congr rfl fun n _ => congrArg (fun a : EReal => a * _) ?_
    refine Eq.trans ?_ (chain _ _ _ _ _ _ (j 0))
    rfl

/-- The kernel at its own floats runs to its end and leaves its arguments as they were. -/
theorem frame : Cert.quiescent_MixGrad := fun m ρ _ => Cert.MixGrad.Gen.frame m ρ

/-- The same of the ideal program. -/
theorem frame_ideal : Cert.quiescent_MixGradIdeal := fun m ρ _ => Cert.MixGradIdeal.Gen.frame m ρ

/-- The same of the reference. -/
theorem frame_reference : Cert.quiescent_MixGradRefIdeal := fun m ρ _ =>
  (θ_run Cert.MixGradRefIdeal.defs _ _).mono (fun r h => ⟨fun c => (h c).2, sem_eq_zero_of_no_sems (by decide) r.2⟩)
    (Cert.MixGradRefIdeal.Value.run m ρ)

end Cert.MixGrad.Claims

end
-- ==== Proof.MixOutValue.lean ====
module

public import proofs.«01_k».proof.Proof.Gen.MixOutIdeal.Value
public import Idealize.ShloMosaic.Lib.Pipeline.ValueKit
public import proofs.«01_k».proof.Proof.RowPieces

@[expose] public section

set_option maxRecDepth 16384

noncomputable section

/-! The output projection's backward pass: what the kernel's arrays hold, from its arguments. -/
namespace Cert.MixOutIdeal.Value

open Idealize.ShloMosaic Idealize.ShloMosaic.TcCoe Idealize.SL.Sem
open Idealize.ShloMosaic.Pipeline (Dat)
open Cert.MixOutIdeal Cert.MixOutIdeal.Gen

variable (m : (ℓ : Loc nD τ sig) → Buf (Elt Ideal) ℓ)

/-- Two arrays of 512 columns side by side. -/
def cat (a b : FVec Ideal S1024x512 .bf16) (k z : Fin 1024) : EReal :=
  if h : z.val < 512 then a (ix2 k (⟨z.val, h⟩ : Fin 512)) else b (ix2 k (⟨z.val - 512, by omega⟩ : Fin 512))

/-- A column of the first. -/
theorem cat_lt (a b : FVec Ideal S1024x512 .bf16) (k z : Fin 1024) (h : z.val < 512) : cat a b k z = a (ix2 k (⟨z.val, h⟩ : Fin 512)) := by
  unfold cat; exact dif_pos h

/-- A column of the second. -/
theorem cat_ge (a b : FVec Ideal S1024x512 .bf16) (k z : Fin 1024) (h : ¬ z.val < 512) :
    cat a b k z = b (ix2 k (⟨z.val - 512, by omega⟩ : Fin 512)) := by
  unfold cat; exact dif_neg h

/-- A store of the upper half of the rows: what was there plus a product over the block's rows. -/
theorem upper (acc : FVec Ideal S512x1024 .f32) (dy : FVec Ideal S1024x1024 .f32) (a : FVec Ideal S1024x512 .bf16) (i : S512x1024.Idx) :
    k0_pay4 (F := Ideal) dy acc a i = acc i + ∑ k : Fin 1024, a (ix2 k (i 0)) * dy (ix2 k (i 1)) := by
  pointwise [k0_pay4, k0_pay2]

/-- A store of the lower half of the rows. -/
theorem lower (acc : FVec Ideal S512x1024 .f32) (dy : FVec Ideal S1024x1024 .f32) (a : FVec Ideal S1024x512 .bf16) (i : S512x1024.Idx) :
    k0_pay5 (F := Ideal) dy acc a i = acc i + ∑ k : Fin 1024, a (ix2 k (i 0)) * dy (ix2 k (i 1)) := by
  pointwise [k0_pay5, k0_pay2]

/-- What one point adds to the accumulator. -/
def part (c : Dev nD) (p : Fin cfg0.N) (j : S1024x1024.Idx) : EReal :=
  ∑ k : Fin 1024, cat (iblk m c 1 p) (iblk m c 2 p) k (j 0) * (show FVec Ideal S1024x1024 .f32 from iblk m c 0 p) (ix2 k (j 1))

/-- What a point leaves in the accumulator, at a row of either half: what was there plus the product of the block's rows. -/
theorem two (acc : FVec Ideal S1024x1024 .f32) (c : Dev nD) (p : Fin cfg0.N) (L : List (View.Piece (Elt Ideal) S1024x1024 .f32))
    (u l : FVec Ideal S512x1024 .f32) (hu : u = View.ld (Val := Elt Ideal) (e' := .f32) acc (Rect.unit ![0, 0] ![512, 1024] inb_S1024x1024_S512x1024_0_0))
    (hl : l = View.ld (Val := Elt Ideal) (e' := .f32) acc (Rect.unit ![512, 0] ![512, 1024] inb_S1024x1024_S512x1024_512_0)) (j : S1024x1024.Idx) :
    View.canon (Val := Elt Ideal) (s := S1024x1024) (e := .f32)
      (⟨Rect.unit ![512, 0] ![512, 1024] inb_S1024x1024_S512x1024_512_0, k0_pay5 (F := Ideal) (iblk m c 0 p) l (iblk m c 2 p)⟩
        :: ⟨Rect.unit ![0, 0] ![512, 1024] inb_S1024x1024_S512x1024_0_0, k0_pay4 (F := Ideal) (iblk m c 0 p) u (iblk m c 1 p)⟩ :: L) j
      = acc j + part m c p j := by
  obtain ⟨j0, j1, rfl⟩ : ∃ (a : Fin 1024) (b : Fin 1024), j = ix2 a b := ⟨j 0, j 1, by funext a; fin_cases a <;> rfl⟩
  by_cases h : j0.val < 512
  · refine (Rows.miss (M := 1024) (W := 1024) _ _ _ j0 j1 (Or.inl h)).trans ?_
    refine (Rows.hit (M := 1024) (W := 1024) _ _ _ j0 j1 (⟨j0.val, h⟩ : Fin 512) (Nat.zero_add _).symm).trans ?_
    rw [upper, hu]
    refine congrArg₂ (fun a b : EReal => a + b) (Rows.load (M := 1024) (W := 1024) (n := 512) (e := .f32) _ acc j0 j1 (⟨j0.val, h⟩ : Fin 512) (Nat.zero_add _).symm) ?_
    refine Finset.sum_congr rfl fun k _ => congrArg (fun a : EReal => a * _) ?_
    exact (cat_lt _ _ k j0 h).symm
  · refine (Rows.hit (M := 1024) (W := 1024) _ _ _ j0 j1 (⟨j0.val - 512, by omega⟩ : Fin 512) (by show j0.val = 512 + (j0.val - 512); omega)).trans ?_
    rw [lower, hl]
    refine congrArg₂ (fun a b : EReal => a + b) (Rows.load (M := 1024) (W := 1024) (n := 512) (e := .f32) _ acc j0 j1 (⟨j0.val - 512, by omega⟩ : Fin 512) (by show j0.val = 512 + (j0.val - 512); omega)) ?_
    refine Finset.sum_congr rfl fun k _ => congrArg (fun a : EReal => a * _) ?_
    exact (cat_ge _ _ k j0 h).symm

/-- A point after the first adds its block's product to what the point before it left. -/
theorem later (c : Dev nD) (p : Fin cfg0.N) (hp : ¬ p.val % 8 = 0) (j : S1024x1024.Idx) :
    (outsAt0 m c p.val p.isLt).2.2 j = (outsAt0 m c (p.val - 1) (by omega)).2.2 j + part m c p j := by
  by_cases h3 : p.val % 8 = 7
  · rw [outsAt0_C m c p hp h3]; frame_out
    rw [(Memref.isWhole_whole cc0_scratch0).read_unread]
    exact two m _ c p _ _ _ rfl rfl j
  · rw [outsAt0_B m c p hp h3]; frame_out
    rw [(Memref.isWhole_whole cc0_scratch0).read_unread]
    exact two m _ c p _ _ _ rfl rfl j

/-- The first point adds its block's product to zero. -/
theorem first (c : Dev nD) (p : Fin cfg0.N) (hp : p.val % 8 = 0) (j : S1024x1024.Idx) :
    (outsAt0 m c p.val p.isLt).2.2 j = 0 + part m c p j := by
  rw [outsAt0_A m c p hp (by omega)]; frame_out
  refine (two m k0_pay1 c p _ _ _ ?_ ?_ j).trans ?_
  · exact View.readCov_fill _ _ _ _ _ (by decide)
  · exact (View.readCov_skip _ _ _ _ _ (by decide)).trans (View.readCov_fill _ _ _ _ _ (by decide))
  · refine congrArg (fun a : EReal => a + _) ?_
    pointwise [k0_pay1]

/-- Where the blocks of each window lie at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

/-- A row of a block is a row of the array. -/
theorem row_lt (t : Fin cfg0.N) (i : Fin 1024) : 1024 * t.val + i.val < 8192 := by
  have h : t.val < 8 := t.isLt
  omega

/-- The cast weight, before the call. -/
theorem V_w (c : Dev nD) (z d : Fin 1024) : (show FVec Ideal S1024x1024 .bf16 from V m c main_v1) (ix2 z d)
    = (show FVec Ideal S1024x1024 .f32 from m ((c : Thread nD τ).loc main_arg3)) (ix2 z d) := by
  unfold V; after_results_simp; try rfl

/-- A block of the output's gradient. -/
theorem blk_dy (c : Dev nD) (t : Fin cfg0.N) (i d : Fin 1024) : (show FVec Ideal S1024x1024 .f32 from iblk m c 0 t) (ix2 i d)
    = (show FVec Ideal S8192x1024 .f32 from m ((c : Thread nD τ).loc main_arg0)) (ix2 ⟨1024 * t.val + i.val, row_lt t i⟩ d) := by
  rw [← V_main_arg0 m c]; blk_point [iblk, idx t]

/-- A block of the attention's output. -/
theorem blk_a (c : Dev nD) (t : Fin cfg0.N) (i : Fin 1024) (d : Fin 512) : (show FVec Ideal S1024x512 .bf16 from iblk m c 1 t) (ix2 i d)
    = (show FVec Ideal S8192x512 .bf16 from m ((c : Thread nD τ).loc main_arg1)) (ix2 ⟨1024 * t.val + i.val, row_lt t i⟩ d) := by
  rw [← V_main_arg1 m c]; blk_point [iblk, idx t]

/-- A block of the convolution's output. -/
theorem blk_c (c : Dev nD) (t : Fin cfg0.N) (i : Fin 1024) (d : Fin 512) : (show FVec Ideal S1024x512 .bf16 from iblk m c 2 t) (ix2 i d)
    = (show FVec Ideal S8192x512 .bf16 from m ((c : Thread nD τ).loc main_arg2)) (ix2 ⟨1024 * t.val + i.val, row_lt t i⟩ d) := by
  rw [← V_main_arg2 m c]; blk_point [iblk, idx t]

/-- The weight's block. -/
theorem blk_w (c : Dev nD) (t : Fin cfg0.N) (z d : Fin 1024) : (show FVec Ideal S1024x1024 .bf16 from iblk m c 3 t) (ix2 z d)
    = (show FVec Ideal S1024x1024 .f32 from m ((c : Thread nD τ).loc main_arg3)) (ix2 z d) := by
  rw [← V_w m c]; blk_point [iblk, idx t]

/-- The gradient of the mixed rows, from arrays. -/
def dm (DY : FVec Ideal S8192x1024 .f32) (W : FVec Ideal S1024x1024 .f32) : FVec Ideal S8192x1024 .bf16 := fun y =>
  ∑ d : Fin 1024, DY (ix2 (y 0) d) * W (ix2 (y 1) d)

/-- Two arrays of 512 columns side by side, at full length. -/
def mixed (A C : FVec Ideal S8192x512 .bf16) (n : Fin 8192) (z : Fin 1024) : EReal :=
  if h : z.val < 512 then A (ix2 n (⟨z.val, h⟩ : Fin 512)) else C (ix2 n (⟨z.val - 512, by omega⟩ : Fin 512))

/-- A column of the first. -/
theorem mixed_lt (A C : FVec Ideal S8192x512 .bf16) (n : Fin 8192) (z : Fin 1024) (h : z.val < 512) :
    mixed A C n z = A (ix2 n (⟨z.val, h⟩ : Fin 512)) := by
  unfold mixed; exact dif_pos h

/-- A column of the second. -/
theorem mixed_ge (A C : FVec Ideal S8192x512 .bf16) (n : Fin 8192) (z : Fin 1024) (h : ¬ z.val < 512) :
    mixed A C n z = C (ix2 n (⟨z.val - 512, by omega⟩ : Fin 512)) := by
  unfold mixed; exact dif_neg h

/-- The weight's gradient, from arrays. -/
def dw (DY : FVec Ideal S8192x1024 .f32) (A C : FVec Ideal S8192x512 .bf16) : FVec Ideal S1024x1024 .bf16 := fun y =>
  ∑ n : Fin 8192, mixed A C n (y 0) * DY (ix2 n (y 1))

/-- The block of the mixed rows' gradient that every point stores. -/
theorem out_dm (c : Dev nD) (t : Fin cfg0.N) : (outsAt0 m c t.val t.isLt).1 = k0_pay3 (F := Ideal) (iblk m c 0 t) (iblk m c 3 t) := by
  by_cases h0 : t.val % 8 = 0
  · rw [outsAt0_A m c t h0 (by omega)]; frame_out
  · by_cases h3 : t.val % 8 = 7
    · rw [outsAt0_C m c t h0 h3]; frame_out
    · rw [outsAt0_B m c t h0 h3]; frame_out

/-- That block at an index. -/
theorem pay3_apply (a : FVec Ideal S1024x1024 .f32) (w : FVec Ideal S1024x1024 .bf16) (i k : Fin 1024) :
    k0_pay3 (F := Ideal) a w (ix2 i k) = ∑ d : Fin 1024, a (ix2 i d) * w (ix2 k d) := by
  pointwise [k0_pay3, k0_pay2]

/-- The gradient of the mixed rows that the kernel leaves. -/
theorem final_dm (c : Dev nD) : (dats m 0 c).arrAt 4 (cfgs 0).N
    = dm (m ((c : Thread nD τ).loc main_arg0)) (m ((c : Thread nD τ).loc main_arg3)) := by
  refine (dats m 0 c).arrAt_eq_of_covers 4 _ (by decide +kernel) fun t hf y => ?_
  blk_simp
  obtain ⟨i, k, rfl⟩ : ∃ (i : Fin 1024) (k : Fin 1024), y = ix2 i k := ⟨y 0, y 1, by blk_ext⟩
  have e : (win0_4.blk t).view.emb (ix2 i k) = ix2 ⟨1024 * t.val + i.val, row_lt t i⟩ k := by
    funext a; refine Fin.ext ?_; revert a; refine Fin.forall_fin_two.mpr ⟨?_, ?_⟩
    · blk_simp [idx t]; show t.val * 1024 + i.val = 1024 * t.val + i.val; omega
    · blk_simp [idx t] <;> try rfl
  rw [after0_4, out_dm m c t, e]
  exact (pay3_apply _ _ i k).trans (Finset.sum_congr rfl fun d _ => congrArg₂ (fun a b : EReal => a * b) (blk_dy m c t i d) (blk_w m c t k d))

/-- The cast of the accumulator. -/
theorem pay6_apply (a : FVec Ideal S1024x1024 .f32) (j : S1024x1024.Idx) : k0_pay6 (F := Ideal) a j = a j := by
  pointwise [k0_pay6]

/-- The last point stores the accumulator, cast. -/
theorem out_dw (c : Dev nD) (t : Fin cfg0.N) (h : t.val % 8 = 7) (j : S1024x1024.Idx) :
    (outsAt0 m c t.val t.isLt).2.1 j = (outsAt0 m c t.val t.isLt).2.2 j := by
  rw [outsAt0_C m c t (by omega) h]; frame_out
  refine (pay6_apply _ j).trans ?_
  obtain ⟨j0, j1, rfl⟩ : ∃ (a : Fin 1024) (b : Fin 1024), j = ix2 a b := ⟨j 0, j 1, by blk_ext⟩
  exact Rows.reread (M := 1024) (W := 1024) _ _ _ j0 j1

/-- What the last point has accumulated: the products of all eight blocks. -/
theorem acc_eq (c : Dev nD) (t : Fin cfg0.N) (h : t.val % 8 = 7) (j : S1024x1024.Idx) :
    (outsAt0 m c t.val t.isLt).2.2 j = 0 + ∑ s : Fin 8, part m c ⟨8 * (t.val / 8) + s.val, Pipeline.run_point_lt_of_flush t h s⟩ j :=
  Pipeline.eq_sum_fin_of_reset_step_apply_of_flush (M := EReal) (fun n h => (outsAt0 m c n h).2.2) 8 (fun _ => 0)
    (fun p j => part m c p j) (fun p hp i => first m c p hp i) (fun p hp i => later m c p hp i) t h j

/-- The weight's gradient that the kernel leaves. -/
theorem final_dw (c : Dev nD) : (dats m 0 c).arrAt 5 (cfgs 0).N
    = dw (m ((c : Thread nD τ).loc main_arg0)) (m ((c : Thread nD τ).loc main_arg1)) (m ((c : Thread nD τ).loc main_arg2)) := by
  refine (dats m 0 c).arrAt_eq_of_covers 5 _ (by decide +kernel) fun t hf y => ?_
  have h3 : t.val % 8 = 7 := (flush0_5 t).mp hf
  blk_simp
  obtain ⟨i, k, rfl⟩ : ∃ (i : Fin 1024) (k : Fin 1024), y = ix2 i k := ⟨y 0, y 1, by blk_ext⟩
  have e : (win0_5.blk t).view.emb (ix2 i k) = ix2 i k := by
    funext a; refine Fin.ext ?_; revert a; refine Fin.forall_fin_two.mpr ⟨?_, ?_⟩
    · blk_simp [idx t] <;> try rfl
    · blk_simp [idx t] <;> try rfl
  rw [after0_5, e, out_dw m c t h3, acc_eq m c t h3, zero_add]
  unfold part dw
  refine Fin.sum_mul_add_congr fun s n hl => ?_
  have hp : 8 * (t.val / 8) + s.val = s.val := by have := t.isLt; change t.val < 8 at this; omega
  have hr : (⟨1024 * (8 * (t.val / 8) + s.val) + n.val, row_lt ⟨8 * (t.val / 8) + s.val, Pipeline.run_point_lt_of_flush t h3 s⟩ n⟩ : Fin 8192)
      = ⟨s.val * 1024 + n.val, hl⟩ := Fin.ext (by show 1024 * (8 * (t.val / 8) + s.val) + n.val = s.val * 1024 + n.val; rw [hp]; omega)
  refine congrArg₂ (fun a b : EReal => a * b) ?_ ?_
  · rw [← hr]
    by_cases h : i.val < 512
    · exact (cat_lt _ _ n i h).trans ((blk_a m c _ n ⟨i.val, h⟩).trans (mixed_lt _ _ _ i h).symm)
    · exact (cat_ge _ _ n i h).trans ((blk_c m c _ n ⟨i.val - 512, by omega⟩).trans (mixed_ge _ _ _ i h).symm)
  · rw [← hr]
    exact blk_dy m c _ n k

end Cert.MixOutIdeal.Value

end
-- ==== Proof.MixOut.lean ====
module

public import proofs.«01_k».proof.Defs
public import proofs.«01_k».proof.Proof.MixOutValue
public import proofs.«01_k».proof.Proof.Gen.MixOut.Frame
public import proofs.«01_k».proof.Proof.Gen.MixOutRefIdeal.Run

@[expose] public section

set_option maxRecDepth 16384

noncomputable section

/-! The output projection's backward pass: the kernel against the reference. -/
namespace Cert.MixOut.Claims

open Idealize.ShloMosaic Idealize.ShloMosaic.TcCoe Idealize.SL.Sem
open Cert.MixOutIdeal.Value (dm dw mixed)

/-- The gradient of the mixed rows and the gradient of the weight are the same arrays from the kernel and from the
    reference. -/
theorem algebraic : Cert.algebraic_MixOutIdeal_MixOutRefIdeal := by
  pair_intro
  · run_from Cert.MixOutIdeal.Value.run_blocks m g
  · refine θ_run_mono (Cert.MixOutRefIdeal.Value.run m' g') fun r hr c => ?_
    obtain ⟨h0, h1, h2, h3⟩ := hagree c
    obtain ⟨e0, e1, hr⟩ := hr c
    rw [h0, h3] at e0
    rw [h0, h1, h2] at e1
    refine ⟨e0.trans ?_, e1.trans ?_, hr⟩
    · rw [Cert.MixOutIdeal.Value.final_dm m c]
      funext j
      pointwise [dm]
    · rw [Cert.MixOutIdeal.Value.final_dw m c]
      funext j
      pointwise [dw, mixed]
      exact Finset.sum_congr rfl fun n _ => mul_comm (_ : EReal) _

/-- The kernel at its own floats runs to its end and leaves its arguments as they were. -/
theorem frame : Cert.quiescent_MixOut := fun m ρ _ => Cert.MixOut.Gen.frame m ρ

/-- The same of the ideal program. -/
theorem frame_ideal : Cert.quiescent_MixOutIdeal := fun m ρ _ => Cert.MixOutIdeal.Gen.frame m ρ

/-- The same of the reference. -/
theorem frame_reference : Cert.quiescent_MixOutRefIdeal := fun m ρ _ =>
  (θ_run Cert.MixOutRefIdeal.defs _ _).mono (fun r h => ⟨fun c => (h c).2.2, sem_eq_zero_of_no_sems (by decide) r.2⟩)
    (Cert.MixOutRefIdeal.Value.run m ρ)

end Cert.MixOut.Claims

end
-- ==== Proof.lean ====
module

public import proofs.«01_k».proof.Defs
public import proofs.«01_k».proof.Proof.Wgrad
public import proofs.«01_k».proof.Proof.Conv
public import proofs.«01_k».proof.Proof.Ffn
public import proofs.«01_k».proof.Proof.Adam
public import proofs.«01_k».proof.Proof.Fwd
public import proofs.«01_k».proof.Proof.MixIn
public import proofs.«01_k».proof.Proof.MixGrad
public import proofs.«01_k».proof.Proof.MixOut

@[expose] public section

set_option maxRecDepth 16384

noncomputable section

namespace Cert.Proof

/-- Every claim of the statement, in its order. -/
theorem claim : Cert.Claim :=
  ⟨Cert.WinGrad.Gen.facts, Cert.WinGradIdeal.Gen.facts, Cert.WinRefIdeal.Gen.facts,
    Cert.WdownGrad.Gen.facts, Cert.WdownGradIdeal.Gen.facts, Cert.WdownRefIdeal.Gen.facts,
    Cert.ConvBwd.Gen.facts, Cert.ConvBwdIdeal.Gen.facts, Cert.ConvRefIdeal.Gen.facts,
    Cert.FfnBwd.Gen.facts, Cert.FfnBwdIdeal.Gen.facts, Cert.FfnRefIdeal.Gen.facts,
    Cert.AdamGate.Gen.facts, Cert.AdamGateIdeal.Gen.facts, Cert.AdamGateRefIdeal.Gen.facts,
    Cert.AdamDown.Gen.facts, Cert.AdamDownIdeal.Gen.facts, Cert.AdamDownRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.FfnFwd.Gen.facts, Cert.FfnFwdIdeal.Gen.facts, Cert.FwdRefIdeal.Gen.facts,
    Cert.MixIn.Gen.facts, Cert.MixInIdeal.Gen.facts, Cert.MixInRefIdeal.Gen.facts,
    Cert.MixGrad.Gen.facts, Cert.MixGradIdeal.Gen.facts, Cert.MixGradRefIdeal.Gen.facts,
    Cert.MixOut.Gen.facts, Cert.MixOutIdeal.Gen.facts, Cert.MixOutRefIdeal.Gen.facts, Cert.Pre_finite_ffn.Gen.facts,
    Cert.Wgrad.frame_in, Cert.Wgrad.frame_in_ideal, Cert.Wgrad.frame_in_reference,
    Cert.Wgrad.frame_down, Cert.Wgrad.frame_down_ideal, Cert.Wgrad.frame_down_reference,
    Cert.Conv.frame, Cert.Conv.frame_ideal, Cert.Conv.frame_reference,
    Cert.Ffn.frame, Cert.Ffn.frame_ideal, Cert.Ffn.frame_ideal_pre, Cert.Ffn.frame_reference, Cert.Ffn.frame_reference_pre,
    Cert.Adam.frame_gate, Cert.Adam.frame_gate_ideal, Cert.Adam.frame_gate_reference,
    Cert.Adam.frame_down, Cert.Adam.frame_down_ideal, Cert.Adam.frame_down_reference,
    Cert.Adam.frame_in, Cert.Adam.frame_in_ideal, Cert.Adam.frame_in_reference,
    Cert.Adam.frame_out, Cert.Adam.frame_out_ideal, Cert.Adam.frame_out_reference,
    Cert.Fwd.frame, Cert.Fwd.frame_ideal, Cert.Fwd.frame_reference,
    Cert.MixIn.Claims.frame, Cert.MixIn.Claims.frame_ideal, Cert.MixIn.Claims.frame_reference,
    Cert.MixGrad.Claims.frame, Cert.MixGrad.Claims.frame_ideal, Cert.MixGrad.Claims.frame_reference,
    Cert.MixOut.Claims.frame, Cert.MixOut.Claims.frame_ideal, Cert.MixOut.Claims.frame_reference,
    trivial, Cert.Wgrad.algebraic_in, trivial, Cert.Wgrad.algebraic_down, trivial, Cert.Conv.algebraic,
    trivial, Cert.Ffn.algebraic, trivial, Cert.Adam.algebraic_gate, trivial, Cert.Adam.algebraic_down, trivial, Cert.Adam.algebraic_in, trivial, Cert.Adam.algebraic_out,
    trivial, Cert.Fwd.algebraic, trivial, Cert.MixIn.Claims.algebraic, trivial, Cert.MixGrad.Claims.algebraic, trivial, Cert.MixOut.Claims.algebraic⟩

end Cert.Proof

end
